-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x4096 : Shape := ⟨2, ![2048, 4096]⟩
abbrev S4096x2048 : Shape := ⟨2, ![4096, 2048]⟩
abbrev S2048x512 : Shape := ⟨2, ![2048, 512]⟩
abbrev S2x512x2048 : Shape := ⟨3, ![2, 512, 2048]⟩
abbrev S2 : Shape := ⟨1, ![2]⟩
abbrev S1 : Shape := ⟨1, ![1]⟩
abbrev S_ : Shape := ⟨0, ![]⟩
abbrev S512x2048 : Shape := ⟨2, ![512, 2048]⟩
abbrev S1x512x2048 : Shape := ⟨3, ![1, 512, 2048]⟩
abbrev S8x7x256x256 : Shape := ⟨4, ![8, 7, 256, 256]⟩
abbrev S8x256x256 : Shape := ⟨3, ![8, 256, 256]⟩
abbrev S2x2x4096x256 : Shape := ⟨4, ![2, 2, 4096, 256]⟩
abbrev S2x2 : Shape := ⟨2, ![2, 2]⟩
abbrev S8x14 : Shape := ⟨2, ![8, 14]⟩
abbrev S1x1 : Shape := ⟨2, ![1, 1]⟩
abbrev S1x1x4096x256 : Shape := ⟨4, ![1, 1, 4096, 256]⟩
abbrev S4096x256 : Shape := ⟨2, ![4096, 256]⟩
abbrev S256x4096 : Shape := ⟨2, ![256, 4096]⟩
abbrev S256x256 : Shape := ⟨2, ![256, 256]⟩
abbrev S1x256x256 : Shape := ⟨3, ![1, 256, 256]⟩
abbrev S1x1x256x256 : Shape := ⟨4, ![1, 1, 256, 256]⟩

abbrev nBuf : Space → Nat
  | .hbm => 6
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S4096x2048, .f32⟩
  | .hbm, ⟨3, _⟩ => ⟨S2048x4096, .bf16⟩
  | .hbm, ⟨4, _⟩ => ⟨S4096x2048, .bf16⟩
  | .hbm, ⟨5, _⟩ => ⟨S2048x2048, .f32⟩
  | .local _ .vmem, ⟨0, _⟩ => ⟨S2048x2048, .f32⟩
  | .local _ .vmem, ⟨1, _⟩ => ⟨S2048x512, .f32⟩
  | .local _ .vmem, ⟨2, _⟩ => ⟨S2048x512, .f32⟩
  | .local _ .vmem, ⟨3, _⟩ => ⟨S2048x512, .bf16⟩
  | .local _ .vmem, ⟨4, _⟩ => ⟨S2048x512, .bf16⟩
  | .local _ .vmem, ⟨5, _⟩ => ⟨S2048x2048, .bf16⟩
  | .local _ .vmem, ⟨6, _⟩ => ⟨S2x512x2048, .f32⟩
  | .local _ .vmem, ⟨7, _⟩ => ⟨S2x512x2048, .bf16⟩
  | .local _ .vmem, ⟨8, _⟩ => ⟨S2048x4096, .bf16⟩
  | .local _ .vmem, ⟨9, _⟩ => ⟨S2048x2048, .f32⟩
  | .local _ .vmem, ⟨10, _⟩ => ⟨S2048x2048, .bf16⟩
  | .local _ .vmem, ⟨11, _⟩ => ⟨S8x7x256x256, .bf16⟩
  | .local _ .vmem, ⟨12, _⟩ => ⟨S8x256x256, .bf16⟩
  | .local _ .vmem, ⟨13, _⟩ => ⟨S8x256x256, .f32⟩
  | .local _ .vmem, ⟨14, _⟩ => ⟨S2x2x4096x256, .bf16⟩
  | _, _ => ⟨S2048x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 239 → Bool
  | ⟨i, _⟩ => dmaSemScopedAt i

abbrev sig : RefSig :=
  (ofTc nBuf bufTy 1 239 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc1_stg0_0 : Ref sig .tc := ⟨.vmem, 8, rfl⟩
abbrev cc1_stg1_0 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc1_scratch3 : Ref sig .tc := ⟨.vmem, 13, rfl⟩
abbrev cc1_scratch4 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 9
abbrev cc1_sem1_0 : DmaSem sig := 10
abbrev barrier0 : Sem sig := 0

abbrev nD : Nat := 8
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c2_i32_0 : BitVec 32 := 2#32
  let v1 : BitVec 1 := Scalar.cmpi .sge arg0 c2_i32_0
  let v2 : BitVec 32 := Scalar.extui v1
  let c0_i32 : BitVec 32 := 0#32
  let v3 : BitVec 1 := Scalar.cmpi .ne v2 c0_i32
  v3

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 2 → Nat :=
  let arg0 : BitVec 32 := BitVec.ofNat 32 (i 0).val
  let c2_i32_25 : BitVec 32 := 2#32
  let v45 : BitVec 32 := Scalar.subi arg0 c2_i32_25
  let c512_i32_26 : BitVec 32 := 512#32
  let v46 : BitVec 32 := Scalar.muli v45 c512_i32_26
  let c0_i32_27 : BitVec 32 := 0#32
  ![v46.toNat, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c0_i32_28 : BitVec 32 := 0#32
  let c0_i32_29 : BitVec 32 := 0#32
  ![v0.toNat, 0, 0]
def k0_off4 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off5 (i : grid0.Coords) : Fin 3 → Nat :=
  let arg0 : BitVec 32 := BitVec.ofNat 32 (i 0).val
  let c2_i32 : BitVec 32 := 2#32
  let v0 : BitVec 32 := Scalar.remsi arg0 c2_i32
  let c0_i32_1 : BitVec 32 := 0#32
  let c0_i32_2 : BitVec 32 := 0#32
  ![v0.toNat, 0, 0]
def k0_off6 (i : grid0.Coords) : Fin 2 → Nat :=
  let arg0 : BitVec 32 := BitVec.ofNat 32 (i 0).val
  let c512_i32 : BitVec 32 := 512#32
  let v4 : BitVec 32 := Scalar.muli arg0 c512_i32
  let c0_i32_3 : BitVec 32 := 0#32
  ![v4.toNat, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v28 : Index := Scalar.indexCast v0
  let c0_16 : Index := 0#32
  let c0_17 : Index := 0#32
  ![v28.toNat, 0, 0]
def k0_cond3 (i : grid0.Coords) : BitVec 1 :=
  let arg0 : BitVec 32 := BitVec.ofNat 32 (i 0).val
  let c7_i32 : BitVec 32 := 7#32
  let v42 : BitVec 1 := Scalar.cmpi .eq arg0 c7_i32
  let v43 : BitVec 32 := Scalar.extui v42
  let c0_i32_24 : BitVec 32 := 0#32
  let v44 : BitVec 1 := Scalar.cmpi .ne v43 c0_i32_24
  v44

def k0_off8 (i : grid0.Coords) : Fin 1 → Nat :=
  let arg0 : BitVec 32 := BitVec.ofNat 32 (i 0).val
  let c1_i32_25 : BitVec 32 := 1#32
  let v46 : BitVec 32 := Scalar.subi arg0 c1_i32_25
  let c2_i32_26 : BitVec 32 := 2#32
  let v47 : BitVec 32 := Scalar.remsi v46 c2_i32_26
  ![v47.toNat]
def k0_off9 (i : grid0.Coords) : Fin 2 → Nat :=
  let arg0 : BitVec 32 := BitVec.ofNat 32 (i 0).val
  let c1_i32 : BitVec 32 := 1#32
  let v45 : BitVec 32 := Scalar.subi arg0 c1_i32
  let c512_i32_27 : BitVec 32 := 512#32
  let v48 : BitVec 32 := Scalar.muli v45 c512_i32_27
  let c0_i32_28 : BitVec 32 := 0#32
  ![v48.toNat, 0]
def k0_off10 (i : grid0.Coords) : Fin 3 → Nat :=
  let arg0 : BitVec 32 := BitVec.ofNat 32 (i 0).val
  let c1_i32_25 : BitVec 32 := 1#32
  let v46 : BitVec 32 := Scalar.subi arg0 c1_i32_25
  let c2_i32_26 : BitVec 32 := 2#32
  let v47 : BitVec 32 := Scalar.remsi v46 c2_i32_26
  let c0_i32_29 : BitVec 32 := 0#32
  let c0_i32_30 : BitVec 32 := 0#32
  ![v47.toNat, 0, 0]
def k0_off11 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off12 (i : grid0.Coords) : Fin 2 → Nat :=
  let arg0 : BitVec 32 := BitVec.ofNat 32 (i 0).val
  let c512_i32_31 : BitVec 32 := 512#32
  let v54 : BitVec 32 := Scalar.muli arg0 c512_i32_31
  let c0_i32_32 : BitVec 32 := 0#32
  ![v54.toNat, 0]
def k0_off13 (i : grid0.Coords) : Fin 3 → Nat :=
  let arg0 : BitVec 32 := BitVec.ofNat 32 (i 0).val
  let c2_i32 : BitVec 32 := 2#32
  let v0 : BitVec 32 := Scalar.remsi arg0 c2_i32
  let c0_i32_33 : BitVec 32 := 0#32
  let c0_i32_34 : BitVec 32 := 0#32
  ![v0.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

def k1_off1 (d0 : Dev nD) (c0_i32_24 : BitVec 32) : Fin 2 → Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v45 : BitVec 32 := Scalar.subi v5 c0_i32_24
  let c8_i32_25 : BitVec 32 := 8#32
  let c0_i32_26 : BitVec 32 := 0#32
  let v46 : BitVec 1 := Scalar.cmpi .eq c8_i32_25 c0_i32_26
  let c1_i32_27 : BitVec 32 := 1#32
  let v47 : BitVec 32 := Scalar.select v46 c1_i32_27 c8_i32_25
  let v48 : BitVec 32 := Scalar.remsi v45 v47
  let c0_i32_29 : BitVec 32 := 0#32
  let v50 : BitVec 1 := Scalar.cmpi .slt v48 c0_i32_29
  let c0_i32_30 : BitVec 32 := 0#32
  let v51 : BitVec 1 := Scalar.cmpi .slt v47 c0_i32_30
  let v52 : BitVec 1 := Scalar.xori v50 v51
  let c0_i32_28 : BitVec 32 := 0#32
  let v49 : BitVec 1 := Scalar.cmpi .ne v48 c0_i32_28
  let v53 : BitVec 1 := Scalar.andi v52 v49
  let v54 : BitVec 32 := Scalar.addi v48 v47
  let v55 : BitVec 32 := Scalar.select v53 v54 v48
  let c256_i32 : BitVec 32 := 256#32
  let v56 : BitVec 32 := Scalar.muli v55 c256_i32
  ![0, v56.toNat]
def k1_off2 (d0 : Dev nD) (c0_i32_53 : BitVec 32) : Fin 2 → Nat :=
  let c0_i32_67 : BitVec 32 := 0#32
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v79 : BitVec 32 := Scalar.subi v44 c0_i32_53
  let c8_i32_54 : BitVec 32 := 8#32
  let c0_i32_55 : BitVec 32 := 0#32
  let v80 : BitVec 1 := Scalar.cmpi .eq c8_i32_54 c0_i32_55
  let c1_i32_56 : BitVec 32 := 1#32
  let v81 : BitVec 32 := Scalar.select v80 c1_i32_56 c8_i32_54
  let v82 : BitVec 32 := Scalar.remsi v79 v81
  let c0_i32_58 : BitVec 32 := 0#32
  let v84 : BitVec 1 := Scalar.cmpi .slt v82 c0_i32_58
  let c0_i32_59 : BitVec 32 := 0#32
  let v85 : BitVec 1 := Scalar.cmpi .slt v81 c0_i32_59
  let v86 : BitVec 1 := Scalar.xori v84 v85
  let c0_i32_57 : BitVec 32 := 0#32
  let v83 : BitVec 1 := Scalar.cmpi .ne v82 c0_i32_57
  let v87 : BitVec 1 := Scalar.andi v86 v83
  let v88 : BitVec 32 := Scalar.addi v82 v81
  let v89 : BitVec 32 := Scalar.select v87 v88 v82
  let c256_i32_60 : BitVec 32 := 256#32
  let v90 : BitVec 32 := Scalar.muli v89 c256_i32_60
  ![0, v90.toNat]
def k1_dev1 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_84 : BitVec 32 := 1#32
  let v114 : BitVec 32 := Scalar.muli v19 c1_i32_84
  let v115 : BitVec 32 := Scalar.addi c0_i32_85 v114
  v115.toNat
def k1_dev2 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_87 : BitVec 32 := 1#32
  let v116 : BitVec 32 := Scalar.muli v33 c1_i32_87
  let v117 : BitVec 32 := Scalar.addi c0_i32_88 v116
  v117.toNat
def k1_dev3 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_118 : BitVec 32 := 1#32
  let v137 : BitVec 32 := Scalar.muli v19 c1_i32_118
  let v138 : BitVec 32 := Scalar.addi c0_i32_119 v137
  v138.toNat
def k1_dev4 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_139 : BitVec 32 := 1#32
  let v156 : BitVec 32 := Scalar.muli v19 c1_i32_139
  let v157 : BitVec 32 := Scalar.addi c0_i32_140 v156
  v157.toNat
def k1_dev5 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_160 : BitVec 32 := 1#32
  let v175 : BitVec 32 := Scalar.muli v19 c1_i32_160
  let v176 : BitVec 32 := Scalar.addi c0_i32_161 v175
  v176.toNat
def k1_dev6 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_180 : BitVec 32 := 1#32
  let v194 : BitVec 32 := Scalar.muli v19 c1_i32_180
  let v195 : BitVec 32 := Scalar.addi c0_i32_181 v194
  v195.toNat
def k1_dev7 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_201 : BitVec 32 := 1#32
  let v213 : BitVec 32 := Scalar.muli v33 c1_i32_201
  let v214 : BitVec 32 := Scalar.addi c0_i32_202 v213
  v214.toNat
def k1_dev8 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_221 : BitVec 32 := 1#32
  let v232 : BitVec 32 := Scalar.muli v33 c1_i32_221
  let v233 : BitVec 32 := Scalar.addi c0_i32_222 v232
  v233.toNat
def k1_dev9 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_241 : BitVec 32 := 1#32
  let v251 : BitVec 32 := Scalar.muli v33 c1_i32_241
  let v252 : BitVec 32 := Scalar.addi c0_i32_242 v251
  v252.toNat
def k1_dev10 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_261 : BitVec 32 := 1#32
  let v270 : BitVec 32 := Scalar.muli v33 c1_i32_261
  let v271 : BitVec 32 := Scalar.addi c0_i32_262 v270
  v271.toNat
def k1_dev11 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_433 : BitVec 32 := 1#32
  let v412 : BitVec 32 := Scalar.muli v19 c1_i32_433
  let v413 : BitVec 32 := Scalar.addi c0_i32_434 v412
  v413.toNat
def k1_dev12 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_481 : BitVec 32 := 1#32
  let v446 : BitVec 32 := Scalar.muli v19 c1_i32_481
  let v447 : BitVec 32 := Scalar.addi c0_i32_482 v446
  v447.toNat
def k1_dev13 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_529 : BitVec 32 := 1#32
  let v480 : BitVec 32 := Scalar.muli v19 c1_i32_529
  let v481 : BitVec 32 := Scalar.addi c0_i32_530 v480
  v481.toNat
def k1_dev14 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_577 : BitVec 32 := 1#32
  let v514 : BitVec 32 := Scalar.muli v19 c1_i32_577
  let v515 : BitVec 32 := Scalar.addi c0_i32_578 v514
  v515.toNat
def k1_dev15 (d0 : Dev nD) : Nat :=
  let c0_i32_626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_625 : BitVec 32 := 1#32
  let v548 : BitVec 32 := Scalar.muli v33 c1_i32_625
  let v549 : BitVec 32 := Scalar.addi c0_i32_626 v548
  v549.toNat
def k1_dev16 (d0 : Dev nD) : Nat :=
  let c0_i32_674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_673 : BitVec 32 := 1#32
  let v582 : BitVec 32 := Scalar.muli v33 c1_i32_673
  let v583 : BitVec 32 := Scalar.addi c0_i32_674 v582
  v583.toNat
def k1_dev17 (d0 : Dev nD) : Nat :=
  let c0_i32_722 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_721 : BitVec 32 := 1#32
  let v616 : BitVec 32 := Scalar.muli v33 c1_i32_721
  let v617 : BitVec 32 := Scalar.addi c0_i32_722 v616
  v617.toNat
def k1_dev18 (d0 : Dev nD) : Nat :=
  let c0_i32_770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_769 : BitVec 32 := 1#32
  let v650 : BitVec 32 := Scalar.muli v33 c1_i32_769
  let v651 : BitVec 32 := Scalar.addi c0_i32_770 v650
  v651.toNat
def k1_dev19 (d0 : Dev nD) : Nat :=
  let c0_i32_942 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_941 : BitVec 32 := 1#32
  let v792 : BitVec 32 := Scalar.muli v19 c1_i32_941
  let v793 : BitVec 32 := Scalar.addi c0_i32_942 v792
  v793.toNat
def k1_dev20 (d0 : Dev nD) : Nat :=
  let c0_i32_990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_989 : BitVec 32 := 1#32
  let v826 : BitVec 32 := Scalar.muli v19 c1_i32_989
  let v827 : BitVec 32 := Scalar.addi c0_i32_990 v826
  v827.toNat
def k1_dev21 (d0 : Dev nD) : Nat :=
  let c0_i32_1038 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1037 : BitVec 32 := 1#32
  let v860 : BitVec 32 := Scalar.muli v19 c1_i32_1037
  let v861 : BitVec 32 := Scalar.addi c0_i32_1038 v860
  v861.toNat
def k1_dev22 (d0 : Dev nD) : Nat :=
  let c0_i32_1086 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1085 : BitVec 32 := 1#32
  let v894 : BitVec 32 := Scalar.muli v19 c1_i32_1085
  let v895 : BitVec 32 := Scalar.addi c0_i32_1086 v894
  v895.toNat
def k1_dev23 (d0 : Dev nD) : Nat :=
  let c0_i32_1134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1133 : BitVec 32 := 1#32
  let v928 : BitVec 32 := Scalar.muli v33 c1_i32_1133
  let v929 : BitVec 32 := Scalar.addi c0_i32_1134 v928
  v929.toNat
def k1_dev24 (d0 : Dev nD) : Nat :=
  let c0_i32_1182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1181 : BitVec 32 := 1#32
  let v962 : BitVec 32 := Scalar.muli v33 c1_i32_1181
  let v963 : BitVec 32 := Scalar.addi c0_i32_1182 v962
  v963.toNat
def k1_dev25 (d0 : Dev nD) : Nat :=
  let c0_i32_1230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1229 : BitVec 32 := 1#32
  let v996 : BitVec 32 := Scalar.muli v33 c1_i32_1229
  let v997 : BitVec 32 := Scalar.addi c0_i32_1230 v996
  v997.toNat
def k1_dev26 (d0 : Dev nD) : Nat :=
  let c0_i32_1278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1277 : BitVec 32 := 1#32
  let v1030 : BitVec 32 := Scalar.muli v33 c1_i32_1277
  let v1031 : BitVec 32 := Scalar.addi c0_i32_1278 v1030
  v1031.toNat
def k1_dev27 (d0 : Dev nD) : Nat :=
  let c0_i32_1450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1449 : BitVec 32 := 1#32
  let v1172 : BitVec 32 := Scalar.muli v19 c1_i32_1449
  let v1173 : BitVec 32 := Scalar.addi c0_i32_1450 v1172
  v1173.toNat
def k1_dev28 (d0 : Dev nD) : Nat :=
  let c0_i32_1498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1497 : BitVec 32 := 1#32
  let v1206 : BitVec 32 := Scalar.muli v19 c1_i32_1497
  let v1207 : BitVec 32 := Scalar.addi c0_i32_1498 v1206
  v1207.toNat
def k1_dev29 (d0 : Dev nD) : Nat :=
  let c0_i32_1546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1545 : BitVec 32 := 1#32
  let v1240 : BitVec 32 := Scalar.muli v19 c1_i32_1545
  let v1241 : BitVec 32 := Scalar.addi c0_i32_1546 v1240
  v1241.toNat
def k1_dev30 (d0 : Dev nD) : Nat :=
  let c0_i32_1594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1593 : BitVec 32 := 1#32
  let v1274 : BitVec 32 := Scalar.muli v19 c1_i32_1593
  let v1275 : BitVec 32 := Scalar.addi c0_i32_1594 v1274
  v1275.toNat
def k1_dev31 (d0 : Dev nD) : Nat :=
  let c0_i32_1642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1641 : BitVec 32 := 1#32
  let v1308 : BitVec 32 := Scalar.muli v33 c1_i32_1641
  let v1309 : BitVec 32 := Scalar.addi c0_i32_1642 v1308
  v1309.toNat
def k1_dev32 (d0 : Dev nD) : Nat :=
  let c0_i32_1690 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1689 : BitVec 32 := 1#32
  let v1342 : BitVec 32 := Scalar.muli v33 c1_i32_1689
  let v1343 : BitVec 32 := Scalar.addi c0_i32_1690 v1342
  v1343.toNat
def k1_dev33 (d0 : Dev nD) : Nat :=
  let c0_i32_1738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1737 : BitVec 32 := 1#32
  let v1376 : BitVec 32 := Scalar.muli v33 c1_i32_1737
  let v1377 : BitVec 32 := Scalar.addi c0_i32_1738 v1376
  v1377.toNat
def k1_dev34 (d0 : Dev nD) : Nat :=
  let c0_i32_1786 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1785 : BitVec 32 := 1#32
  let v1410 : BitVec 32 := Scalar.muli v33 c1_i32_1785
  let v1411 : BitVec 32 := Scalar.addi c0_i32_1786 v1410
  v1411.toNat
def k1_dev35 (d0 : Dev nD) : Nat :=
  let c0_i32_1958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1957 : BitVec 32 := 1#32
  let v1552 : BitVec 32 := Scalar.muli v19 c1_i32_1957
  let v1553 : BitVec 32 := Scalar.addi c0_i32_1958 v1552
  v1553.toNat
def k1_dev36 (d0 : Dev nD) : Nat :=
  let c0_i32_2006 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2005 : BitVec 32 := 1#32
  let v1586 : BitVec 32 := Scalar.muli v19 c1_i32_2005
  let v1587 : BitVec 32 := Scalar.addi c0_i32_2006 v1586
  v1587.toNat
def k1_dev37 (d0 : Dev nD) : Nat :=
  let c0_i32_2054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2053 : BitVec 32 := 1#32
  let v1620 : BitVec 32 := Scalar.muli v19 c1_i32_2053
  let v1621 : BitVec 32 := Scalar.addi c0_i32_2054 v1620
  v1621.toNat
def k1_dev38 (d0 : Dev nD) : Nat :=
  let c0_i32_2102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2101 : BitVec 32 := 1#32
  let v1654 : BitVec 32 := Scalar.muli v19 c1_i32_2101
  let v1655 : BitVec 32 := Scalar.addi c0_i32_2102 v1654
  v1655.toNat
def k1_dev39 (d0 : Dev nD) : Nat :=
  let c0_i32_2150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2149 : BitVec 32 := 1#32
  let v1688 : BitVec 32 := Scalar.muli v33 c1_i32_2149
  let v1689 : BitVec 32 := Scalar.addi c0_i32_2150 v1688
  v1689.toNat
def k1_dev40 (d0 : Dev nD) : Nat :=
  let c0_i32_2198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2197 : BitVec 32 := 1#32
  let v1722 : BitVec 32 := Scalar.muli v33 c1_i32_2197
  let v1723 : BitVec 32 := Scalar.addi c0_i32_2198 v1722
  v1723.toNat
def k1_dev41 (d0 : Dev nD) : Nat :=
  let c0_i32_2246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2245 : BitVec 32 := 1#32
  let v1756 : BitVec 32 := Scalar.muli v33 c1_i32_2245
  let v1757 : BitVec 32 := Scalar.addi c0_i32_2246 v1756
  v1757.toNat
def k1_dev42 (d0 : Dev nD) : Nat :=
  let c0_i32_2294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2293 : BitVec 32 := 1#32
  let v1790 : BitVec 32 := Scalar.muli v33 c1_i32_2293
  let v1791 : BitVec 32 := Scalar.addi c0_i32_2294 v1790
  v1791.toNat
def k1_dev43 (d0 : Dev nD) : Nat :=
  let c0_i32_2466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2465 : BitVec 32 := 1#32
  let v1932 : BitVec 32 := Scalar.muli v19 c1_i32_2465
  let v1933 : BitVec 32 := Scalar.addi c0_i32_2466 v1932
  v1933.toNat
def k1_dev44 (d0 : Dev nD) : Nat :=
  let c0_i32_2514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2513 : BitVec 32 := 1#32
  let v1966 : BitVec 32 := Scalar.muli v19 c1_i32_2513
  let v1967 : BitVec 32 := Scalar.addi c0_i32_2514 v1966
  v1967.toNat
def k1_dev45 (d0 : Dev nD) : Nat :=
  let c0_i32_2562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2561 : BitVec 32 := 1#32
  let v2000 : BitVec 32 := Scalar.muli v19 c1_i32_2561
  let v2001 : BitVec 32 := Scalar.addi c0_i32_2562 v2000
  v2001.toNat
def k1_dev46 (d0 : Dev nD) : Nat :=
  let c0_i32_2610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2609 : BitVec 32 := 1#32
  let v2034 : BitVec 32 := Scalar.muli v19 c1_i32_2609
  let v2035 : BitVec 32 := Scalar.addi c0_i32_2610 v2034
  v2035.toNat
def k1_dev47 (d0 : Dev nD) : Nat :=
  let c0_i32_2658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2657 : BitVec 32 := 1#32
  let v2068 : BitVec 32 := Scalar.muli v33 c1_i32_2657
  let v2069 : BitVec 32 := Scalar.addi c0_i32_2658 v2068
  v2069.toNat
def k1_dev48 (d0 : Dev nD) : Nat :=
  let c0_i32_2706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2705 : BitVec 32 := 1#32
  let v2102 : BitVec 32 := Scalar.muli v33 c1_i32_2705
  let v2103 : BitVec 32 := Scalar.addi c0_i32_2706 v2102
  v2103.toNat
def k1_dev49 (d0 : Dev nD) : Nat :=
  let c0_i32_2754 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2753 : BitVec 32 := 1#32
  let v2136 : BitVec 32 := Scalar.muli v33 c1_i32_2753
  let v2137 : BitVec 32 := Scalar.addi c0_i32_2754 v2136
  v2137.toNat
def k1_dev50 (d0 : Dev nD) : Nat :=
  let c0_i32_2802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2801 : BitVec 32 := 1#32
  let v2170 : BitVec 32 := Scalar.muli v33 c1_i32_2801
  let v2171 : BitVec 32 := Scalar.addi c0_i32_2802 v2170
  v2171.toNat
def k1_dev51 (d0 : Dev nD) : Nat :=
  let c0_i32_2974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2973 : BitVec 32 := 1#32
  let v2312 : BitVec 32 := Scalar.muli v19 c1_i32_2973
  let v2313 : BitVec 32 := Scalar.addi c0_i32_2974 v2312
  v2313.toNat
def k1_dev52 (d0 : Dev nD) : Nat :=
  let c0_i32_3022 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3021 : BitVec 32 := 1#32
  let v2346 : BitVec 32 := Scalar.muli v19 c1_i32_3021
  let v2347 : BitVec 32 := Scalar.addi c0_i32_3022 v2346
  v2347.toNat
def k1_dev53 (d0 : Dev nD) : Nat :=
  let c0_i32_3070 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3069 : BitVec 32 := 1#32
  let v2380 : BitVec 32 := Scalar.muli v19 c1_i32_3069
  let v2381 : BitVec 32 := Scalar.addi c0_i32_3070 v2380
  v2381.toNat
def k1_dev54 (d0 : Dev nD) : Nat :=
  let c0_i32_3118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3117 : BitVec 32 := 1#32
  let v2414 : BitVec 32 := Scalar.muli v19 c1_i32_3117
  let v2415 : BitVec 32 := Scalar.addi c0_i32_3118 v2414
  v2415.toNat
def k1_dev55 (d0 : Dev nD) : Nat :=
  let c0_i32_3166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3165 : BitVec 32 := 1#32
  let v2448 : BitVec 32 := Scalar.muli v33 c1_i32_3165
  let v2449 : BitVec 32 := Scalar.addi c0_i32_3166 v2448
  v2449.toNat
def k1_dev56 (d0 : Dev nD) : Nat :=
  let c0_i32_3214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3213 : BitVec 32 := 1#32
  let v2482 : BitVec 32 := Scalar.muli v33 c1_i32_3213
  let v2483 : BitVec 32 := Scalar.addi c0_i32_3214 v2482
  v2483.toNat
def k1_dev57 (d0 : Dev nD) : Nat :=
  let c0_i32_3262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3261 : BitVec 32 := 1#32
  let v2516 : BitVec 32 := Scalar.muli v33 c1_i32_3261
  let v2517 : BitVec 32 := Scalar.addi c0_i32_3262 v2516
  v2517.toNat
def k1_dev58 (d0 : Dev nD) : Nat :=
  let c0_i32_3310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3309 : BitVec 32 := 1#32
  let v2550 : BitVec 32 := Scalar.muli v33 c1_i32_3309
  let v2551 : BitVec 32 := Scalar.addi c0_i32_3310 v2550
  v2551.toNat
def k1_off3 (d0 : Dev nD) : Fin 2 → Nat :=
  let c0_3449 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3441 : BitVec 32 := 1#32
  let v2654 : BitVec 32 := Scalar.addi v5 c1_i32_3441
  let c8_i32_3442 : BitVec 32 := 8#32
  let c0_i32_3443 : BitVec 32 := 0#32
  let v2655 : BitVec 1 := Scalar.cmpi .eq c8_i32_3442 c0_i32_3443
  let c1_i32_3444 : BitVec 32 := 1#32
  let v2656 : BitVec 32 := Scalar.select v2655 c1_i32_3444 c8_i32_3442
  let v2657 : BitVec 32 := Scalar.remsi v2654 v2656
  let c0_i32_3446 : BitVec 32 := 0#32
  let v2659 : BitVec 1 := Scalar.cmpi .slt v2657 c0_i32_3446
  let c0_i32_3447 : BitVec 32 := 0#32
  let v2660 : BitVec 1 := Scalar.cmpi .slt v2656 c0_i32_3447
  let v2661 : BitVec 1 := Scalar.xori v2659 v2660
  let c0_i32_3445 : BitVec 32 := 0#32
  let v2658 : BitVec 1 := Scalar.cmpi .ne v2657 c0_i32_3445
  let v2662 : BitVec 1 := Scalar.andi v2661 v2658
  let v2663 : BitVec 32 := Scalar.addi v2657 v2656
  let v2664 : BitVec 32 := Scalar.select v2662 v2663 v2657
  let c256_i32_3448 : BitVec 32 := 256#32
  let v2666 : BitVec 32 := Scalar.muli v2664 c256_i32_3448
  let v2667 : Index := Scalar.indexCast v2666
  ![0, v2667.toNat]
def k1_off4 (d0 : Dev nD) (c0_i32_3451 : BitVec 32) : Fin 2 → Nat :=
  let c0_i32_3466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3450 : BitVec 32 := 1#32
  let v2671 : BitVec 32 := Scalar.addi v5 c1_i32_3450
  let v2672 : BitVec 32 := Scalar.subi v2671 c0_i32_3451
  let c8_i32_3452 : BitVec 32 := 8#32
  let c0_i32_3453 : BitVec 32 := 0#32
  let v2673 : BitVec 1 := Scalar.cmpi .eq c8_i32_3452 c0_i32_3453
  let c1_i32_3454 : BitVec 32 := 1#32
  let v2674 : BitVec 32 := Scalar.select v2673 c1_i32_3454 c8_i32_3452
  let v2675 : BitVec 32 := Scalar.remsi v2672 v2674
  let c0_i32_3456 : BitVec 32 := 0#32
  let v2677 : BitVec 1 := Scalar.cmpi .slt v2675 c0_i32_3456
  let c0_i32_3457 : BitVec 32 := 0#32
  let v2678 : BitVec 1 := Scalar.cmpi .slt v2674 c0_i32_3457
  let v2679 : BitVec 1 := Scalar.xori v2677 v2678
  let c0_i32_3455 : BitVec 32 := 0#32
  let v2676 : BitVec 1 := Scalar.cmpi .ne v2675 c0_i32_3455
  let v2680 : BitVec 1 := Scalar.andi v2679 v2676
  let v2681 : BitVec 32 := Scalar.addi v2675 v2674
  let v2682 : BitVec 32 := Scalar.select v2680 v2681 v2675
  let c256_i32_3459 : BitVec 32 := 256#32
  let v2684 : BitVec 32 := Scalar.muli v2682 c256_i32_3459
  ![0, v2684.toNat]
def k1_dev59 (d0 : Dev nD) : Nat :=
  let c0_i32_3465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3464 : BitVec 32 := 1#32
  let v2685 : BitVec 32 := Scalar.muli v19 c1_i32_3464
  let v2686 : BitVec 32 := Scalar.addi c0_i32_3465 v2685
  v2686.toNat
def k1_off5 (d0 : Dev nD) : Fin 2 → Nat :=
  let c256_3510 : Index := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3502 : BitVec 32 := 1#32
  let v2716 : BitVec 32 := Scalar.addi v5 c1_i32_3502
  let c8_i32_3503 : BitVec 32 := 8#32
  let c0_i32_3504 : BitVec 32 := 0#32
  let v2717 : BitVec 1 := Scalar.cmpi .eq c8_i32_3503 c0_i32_3504
  let c1_i32_3505 : BitVec 32 := 1#32
  let v2718 : BitVec 32 := Scalar.select v2717 c1_i32_3505 c8_i32_3503
  let v2719 : BitVec 32 := Scalar.remsi v2716 v2718
  let c0_i32_3507 : BitVec 32 := 0#32
  let v2721 : BitVec 1 := Scalar.cmpi .slt v2719 c0_i32_3507
  let c0_i32_3508 : BitVec 32 := 0#32
  let v2722 : BitVec 1 := Scalar.cmpi .slt v2718 c0_i32_3508
  let v2723 : BitVec 1 := Scalar.xori v2721 v2722
  let c0_i32_3506 : BitVec 32 := 0#32
  let v2720 : BitVec 1 := Scalar.cmpi .ne v2719 c0_i32_3506
  let v2724 : BitVec 1 := Scalar.andi v2723 v2720
  let v2725 : BitVec 32 := Scalar.addi v2719 v2718
  let v2726 : BitVec 32 := Scalar.select v2724 v2725 v2719
  let c256_i32_3509 : BitVec 32 := 256#32
  let v2728 : BitVec 32 := Scalar.muli v2726 c256_i32_3509
  let v2729 : Index := Scalar.indexCast v2728
  ![256, v2729.toNat]
def k1_off6 (d0 : Dev nD) (c0_i32_3512 : BitVec 32) : Fin 2 → Nat :=
  let c256_i32_3527 : BitVec 32 := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3511 : BitVec 32 := 1#32
  let v2733 : BitVec 32 := Scalar.addi v5 c1_i32_3511
  let v2734 : BitVec 32 := Scalar.subi v2733 c0_i32_3512
  let c8_i32_3513 : BitVec 32 := 8#32
  let c0_i32_3514 : BitVec 32 := 0#32
  let v2735 : BitVec 1 := Scalar.cmpi .eq c8_i32_3513 c0_i32_3514
  let c1_i32_3515 : BitVec 32 := 1#32
  let v2736 : BitVec 32 := Scalar.select v2735 c1_i32_3515 c8_i32_3513
  let v2737 : BitVec 32 := Scalar.remsi v2734 v2736
  let c0_i32_3517 : BitVec 32 := 0#32
  let v2739 : BitVec 1 := Scalar.cmpi .slt v2737 c0_i32_3517
  let c0_i32_3518 : BitVec 32 := 0#32
  let v2740 : BitVec 1 := Scalar.cmpi .slt v2736 c0_i32_3518
  let v2741 : BitVec 1 := Scalar.xori v2739 v2740
  let c0_i32_3516 : BitVec 32 := 0#32
  let v2738 : BitVec 1 := Scalar.cmpi .ne v2737 c0_i32_3516
  let v2742 : BitVec 1 := Scalar.andi v2741 v2738
  let v2743 : BitVec 32 := Scalar.addi v2737 v2736
  let v2744 : BitVec 32 := Scalar.select v2742 v2743 v2737
  let c256_i32_3520 : BitVec 32 := 256#32
  let v2746 : BitVec 32 := Scalar.muli v2744 c256_i32_3520
  ![256, v2746.toNat]
def k1_dev60 (d0 : Dev nD) : Nat :=
  let c0_i32_3526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3525 : BitVec 32 := 1#32
  let v2747 : BitVec 32 := Scalar.muli v19 c1_i32_3525
  let v2748 : BitVec 32 := Scalar.addi c0_i32_3526 v2747
  v2748.toNat
def k1_off7 (d0 : Dev nD) : Fin 2 → Nat :=
  let c512_3571 : Index := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3563 : BitVec 32 := 1#32
  let v2778 : BitVec 32 := Scalar.addi v5 c1_i32_3563
  let c8_i32_3564 : BitVec 32 := 8#32
  let c0_i32_3565 : BitVec 32 := 0#32
  let v2779 : BitVec 1 := Scalar.cmpi .eq c8_i32_3564 c0_i32_3565
  let c1_i32_3566 : BitVec 32 := 1#32
  let v2780 : BitVec 32 := Scalar.select v2779 c1_i32_3566 c8_i32_3564
  let v2781 : BitVec 32 := Scalar.remsi v2778 v2780
  let c0_i32_3568 : BitVec 32 := 0#32
  let v2783 : BitVec 1 := Scalar.cmpi .slt v2781 c0_i32_3568
  let c0_i32_3569 : BitVec 32 := 0#32
  let v2784 : BitVec 1 := Scalar.cmpi .slt v2780 c0_i32_3569
  let v2785 : BitVec 1 := Scalar.xori v2783 v2784
  let c0_i32_3567 : BitVec 32 := 0#32
  let v2782 : BitVec 1 := Scalar.cmpi .ne v2781 c0_i32_3567
  let v2786 : BitVec 1 := Scalar.andi v2785 v2782
  let v2787 : BitVec 32 := Scalar.addi v2781 v2780
  let v2788 : BitVec 32 := Scalar.select v2786 v2787 v2781
  let c256_i32_3570 : BitVec 32 := 256#32
  let v2790 : BitVec 32 := Scalar.muli v2788 c256_i32_3570
  let v2791 : Index := Scalar.indexCast v2790
  ![512, v2791.toNat]
def k1_off8 (d0 : Dev nD) (c0_i32_3573 : BitVec 32) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3572 : BitVec 32 := 1#32
  let v2795 : BitVec 32 := Scalar.addi v5 c1_i32_3572
  let v2796 : BitVec 32 := Scalar.subi v2795 c0_i32_3573
  let c8_i32_3574 : BitVec 32 := 8#32
  let c0_i32_3575 : BitVec 32 := 0#32
  let v2797 : BitVec 1 := Scalar.cmpi .eq c8_i32_3574 c0_i32_3575
  let c1_i32_3576 : BitVec 32 := 1#32
  let v2798 : BitVec 32 := Scalar.select v2797 c1_i32_3576 c8_i32_3574
  let v2799 : BitVec 32 := Scalar.remsi v2796 v2798
  let c0_i32_3578 : BitVec 32 := 0#32
  let v2801 : BitVec 1 := Scalar.cmpi .slt v2799 c0_i32_3578
  let c0_i32_3579 : BitVec 32 := 0#32
  let v2802 : BitVec 1 := Scalar.cmpi .slt v2798 c0_i32_3579
  let v2803 : BitVec 1 := Scalar.xori v2801 v2802
  let c0_i32_3577 : BitVec 32 := 0#32
  let v2800 : BitVec 1 := Scalar.cmpi .ne v2799 c0_i32_3577
  let v2804 : BitVec 1 := Scalar.andi v2803 v2800
  let v2805 : BitVec 32 := Scalar.addi v2799 v2798
  let v2806 : BitVec 32 := Scalar.select v2804 v2805 v2799
  let c256_i32_3581 : BitVec 32 := 256#32
  let v2808 : BitVec 32 := Scalar.muli v2806 c256_i32_3581
  ![512, v2808.toNat]
def k1_dev61 (d0 : Dev nD) : Nat :=
  let c0_i32_3587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3586 : BitVec 32 := 1#32
  let v2809 : BitVec 32 := Scalar.muli v19 c1_i32_3586
  let v2810 : BitVec 32 := Scalar.addi c0_i32_3587 v2809
  v2810.toNat
def k1_off9 (d0 : Dev nD) : Fin 2 → Nat :=
  let c768_3631 : Index := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3623 : BitVec 32 := 1#32
  let v2840 : BitVec 32 := Scalar.addi v5 c1_i32_3623
  let c8_i32_3624 : BitVec 32 := 8#32
  let c0_i32_3625 : BitVec 32 := 0#32
  let v2841 : BitVec 1 := Scalar.cmpi .eq c8_i32_3624 c0_i32_3625
  let c1_i32_3626 : BitVec 32 := 1#32
  let v2842 : BitVec 32 := Scalar.select v2841 c1_i32_3626 c8_i32_3624
  let v2843 : BitVec 32 := Scalar.remsi v2840 v2842
  let c0_i32_3628 : BitVec 32 := 0#32
  let v2845 : BitVec 1 := Scalar.cmpi .slt v2843 c0_i32_3628
  let c0_i32_3629 : BitVec 32 := 0#32
  let v2846 : BitVec 1 := Scalar.cmpi .slt v2842 c0_i32_3629
  let v2847 : BitVec 1 := Scalar.xori v2845 v2846
  let c0_i32_3627 : BitVec 32 := 0#32
  let v2844 : BitVec 1 := Scalar.cmpi .ne v2843 c0_i32_3627
  let v2848 : BitVec 1 := Scalar.andi v2847 v2844
  let v2849 : BitVec 32 := Scalar.addi v2843 v2842
  let v2850 : BitVec 32 := Scalar.select v2848 v2849 v2843
  let c256_i32_3630 : BitVec 32 := 256#32
  let v2852 : BitVec 32 := Scalar.muli v2850 c256_i32_3630
  let v2853 : Index := Scalar.indexCast v2852
  ![768, v2853.toNat]
def k1_off10 (d0 : Dev nD) (c0_i32_3633 : BitVec 32) : Fin 2 → Nat :=
  let c768_i32 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_3632 : BitVec 32 := 1#32
  let v2857 : BitVec 32 := Scalar.addi v5 c1_i32_3632
  let v2858 : BitVec 32 := Scalar.subi v2857 c0_i32_3633
  let c8_i32_3634 : BitVec 32 := 8#32
  let c0_i32_3635 : BitVec 32 := 0#32
  let v2859 : BitVec 1 := Scalar.cmpi .eq c8_i32_3634 c0_i32_3635
  let c1_i32_3636 : BitVec 32 := 1#32
  let v2860 : BitVec 32 := Scalar.select v2859 c1_i32_3636 c8_i32_3634
  let v2861 : BitVec 32 := Scalar.remsi v2858 v2860
  let c0_i32_3638 : BitVec 32 := 0#32
  let v2863 : BitVec 1 := Scalar.cmpi .slt v2861 c0_i32_3638
  let c0_i32_3639 : BitVec 32 := 0#32
  let v2864 : BitVec 1 := Scalar.cmpi .slt v2860 c0_i32_3639
  let v2865 : BitVec 1 := Scalar.xori v2863 v2864
  let c0_i32_3637 : BitVec 32 := 0#32
  let v2862 : BitVec 1 := Scalar.cmpi .ne v2861 c0_i32_3637
  let v2866 : BitVec 1 := Scalar.andi v2865 v2862
  let v2867 : BitVec 32 := Scalar.addi v2861 v2860
  let v2868 : BitVec 32 := Scalar.select v2866 v2867 v2861
  let c256_i32_3641 : BitVec 32 := 256#32
  let v2870 : BitVec 32 := Scalar.muli v2868 c256_i32_3641
  ![768, v2870.toNat]
def k1_dev62 (d0 : Dev nD) : Nat :=
  let c0_i32_3647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3646 : BitVec 32 := 1#32
  let v2871 : BitVec 32 := Scalar.muli v19 c1_i32_3646
  let v2872 : BitVec 32 := Scalar.addi c0_i32_3647 v2871
  v2872.toNat
def k1_off11 (d0 : Dev nD) : Fin 2 → Nat :=
  let c1024_3691 : Index := 1024#32
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c1_i32_3683 : BitVec 32 := 1#32
  let v2902 : BitVec 32 := Scalar.addi v44 c1_i32_3683
  let c8_i32_3684 : BitVec 32 := 8#32
  let c0_i32_3685 : BitVec 32 := 0#32
  let v2903 : BitVec 1 := Scalar.cmpi .eq c8_i32_3684 c0_i32_3685
  let c1_i32_3686 : BitVec 32 := 1#32
  let v2904 : BitVec 32 := Scalar.select v2903 c1_i32_3686 c8_i32_3684
  let v2905 : BitVec 32 := Scalar.remsi v2902 v2904
  let c0_i32_3688 : BitVec 32 := 0#32
  let v2907 : BitVec 1 := Scalar.cmpi .slt v2905 c0_i32_3688
  let c0_i32_3689 : BitVec 32 := 0#32
  let v2908 : BitVec 1 := Scalar.cmpi .slt v2904 c0_i32_3689
  let v2909 : BitVec 1 := Scalar.xori v2907 v2908
  let c0_i32_3687 : BitVec 32 := 0#32
  let v2906 : BitVec 1 := Scalar.cmpi .ne v2905 c0_i32_3687
  let v2910 : BitVec 1 := Scalar.andi v2909 v2906
  let v2911 : BitVec 32 := Scalar.addi v2905 v2904
  let v2912 : BitVec 32 := Scalar.select v2910 v2911 v2905
  let c256_i32_3690 : BitVec 32 := 256#32
  let v2914 : BitVec 32 := Scalar.muli v2912 c256_i32_3690
  let v2915 : Index := Scalar.indexCast v2914
  ![1024, v2915.toNat]
def k1_off12 (d0 : Dev nD) (c0_i32_3693 : BitVec 32) : Fin 2 → Nat :=
  let c1024_i32 : BitVec 32 := 1024#32
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c1_i32_3692 : BitVec 32 := 1#32
  let v2919 : BitVec 32 := Scalar.addi v44 c1_i32_3692
  let v2920 : BitVec 32 := Scalar.subi v2919 c0_i32_3693
  let c8_i32_3694 : BitVec 32 := 8#32
  let c0_i32_3695 : BitVec 32 := 0#32
  let v2921 : BitVec 1 := Scalar.cmpi .eq c8_i32_3694 c0_i32_3695
  let c1_i32_3696 : BitVec 32 := 1#32
  let v2922 : BitVec 32 := Scalar.select v2921 c1_i32_3696 c8_i32_3694
  let v2923 : BitVec 32 := Scalar.remsi v2920 v2922
  let c0_i32_3698 : BitVec 32 := 0#32
  let v2925 : BitVec 1 := Scalar.cmpi .slt v2923 c0_i32_3698
  let c0_i32_3699 : BitVec 32 := 0#32
  let v2926 : BitVec 1 := Scalar.cmpi .slt v2922 c0_i32_3699
  let v2927 : BitVec 1 := Scalar.xori v2925 v2926
  let c0_i32_3697 : BitVec 32 := 0#32
  let v2924 : BitVec 1 := Scalar.cmpi .ne v2923 c0_i32_3697
  let v2928 : BitVec 1 := Scalar.andi v2927 v2924
  let v2929 : BitVec 32 := Scalar.addi v2923 v2922
  let v2930 : BitVec 32 := Scalar.select v2928 v2929 v2923
  let c256_i32_3701 : BitVec 32 := 256#32
  let v2932 : BitVec 32 := Scalar.muli v2930 c256_i32_3701
  ![1024, v2932.toNat]
def k1_dev63 (d0 : Dev nD) : Nat :=
  let c0_i32_3707 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3706 : BitVec 32 := 1#32
  let v2933 : BitVec 32 := Scalar.muli v33 c1_i32_3706
  let v2934 : BitVec 32 := Scalar.addi c0_i32_3707 v2933
  v2934.toNat
def k1_off13 (d0 : Dev nD) : Fin 2 → Nat :=
  let c1280_3751 : Index := 1280#32
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c1_i32_3743 : BitVec 32 := 1#32
  let v2964 : BitVec 32 := Scalar.addi v44 c1_i32_3743
  let c8_i32_3744 : BitVec 32 := 8#32
  let c0_i32_3745 : BitVec 32 := 0#32
  let v2965 : BitVec 1 := Scalar.cmpi .eq c8_i32_3744 c0_i32_3745
  let c1_i32_3746 : BitVec 32 := 1#32
  let v2966 : BitVec 32 := Scalar.select v2965 c1_i32_3746 c8_i32_3744
  let v2967 : BitVec 32 := Scalar.remsi v2964 v2966
  let c0_i32_3748 : BitVec 32 := 0#32
  let v2969 : BitVec 1 := Scalar.cmpi .slt v2967 c0_i32_3748
  let c0_i32_3749 : BitVec 32 := 0#32
  let v2970 : BitVec 1 := Scalar.cmpi .slt v2966 c0_i32_3749
  let v2971 : BitVec 1 := Scalar.xori v2969 v2970
  let c0_i32_3747 : BitVec 32 := 0#32
  let v2968 : BitVec 1 := Scalar.cmpi .ne v2967 c0_i32_3747
  let v2972 : BitVec 1 := Scalar.andi v2971 v2968
  let v2973 : BitVec 32 := Scalar.addi v2967 v2966
  let v2974 : BitVec 32 := Scalar.select v2972 v2973 v2967
  let c256_i32_3750 : BitVec 32 := 256#32
  let v2976 : BitVec 32 := Scalar.muli v2974 c256_i32_3750
  let v2977 : Index := Scalar.indexCast v2976
  ![1280, v2977.toNat]
def k1_off14 (d0 : Dev nD) (c0_i32_3753 : BitVec 32) : Fin 2 → Nat :=
  let c1280_i32 : BitVec 32 := 1280#32
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c1_i32_3752 : BitVec 32 := 1#32
  let v2981 : BitVec 32 := Scalar.addi v44 c1_i32_3752
  let v2982 : BitVec 32 := Scalar.subi v2981 c0_i32_3753
  let c8_i32_3754 : BitVec 32 := 8#32
  let c0_i32_3755 : BitVec 32 := 0#32
  let v2983 : BitVec 1 := Scalar.cmpi .eq c8_i32_3754 c0_i32_3755
  let c1_i32_3756 : BitVec 32 := 1#32
  let v2984 : BitVec 32 := Scalar.select v2983 c1_i32_3756 c8_i32_3754
  let v2985 : BitVec 32 := Scalar.remsi v2982 v2984
  let c0_i32_3758 : BitVec 32 := 0#32
  let v2987 : BitVec 1 := Scalar.cmpi .slt v2985 c0_i32_3758
  let c0_i32_3759 : BitVec 32 := 0#32
  let v2988 : BitVec 1 := Scalar.cmpi .slt v2984 c0_i32_3759
  let v2989 : BitVec 1 := Scalar.xori v2987 v2988
  let c0_i32_3757 : BitVec 32 := 0#32
  let v2986 : BitVec 1 := Scalar.cmpi .ne v2985 c0_i32_3757
  let v2990 : BitVec 1 := Scalar.andi v2989 v2986
  let v2991 : BitVec 32 := Scalar.addi v2985 v2984
  let v2992 : BitVec 32 := Scalar.select v2990 v2991 v2985
  let c256_i32_3761 : BitVec 32 := 256#32
  let v2994 : BitVec 32 := Scalar.muli v2992 c256_i32_3761
  ![1280, v2994.toNat]
def k1_dev64 (d0 : Dev nD) : Nat :=
  let c0_i32_3767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3766 : BitVec 32 := 1#32
  let v2995 : BitVec 32 := Scalar.muli v33 c1_i32_3766
  let v2996 : BitVec 32 := Scalar.addi c0_i32_3767 v2995
  v2996.toNat
def k1_off15 (d0 : Dev nD) : Fin 2 → Nat :=
  let c1536_3811 : Index := 1536#32
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c1_i32_3803 : BitVec 32 := 1#32
  let v3026 : BitVec 32 := Scalar.addi v44 c1_i32_3803
  let c8_i32_3804 : BitVec 32 := 8#32
  let c0_i32_3805 : BitVec 32 := 0#32
  let v3027 : BitVec 1 := Scalar.cmpi .eq c8_i32_3804 c0_i32_3805
  let c1_i32_3806 : BitVec 32 := 1#32
  let v3028 : BitVec 32 := Scalar.select v3027 c1_i32_3806 c8_i32_3804
  let v3029 : BitVec 32 := Scalar.remsi v3026 v3028
  let c0_i32_3808 : BitVec 32 := 0#32
  let v3031 : BitVec 1 := Scalar.cmpi .slt v3029 c0_i32_3808
  let c0_i32_3809 : BitVec 32 := 0#32
  let v3032 : BitVec 1 := Scalar.cmpi .slt v3028 c0_i32_3809
  let v3033 : BitVec 1 := Scalar.xori v3031 v3032
  let c0_i32_3807 : BitVec 32 := 0#32
  let v3030 : BitVec 1 := Scalar.cmpi .ne v3029 c0_i32_3807
  let v3034 : BitVec 1 := Scalar.andi v3033 v3030
  let v3035 : BitVec 32 := Scalar.addi v3029 v3028
  let v3036 : BitVec 32 := Scalar.select v3034 v3035 v3029
  let c256_i32_3810 : BitVec 32 := 256#32
  let v3038 : BitVec 32 := Scalar.muli v3036 c256_i32_3810
  let v3039 : Index := Scalar.indexCast v3038
  ![1536, v3039.toNat]
def k1_off16 (d0 : Dev nD) (c0_i32_3813 : BitVec 32) : Fin 2 → Nat :=
  let c1536_i32 : BitVec 32 := 1536#32
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c1_i32_3812 : BitVec 32 := 1#32
  let v3043 : BitVec 32 := Scalar.addi v44 c1_i32_3812
  let v3044 : BitVec 32 := Scalar.subi v3043 c0_i32_3813
  let c8_i32_3814 : BitVec 32 := 8#32
  let c0_i32_3815 : BitVec 32 := 0#32
  let v3045 : BitVec 1 := Scalar.cmpi .eq c8_i32_3814 c0_i32_3815
  let c1_i32_3816 : BitVec 32 := 1#32
  let v3046 : BitVec 32 := Scalar.select v3045 c1_i32_3816 c8_i32_3814
  let v3047 : BitVec 32 := Scalar.remsi v3044 v3046
  let c0_i32_3818 : BitVec 32 := 0#32
  let v3049 : BitVec 1 := Scalar.cmpi .slt v3047 c0_i32_3818
  let c0_i32_3819 : BitVec 32 := 0#32
  let v3050 : BitVec 1 := Scalar.cmpi .slt v3046 c0_i32_3819
  let v3051 : BitVec 1 := Scalar.xori v3049 v3050
  let c0_i32_3817 : BitVec 32 := 0#32
  let v3048 : BitVec 1 := Scalar.cmpi .ne v3047 c0_i32_3817
  let v3052 : BitVec 1 := Scalar.andi v3051 v3048
  let v3053 : BitVec 32 := Scalar.addi v3047 v3046
  let v3054 : BitVec 32 := Scalar.select v3052 v3053 v3047
  let c256_i32_3821 : BitVec 32 := 256#32
  let v3056 : BitVec 32 := Scalar.muli v3054 c256_i32_3821
  ![1536, v3056.toNat]
def k1_dev65 (d0 : Dev nD) : Nat :=
  let c0_i32_3827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3826 : BitVec 32 := 1#32
  let v3057 : BitVec 32 := Scalar.muli v33 c1_i32_3826
  let v3058 : BitVec 32 := Scalar.addi c0_i32_3827 v3057
  v3058.toNat
def k1_off17 (d0 : Dev nD) : Fin 2 → Nat :=
  let c1792_3871 : Index := 1792#32
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c1_i32_3863 : BitVec 32 := 1#32
  let v3088 : BitVec 32 := Scalar.addi v44 c1_i32_3863
  let c8_i32_3864 : BitVec 32 := 8#32
  let c0_i32_3865 : BitVec 32 := 0#32
  let v3089 : BitVec 1 := Scalar.cmpi .eq c8_i32_3864 c0_i32_3865
  let c1_i32_3866 : BitVec 32 := 1#32
  let v3090 : BitVec 32 := Scalar.select v3089 c1_i32_3866 c8_i32_3864
  let v3091 : BitVec 32 := Scalar.remsi v3088 v3090
  let c0_i32_3868 : BitVec 32 := 0#32
  let v3093 : BitVec 1 := Scalar.cmpi .slt v3091 c0_i32_3868
  let c0_i32_3869 : BitVec 32 := 0#32
  let v3094 : BitVec 1 := Scalar.cmpi .slt v3090 c0_i32_3869
  let v3095 : BitVec 1 := Scalar.xori v3093 v3094
  let c0_i32_3867 : BitVec 32 := 0#32
  let v3092 : BitVec 1 := Scalar.cmpi .ne v3091 c0_i32_3867
  let v3096 : BitVec 1 := Scalar.andi v3095 v3092
  let v3097 : BitVec 32 := Scalar.addi v3091 v3090
  let v3098 : BitVec 32 := Scalar.select v3096 v3097 v3091
  let c256_i32_3870 : BitVec 32 := 256#32
  let v3100 : BitVec 32 := Scalar.muli v3098 c256_i32_3870
  let v3101 : Index := Scalar.indexCast v3100
  ![1792, v3101.toNat]
def k1_off18 (d0 : Dev nD) (c0_i32_3873 : BitVec 32) : Fin 2 → Nat :=
  let c1792_i32 : BitVec 32 := 1792#32
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let c1_i32_3872 : BitVec 32 := 1#32
  let v3105 : BitVec 32 := Scalar.addi v44 c1_i32_3872
  let v3106 : BitVec 32 := Scalar.subi v3105 c0_i32_3873
  let c8_i32_3874 : BitVec 32 := 8#32
  let c0_i32_3875 : BitVec 32 := 0#32
  let v3107 : BitVec 1 := Scalar.cmpi .eq c8_i32_3874 c0_i32_3875
  let c1_i32_3876 : BitVec 32 := 1#32
  let v3108 : BitVec 32 := Scalar.select v3107 c1_i32_3876 c8_i32_3874
  let v3109 : BitVec 32 := Scalar.remsi v3106 v3108
  let c0_i32_3878 : BitVec 32 := 0#32
  let v3111 : BitVec 1 := Scalar.cmpi .slt v3109 c0_i32_3878
  let c0_i32_3879 : BitVec 32 := 0#32
  let v3112 : BitVec 1 := Scalar.cmpi .slt v3108 c0_i32_3879
  let v3113 : BitVec 1 := Scalar.xori v3111 v3112
  let c0_i32_3877 : BitVec 32 := 0#32
  let v3110 : BitVec 1 := Scalar.cmpi .ne v3109 c0_i32_3877
  let v3114 : BitVec 1 := Scalar.andi v3113 v3110
  let v3115 : BitVec 32 := Scalar.addi v3109 v3108
  let v3116 : BitVec 32 := Scalar.select v3114 v3115 v3109
  let c256_i32_3881 : BitVec 32 := 256#32
  let v3118 : BitVec 32 := Scalar.muli v3116 c256_i32_3881
  ![1792, v3118.toNat]
def k1_dev66 (d0 : Dev nD) : Nat :=
  let c0_i32_3887 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3886 : BitVec 32 := 1#32
  let v3119 : BitVec 32 := Scalar.muli v33 c1_i32_3886
  let v3120 : BitVec 32 := Scalar.addi c0_i32_3887 v3119
  v3120.toNat
def k1_dev67 (d0 : Dev nD) : Nat :=
  let c0_i32_3921 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3920 : BitVec 32 := 1#32
  let v3154 : BitVec 32 := Scalar.muli v19 c1_i32_3920
  let v3155 : BitVec 32 := Scalar.addi c0_i32_3921 v3154
  v3155.toNat
def k1_off19 (d0 : Dev nD) (c0_i32_3924 : BitVec 32) : Fin 2 → Nat :=
  let c0_3932 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3162 : BitVec 32 := Scalar.subi v5 c0_i32_3924
  let c8_i32_3925 : BitVec 32 := 8#32
  let c0_i32_3926 : BitVec 32 := 0#32
  let v3163 : BitVec 1 := Scalar.cmpi .eq c8_i32_3925 c0_i32_3926
  let c1_i32_3927 : BitVec 32 := 1#32
  let v3164 : BitVec 32 := Scalar.select v3163 c1_i32_3927 c8_i32_3925
  let v3165 : BitVec 32 := Scalar.remsi v3162 v3164
  let c0_i32_3929 : BitVec 32 := 0#32
  let v3167 : BitVec 1 := Scalar.cmpi .slt v3165 c0_i32_3929
  let c0_i32_3930 : BitVec 32 := 0#32
  let v3168 : BitVec 1 := Scalar.cmpi .slt v3164 c0_i32_3930
  let v3169 : BitVec 1 := Scalar.xori v3167 v3168
  let c0_i32_3928 : BitVec 32 := 0#32
  let v3166 : BitVec 1 := Scalar.cmpi .ne v3165 c0_i32_3928
  let v3170 : BitVec 1 := Scalar.andi v3169 v3166
  let v3171 : BitVec 32 := Scalar.addi v3165 v3164
  let v3172 : BitVec 32 := Scalar.select v3170 v3171 v3165
  let c256_i32_3931 : BitVec 32 := 256#32
  let v3173 : BitVec 32 := Scalar.muli v3172 c256_i32_3931
  let v3174 : Index := Scalar.indexCast v3173
  ![0, v3174.toNat]
def k1_dev68 (d0 : Dev nD) : Nat :=
  let c0_i32_3965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3964 : BitVec 32 := 1#32
  let v3204 : BitVec 32 := Scalar.muli v19 c1_i32_3964
  let v3205 : BitVec 32 := Scalar.addi c0_i32_3965 v3204
  v3205.toNat
def k1_off20 (d0 : Dev nD) (c0_i32_3968 : BitVec 32) : Fin 2 → Nat :=
  let c256_3976 : Index := 256#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3212 : BitVec 32 := Scalar.subi v5 c0_i32_3968
  let c8_i32_3969 : BitVec 32 := 8#32
  let c0_i32_3970 : BitVec 32 := 0#32
  let v3213 : BitVec 1 := Scalar.cmpi .eq c8_i32_3969 c0_i32_3970
  let c1_i32_3971 : BitVec 32 := 1#32
  let v3214 : BitVec 32 := Scalar.select v3213 c1_i32_3971 c8_i32_3969
  let v3215 : BitVec 32 := Scalar.remsi v3212 v3214
  let c0_i32_3973 : BitVec 32 := 0#32
  let v3217 : BitVec 1 := Scalar.cmpi .slt v3215 c0_i32_3973
  let c0_i32_3974 : BitVec 32 := 0#32
  let v3218 : BitVec 1 := Scalar.cmpi .slt v3214 c0_i32_3974
  let v3219 : BitVec 1 := Scalar.xori v3217 v3218
  let c0_i32_3972 : BitVec 32 := 0#32
  let v3216 : BitVec 1 := Scalar.cmpi .ne v3215 c0_i32_3972
  let v3220 : BitVec 1 := Scalar.andi v3219 v3216
  let v3221 : BitVec 32 := Scalar.addi v3215 v3214
  let v3222 : BitVec 32 := Scalar.select v3220 v3221 v3215
  let c256_i32_3975 : BitVec 32 := 256#32
  let v3223 : BitVec 32 := Scalar.muli v3222 c256_i32_3975
  let v3224 : Index := Scalar.indexCast v3223
  ![256, v3224.toNat]
def k1_dev69 (d0 : Dev nD) : Nat :=
  let c0_i32_4009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4008 : BitVec 32 := 1#32
  let v3254 : BitVec 32 := Scalar.muli v19 c1_i32_4008
  let v3255 : BitVec 32 := Scalar.addi c0_i32_4009 v3254
  v3255.toNat
def k1_off21 (d0 : Dev nD) (c0_i32_4012 : BitVec 32) : Fin 2 → Nat :=
  let c512_4020 : Index := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3262 : BitVec 32 := Scalar.subi v5 c0_i32_4012
  let c8_i32_4013 : BitVec 32 := 8#32
  let c0_i32_4014 : BitVec 32 := 0#32
  let v3263 : BitVec 1 := Scalar.cmpi .eq c8_i32_4013 c0_i32_4014
  let c1_i32_4015 : BitVec 32 := 1#32
  let v3264 : BitVec 32 := Scalar.select v3263 c1_i32_4015 c8_i32_4013
  let v3265 : BitVec 32 := Scalar.remsi v3262 v3264
  let c0_i32_4017 : BitVec 32 := 0#32
  let v3267 : BitVec 1 := Scalar.cmpi .slt v3265 c0_i32_4017
  let c0_i32_4018 : BitVec 32 := 0#32
  let v3268 : BitVec 1 := Scalar.cmpi .slt v3264 c0_i32_4018
  let v3269 : BitVec 1 := Scalar.xori v3267 v3268
  let c0_i32_4016 : BitVec 32 := 0#32
  let v3266 : BitVec 1 := Scalar.cmpi .ne v3265 c0_i32_4016
  let v3270 : BitVec 1 := Scalar.andi v3269 v3266
  let v3271 : BitVec 32 := Scalar.addi v3265 v3264
  let v3272 : BitVec 32 := Scalar.select v3270 v3271 v3265
  let c256_i32_4019 : BitVec 32 := 256#32
  let v3273 : BitVec 32 := Scalar.muli v3272 c256_i32_4019
  let v3274 : Index := Scalar.indexCast v3273
  ![512, v3274.toNat]
def k1_dev70 (d0 : Dev nD) : Nat :=
  let c0_i32_4053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4052 : BitVec 32 := 1#32
  let v3304 : BitVec 32 := Scalar.muli v19 c1_i32_4052
  let v3305 : BitVec 32 := Scalar.addi c0_i32_4053 v3304
  v3305.toNat
def k1_off22 (d0 : Dev nD) (c0_i32_4056 : BitVec 32) : Fin 2 → Nat :=
  let c768_4064 : Index := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3312 : BitVec 32 := Scalar.subi v5 c0_i32_4056
  let c8_i32_4057 : BitVec 32 := 8#32
  let c0_i32_4058 : BitVec 32 := 0#32
  let v3313 : BitVec 1 := Scalar.cmpi .eq c8_i32_4057 c0_i32_4058
  let c1_i32_4059 : BitVec 32 := 1#32
  let v3314 : BitVec 32 := Scalar.select v3313 c1_i32_4059 c8_i32_4057
  let v3315 : BitVec 32 := Scalar.remsi v3312 v3314
  let c0_i32_4061 : BitVec 32 := 0#32
  let v3317 : BitVec 1 := Scalar.cmpi .slt v3315 c0_i32_4061
  let c0_i32_4062 : BitVec 32 := 0#32
  let v3318 : BitVec 1 := Scalar.cmpi .slt v3314 c0_i32_4062
  let v3319 : BitVec 1 := Scalar.xori v3317 v3318
  let c0_i32_4060 : BitVec 32 := 0#32
  let v3316 : BitVec 1 := Scalar.cmpi .ne v3315 c0_i32_4060
  let v3320 : BitVec 1 := Scalar.andi v3319 v3316
  let v3321 : BitVec 32 := Scalar.addi v3315 v3314
  let v3322 : BitVec 32 := Scalar.select v3320 v3321 v3315
  let c256_i32_4063 : BitVec 32 := 256#32
  let v3323 : BitVec 32 := Scalar.muli v3322 c256_i32_4063
  let v3324 : Index := Scalar.indexCast v3323
  ![768, v3324.toNat]
def k1_dev71 (d0 : Dev nD) : Nat :=
  let c0_i32_4097 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4096 : BitVec 32 := 1#32
  let v3354 : BitVec 32 := Scalar.muli v33 c1_i32_4096
  let v3355 : BitVec 32 := Scalar.addi c0_i32_4097 v3354
  v3355.toNat
def k1_off23 (d0 : Dev nD) (c0_i32_4100 : BitVec 32) : Fin 2 → Nat :=
  let c1024_4108 : Index := 1024#32
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v3362 : BitVec 32 := Scalar.subi v44 c0_i32_4100
  let c8_i32_4101 : BitVec 32 := 8#32
  let c0_i32_4102 : BitVec 32 := 0#32
  let v3363 : BitVec 1 := Scalar.cmpi .eq c8_i32_4101 c0_i32_4102
  let c1_i32_4103 : BitVec 32 := 1#32
  let v3364 : BitVec 32 := Scalar.select v3363 c1_i32_4103 c8_i32_4101
  let v3365 : BitVec 32 := Scalar.remsi v3362 v3364
  let c0_i32_4105 : BitVec 32 := 0#32
  let v3367 : BitVec 1 := Scalar.cmpi .slt v3365 c0_i32_4105
  let c0_i32_4106 : BitVec 32 := 0#32
  let v3368 : BitVec 1 := Scalar.cmpi .slt v3364 c0_i32_4106
  let v3369 : BitVec 1 := Scalar.xori v3367 v3368
  let c0_i32_4104 : BitVec 32 := 0#32
  let v3366 : BitVec 1 := Scalar.cmpi .ne v3365 c0_i32_4104
  let v3370 : BitVec 1 := Scalar.andi v3369 v3366
  let v3371 : BitVec 32 := Scalar.addi v3365 v3364
  let v3372 : BitVec 32 := Scalar.select v3370 v3371 v3365
  let c256_i32_4107 : BitVec 32 := 256#32
  let v3373 : BitVec 32 := Scalar.muli v3372 c256_i32_4107
  let v3374 : Index := Scalar.indexCast v3373
  ![1024, v3374.toNat]
def k1_dev72 (d0 : Dev nD) : Nat :=
  let c0_i32_4141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4140 : BitVec 32 := 1#32
  let v3404 : BitVec 32 := Scalar.muli v33 c1_i32_4140
  let v3405 : BitVec 32 := Scalar.addi c0_i32_4141 v3404
  v3405.toNat
def k1_off24 (d0 : Dev nD) (c0_i32_4144 : BitVec 32) : Fin 2 → Nat :=
  let c1280_4152 : Index := 1280#32
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v3412 : BitVec 32 := Scalar.subi v44 c0_i32_4144
  let c8_i32_4145 : BitVec 32 := 8#32
  let c0_i32_4146 : BitVec 32 := 0#32
  let v3413 : BitVec 1 := Scalar.cmpi .eq c8_i32_4145 c0_i32_4146
  let c1_i32_4147 : BitVec 32 := 1#32
  let v3414 : BitVec 32 := Scalar.select v3413 c1_i32_4147 c8_i32_4145
  let v3415 : BitVec 32 := Scalar.remsi v3412 v3414
  let c0_i32_4149 : BitVec 32 := 0#32
  let v3417 : BitVec 1 := Scalar.cmpi .slt v3415 c0_i32_4149
  let c0_i32_4150 : BitVec 32 := 0#32
  let v3418 : BitVec 1 := Scalar.cmpi .slt v3414 c0_i32_4150
  let v3419 : BitVec 1 := Scalar.xori v3417 v3418
  let c0_i32_4148 : BitVec 32 := 0#32
  let v3416 : BitVec 1 := Scalar.cmpi .ne v3415 c0_i32_4148
  let v3420 : BitVec 1 := Scalar.andi v3419 v3416
  let v3421 : BitVec 32 := Scalar.addi v3415 v3414
  let v3422 : BitVec 32 := Scalar.select v3420 v3421 v3415
  let c256_i32_4151 : BitVec 32 := 256#32
  let v3423 : BitVec 32 := Scalar.muli v3422 c256_i32_4151
  let v3424 : Index := Scalar.indexCast v3423
  ![1280, v3424.toNat]
def k1_dev73 (d0 : Dev nD) : Nat :=
  let c0_i32_4185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4184 : BitVec 32 := 1#32
  let v3454 : BitVec 32 := Scalar.muli v33 c1_i32_4184
  let v3455 : BitVec 32 := Scalar.addi c0_i32_4185 v3454
  v3455.toNat
def k1_off25 (d0 : Dev nD) (c0_i32_4188 : BitVec 32) : Fin 2 → Nat :=
  let c1536_4196 : Index := 1536#32
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v3462 : BitVec 32 := Scalar.subi v44 c0_i32_4188
  let c8_i32_4189 : BitVec 32 := 8#32
  let c0_i32_4190 : BitVec 32 := 0#32
  let v3463 : BitVec 1 := Scalar.cmpi .eq c8_i32_4189 c0_i32_4190
  let c1_i32_4191 : BitVec 32 := 1#32
  let v3464 : BitVec 32 := Scalar.select v3463 c1_i32_4191 c8_i32_4189
  let v3465 : BitVec 32 := Scalar.remsi v3462 v3464
  let c0_i32_4193 : BitVec 32 := 0#32
  let v3467 : BitVec 1 := Scalar.cmpi .slt v3465 c0_i32_4193
  let c0_i32_4194 : BitVec 32 := 0#32
  let v3468 : BitVec 1 := Scalar.cmpi .slt v3464 c0_i32_4194
  let v3469 : BitVec 1 := Scalar.xori v3467 v3468
  let c0_i32_4192 : BitVec 32 := 0#32
  let v3466 : BitVec 1 := Scalar.cmpi .ne v3465 c0_i32_4192
  let v3470 : BitVec 1 := Scalar.andi v3469 v3466
  let v3471 : BitVec 32 := Scalar.addi v3465 v3464
  let v3472 : BitVec 32 := Scalar.select v3470 v3471 v3465
  let c256_i32_4195 : BitVec 32 := 256#32
  let v3473 : BitVec 32 := Scalar.muli v3472 c256_i32_4195
  let v3474 : Index := Scalar.indexCast v3473
  ![1536, v3474.toNat]
def k1_dev74 (d0 : Dev nD) : Nat :=
  let c0_i32_4229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4228 : BitVec 32 := 1#32
  let v3504 : BitVec 32 := Scalar.muli v33 c1_i32_4228
  let v3505 : BitVec 32 := Scalar.addi c0_i32_4229 v3504
  v3505.toNat
def k1_off26 (d0 : Dev nD) (c0_i32_4232 : BitVec 32) : Fin 2 → Nat :=
  let c1792_4240 : Index := 1792#32
  let c8_i32_17 : BitVec 32 := 8#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v34 : BitVec 32 := Scalar.subi c8_i32_17 v5
  let c8_i32_18 : BitVec 32 := 8#32
  let c0_i32_19 : BitVec 32 := 0#32
  let v35 : BitVec 1 := Scalar.cmpi .eq c8_i32_18 c0_i32_19
  let c1_i32_20 : BitVec 32 := 1#32
  let v36 : BitVec 32 := Scalar.select v35 c1_i32_20 c8_i32_18
  let v37 : BitVec 32 := Scalar.remsi v34 v36
  let c0_i32_22 : BitVec 32 := 0#32
  let v39 : BitVec 1 := Scalar.cmpi .slt v37 c0_i32_22
  let c0_i32_23 : BitVec 32 := 0#32
  let v40 : BitVec 1 := Scalar.cmpi .slt v36 c0_i32_23
  let v41 : BitVec 1 := Scalar.xori v39 v40
  let c0_i32_21 : BitVec 32 := 0#32
  let v38 : BitVec 1 := Scalar.cmpi .ne v37 c0_i32_21
  let v42 : BitVec 1 := Scalar.andi v41 v38
  let v43 : BitVec 32 := Scalar.addi v37 v36
  let v44 : BitVec 32 := Scalar.select v42 v43 v37
  let v3512 : BitVec 32 := Scalar.subi v44 c0_i32_4232
  let c8_i32_4233 : BitVec 32 := 8#32
  let c0_i32_4234 : BitVec 32 := 0#32
  let v3513 : BitVec 1 := Scalar.cmpi .eq c8_i32_4233 c0_i32_4234
  let c1_i32_4235 : BitVec 32 := 1#32
  let v3514 : BitVec 32 := Scalar.select v3513 c1_i32_4235 c8_i32_4233
  let v3515 : BitVec 32 := Scalar.remsi v3512 v3514
  let c0_i32_4237 : BitVec 32 := 0#32
  let v3517 : BitVec 1 := Scalar.cmpi .slt v3515 c0_i32_4237
  let c0_i32_4238 : BitVec 32 := 0#32
  let v3518 : BitVec 1 := Scalar.cmpi .slt v3514 c0_i32_4238
  let v3519 : BitVec 1 := Scalar.xori v3517 v3518
  let c0_i32_4236 : BitVec 32 := 0#32
  let v3516 : BitVec 1 := Scalar.cmpi .ne v3515 c0_i32_4236
  let v3520 : BitVec 1 := Scalar.andi v3519 v3516
  let v3521 : BitVec 32 := Scalar.addi v3515 v3514
  let v3522 : BitVec 32 := Scalar.select v3520 v3521 v3515
  let c256_i32_4239 : BitVec 32 := 256#32
  let v3523 : BitVec 32 := Scalar.muli v3522 c256_i32_4239
  let v3524 : Index := Scalar.indexCast v3523
  ![1792, v3524.toNat]
def k1_dev75 (d0 : Dev nD) : Nat :=
  let c0_i32_4272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4271 : BitVec 32 := 1#32
  let v3554 : BitVec 32 := Scalar.muli v19 c1_i32_4271
  let v3555 : BitVec 32 := Scalar.addi c0_i32_4272 v3554
  v3555.toNat
def k1_dev76 (d0 : Dev nD) : Nat :=
  let c0_i32_4316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4315 : BitVec 32 := 1#32
  let v3604 : BitVec 32 := Scalar.muli v19 c1_i32_4315
  let v3605 : BitVec 32 := Scalar.addi c0_i32_4316 v3604
  v3605.toNat
def k1_dev77 (d0 : Dev nD) : Nat :=
  let c0_i32_4360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4359 : BitVec 32 := 1#32
  let v3654 : BitVec 32 := Scalar.muli v19 c1_i32_4359
  let v3655 : BitVec 32 := Scalar.addi c0_i32_4360 v3654
  v3655.toNat
def k1_dev78 (d0 : Dev nD) : Nat :=
  let c0_i32_4404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4403 : BitVec 32 := 1#32
  let v3704 : BitVec 32 := Scalar.muli v19 c1_i32_4403
  let v3705 : BitVec 32 := Scalar.addi c0_i32_4404 v3704
  v3705.toNat
def k1_dev79 (d0 : Dev nD) : Nat :=
  let c0_i32_4448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4447 : BitVec 32 := 1#32
  let v3754 : BitVec 32 := Scalar.muli v33 c1_i32_4447
  let v3755 : BitVec 32 := Scalar.addi c0_i32_4448 v3754
  v3755.toNat
def k1_dev80 (d0 : Dev nD) : Nat :=
  let c0_i32_4492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4491 : BitVec 32 := 1#32
  let v3804 : BitVec 32 := Scalar.muli v33 c1_i32_4491
  let v3805 : BitVec 32 := Scalar.addi c0_i32_4492 v3804
  v3805.toNat
def k1_dev81 (d0 : Dev nD) : Nat :=
  let c0_i32_4536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4535 : BitVec 32 := 1#32
  let v3854 : BitVec 32 := Scalar.muli v33 c1_i32_4535
  let v3855 : BitVec 32 := Scalar.addi c0_i32_4536 v3854
  v3855.toNat
def k1_dev82 (d0 : Dev nD) : Nat :=
  let c0_i32_4580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4579 : BitVec 32 := 1#32
  let v3904 : BitVec 32 := Scalar.muli v33 c1_i32_4579
  let v3905 : BitVec 32 := Scalar.addi c0_i32_4580 v3904
  v3905.toNat
def k1_dev83 (d0 : Dev nD) : Nat :=
  let c0_i32_4623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4622 : BitVec 32 := 1#32
  let v3954 : BitVec 32 := Scalar.muli v19 c1_i32_4622
  let v3955 : BitVec 32 := Scalar.addi c0_i32_4623 v3954
  v3955.toNat
def k1_dev84 (d0 : Dev nD) : Nat :=
  let c0_i32_4667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4666 : BitVec 32 := 1#32
  let v4004 : BitVec 32 := Scalar.muli v19 c1_i32_4666
  let v4005 : BitVec 32 := Scalar.addi c0_i32_4667 v4004
  v4005.toNat
def k1_dev85 (d0 : Dev nD) : Nat :=
  let c0_i32_4711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4710 : BitVec 32 := 1#32
  let v4054 : BitVec 32 := Scalar.muli v19 c1_i32_4710
  let v4055 : BitVec 32 := Scalar.addi c0_i32_4711 v4054
  v4055.toNat
def k1_dev86 (d0 : Dev nD) : Nat :=
  let c0_i32_4755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4754 : BitVec 32 := 1#32
  let v4104 : BitVec 32 := Scalar.muli v19 c1_i32_4754
  let v4105 : BitVec 32 := Scalar.addi c0_i32_4755 v4104
  v4105.toNat
def k1_dev87 (d0 : Dev nD) : Nat :=
  let c0_i32_4799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4798 : BitVec 32 := 1#32
  let v4154 : BitVec 32 := Scalar.muli v33 c1_i32_4798
  let v4155 : BitVec 32 := Scalar.addi c0_i32_4799 v4154
  v4155.toNat
def k1_dev88 (d0 : Dev nD) : Nat :=
  let c0_i32_4843 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4842 : BitVec 32 := 1#32
  let v4204 : BitVec 32 := Scalar.muli v33 c1_i32_4842
  let v4205 : BitVec 32 := Scalar.addi c0_i32_4843 v4204
  v4205.toNat
def k1_dev89 (d0 : Dev nD) : Nat :=
  let c0_i32_4887 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4886 : BitVec 32 := 1#32
  let v4254 : BitVec 32 := Scalar.muli v33 c1_i32_4886
  let v4255 : BitVec 32 := Scalar.addi c0_i32_4887 v4254
  v4255.toNat
def k1_dev90 (d0 : Dev nD) : Nat :=
  let c0_i32_4931 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4930 : BitVec 32 := 1#32
  let v4304 : BitVec 32 := Scalar.muli v33 c1_i32_4930
  let v4305 : BitVec 32 := Scalar.addi c0_i32_4931 v4304
  v4305.toNat
def k1_dev91 (d0 : Dev nD) : Nat :=
  let c0_i32_4975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4974 : BitVec 32 := 1#32
  let v4354 : BitVec 32 := Scalar.muli v19 c1_i32_4974
  let v4355 : BitVec 32 := Scalar.addi c0_i32_4975 v4354
  v4355.toNat
def k1_dev92 (d0 : Dev nD) : Nat :=
  let c0_i32_5019 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5018 : BitVec 32 := 1#32
  let v4404 : BitVec 32 := Scalar.muli v19 c1_i32_5018
  let v4405 : BitVec 32 := Scalar.addi c0_i32_5019 v4404
  v4405.toNat
def k1_dev93 (d0 : Dev nD) : Nat :=
  let c0_i32_5063 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5062 : BitVec 32 := 1#32
  let v4454 : BitVec 32 := Scalar.muli v19 c1_i32_5062
  let v4455 : BitVec 32 := Scalar.addi c0_i32_5063 v4454
  v4455.toNat
def k1_dev94 (d0 : Dev nD) : Nat :=
  let c0_i32_5107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5106 : BitVec 32 := 1#32
  let v4504 : BitVec 32 := Scalar.muli v19 c1_i32_5106
  let v4505 : BitVec 32 := Scalar.addi c0_i32_5107 v4504
  v4505.toNat
def k1_dev95 (d0 : Dev nD) : Nat :=
  let c0_i32_5151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5150 : BitVec 32 := 1#32
  let v4554 : BitVec 32 := Scalar.muli v33 c1_i32_5150
  let v4555 : BitVec 32 := Scalar.addi c0_i32_5151 v4554
  v4555.toNat
def k1_dev96 (d0 : Dev nD) : Nat :=
  let c0_i32_5195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5194 : BitVec 32 := 1#32
  let v4604 : BitVec 32 := Scalar.muli v33 c1_i32_5194
  let v4605 : BitVec 32 := Scalar.addi c0_i32_5195 v4604
  v4605.toNat
def k1_dev97 (d0 : Dev nD) : Nat :=
  let c0_i32_5239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5238 : BitVec 32 := 1#32
  let v4654 : BitVec 32 := Scalar.muli v33 c1_i32_5238
  let v4655 : BitVec 32 := Scalar.addi c0_i32_5239 v4654
  v4655.toNat
def k1_dev98 (d0 : Dev nD) : Nat :=
  let c0_i32_5283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5282 : BitVec 32 := 1#32
  let v4704 : BitVec 32 := Scalar.muli v33 c1_i32_5282
  let v4705 : BitVec 32 := Scalar.addi c0_i32_5283 v4704
  v4705.toNat
def k1_dev99 (d0 : Dev nD) : Nat :=
  let c0_i32_5326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5325 : BitVec 32 := 1#32
  let v4754 : BitVec 32 := Scalar.muli v19 c1_i32_5325
  let v4755 : BitVec 32 := Scalar.addi c0_i32_5326 v4754
  v4755.toNat
def k1_dev100 (d0 : Dev nD) : Nat :=
  let c0_i32_5370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5369 : BitVec 32 := 1#32
  let v4804 : BitVec 32 := Scalar.muli v19 c1_i32_5369
  let v4805 : BitVec 32 := Scalar.addi c0_i32_5370 v4804
  v4805.toNat
def k1_dev101 (d0 : Dev nD) : Nat :=
  let c0_i32_5414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5413 : BitVec 32 := 1#32
  let v4854 : BitVec 32 := Scalar.muli v19 c1_i32_5413
  let v4855 : BitVec 32 := Scalar.addi c0_i32_5414 v4854
  v4855.toNat
def k1_dev102 (d0 : Dev nD) : Nat :=
  let c0_i32_5458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5457 : BitVec 32 := 1#32
  let v4904 : BitVec 32 := Scalar.muli v19 c1_i32_5457
  let v4905 : BitVec 32 := Scalar.addi c0_i32_5458 v4904
  v4905.toNat
def k1_dev103 (d0 : Dev nD) : Nat :=
  let c0_i32_5502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5501 : BitVec 32 := 1#32
  let v4954 : BitVec 32 := Scalar.muli v33 c1_i32_5501
  let v4955 : BitVec 32 := Scalar.addi c0_i32_5502 v4954
  v4955.toNat
def k1_dev104 (d0 : Dev nD) : Nat :=
  let c0_i32_5546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5545 : BitVec 32 := 1#32
  let v5004 : BitVec 32 := Scalar.muli v33 c1_i32_5545
  let v5005 : BitVec 32 := Scalar.addi c0_i32_5546 v5004
  v5005.toNat
def k1_dev105 (d0 : Dev nD) : Nat :=
  let c0_i32_5590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5589 : BitVec 32 := 1#32
  let v5054 : BitVec 32 := Scalar.muli v33 c1_i32_5589
  let v5055 : BitVec 32 := Scalar.addi c0_i32_5590 v5054
  v5055.toNat
def k1_dev106 (d0 : Dev nD) : Nat :=
  let c0_i32_5634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5633 : BitVec 32 := 1#32
  let v5104 : BitVec 32 := Scalar.muli v33 c1_i32_5633
  let v5105 : BitVec 32 := Scalar.addi c0_i32_5634 v5104
  v5105.toNat
def k1_dev107 (d0 : Dev nD) : Nat :=
  let c0_i32_5677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5676 : BitVec 32 := 1#32
  let v5154 : BitVec 32 := Scalar.muli v19 c1_i32_5676
  let v5155 : BitVec 32 := Scalar.addi c0_i32_5677 v5154
  v5155.toNat
def k1_dev108 (d0 : Dev nD) : Nat :=
  let c0_i32_5721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5720 : BitVec 32 := 1#32
  let v5204 : BitVec 32 := Scalar.muli v19 c1_i32_5720
  let v5205 : BitVec 32 := Scalar.addi c0_i32_5721 v5204
  v5205.toNat
def k1_dev109 (d0 : Dev nD) : Nat :=
  let c0_i32_5765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5764 : BitVec 32 := 1#32
  let v5254 : BitVec 32 := Scalar.muli v19 c1_i32_5764
  let v5255 : BitVec 32 := Scalar.addi c0_i32_5765 v5254
  v5255.toNat
def k1_dev110 (d0 : Dev nD) : Nat :=
  let c0_i32_5809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5808 : BitVec 32 := 1#32
  let v5304 : BitVec 32 := Scalar.muli v19 c1_i32_5808
  let v5305 : BitVec 32 := Scalar.addi c0_i32_5809 v5304
  v5305.toNat
def k1_dev111 (d0 : Dev nD) : Nat :=
  let c0_i32_5853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5852 : BitVec 32 := 1#32
  let v5354 : BitVec 32 := Scalar.muli v33 c1_i32_5852
  let v5355 : BitVec 32 := Scalar.addi c0_i32_5853 v5354
  v5355.toNat
def k1_dev112 (d0 : Dev nD) : Nat :=
  let c0_i32_5897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5896 : BitVec 32 := 1#32
  let v5404 : BitVec 32 := Scalar.muli v33 c1_i32_5896
  let v5405 : BitVec 32 := Scalar.addi c0_i32_5897 v5404
  v5405.toNat
def k1_dev113 (d0 : Dev nD) : Nat :=
  let c0_i32_5941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5940 : BitVec 32 := 1#32
  let v5454 : BitVec 32 := Scalar.muli v33 c1_i32_5940
  let v5455 : BitVec 32 := Scalar.addi c0_i32_5941 v5454
  v5455.toNat
def k1_dev114 (d0 : Dev nD) : Nat :=
  let c0_i32_5985 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5984 : BitVec 32 := 1#32
  let v5504 : BitVec 32 := Scalar.muli v33 c1_i32_5984
  let v5505 : BitVec 32 := Scalar.addi c0_i32_5985 v5504
  v5505.toNat
abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S2048x2048 : Shape := ⟨2, ![2048, 2048]⟩
abbrev S2048x32768 : Shape := ⟨2, ![2048, 32768]⟩
abbrev S32768x2048 : Shape := ⟨2, ![32768, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x32768, .f32⟩
  | .hbm, ⟨2, _⟩ => ⟨S32768x2048, .f32⟩
  | .hbm, ⟨3, _⟩ => ⟨S2048x32768, .f32⟩
  | .hbm, ⟨4, _⟩ => ⟨S_, .f32⟩
  | .hbm, ⟨5, _⟩ => ⟨S2048x32768, .f32⟩
  | .hbm, ⟨6, _⟩ => ⟨S2048x32768, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Ops.lean ====
/-
The fused call's body, told as a list of operations. The printed body is a long straight line of
transfers, waits, loads and stores; here each kind of operation is written once, with the pipeline,
the step and the slot it belongs to as arguments, and a run of a list of them is a program.
-/
module

public import proofs.«01_k».proof.Proof.Gen.KernelIdeal
public import proofs.«01_k».proof.Proof.Gen.KernelIdeal.Skeleton
public import Idealize.ShloMosaic.Lib.Decide

@[expose] public section

set_option maxRecDepth 16384

noncomputable section

namespace Cert.KernelIdeal

open Idealize.ShloMosaic Idealize.SL.Sem
open Gen

variable {F : FTy → Type} [FloatOps F]

/-- A program of the fused call's body. -/
abbrev P1 (F : FTy → Type) (A : Type) := Prog (TpuEff nD τ sig (Elt F) Λ₀ .tc) A

/-! ## The call's operands -/

abbrev aH : Memref sig .tc .vmem S2048x4096 .bf16 := Memref.whole cc1_stg0_0
abbrev aW : Memref sig .tc .hbm S4096x2048 .bf16 := Memref.whole main_v1_1
abbrev aOut : Memref sig .tc .vmem S2048x2048 .f32 := Memref.whole cc1_stg1_0
abbrev aGath : Memref sig .tc .vmem S2048x2048 .bf16 := Memref.whole cc1_scratch0
abbrev aRecv : Memref sig .tc .vmem S8x7x256x256 .bf16 := Memref.whole cc1_scratch1
abbrev aSend : Memref sig .tc .vmem S8x256x256 .bf16 := Memref.whole cc1_scratch2
abbrev aPiece : Memref sig .tc .vmem S8x256x256 .f32 := Memref.whole cc1_scratch3
abbrev aSlot : Memref sig .tc .vmem S2x2x4096x256 .bf16 := Memref.whole cc1_scratch4

/-- A part of the printed body at this call's operands. -/
abbrev ap {X : Type*} (f : (arg0 : Memref sig .tc .vmem S2048x4096 .bf16) → arg0.IsWhole →
    (arg1 : Memref sig .tc .hbm S4096x2048 .bf16) → arg1.IsWhole → (arg2 : Memref sig .tc .vmem S2048x2048 .f32) → arg2.IsWhole →
    (arg3 : Memref sig .tc .vmem S2048x2048 .bf16) → arg3.IsWhole → (arg4 : Memref sig .tc .vmem S8x7x256x256 .bf16) → arg4.IsWhole →
    (arg5 : Memref sig .tc .vmem S8x256x256 .bf16) → arg5.IsWhole → (arg6 : Memref sig .tc .vmem S8x256x256 .f32) → arg6.IsWhole →
    (arg7 : Memref sig .tc .vmem S2x2x4096x256 .bf16) → arg7.IsWhole →
    DmaSems sig S2x2 → DmaSems sig S8x14 → DmaSems sig S8x14 → X) : X :=
  f aH (Memref.isWhole_whole _) aW (Memref.isWhole_whole _) aOut (Memref.isWhole_whole _) aGath (Memref.isWhole_whole _)
    aRecv (Memref.isWhole_whole _) aSend (Memref.isWhole_whole _) aPiece (Memref.isWhole_whole _) aSlot (Memref.isWhole_whole _)
    cc1_scratch5 cc1_scratch6 cc1_scratch7

/-! ## Offsets and devices -/

/-- The device pipeline `q` sends to, as the kernel computes it. -/
def devT (q : Fin 8) (c : Dev nD) : Dev nD :=
  ![⟨k1_dev1 c, k1_dev1_lt c⟩, ⟨k1_dev1 c, k1_dev1_lt c⟩, ⟨k1_dev1 c, k1_dev1_lt c⟩, ⟨k1_dev1 c, k1_dev1_lt c⟩,
    ⟨k1_dev2 c, k1_dev2_lt c⟩, ⟨k1_dev2 c, k1_dev2_lt c⟩, ⟨k1_dev2 c, k1_dev2_lt c⟩, ⟨k1_dev2 c, k1_dev2_lt c⟩] q

/-- The device of the entry signal, by direction. -/
def devS (d : Fin 2) (c : Dev nD) : Dev nD := ![⟨k1_dev1 c, k1_dev1_lt c⟩, ⟨k1_dev2 c, k1_dev2_lt c⟩] d

/-- Offsets of the chunk of the second weight fetched at fetch `k` for direction `d`. -/
def wOff (d : Fin 2) (c : Dev nD) (k : Fin 8) : Fin 2 → Nat :=
  ![k1_off1 c (BitVec.ofNat 32 k.val), k1_off2 c (BitVec.ofNat 32 k.val)] d

/-- Offsets of the output tile device `c` completes for pipeline `q`. -/
def ownOff (q : Fin 8) (c : Dev nD) : Fin 2 → Nat :=
  ![k1_off3 c, k1_off5 c, k1_off7 c, k1_off9 c, k1_off11 c, k1_off13 c, k1_off15 c, k1_off17 c] q

/-- Offsets of the tile pipeline `q` sends at gather step `t`. -/
def agOff (q : Fin 8) (c : Dev nD) (t : Fin 7) : Fin 2 → Nat :=
  ![k1_off4 c (BitVec.ofNat 32 t.val), k1_off6 c (BitVec.ofNat 32 t.val), k1_off8 c (BitVec.ofNat 32 t.val),
    k1_off10 c (BitVec.ofNat 32 t.val), k1_off12 c (BitVec.ofNat 32 t.val), k1_off14 c (BitVec.ofNat 32 t.val),
    k1_off16 c (BitVec.ofNat 32 t.val), k1_off18 c (BitVec.ofNat 32 t.val)] q

/-- Offsets of the tile pipeline `q` receives at gather step `t`. -/
def arOff (q : Fin 8) (c : Dev nD) (t : Fin 7) : Fin 2 → Nat :=
  ![k1_off19 c (BitVec.ofNat 32 t.val), k1_off20 c (BitVec.ofNat 32 t.val), k1_off21 c (BitVec.ofNat 32 t.val),
    k1_off22 c (BitVec.ofNat 32 t.val), k1_off23 c (BitVec.ofNat 32 t.val), k1_off24 c (BitVec.ofNat 32 t.val),
    k1_off25 c (BitVec.ofNat 32 t.val), k1_off26 c (BitVec.ofNat 32 t.val)] q

/-- The ring position a direction counts in: upwards for direction 0, downwards for direction 1. -/
def ringPos (c : Dev nD) : Nat := if c.val < 4 then c.val else 11 - c.val
def dirPos (d : Fin 2) (c : Dev nD) : Nat := if d = 0 then ringPos c else (8 - ringPos c) % 8
/-- The direction of pipeline `q`. -/
def dirOf (q : Fin 8) : Fin 2 := if q.val < 4 then 0 else 1

/-- The output chunk that is `k` places behind the device, counted in the direction. -/
def chunk (d : Fin 2) (c : Dev nD) (k : Nat) : Fin 8 := ⟨(dirPos d c + 16 - k) % 8, Nat.mod_lt _ (by decide)⟩

theorem wOff_eq : ∀ d c k, wOff d c k = ![0, 256 * (chunk d c k.val).val] := by decide +kernel
theorem ownOff_eq : ∀ q c, ownOff q c = ![256 * q.val, 256 * (chunk (dirOf q) c 7).val] := by decide +kernel
theorem agOff_eq : ∀ q c t, agOff q c t = ![256 * q.val, 256 * (chunk (dirOf q) c (7 + t.val)).val] := by decide +kernel
theorem arOff_eq : ∀ q c t, arOff q c t = ![256 * q.val, 256 * (chunk (dirOf q) c t.val).val] := by decide +kernel
theorem devT_devS : ∀ q c, devT q c = devS (dirOf q) c := by decide +kernel
/-- What a device has `k` places behind it, the next device in the direction has `k + 1` places behind. -/
theorem chunk_devS : ∀ d c (k : Fin 15), chunk d (devS d c) (k.val + 1) = chunk d c k.val := by decide +kernel
theorem devS_devS : ∀ d c, devS (1 - d) (devS d c) = c := by decide +kernel

theorem wOff_inb : ∀ d c k, ∀ a, wOff d c k a + S4096x256.size a ≤ S4096x2048.size a := by decide +kernel
theorem ownOff_inb : ∀ q c, ∀ a, ownOff q c a + S256x256.size a ≤ S2048x2048.size a := by decide +kernel
theorem agOff_inb : ∀ q c t, ∀ a, agOff q c t a + S256x256.size a ≤ S2048x2048.size a := by decide +kernel
theorem arOff_inb : ∀ q c t, ∀ a, arOff q c t a + S256x256.size a ≤ S2048x2048.size a := by decide +kernel
theorem bandInb : ∀ q : Fin 8, ∀ a, (![256 * q.val, 0] : Fin 2 → Nat) a + S256x4096.size a ≤ S2048x4096.size a := by decide
theorem gridInb : ∀ q j : Fin 8, ∀ a, (![256 * q.val, 256 * j.val] : Fin 2 → Nat) a + S256x256.size a ≤ S2048x2048.size a := by decide
theorem wInb : ∀ j : Fin 8, ∀ a, (![0, 256 * j.val] : Fin 2 → Nat) a + S4096x256.size a ≤ S4096x2048.size a := by decide
theorem slotInb : ∀ d p : Fin 2, ∀ a, (![d.val, p.val, 0, 0] : Fin 4 → Nat) a + S1x1x4096x256.size a ≤ S2x2x4096x256.size a := by decide
theorem recvInb : ∀ (q : Fin 8) (s : Fin 7), ∀ a, (![q.val, s.val, 0, 0] : Fin 4 → Nat) a + S1x1x256x256.size a ≤ S8x7x256x256.size a := by decide
theorem laneInb : ∀ q : Fin 8, ∀ a, (![q.val, 0, 0] : Fin 3 → Nat) a + S1x256x256.size a ≤ S8x256x256.size a := by decide
theorem semInb : ∀ (q : Fin 8) (h : Fin 14), ∀ a, (![q.val, h.val] : Fin 2 → Nat) a + S1x1.size a ≤ S8x14.size a := by decide
theorem wsemInb : ∀ d p : Fin 2, ∀ a, (![d.val, p.val] : Fin 2 → Nat) a + S1x1.size a ≤ S2x2.size a := by decide

theorem ownOff_packed : ∀ q c, (Rect.unit (s := S2048x2048) (ownOff q c) S256x256.size (ownOff_inb q c)).PackedRows (EltTy.packing .bf16) := by decide +kernel
theorem agOff_words : ∀ q c t, (Rect.unit (s := S2048x2048) (agOff q c t) S256x256.size (agOff_inb q c t)).WholeWords (EltTy.packing .bf16) := by decide +kernel
theorem gridWords : ∀ q j : Fin 8, (Rect.unit (s := S2048x2048) ![256 * q.val, 256 * j.val] S256x256.size (gridInb q j)).WholeWords (EltTy.packing .bf16) := by decide +kernel
theorem gridPacked : ∀ q j : Fin 8, (Rect.unit (s := S2048x2048) ![256 * q.val, 256 * j.val] S256x256.size (gridInb q j)).PackedRows (EltTy.packing .bf16) := by decide +kernel
theorem wOff_words : ∀ d c k, (Rect.unit (s := S4096x2048) (wOff d c k) S4096x256.size (wOff_inb d c k)).WholeWords (EltTy.packing .bf16) := by decide +kernel
theorem wWords : ∀ j : Fin 8, (Rect.unit (s := S4096x2048) ![0, 256 * j.val] S4096x256.size (wInb j)).WholeWords (EltTy.packing .bf16) := by decide +kernel
theorem slotWords : ∀ d p : Fin 2, (Rect.unit (s := S2x2x4096x256) ![d.val, p.val, 0, 0] S1x1x4096x256.size (slotInb d p)).WholeWords (EltTy.packing .bf16) := by decide +kernel
theorem recvWords : ∀ (q : Fin 8) (s : Fin 7), (Rect.unit (s := S8x7x256x256) ![q.val, s.val, 0, 0] S1x1x256x256.size (recvInb q s)).WholeWords (EltTy.packing .bf16) := by decide +kernel
theorem laneWords : ∀ q : Fin 8, (Rect.unit (s := S8x256x256) ![q.val, 0, 0] S1x256x256.size (laneInb q)).WholeWords (EltTy.packing .bf16) := by decide +kernel
theorem lanePacked : ∀ q : Fin 8, (Rect.unit (s := S8x256x256) ![q.val, 0, 0] S1x256x256.size (laneInb q)).PackedRows (EltTy.packing .bf16) := by decide +kernel

/-! ## Tiles and semaphores -/

/-- The rectangles the body loads and stores through. -/
abbrev bandR (q : Fin 8) := Rect.unit (s := S2048x4096) ![256 * q.val, 0] S256x4096.size (bandInb q)
abbrev slotR (d p : Fin 2) := Rect.unit (s := S2x2x4096x256) ![d.val, p.val, 0, 0] S1x1x4096x256.size (slotInb d p)
abbrev recvR (q : Fin 8) (s : Fin 7) := Rect.unit (s := S8x7x256x256) ![q.val, s.val, 0, 0] S1x1x256x256.size (recvInb q s)
abbrev laneR (q : Fin 8) := Rect.unit (s := S8x256x256) ![q.val, 0, 0] S1x256x256.size (laneInb q)
abbrev gridR (q j : Fin 8) := Rect.unit (s := S2048x2048) ![256 * q.val, 256 * j.val] S256x256.size (gridInb q j)
abbrev wR (j : Fin 8) := Rect.unit (s := S4096x2048) ![0, 256 * j.val] S4096x256.size (wInb j)
abbrev ownR (q : Fin 8) (c : Dev nD) := Rect.unit (s := S2048x2048) (ownOff q c) S256x256.size (ownOff_inb q c)
abbrev agR (q : Fin 8) (c : Dev nD) (t : Fin 7) := Rect.unit (s := S2048x2048) (agOff q c t) S256x256.size (agOff_inb q c t)
abbrev arR (q : Fin 8) (c : Dev nD) (t : Fin 7) := Rect.unit (s := S2048x2048) (arOff q c t) S256x256.size (arOff_inb q c t)
abbrev wkR (d : Fin 2) (c : Dev nD) (k : Fin 8) := Rect.unit (s := S4096x2048) (wOff d c k) S4096x256.size (wOff_inb d c k)

/-- The views the transfers move between. -/
abbrev slotM (d p : Fin 2) : Memref sig .tc .vmem S4096x256 .bf16 := (aSlot.slice (slotR d p) (fun _ => rfl)).squeeze S4096x256 squeezes_S1x1x4096x256_S4096x256
abbrev recvM (q : Fin 8) (s : Fin 7) : Memref sig .tc .vmem S256x256 .bf16 := (aRecv.slice (recvR q s) (fun _ => rfl)).squeeze S256x256 squeezes_S1x1x256x256_S256x256
abbrev sendM (q : Fin 8) : Memref sig .tc .vmem S256x256 .bf16 := (aSend.slice (laneR q) (fun _ => rfl)).squeeze S256x256 squeezes_S1x256x256_S256x256
abbrev gathM (q j : Fin 8) : Memref sig .tc .vmem S256x256 .bf16 := aGath.slice (gridR q j) (fun _ => rfl)
abbrev agM (q : Fin 8) (c : Dev nD) (t : Fin 7) : Memref sig .tc .vmem S256x256 .bf16 := aGath.slice (agR q c t) (fun _ => rfl)
abbrev wkM (d : Fin 2) (c : Dev nD) (k : Fin 8) : Memref sig .tc .hbm S4096x256 .bf16 := aW.slice (wkR d c k) (fun _ => rfl)
abbrev wM (j : Fin 8) : Memref sig .tc .hbm S4096x256 .bf16 := aW.slice (wR j) (fun _ => rfl)

/-- The transfers' semaphores: the send side's, the receive side's, the fetches of the second weight. -/
abbrev sSem (q : Fin 8) (h : Fin 14) : DmaSem sig := ((cc1_scratch6.slice (Rect.unit (s := S8x14) ![q.val, h.val] S1x1.size (semInb q h))).squeeze S_ squeezes_S1x1_S_).sem
abbrev rSem (q : Fin 8) (h : Fin 14) : DmaSem sig := ((cc1_scratch7.slice (Rect.unit (s := S8x14) ![q.val, h.val] S1x1.size (semInb q h))).squeeze S_ squeezes_S1x1_S_).sem
abbrev wSem (d p : Fin 2) : DmaSem sig := ((cc1_scratch5.slice (Rect.unit (s := S2x2) ![d.val, p.val] S1x1.size (wsemInb d p))).squeeze S_ squeezes_S1x1_S_).sem
abbrev bSem : Sem sig := (SemArray.scalar (sig.barrier 0 rfl) : Sems sig S_).sem

/-- The semaphore number of reduce-scatter step `s`, and of gather step `t`. -/
def hRS (s : Fin 7) : Fin 14 := ⟨s.val, by omega⟩
def hAG (t : Fin 7) : Fin 14 := ⟨7 + t.val, by omega⟩
/-- The slot fetch `k` of the second weight lands in. -/
def par (k : Fin 8) : Fin 2 := ⟨k.val % 2, by omega⟩

theorem slotW (d p : Fin 2) : (slotM d p).view.WordExact := ((Memref.isWhole_whole cc1_scratch4).wordExact_slice rfl _ (slotWords d p)).reshape _ _
theorem recvW (q : Fin 8) (s : Fin 7) : (recvM q s).view.WordExact := ((Memref.isWhole_whole cc1_scratch1).wordExact_slice rfl _ (recvWords q s)).reshape _ _
theorem sendW (q : Fin 8) : (sendM q).view.WordExact := ((Memref.isWhole_whole cc1_scratch2).wordExact_slice rfl _ (laneWords q)).reshape _ _
theorem agW (q : Fin 8) (c : Dev nD) (t : Fin 7) : (agM q c t).view.WordExact := (Memref.isWhole_whole cc1_scratch0).wordExact_slice rfl _ (agOff_words q c t)
theorem gathW (q j : Fin 8) : (gathM q j).view.WordExact := (Memref.isWhole_whole cc1_scratch0).wordExact_slice rfl _ (gridWords q j)
theorem wkW (d : Fin 2) (c : Dev nD) (k : Fin 8) : (wkM d c k).view.WordExact := (Memref.isWhole_whole main_v1_1).wordExact_slice rfl _ (wOff_words d c k)
theorem wW (j : Fin 8) : (wM j).view.WordExact := (Memref.isWhole_whole main_v1_1).wordExact_slice rfl _ (wWords j)

/-! ## The values the body stores -/

/-- A band of `h` times a chunk of the second weight, accumulated in f32. -/
def dotV (h : Vec F S256x4096 .bf16) (w : Vec F S1x1x4096x256 .bf16) : FVec F S256x256 .f32 :=
  matmul dot_S256x4096_S4096x256_S256x256_1_0_0_1_n_n none (shapeCast S256x4096 h shapeCasts_S256x4096_S256x4096)
    (shapeCast S4096x256 w shapeCasts_S1x1x4096x256_S4096x256) (constant S256x256 .f32 0x00000000#32)

/-- What arrived, widened, plus the device's own piece. -/
def sumV (r : Vec F S1x1x256x256 .bf16) (p : Vec F S1x256x256 .f32) : FVec F S256x256 .f32 :=
  addf (extf .f32 (shapeCast S256x256 r shapeCasts_S1x1x256x256_S256x256) bitsLt_bf16_f32)
    (shapeCast S256x256 p shapeCasts_S1x256x256_S256x256)

/-- A value rounded to bf16, as a lane of the send buffer holds it. -/
def laneB (v : FVec F S256x256 .f32) : FVec F S1x256x256 .bf16 :=
  shapeCast S1x256x256 (truncf .bf16 v bitsLt_bf16_f32) shapeCasts_S256x256_S1x256x256

/-- A value as a lane of the piece buffer holds it. -/
def laneF (v : FVec F S256x256 .f32) : FVec F S1x256x256 .f32 := shapeCast S1x256x256 v shapeCasts_S256x256_S1x256x256

/-- A value rounded to bf16, as a tile of the gather buffer holds it. -/
def tileB (v : FVec F S256x256 .f32) : FVec F S256x256 .bf16 :=
  shapeCast S256x256 (truncf .bf16 v bitsLt_bf16_f32) shapeCasts_S256x256_S256x256

/-- A gathered tile widened. -/
def wideV (g : Vec F S256x256 .bf16) : FVec F S256x256 .f32 := extf .f32 g bitsLt_bf16_f32

/-! ## The operations -/

/-- The values the body has loaded and not yet used up, one of each kind. -/
structure Regs (F : FTy → Type) where
  h : Vec F S256x4096 .bf16
  w : Vec F S1x1x4096x256 .bf16
  r : Vec F S1x1x256x256 .bf16
  p : Vec F S1x256x256 .f32
  g : Vec F S256x256 .bf16
  x : Vec F S1x256x256 .bf16
  y : Vec F S256x256 .f32
  z : Vec F S256x256 .bf16

/-- The body's operations. -/
inductive Op where
  | w2start (d : Fin 2) (k : Fin 8)
  | w2wait (d : Fin 2) (k : Fin 8)
  | signal (d : Fin 2)
  | barWait
  | loadH (q : Fin 8)
  | loadW (d p : Fin 2)
  | loadSend (q : Fin 8)
  | storeSend0 (q : Fin 8)
  | storeSendN (q : Fin 8)
  | loadPiece (q : Fin 8)
  | storePiece (q : Fin 8)
  | sendRS (q : Fin 8) (s : Fin 7)
  | waitSendRS (q : Fin 8) (s : Fin 7)
  | waitRecvRS (q : Fin 8) (s : Fin 7)
  | loadRecv (q : Fin 8) (s : Fin 7)
  | loadGathOwn (q : Fin 8)
  | storeGath (q : Fin 8)
  | loadOutOwn (q : Fin 8)
  | storeOutOwn (q : Fin 8)
  | sendAG (q : Fin 8) (t : Fin 7)
  | waitSendAG (q : Fin 8) (t : Fin 7)
  | waitRecvAG (q : Fin 8) (t : Fin 7)
  | loadGath (q : Fin 8) (t : Fin 7)
  | loadOut (q : Fin 8) (t : Fin 7)
  | storeOut (q : Fin 8) (t : Fin 7)

/-- Load a lane rectangle's stores: packed rows of a whole bf16 buffer. -/
theorem sendSt (q : Fin 8) : (aSend.access (laneR q)).Stores Finset.univ :=
  View.stores_vmem h_S1x256x256 ((Memref.isWhole_whole cc1_scratch2).storeExact_slice rfl _ (lanePacked q)) (fun _ => rfl)
theorem ownSt (q : Fin 8) (c : Dev nD) : (aGath.access (ownR q c)).Stores Finset.univ :=
  View.stores_vmem h_S256x256 ((Memref.isWhole_whole cc1_scratch0).storeExact_slice rfl _ (ownOff_packed q c)) (fun _ => rfl)

/-- One operation, then the rest of the program on the values loaded so far. -/
def Op.prog (c : Dev nD) (o : Op) (R : Regs F) (K : Regs F → P1 F PUnit) : P1 F PUnit :=
  match o with
  | .w2start d k => .op (.enqueueDma (wkM d c k) (.here (slotM d (par k))) (.dma (wSem d (par k))) (wkW d c k) (slotW d (par k)) ⟨Or.inl rfl, trivial⟩) fun _ => K R
  | .w2wait d k => .op (.waitDma2 (wSem d (par k)) (wkM d c k) (slotM d (par k)) (wkW d c k) (slotW d (par k))) fun _ => K R
  | .signal d => .op (.semSignal (devS d c, .tc) bSem (1#32 : BitVec 32).toInt) fun _ => K R
  | .barWait => .op (.semWait bSem (2#32 : BitVec 32).toInt) fun _ => K R
  | .loadH q => .op (.load aH (bandR q).toLoadRect (View.loadsAt_vmem h_S256x4096)) fun v => K { R with h := v }
  | .loadW d p => .op (.load aSlot (slotR d p).toLoadRect (View.loadsAt_vmem h_S1x1x4096x256)) fun v => K { R with w := v }
  | .loadSend q => .op (.load aSend (laneR q).toLoadRect (View.loadsAt_vmem h_S1x256x256)) fun v => K { R with x := v }
  | .storeSend0 q => .op (.store aSend (laneR q) (laneB (dotV R.h R.w)) Finset.univ (sendSt q) (.inl rfl)) fun _ => K R
  | .storeSendN q => .op (.store aSend (laneR q) (laneB (sumV R.r R.p)) Finset.univ (sendSt q) (.inl rfl)) fun _ => K R
  | .loadPiece q => .op (.load aPiece (laneR q).toLoadRect (View.loadsAt_vmem h_S1x256x256)) fun v => K { R with p := v }
  | .storePiece q => .op (.store aPiece (laneR q) (laneF (dotV R.h R.w)) Finset.univ (View.stores_vmem_bits_univ h_S1x256x256 rfl) (.inl rfl)) fun _ => K R
  | .sendRS q s => .op (.enqueueDma (sendM q) (.remote (Dev.tc (devT q c)) (recvM q s) (.dma (sSem q (hRS s)))) (.dma (rSem q (hRS s))) (sendW q) (recvW q s) ⟨⟨rfl, Or.inl rfl⟩, trivial⟩) fun _ => K R
  | .waitSendRS q s => .op (.waitDma2 (sSem q (hRS s)) (recvM q s) (sendM q) (recvW q s) (sendW q)) fun _ => K R
  | .waitRecvRS q s => .op (.waitDma2 (rSem q (hRS s)) (sendM q) (recvM q s) (sendW q) (recvW q s)) fun _ => K R
  | .loadRecv q s => .op (.load aRecv (recvR q s).toLoadRect (View.loadsAt_vmem h_S1x1x256x256)) fun v => K { R with r := v }
  | .loadGathOwn q => .op (.load aGath (ownR q c).toLoadRect (View.loadsAt_vmem h_S256x256)) fun v => K { R with z := v }
  | .storeGath q => .op (.store aGath (ownR q c) (tileB (sumV R.r R.p)) Finset.univ (ownSt q c) (.inl rfl)) fun _ => K R
  | .loadOutOwn q => .op (.load aOut (ownR q c).toLoadRect (View.loadsAt_vmem h_S256x256)) fun v => K { R with y := v }
  | .storeOutOwn q => .op (.store aOut (ownR q c) (sumV R.r R.p) Finset.univ (View.stores_vmem_bits_univ h_S256x256 rfl) (.inl rfl)) fun _ => K R
  | .sendAG q t => .op (.enqueueDma (agM q c t) (.remote (Dev.tc (devT q c)) (agM q c t) (.dma (sSem q (hAG t)))) (.dma (rSem q (hAG t))) (agW q c t) (agW q c t) ⟨⟨rfl, Or.inl rfl⟩, trivial⟩) fun _ => K R
  | .waitSendAG q t => .op (.waitDma2 (sSem q (hAG t)) (agM q c t) (agM q c t) (agW q c t) (agW q c t)) fun _ => K R
  | .waitRecvAG q t => .op (.waitDma2 (rSem q (hAG t)) (agM q c t) (agM q c t) (agW q c t) (agW q c t)) fun _ => K R
  | .loadGath q t => .op (.load aGath (arR q c t).toLoadRect (View.loadsAt_vmem h_S256x256)) fun v => K { R with g := v }
  | .loadOut q t => .op (.load aOut (arR q c t).toLoadRect (View.loadsAt_vmem h_S256x256)) fun v => K { R with y := v }
  | .storeOut q t => .op (.store aOut (arR q c t) (wideV R.g) Finset.univ (View.stores_vmem_bits_univ h_S256x256 rfl) (.inl rfl)) fun _ => K R

/-- A list of operations, run in order. -/
def run (c : Dev nD) : List Op → Regs F → (Regs F → P1 F PUnit) → P1 F PUnit
  | [], R, K => K R
  | o :: os, R, K => o.prog c R fun R' => run c os R' K

theorem run_append (c : Dev nD) (L L' : List Op) (R : Regs F) (K : Regs F → P1 F PUnit) :
    run c (L ++ L') R K = run c L R fun R' => run c L' R' K := by
  induction L generalizing R with
  | nil => rfl
  | cons o os ih => simp only [List.cons_append, run, ih]

theorem run_congr (c : Dev nD) (L : List Op) (R : Regs F) {K K' : Regs F → P1 F PUnit} (h : ∀ R', K R' = K' R') : run c L R K = run c L R K' := by
  rw [funext h]

/-- `p` is the operations `L` from `R`, its answer and the values loaded then related by `Q`. -/
def Sim {A : Type} (c : Dev nD) (p : P1 F A) (L : List Op) (R : Regs F) (Q : A → Regs F → Prop) : Prop :=
  ∀ (K : A → P1 F PUnit) (K' : Regs F → P1 F PUnit), (∀ a R', Q a R' → K a = K' R') → (p >>= K) = run c L R K'

theorem Sim.of_ex {A W : Type} {c : Dev nD} {p : P1 F A} {L : List Op} {R : Regs F} {Q : A → Regs F → Prop}
    (f : W → Regs F → A) (h : ∃ w, ∀ K : A → P1 F PUnit, (p >>= K) = run c L R fun R' => K (f w R')) (hf : ∀ w R', Q (f w R') R') : Sim c p L R Q :=
  fun K _ hK => h.elim fun w h => (h K).trans (run_congr c L R fun R' => hK _ _ (hf w R'))

theorem Sim.bind {A B : Type} {c : Dev nD} {p : P1 F A} {g : A → P1 F B} {L L' : List Op} {R : Regs F} {Q : A → Regs F → Prop} {Q' : B → Regs F → Prop}
    (h : Sim c p L R Q) (h' : ∀ a R', Q a R' → Sim c (g a) L' R' Q') : Sim c (p >>= g) (L ++ L') R Q' := fun K K' hK => by
  rw [run_append, ← h (fun a => g a >>= K) _ fun a R' q => h' a R' q K K' hK]
  exact bind_assoc _ _ _

theorem Sim.pure {A : Type} {c : Dev nD} {a : A} {R : Regs F} {Q : A → Regs F → Prop} (h : Q a R) : Sim c (Pure.pure a) [] R Q :=
  fun K _ hK => (pure_bind a K).trans (hK a R h)

theorem Sim.run {c : Dev nD} {p : P1 F PUnit} {L : List Op} {R : Regs F} {Q : PUnit → Regs F → Prop} (h : Sim c p L R Q) :
    p = Cert.KernelIdeal.run c L R fun _ => .ret ⟨⟩ :=
  (bind_pure p).symm.trans (h Pure.pure _ fun _ _ _ => rfl)

end Cert.KernelIdeal
-- ==== Proof.Proto.lean ====
/-
The fused call's protocol. Every pipeline sends fourteen times to its neighbour, and receives fourteen times from the
other one: seven partial sums of the reduce-scatter, then seven finished tiles of the gather. Each semaphore of these
transfers is a cell with one duty; the barrier's cell has two, one from each neighbour, which hand over the buffers
that neighbour lets its sender write.
-/
module

public import proofs.«01_k».proof.Proof.Ops
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic

@[expose] public section

set_option maxRecDepth 16384

noncomputable section

namespace Cert.KernelIdeal

open Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What is sent -/

abbrev Tile16 (F : FTy → Type) [FloatOps F] := Vec F S256x256 .bf16
abbrev Tile32 (F : FTy → Type) [FloatOps F] := FVec F S256x256 .f32

/-- The device pipeline `q` receives from. -/
def src (q : Fin 8) (c : Dev nD) : Dev nD := devS (1 - dirOf q) c
/-- The device pipeline `q` sends to. -/
abbrev tgt (q : Fin 8) (c : Dev nD) : Dev nD := devT q c

theorem src_tgt : ∀ q c, src q (tgt q c) = c := by decide +kernel
theorem tgt_src : ∀ q c, tgt q (src q c) = c := by decide +kernel
theorem tgt_eq (q : Fin 8) (c : Dev nD) : tgt q c = devS (dirOf q) c := devT_devS q c

/-- The chunk `k` places behind the device, in pipeline `q`'s direction. -/
def ck (q : Fin 8) (c : Dev nD) (k : Nat) : Fin 8 := chunk (dirOf q) c k

theorem ck_inj : ∀ q c (k k' : Fin 8), ck q c k.val = ck q c k'.val → k = k' := by decide +kernel
theorem ck_add8 : ∀ q c (k : Fin 7), ck q c (8 + k.val) = ck q c k.val := by decide +kernel
theorem ck_tgt : ∀ q c (k : Fin 15), ck q (tgt q c) (k.val + 1) = ck q c k.val := by decide +kernel

/-- A band of `h` times a chunk of the second weight. -/
def dotT (h : Vec F S256x4096 .bf16) (w : Vec F S4096x256 .bf16) : Tile32 F :=
  matmul dot_S256x4096_S4096x256_S256x256_1_0_0_1_n_n none (shapeCast S256x4096 h shapeCasts_S256x4096_S256x4096) w (constant S256x256 .f32 0x00000000#32)
def truncT (v : Tile32 F) : Tile16 F := truncf .bf16 v bitsLt_bf16_f32
def sumT (r : Tile16 F) (p : Tile32 F) : Tile32 F := addf (extf .f32 r bitsLt_bf16_f32) p

section Values

variable (H : Dev nD → S2048x4096.Idx → Elt F .bf16) (W : Dev nD → S4096x2048.Idx → Elt F .bf16)

def hBand (c : Dev nD) (q : Fin 8) : Vec F S256x4096 .bf16 := fun i => H c ((bandR q).emb i)
def wCol (c : Dev nD) (j : Fin 8) : Vec F S4096x256 .bf16 := fun i => W c ((wR j).emb i)

/-- The device's piece of the tile of pipeline `q` and the chunk `k` places behind. -/
def piece (q : Fin 8) (c : Dev nD) (k : Nat) : Tile32 F := dotT (hBand H c q) (wCol W c (ck q c k))

/-- The running sum of a tile on the device that has just added its piece, `n` devices after the first. -/
def acc (q : Fin 8) : Nat → Dev nD → Tile32 F
  | 0, c => piece H W q c 0
  | n + 1, c => sumT (truncT (acc q n (src q c))) (piece H W q c (n + 1))

/-- What pipeline `q` of device `c` sends at hop `n`. -/
def snd (q : Fin 8) (n : Nat) (c : Dev nD) : Tile16 F :=
  if n < 7 then truncT (acc H W q n c) else truncT (acc H W q 7 ((src q)^[n - 7] c))

theorem snd_rs (q : Fin 8) (n : Nat) (h : n < 7) (c : Dev nD) : snd H W q n c = truncT (acc H W q n c) := if_pos h
theorem snd_own (q : Fin 8) (c : Dev nD) : snd H W q 7 c = truncT (acc H W q 7 c) := if_neg (by decide)
theorem snd_ag (q : Fin 8) (n : Nat) (h : 7 ≤ n) (c : Dev nD) : snd H W q (n + 1) c = snd H W q n (src q c) := by
  unfold snd
  rw [if_neg (by omega), if_neg (by omega), show n + 1 - 7 = (n - 7) + 1 from by omega, Function.iterate_succ_apply]

end Values

/-! ## The cells -/

abbrev UB : Type := URounds (GSem nD τ sig) (Fin 2)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters of the local transfers. -/
abbrev EC : UEmb Counters (MT nD τ sig Unit (Elt F) ℕ UU ℕ) := countersEmb (U := UU)

abbrev barCell (c : Dev nD) : GSem nD τ sig := ((c : Thread nD τ), .reg bSem)
abbrev sCell (c : Dev nD) (q : Fin 8) (h : Fin 14) : GSem nD τ sig := ((c : Thread nD τ), .dma (sSem q h))
abbrev rCell (c : Dev nD) (q : Fin 8) (h : Fin 14) : GSem nD τ sig := ((c : Thread nD τ), .dma (rSem q h))

/-- What a semaphore is for. -/
inductive CK where
  | bar
  | snd (q : Fin 8) (h : Fin 14)
  | rcv (q : Fin 8) (h : Fin 14)
  | other
  deriving DecidableEq

def kind : SemLoc sig → CK
  | .reg _ => .bar
  | .dma i =>
    if h : 127 ≤ i.val then .rcv ⟨(i.val - 127) / 14, by have h' : i.val < 239 := i.isLt; omega⟩ ⟨(i.val - 127) % 14, Nat.mod_lt _ (by decide)⟩
    else if h : 15 ≤ i.val then .snd ⟨(i.val - 15) / 14, by omega⟩ ⟨(i.val - 15) % 14, Nat.mod_lt _ (by decide)⟩
    else .other

theorem kind_s : ∀ q h, kind (.dma (sSem q h)) = .snd q h := by decide +kernel
theorem kind_r : ∀ q h, kind (.dma (rSem q h)) = .rcv q h := by decide +kernel
theorem kind_w : ∀ d p, kind (.dma (wSem d p)) = .other := by decide +kernel
theorem kind_b : kind (.reg bSem) = .bar := rfl

theorem rCell_inj {c c' : Dev nD} {q q' : Fin 8} {h h' : Fin 14} (e : rCell c q h = rCell c' q' h') : c = c' ∧ q = q' ∧ h = h' := by
  have h1 := congrArg (fun g : GSem nD τ sig => kind g.2) e
  simp only [kind_r, CK.rcv.injEq] at h1
  exact ⟨congrArg (fun g : GSem nD τ sig => g.1.1) e, h1.1, h1.2⟩
theorem sCell_inj {c c' : Dev nD} {q q' : Fin 8} {h h' : Fin 14} (e : sCell c q h = sCell c' q' h') : c = c' ∧ q = q' ∧ h = h' := by
  have h1 := congrArg (fun g : GSem nD τ sig => kind g.2) e
  simp only [kind_s, CK.snd.injEq] at h1
  exact ⟨congrArg (fun g : GSem nD τ sig => g.1.1) e, h1.1, h1.2⟩
theorem rCell_ne_bar {c c' : Dev nD} {q : Fin 8} {h : Fin 14} : rCell c q h ≠ barCell c' := fun e => by
  have h1 := congrArg (fun g : GSem nD τ sig => kind g.2) e
  simp only [kind_r, kind_b] at h1; exact CK.noConfusion h1
theorem sCell_ne_bar {c c' : Dev nD} {q : Fin 8} {h : Fin 14} : sCell c q h ≠ barCell c' := fun e => by
  have h1 := congrArg (fun g : GSem nD τ sig => kind g.2) e
  simp only [kind_s, kind_b] at h1; exact CK.noConfusion h1
theorem sCell_ne_rCell {c c' : Dev nD} {q q' : Fin 8} {h h' : Fin 14} : sCell c q h ≠ rCell c' q' h' := fun e => by
  have h1 := congrArg (fun g : GSem nD τ sig => kind g.2) e
  simp only [kind_s, kind_r] at h1; exact CK.noConfusion h1

def barEmb : Dev nD ↪ GSem nD τ sig := ⟨fun c => barCell c, fun _ _ h => congrArg (fun g : GSem nD τ sig => g.1.1) h⟩
def sEmb : Dev nD × Fin 8 × Fin 14 ↪ GSem nD τ sig :=
  ⟨fun x => sCell x.1 x.2.1 x.2.2, fun _ _ h => Prod.ext (sCell_inj h).1 (Prod.ext (sCell_inj h).2.1 (sCell_inj h).2.2)⟩
def rEmb : Dev nD × Fin 8 × Fin 14 ↪ GSem nD τ sig :=
  ⟨fun x => rCell x.1 x.2.1 x.2.2, fun _ _ h => Prod.ext (rCell_inj h).1 (Prod.ext (rCell_inj h).2.1 (rCell_inj h).2.2)⟩

/-- The barrier's cells, and the cells of the call's own semaphores. -/
abbrev barCells : Finset (GSem nD τ sig) := Finset.univ.map barEmb
abbrev scCells : Finset (GSem nD τ sig) := Finset.univ.map sEmb ∪ Finset.univ.map rEmb

theorem b_mem (c : Dev nD) : barCell c ∈ (barCells ∪ scCells : Finset (GSem nD τ sig)) :=
  Finset.mem_union_left _ (Finset.mem_map_of_mem barEmb (Finset.mem_univ c))
theorem s_mem (c : Dev nD) (q : Fin 8) (h : Fin 14) : sCell c q h ∈ (barCells ∪ scCells : Finset (GSem nD τ sig)) :=
  Finset.mem_union_right _ (Finset.mem_union_left _ (Finset.mem_map_of_mem sEmb (Finset.mem_univ (c, q, h))))
theorem r_mem (c : Dev nD) (q : Fin 8) (h : Fin 14) : rCell c q h ∈ (barCells ∪ scCells : Finset (GSem nD τ sig)) :=
  Finset.mem_union_right _ (Finset.mem_union_right _ (Finset.mem_map_of_mem rEmb (Finset.mem_univ (c, q, h))))
theorem disjoint_cells : Disjoint (barCells : Finset (GSem nD τ sig)) scCells := by
  rw [Finset.disjoint_left]
  rintro g h₁ h₂
  obtain ⟨c, -, rfl⟩ := Finset.mem_map.mp h₁
  rcases Finset.mem_union.mp h₂ with h₂ | h₂ <;> obtain ⟨x, -, h⟩ := Finset.mem_map.mp h₂
  · exact sCell_ne_bar h
  · exact rCell_ne_bar h

/-! ## The buffers a hop moves between -/

/-- Where hop `h` of pipeline `q` is sent from: the send lane, then the finished tiles. -/
def srcM (q : Fin 8) (h : Fin 14) (c : Dev nD) : Memref sig .tc .vmem S256x256 .bf16 := if h.val < 7 then sendM q else gathM q (ck q c h.val)
/-- Where it lands on device `c`. -/
def dstM (q : Fin 8) (h : Fin 14) (c : Dev nD) : Memref sig .tc .vmem S256x256 .bf16 :=
  if h' : h.val < 7 then recvM q ⟨h.val, h'⟩ else gathM q (ck q c (h.val - 7))
/-- The share of its source a hop takes along: the finished tiles are still read while they are sent on. -/
def hopShare (h : Fin 14) : PosShare TreeShare := if h.val < 7 then fullShare else fullShare.left

/-- The units of one tile. -/
abbrev NN : ℕ := (sendM 0).view.dmaCredit
theorem NN_pos : 0 < NN := View.dmaCredit_pos _ (by decide)

section Sched

variable (H : Dev nD → S2048x4096.Idx → Elt F .bf16) (W : Dev nD → S4096x2048.Idx → Elt F .bf16)

/-- What a device lets the sender of its pipeline `q` write. -/
def land (c : Dev nD) (q : Fin 8) : sProp 𝕄 :=
  bigSep Finset.univ fun h : Fin 14 => iprop((∃ X, ownsTc c (dstM q h c) fullShare X) ∗ reached ER (rCell c q h) 0)

/-- What the neighbour in direction `d` hands over at the barrier. -/
def barPay (c : Dev nD) (d : Fin 2) : sProp 𝕄 :=
  bigSep (Finset.univ.filter fun q : Fin 8 => dirOf q = d) fun q => land (devS d c) q

def sndPay (c : Dev nD) (q : Fin 8) (h : Fin 14) : sProp 𝕄 := ownsTc c (srcM q h c) (hopShare h) (snd H W q h.val c)
def rcvPay (c : Dev nD) (q : Fin 8) (h : Fin 14) : sProp 𝕄 := ownsTc c (dstM q h c) fullShare (snd H W q h.val (src q c))

/-- The one round of every cell. -/
def rd : Rounds.Schedule (GSem nD τ sig) (Fin 2) 𝕄 where
  duties g r := if r = 0 ∧ g.1.2 = .tc then (match kind g.2 with | .bar => Finset.univ | .snd _ _ => {0} | .rcv _ _ => {0} | .other => ∅) else ∅
  unitless _ := False
  amount g _ _ := match kind g.2 with | .bar => 1 | _ => NN
  payload g _ d := match kind g.2 with
    | .bar => barPay g.1.1 d
    | .snd q h => sndPay H W g.1.1 q h
    | .rcv q h => rcvPay H W g.1.1 q h
    | .other => iprop(emp)
  amount_pos g _ _ _ := by
    cases kind g.2
    · exact Nat.one_pos
    · exact NN_pos
    · exact NN_pos
    · exact NN_pos

instance rd_storable (g : GSem nD τ sig) (r : ℕ) (d : Fin 2) : BI.Storable (upEmb : UEmb _ 𝕄) ((rd (F := F) H W).payload g r d) := by
  show BI.Storable upEmb (match kind g.2 with
    | .bar => barPay g.1.1 d
    | .snd q h => sndPay H W g.1.1 q h
    | .rcv q h => rcvPay H W g.1.1 q h
    | .other => iprop(emp))
  unfold barPay land sndPay rcvPay
  split <;> infer_instance

variable (c : Dev nD) (q : Fin 8) (h : Fin 14)

theorem duties_bar : (rd (F := F) H W).duties (barCell c) 0 = Finset.univ := by
  dsimp only [rd]; rw [if_pos ⟨rfl, rfl⟩, kind_b]
theorem duties_s : (rd (F := F) H W).duties (sCell c q h) 0 = {0} := by
  dsimp only [rd]; rw [if_pos ⟨rfl, rfl⟩, kind_s]
theorem duties_r : (rd (F := F) H W).duties (rCell c q h) 0 = {0} := by
  dsimp only [rd]; rw [if_pos ⟨rfl, rfl⟩, kind_r]
theorem duties_later (g : GSem nD τ sig) : ∀ r, 1 ≤ r → (rd (F := F) H W).duties g r = ∅ :=
  fun r hr => by dsimp only [rd]; rw [if_neg fun h => by omega]
theorem amount_bar (d : Fin 2) : (rd (F := F) H W).amount (barCell c) 0 d = 1 := by dsimp only [rd]; rw [kind_b]
theorem amount_s (d : Fin 2) : (rd (F := F) H W).amount (sCell c q h) 0 d = NN := by dsimp only [rd]; rw [kind_s]
theorem amount_r (d : Fin 2) : (rd (F := F) H W).amount (rCell c q h) 0 d = NN := by dsimp only [rd]; rw [kind_r]
theorem expect_bar : (rd (F := F) H W).expect (barCell c) 0 = 2 := by
  unfold Schedule.expect Schedule.amountOf
  rw [duties_bar, Finset.sum_congr rfl fun d _ => amount_bar H W c d]; rfl
theorem expect_s : (rd (F := F) H W).expect (sCell c q h) 0 = NN := by
  unfold Schedule.expect Schedule.amountOf; rw [duties_s, Finset.sum_singleton, amount_s]
theorem expect_r : (rd (F := F) H W).expect (rCell c q h) 0 = NN := by
  unfold Schedule.expect Schedule.amountOf; rw [duties_r, Finset.sum_singleton, amount_r]
theorem payload_bar (d : Fin 2) : (rd (F := F) H W).payload (barCell c) 0 d = barPay c d := by dsimp only [rd]; rw [kind_b]
theorem payload_s : (rd (F := F) H W).payload (sCell c q h) 0 0 = sndPay H W c q h := by dsimp only [rd]; rw [kind_s]
theorem payload_r : (rd (F := F) H W).payload (rCell c q h) 0 0 = rcvPay H W c q h := by dsimp only [rd]; rw [kind_r]
theorem rest_bar : (bigSep ((rd (F := F) H W).duties (barCell c) 0 \ ∅) fun d => (rd (F := F) H W).payload (barCell c) 0 d) = iprop(barPay c 0 ∗ barPay c 1) := by
  rw [duties_bar, Finset.sdiff_empty, BI.bigSep_fin_two, payload_bar, payload_bar]; rfl
theorem rest_s : (bigSep ((rd (F := F) H W).duties (sCell c q h) 0 \ ∅) fun d => (rd (F := F) H W).payload (sCell c q h) 0 d) = sndPay H W c q h := by
  rw [duties_s, Finset.sdiff_empty, BI.bigSep_singleton, payload_s]
theorem rest_r : (bigSep ((rd (F := F) H W).duties (rCell c q h) 0 \ ∅) fun d => (rd (F := F) H W).payload (rCell c q h) 0 d) = rcvPay H W c q h := by
  rw [duties_r, Finset.sdiff_empty, BI.bigSep_singleton, payload_r]

end Sched

/-! ## What a device owes, and the levels -/

/-- The hops not yet sent when `n` are, in the order of the sends. -/
def left (n : ℕ) : Finset (Fin 14 × Fin 8) := Finset.univ.filter fun x => n ≤ 8 * x.1.val + x.2.val

/-- What a device owes its neighbours' receive cells once it has sent `n` times. -/
def debt (c : Dev nD) (n : ℕ) : CellTallies nD τ sig Unit := ∑ x ∈ left n, tallyAt (rCell (tgt x.2 c) x.2 x.1) () NN

/-- What it owes at launch. -/
def O₀ (c : Dev nD) : CellTallies nD τ sig Unit :=
  debt c 0 + tallyAt (barCell (devS 1 c)) () 1 + tallyAt (barCell (devS 0 c)) () 1

theorem left_step (h : Fin 14) (q : Fin 8) : left (8 * h.val + q.val) = insert (h, q) (left (8 * h.val + q.val + 1)) := by
  ext ⟨h', q'⟩
  simp only [left, Finset.mem_filter, Finset.mem_univ, true_and, Finset.mem_insert, Prod.mk.injEq]
  constructor
  · intro hx
    by_cases e : 8 * h'.val + q'.val = 8 * h.val + q.val
    · left; constructor <;> apply Fin.ext <;> omega
    · right; omega
  · rintro (⟨rfl, rfl⟩ | hx) <;> omega

theorem debt_step (c : Dev nD) (h : Fin 14) (q : Fin 8) :
    debt c (8 * h.val + q.val) = debt c (8 * h.val + q.val + 1) + tallyAt (rCell (tgt q c) q h) () NN := by
  unfold debt
  rw [left_step, Finset.sum_insert (by simp [left]), add_comm]

theorem debt_end (c : Dev nD) : debt c 112 = 0 := by
  unfold debt
  rw [show left 112 = ∅ from by
    ext ⟨h, q⟩; simp only [left, Finset.mem_filter, Finset.mem_univ, true_and, Finset.notMem_empty, iff_false]; omega, Finset.sum_empty]

def L (g : GSem nD τ sig) : Finset Unit := if g.1.2 = .tc then {()} else ∅
def lv (g : GSem nD τ sig) (_ : Unit) : ℕ := match kind g.2 with | .bar => 1 | .rcv _ h => h.val + 2 | _ => 0

theorem L_tc (c : Dev nD) (sm : SemLoc sig) : L ((c : Thread nD τ), sm) = {()} := if_pos rfl
theorem L_of_ne (g : GSem nD τ sig) (h : g.1.2 ≠ .tc) : L g = ∅ := if_neg h

theorem sum_tally_pos {ι : Type} [DecidableEq ι] (s : Finset ι) (f : ι → CellTallies nD τ sig Unit) {g : GSem nD τ sig} {u : Unit}
    (h : 0 < (∑ x ∈ s, f x) g u) : ∃ x ∈ s, 0 < f x g u := by
  induction s using Finset.induction_on with
  | empty => exact absurd h (Nat.lt_irrefl 0)
  | insert a s ha ih =>
    rw [Finset.sum_insert ha, Pi.add_apply, Finsupp.add_apply] at h
    rcases Nat.add_pos_iff_pos_or_pos.mp h with h | h
    · exact ⟨a, Finset.mem_insert_self _ _, h⟩
    · obtain ⟨x, hx, hp⟩ := ih h; exact ⟨x, Finset.mem_insert_of_mem hx, hp⟩

theorem tally_pos {g₀ g : GSem nD τ sig} {n : ℕ} {u : Unit} (h : 0 < tallyAt g₀ () n g u) : g = g₀ := by
  rw [tallyAt_apply] at h
  split at h
  · next hg => exact hg.1
  · exact absurd h (Nat.lt_irrefl 0)

theorem debt_pos {c : Dev nD} {n : ℕ} {g : GSem nD τ sig} {u : Unit} (h : 0 < debt c n g u) :
    ∃ (hh : Fin 14) (q : Fin 8), n ≤ 8 * hh.val + q.val ∧ g = rCell (tgt q c) q hh := by
  obtain ⟨⟨hh, q⟩, hx, hp⟩ := sum_tally_pos _ _ h
  refine ⟨hh, q, (Finset.mem_filter.mp hx).2, tally_pos hp⟩

theorem O₀_pos {c : Dev nD} {g : GSem nD τ sig} {u : Unit} (h : 0 < O₀ c g u) :
    (∃ (hh : Fin 14) (q : Fin 8), g = rCell (tgt q c) q hh) ∨ ∃ d, g = barCell (devS d c) := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨hh, q, -, e⟩ := debt_pos h; exact .inl ⟨hh, q, e⟩
    · exact .inr ⟨1, tally_pos h⟩
  · exact .inr ⟨0, tally_pos h⟩

theorem lv_r (c : Dev nD) (q : Fin 8) (h : Fin 14) (u : Unit) : lv (rCell c q h) u = h.val + 2 := by dsimp only [lv]; rw [kind_r]
theorem lv_s (c : Dev nD) (q : Fin 8) (h : Fin 14) (u : Unit) : lv (sCell c q h) u = 0 := by dsimp only [lv]; rw [kind_s]
theorem lv_b (c : Dev nD) (u : Unit) : lv (barCell c) u = 1 := by dsimp only [lv]; rw [kind_b]

/-! ## What may be waited for -/

theorem L_pos {c : Dev nD} {n : ℕ} {g : GSem nD τ sig} {u : Unit} (h : 0 < debt c n g u) : u ∈ L g := by
  obtain ⟨hh, q, -, rfl⟩ := debt_pos h; rw [L_tc]; exact Finset.mem_singleton_self _

/-- Waiting for a cell whose level is below every debt's. -/
theorem mayWait_low (c : Dev nD) (sm : SemLoc sig) (n : ℕ) (h : lv ((c : Thread nD τ), sm) () ≤ 1) :
    (levAts L lv : sProp 𝕄) ⊢ MayWait (c : Thread nD τ) sm () (debt c n) :=
  MayOwe.of_cut (L := L) (lev := lv) 1 (fun p hp => by rw [Finset.mem_singleton.mp hp, L_tc]; exact Finset.mem_singleton_self _)
    (fun g u hg => L_pos hg)
    (fun p hp => by rw [Finset.mem_singleton.mp hp]; exact h)
    (fun g u hg => by obtain ⟨hh, q, -, rfl⟩ := debt_pos hg; rw [lv_r]; omega)

/-- Waiting for what arrives at hop `h`, every hop up to it being sent. -/
theorem mayWait_r (c : Dev nD) (q : Fin 8) (h : Fin 14) (n : ℕ) (hn : 8 * (h.val + 1) ≤ n) :
    (levAts L lv : sProp 𝕄) ⊢ MayWait (c : Thread nD τ) (.dma (rSem q h)) () (debt c n) :=
  MayOwe.of_cut (L := L) (lev := lv) (h.val + 2) (fun p hp => by rw [Finset.mem_singleton.mp hp, L_tc]; exact Finset.mem_singleton_self _)
    (fun g u hg => L_pos hg)
    (fun p hp => by rw [Finset.mem_singleton.mp hp]; exact (lv_r c q h ()).le)
    (fun g u hg => by obtain ⟨hh, q', hx, rfl⟩ := debt_pos hg; rw [lv_r]; omega)

end Cert.KernelIdeal
-- ==== Proof.Steps.lean ====
/-
The rules for one operation of the fused call each: a load or a store of a tile the device owns, a fetch of a chunk of
the second weight, a hop's send and its two waits, and the barrier.
-/
module

public import proofs.«01_k».proof.Proof.Proto
public import Idealize.ShloMosaic.Lib.Pipeline.Value

@[expose] public section

set_option maxRecDepth 16384

noncomputable section

namespace Cert.KernelIdeal

open Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The run of a program of the fused call on device `c`. -/
abbrev WP (c : Dev nD) (p : P1 F PUnit) (Φ : PUnit → sProp 𝕄) : sProp 𝕄 :=
  wp frame (wpE (defs₀ (F := F)) 𝒱₀ (c : Thread nD τ) none) Set.univ p Φ

/-! ## Owning a squeezed view -/

theorem owns_squeeze (c : Dev nD) {sp : Space} {s s' : Shape} {e : EltTy} (m : Memref sig .tc sp s e) (h : s.Squeezes s')
    (q : PosShare TreeShare) (X : s'.Idx → Elt F e) (hc : s'.ShapeCasts s) :
    (ownsTc c (m.squeeze s' h) q X : sProp 𝕄) = ownsTc c m q (shapeCast s X hc) := by
  have hr (f : m.view.ty.Contents (Elt F)) : (m.squeeze s' h).view.read (Elt F) f = X ↔ m.view.read (Elt F) f = shapeCast s X hc := by
    constructor
    · rintro rfl
      funext j
      refine congrArg (fun i => m.view.read (Elt F) f i) ?_
      exact ((Shape.reshapeEquiv_reshapeEquiv h.numel_eq hc j).trans (Shape.reshapeEquiv_self _ j)).symm
    · intro e'
      have : (m.squeeze s' h).view.read (Elt F) f = shapeCast s' (m.view.read (Elt F) f) h.numel_eq := rfl
      rw [this, e', shapeCast_shapeCast]
  have hset : (m.squeeze s' h).view.set = m.view.set := View.set_reshape _ _
  refine equiv_iff.mp ⟨(?_ : (_ : sProp 𝕄) ⊢ _), (?_ : (_ : sProp 𝕄) ⊢ _)⟩
  · unfold ownsTc owns
    iintro ⟨%f, %hf, H⟩
    iexists f
    isplitr; · ipureintro; exact (hr f).mp hf
    have hset' : (m.squeeze s' h).view.set = m.view.set := hset
    rw [← hset]; iexact H
  · unfold ownsTc owns
    iintro ⟨%f, %hf, H⟩
    iexists f
    isplitr; · ipureintro; exact (hr f).mpr hf
    rw [hset]; iexact H

/-! ## Loads and stores -/

section Mem

variable (c : Dev nD) {sp : CoreSpace} {s : Shape} {e : EltTy} {m : Memref sig .tc sp s e} {r : Rect s}

theorem ld (hr : ∀ a, r.stride a = 1) {hl : m.view.LoadsAt r.toLoadRect} {k : (r.shape.Idx → Elt F e) → P1 F PUnit} {q : PosShare TreeShare}
    {X : r.shape.Idx → Elt F e} {Φ : PUnit → sProp 𝕄} :
    (ownsTc c (m.slice r hr) q X) ⊢ iprop((ownsTc c (m.slice r hr) q X -∗ WP c (k X) Φ) -∗ WP c (.op (.load m r.toLoadRect hl) k) Φ) := by
  iintro H Hk
  ihave H' := (show (ownsTc c (m.slice r hr) q X : sProp 𝕄) ⊢ iprop(∃ f, ⌜(m.access r).read (Elt F) f = X⌝ ∗ ((m.access r).loc (c : Thread nD τ) ↦[(m.access r).set]{q} f)) from .rfl) $$ H
  icases H' with ⟨%f, %hf, H⟩
  iapply (wp_load_rect 𝒱₀ (c : Thread nD τ) none Set.univ (r := r) (Finset.Subset.refl _)) $$ H
  iintro H
  rw [hf]
  iapply Hk
  iapply (show iprop(∃ f, ⌜(m.access r).read (Elt F) f = X⌝ ∗ ((m.access r).loc (c : Thread nD τ) ↦[(m.access r).set]{q} f)) ⊢ (ownsTc c (m.slice r hr) q X : sProp 𝕄) from .rfl)
  iexists f
  isplitr; · ipureintro; exact hf
  iexact H

theorem st (hr : ∀ a, r.stride a = 1) {w : r.shape.Idx → Elt F e} {hx : (m.access r).Stores Finset.univ} {hm : (Finset.univ : Finset r.shape.Idx) = Finset.univ ∨ ∀ a, r.stride a = 1}
    {k : PUnit → P1 F PUnit} {X : r.shape.Idx → Elt F e} {Φ : PUnit → sProp 𝕄} :
    (ownsTc c (m.slice r hr) fullShare X) ⊢ iprop((ownsTc c (m.slice r hr) fullShare w -∗ WP c (k ⟨⟩) Φ) -∗ WP c (.op (.store m r w Finset.univ hx hm) k) Φ) := by
  iintro H Hk
  ihave H' := (show (ownsTc c (m.slice r hr) fullShare X : sProp 𝕄) ⊢ iprop(∃ f, ⌜(m.access r).read (Elt F) f = X⌝ ∗ ((m.access r).loc (c : Thread nD τ) ↦[(m.access r).set]{fullShare} f)) from .rfl) $$ H
  icases H' with ⟨%f, -, H⟩
  iapply (wp_store 𝒱₀ (c : Thread nD τ) none Set.univ (m := m) (r := r) (w := w) (Mk := Finset.univ) (hx := hx) (hm := hm) (k := k) (S := (m.access r).set) (f := f) (Q := Φ) (View.setOn_univ _).subset) $$ H
  iintro H
  iapply Hk
  iapply (show iprop(∃ f, ⌜(m.access r).read (Elt F) f = w⌝ ∗ ((m.access r).loc (c : Thread nD τ) ↦[(m.access r).set]{fullShare} f)) ⊢ (ownsTc c (m.slice r hr) fullShare w : sProp 𝕄) from .rfl)
  iexists (m.access r).write (Elt F) f w Finset.univ
  isplitr; · ipureintro; exact View.read_write_univ _ _
  iexact H

end Mem

/-! ## The persistent context -/

section Run

variable (H : Dev nD → S2048x4096.Idx → Elt F .bf16) (W : Dev nD → S4096x2048.Idx → Elt F .bf16)
variable (κ : GSem nD τ sig → ℕ)

/-- Every cell's invariant. -/
def invs : sProp 𝕄 := bigSep (barCells ∪ scCells) fun g => cellInv ER (rd (F := F) H W) (κ g) g
/-- The barrier's cells are in their round. -/
def barReached : sProp 𝕄 := bigSep barCells fun g => reached ER g 0

instance invs_persistent : BI.Persistent (invs (F := F) H W κ) := by unfold invs; infer_instance
instance barReached_persistent : BI.Persistent (barReached (F := F)) := by unfold barReached; infer_instance

theorem inv_at {g : GSem nD τ sig} (hg : g ∈ (barCells ∪ scCells : Finset (GSem nD τ sig))) : invs (F := F) H W κ ⊢ cellInv ER (rd H W) (κ g) g :=
  bigSep_elim hg
theorem reached_at (c : Dev nD) : barReached (F := F) ⊢ reached ER (barCell c) 0 :=
  bigSep_elim (Finset.mem_map_of_mem barEmb (Finset.mem_univ c))

attribute [irreducible] invs barReached

/-- The levels, every cell's invariant, and that the barrier's cells are in their round. -/
def ctx : sProp 𝕄 := iprop(levAts L lv ∗ invs (F := F) H W κ ∗ barReached (F := F))

instance ctx_persistent : BI.Persistent (ctx (F := F) H W κ) := by unfold ctx; infer_instance

theorem ctx_lev : ctx (F := F) H W κ ⊢ levAts L lv := by unfold ctx; iintro ⟨H, -, -⟩; iexact H
theorem ctx_inv {g : GSem nD τ sig} (hg : g ∈ (barCells ∪ scCells : Finset (GSem nD τ sig))) : ctx (F := F) H W κ ⊢ cellInv ER (rd H W) (κ g) g := by
  refine (show ctx (F := F) H W κ ⊢ invs H W κ from ?_).trans (inv_at H W κ hg)
  unfold ctx; iintro ⟨-, H, -⟩; iexact H
theorem ctx_reached (c : Dev nD) : ctx (F := F) H W κ ⊢ reached ER (barCell c) 0 := by
  refine (show ctx (F := F) H W κ ⊢ barReached from ?_).trans (reached_at c)
  unfold ctx; iintro ⟨-, -, H⟩; iexact H

/-- What the device owes, having sent `n` times. -/
def ow (c : Dev nD) (n : ℕ) : sProp 𝕄 := iprop(∃ Wd, owes (c : Thread nD τ) (debt c n) Wd)

/-! ## A hop -/

/-- What it takes to send at hop `h`, besides what is sent. -/
def hop (c : Dev nD) (q : Fin 8) (h : Fin 14) : sProp 𝕄 :=
  iprop((dutyTok ER (sCell c q h) 0 0 ∗ reached ER (sCell c q h) 0) ∗ dutyTok ER (rCell (tgt q c) q h) 0 0
    ∗ (∃ X, ownsTc (tgt q c) (dstM q h (tgt q c)) fullShare X) ∗ reached ER (rCell (tgt q c) q h) 0)

/-- What it takes to wait for hop `h`, besides the send's credit. -/
def rcv (c : Dev nD) (q : Fin 8) (h : Fin 14) : sProp 𝕄 :=
  iprop(atPos ER (sCell c q h) 0 ∅ 0 ∗ atPos ER (rCell c q h) 0 ∅ 0 ∗ cred (tallyAt (rCell c q h) () NN))

def sCred (c : Dev nD) (q : Fin 8) (h : Fin 14) : sProp 𝕄 := cred (tallyAt (sCell c q h) () NN)

variable (c : Dev nD) (q : Fin 8) (h : Fin 14)

theorem wp_hop {src : Memref sig .tc .vmem S256x256 .bf16} {dst : Memref sig .tc .vmem S256x256 .bf16}
    (hs : srcM q h c = src) (hd : dstM q h (tgt q c) = dst) {w₁ : src.view.WordExact} {w₂ : dst.view.WordExact}
    {ty : DmaTarget.Typed (nD := nD) .vmem (.dma (rSem q h)) (.remote (Dev.tc (devT q c)) dst (.dma (sSem q h)))}
    {k : PUnit → P1 F PUnit} {Φ : PUnit → sProp 𝕄} :
    iprop(ctx H W κ ∗ hop c q h ∗ ow c (8 * h.val + q.val) ∗ sndPay H W c q h)
      ⊢ iprop(((sCred c q h ∗ ow c (8 * h.val + q.val + 1)) -∗ WP c (k ⟨⟩) Φ)
        -∗ WP c (.op (.enqueueDma src (.remote (Dev.tc (devT q c)) dst (.dma (sSem q h))) (.dma (rSem q h)) w₁ w₂ ty) k) Φ) := by
  subst hs hd
  unfold hop ow
  iintro ⟨#HC, ⟨⟨HtS, #HrS⟩, HtR, ⟨%Y, HD⟩, #HrR⟩, ⟨%Wd, HO⟩, HX⟩ Hk
  ihave HD' := (show ownsTc (tgt q c) (dstM q h (tgt q c)) fullShare Y ⊢ iprop(∃ f, ⌜(dstM q h (tgt q c)).view.read (Elt F) f = Y⌝ ∗ ((dstM q h (tgt q c)).view.loc (tgt q c : Thread nD τ) ↦[(dstM q h (tgt q c)).view.set]{fullShare} f)) from .rfl) $$ HD
  icases HD' with ⟨%fd, -, HD⟩
  ihave HX' := (show sndPay H W c q h ⊢ iprop(∃ f, ⌜(srcM q h c).view.read (Elt F) f = snd H W q h.val c⌝ ∗ ((srcM q h c).view.loc (c : Thread nD τ) ↦[(srcM q h c).view.set]{hopShare h} f)) from .rfl) $$ HX
  icases HX' with ⟨%fs, %hfs, HX⟩
  iapply (Rounds.wp_send_pointsTo 𝒱₀ ER (rd H W) (c : Thread nD τ) none (c' := (tgt q c : Thread nD τ)) (src := srcM q h c) (dst := dstM q h (tgt q c))
      (sS := .dma (sSem q h)) (sem := .dma (rSem q h)) (q := hopShare h) (fs := fs) (κ₁ := κ (sCell c q h)) (κ₂ := κ (rCell (tgt q c) q h))
      (r₁ := 0) (r₂ := 0) (d₁ := 0) (d₂ := 0) (fd := fd)
      (by rw [duties_s]; exact Finset.mem_singleton_self _) (by rw [duties_r]; exact Finset.mem_singleton_self _)
      () () NN rfl (amount_s H W c q h 0) (amount_r H W (tgt q c) q h 0) (debt c (8 * h.val + q.val + 1)) (debt_step c h q) (W := Wd)
      (by rw [payload_s]; unfold sndPay; rw [← hfs]; exact owns_intro _ _ _ _)
      (by
        rw [payload_r]; unfold rcvPay; rw [src_tgt, ← hfs]
        exact (owns_intro _ _ _ _).trans (Entails.of_eq (by rw [View.read_write_univ])))) $$ [HX HD HO HtS HtR]
  · isplitr; · iapply (ctx_inv H W κ (s_mem c q h)); iexact HC
    isplitr; · iapply (ctx_inv H W κ (r_mem (tgt q c) q h)); iexact HC
    isplitl [HX]; · iexact HX
    isplitl [HD]; · iexact HD
    isplitl [HO]; · iexact HO
    isplitl [HtS]; · iexact HtS
    isplitr; · iexact HrS
    isplitl [HtR]; · iexact HtR
    iexact HrR
  iintro ⟨Hc, HO⟩
  iapply Hk
  unfold sCred
  isplitl [Hc]; · iexact Hc
  iexists Wd; iexact HO

theorem wp_waitS (n : ℕ) {a b : Memref sig .tc .vmem S256x256 .bf16} {w₁ : a.view.WordExact} {w₂ : b.view.WordExact}
    (hb : b.view.dmaCredit = NN) {k : PUnit → P1 F PUnit} {Φ : PUnit → sProp 𝕄} :
    iprop(ctx H W κ ∗ sCred c q h ∗ ow c n ∗ atPos ER (sCell c q h) 0 ∅ 0)
      ⊢ iprop(((ow c n ∗ atPos ER (sCell c q h) 1 ∅ 0 ∗ sndPay H W c q h) -∗ WP c (k ⟨⟩) Φ)
        -∗ WP c (.op (.waitDma2 (sSem q h) a b w₁ w₂) k) Φ) := by
  unfold ow sCred
  iintro ⟨#HC, Hc, ⟨%Wd, HO⟩, Hat⟩ Hk
  iapply (Rounds.wp_wait_rest_token 𝒱₀ ER (rd H W) (c : Thread nD τ) none (κ := κ (sCell c q h))
      (wpE_waitDma2_eq 𝒱₀ (c : Thread nD τ) none Set.univ) (Set.mem_univ _) () (O := debt c n) (W := Wd) (R := 0) (m := 0) (T := ∅)
      (by rw [Nat.zero_add, hb]; exact (expect_s H W c q h).symm)) $$ [Hc HO Hat]
  · isplitr; · iapply (ctx_inv H W κ (s_mem c q h)); iexact HC
    isplitl [Hc]; · rw [hb]; iexact Hc
    isplitl [HO]; · iexact HO
    isplitr
    · iapply (mayWait_low c (.dma (sSem q h)) n (by rw [lv_s]; decide)); iapply (ctx_lev H W κ); iexact HC
    iexact Hat
  iintro ⟨HO, Hat, -, Hp⟩
  ihave Hp := (Entails.of_eq (rest_s H W c q h)) $$ Hp
  iapply Hk
  isplitl [HO]; · iexists _; iexact HO
  isplitl [Hat]; · iexact Hat
  iexact Hp

theorem wp_waitR (n : ℕ) (hn : 8 * (h.val + 1) ≤ n) {a b : Memref sig .tc .vmem S256x256 .bf16} {w₁ : a.view.WordExact} {w₂ : b.view.WordExact}
    (hb : b.view.dmaCredit = NN) {k : PUnit → P1 F PUnit} {Φ : PUnit → sProp 𝕄} :
    iprop(ctx H W κ ∗ cred (tallyAt (rCell c q h) () NN) ∗ ow c n ∗ atPos ER (rCell c q h) 0 ∅ 0)
      ⊢ iprop(((ow c n ∗ atPos ER (rCell c q h) 1 ∅ 0 ∗ rcvPay H W c q h) -∗ WP c (k ⟨⟩) Φ)
        -∗ WP c (.op (.waitDma2 (rSem q h) a b w₁ w₂) k) Φ) := by
  unfold ow
  iintro ⟨#HC, Hc, ⟨%Wd, HO⟩, Hat⟩ Hk
  iapply (Rounds.wp_wait_rest_token 𝒱₀ ER (rd H W) (c : Thread nD τ) none (κ := κ (rCell c q h))
      (wpE_waitDma2_eq 𝒱₀ (c : Thread nD τ) none Set.univ) (Set.mem_univ _) () (O := debt c n) (W := Wd) (R := 0) (m := 0) (T := ∅)
      (by rw [Nat.zero_add, hb]; exact (expect_r H W c q h).symm)) $$ [Hc HO Hat]
  · isplitr; · iapply (ctx_inv H W κ (r_mem c q h)); iexact HC
    isplitl [Hc]; · rw [hb]; iexact Hc
    isplitl [HO]; · iexact HO
    isplitr
    · iapply (mayWait_r c q h n hn); iapply (ctx_lev H W κ); iexact HC
    iexact Hat
  iintro ⟨HO, Hat, -, Hp⟩
  ihave Hp := (Entails.of_eq (rest_r H W c q h)) $$ Hp
  iapply Hk
  isplitl [HO]; · iexists _; iexact HO
  isplitl [Hat]; · iexact Hat
  iexact Hp

/-! ## The barrier -/

/-- What the device lets its senders of one direction write. -/
def lands (d : Fin 2) : sProp 𝕄 := bigSep (Finset.univ.filter fun q : Fin 8 => dirOf q = d) fun q => land (F := F) c q

theorem wp_sig (d : Fin 2) {O₀' : CellTallies nD τ sig Unit} (O : CellTallies nD τ sig Unit) (hO : O₀' = O + tallyAt (barCell (devS d c)) () 1)
    {k : PUnit → P1 F PUnit} {Φ : PUnit → sProp 𝕄} :
    iprop(ctx H W κ ∗ (∃ Wd, owes (c : Thread nD τ) O₀' Wd) ∗ dutyTok ER (barCell (devS d c)) 0 (1 - d) ∗ lands c (1 - d))
      ⊢ iprop(((∃ Wd, owes (c : Thread nD τ) O Wd) -∗ WP c (k ⟨⟩) Φ)
        -∗ WP c (.op (.semSignal (devS d c, .tc) bSem (1#32 : BitVec 32).toInt) k) Φ) := by
  iintro ⟨#HC, ⟨%Wd, HO⟩, Ht, HL⟩ Hk
  iapply (Rounds.wp_signal 𝒱₀ ER (rd H W) (c : Thread nD τ) none (dst := (devS d c : Thread nD τ)) (sem := bSem) (r := 0) (d := 1 - d) (κ := κ (barCell (devS d c)))
      (by rw [duties_bar]; exact Finset.mem_univ _) (amount_bar H W (devS d c) (1 - d)) () O hO (W := Wd))
    $$ [HO Ht HL]
  · isplitr; · iapply (ctx_inv H W κ (b_mem (devS d c))); iexact HC
    isplitl [HO]; · iexact HO
    isplitl [Ht]; · iexact Ht
    isplitl [HL]
    · rw [payload_bar]; unfold barPay; rw [devS_devS]; unfold lands; iexact HL
    · iapply (ctx_reached H W κ (devS d c)); iexact HC
  iintro HO
  iapply Hk
  iexists Wd; iexact HO

theorem wp_bar (n : ℕ) {k : PUnit → P1 F PUnit} {Φ : PUnit → sProp 𝕄} :
    iprop(ctx H W κ ∗ cred (tallyAt (barCell c) () 2) ∗ ow c n ∗ atPos ER (barCell c) 0 ∅ 0)
      ⊢ iprop(((ow c n ∗ atPos ER (barCell c) 1 ∅ 0 ∗ barPay (F := F) c 0 ∗ barPay (F := F) c 1) -∗ WP c (k ⟨⟩) Φ)
        -∗ WP c (.op (.semWait bSem (2#32 : BitVec 32).toInt) k) Φ) := by
  unfold ow
  iintro ⟨#HC, Hc, ⟨%Wd, HO⟩, Hat⟩ Hk
  iapply (Rounds.wp_wait_rest_token 𝒱₀ ER (rd H W) (c : Thread nD τ) none (κ := κ (barCell c))
      (wpE_semWait_eq 𝒱₀ (c : Thread nD τ) none Set.univ) (Set.mem_univ _) () (O := debt c n) (W := Wd) (R := 0) (m := 0) (T := ∅)
      (show 0 + 2 = _ from (expect_bar H W c).symm)) $$ [Hc HO Hat]
  · isplitr; · iapply (ctx_inv H W κ (b_mem c)); iexact HC
    isplitl [Hc]; · iexact Hc
    isplitl [HO]; · iexact HO
    isplitr
    · iapply (mayWait_low c (.reg bSem) n (by rw [lv_b])); iapply (ctx_lev H W κ); iexact HC
    iexact Hat
  iintro ⟨HO, Hat, -, Hp⟩
  ihave Hp := (Entails.of_eq (rest_bar H W c)) $$ Hp
  iapply Hk
  isplitl [HO]; · iexists _; iexact HO
  isplitl [Hat]; · iexact Hat
  iexact Hp

/-! ## The second weight's chunks -/

abbrev NW : ℕ := (slotM 0 0).view.dmaCredit
theorem NW_pos : 0 < NW := View.dmaCredit_pos _ (by decide)

/-- The share of the second weight each slot's fetches read with. -/
def wShare (d p : Fin 2) : PosShare TreeShare :=
  if d = 0 then (if p = 0 then fullShare.left.left else fullShare.left.right) else (if p = 0 then fullShare.right.left else fullShare.right.right)

def w2 (q : PosShare TreeShare) : sProp 𝕄 := ((c : Thread nD τ).loc main_v1_1) ↦{q} W c
abbrev wSet (j : Fin 8) : Finset (Idx ((c : Thread nD τ).loc main_v1_1)) := (wM j).view.set

/-- Nothing fetched in a slot. -/
def idle (d p : Fin 2) : sProp 𝕄 :=
  iprop(semVal ((c : Thread nD τ), .dma (wSem d p)) 0 ∗ (∃ X, ownsTc c (slotM d p) fullShare X) ∗ w2 W c (wShare d p))
/-- Chunk `j` under way to a slot. -/
def fly (d p : Fin 2) (j : Fin 8) : sProp 𝕄 :=
  iprop(Transfers.Flight EC (c : Thread nD τ) (.dma (wSem d p)) () NW
      iprop(ownsTc c (slotM d p) fullShare (wCol W c j) ∗ (((c : Thread nD τ).loc main_v1_1) ↦[wSet c j]{wShare d p} W c))
    ∗ (((c : Thread nD τ).loc main_v1_1) ↦[Finset.univ \ wSet c j]{wShare d p} W c))
/-- Chunk `j` in a slot. -/
def ready (d p : Fin 2) (j : Fin 8) : sProp 𝕄 :=
  iprop(semVal ((c : Thread nD τ), .dma (wSem d p)) 0 ∗ ownsTc c (slotM d p) fullShare (wCol W c j) ∗ w2 W c (wShare d p))

theorem ready_idle (d p : Fin 2) (j : Fin 8) : ready W c d p j ⊢ idle W c d p := by
  unfold ready idle
  iintro ⟨Hs, Hm, Hw⟩
  isplitl [Hs]; · iexact Hs
  isplitl [Hm]; · iexists _; iexact Hm
  iexact Hw

theorem wp_fetch (d p : Fin 2) (j : Fin 8) {src : Memref sig .tc .hbm S4096x256 .bf16} (hs : wM j = src) {w₁ : src.view.WordExact} {w₂ : (slotM d p).view.WordExact}
    {ty : DmaTarget.Typed (nD := nD) (p := (.tc : Proc τ)) .hbm (.dma (wSem d p)) (.here (slotM d p))} {k : PUnit → P1 F PUnit} {Φ : PUnit → sProp 𝕄} :
    (idle W c d p) ⊢ iprop((fly W c d p j -∗ WP c (k ⟨⟩) Φ)
        -∗ WP c (.op (.enqueueDma src (.here (slotM d p)) (.dma (wSem d p)) w₁ w₂ ty) k) Φ) := by
  subst hs
  unfold idle w2
  iintro ⟨Hv, ⟨%Y, HD⟩, Hw⟩ Hk
  ihave HD' := (show ownsTc c (slotM d p) fullShare Y ⊢ iprop(∃ f, ⌜(slotM d p).view.read (Elt F) f = Y⌝ ∗ ((slotM d p).view.loc (c : Thread nD τ) ↦[(slotM d p).view.set]{fullShare} f)) from .rfl) $$ HD
  icases HD' with ⟨%fd, -, HD⟩
  ihave Hw' := ((pointsTo_split_subset (Finset.subset_univ (wSet c j))).1) $$ Hw
  icases Hw' with ⟨Hw, Hr⟩
  iapply (Transfers.wp_dmaLocal EC 𝒱₀ (c : Thread nD τ) none (src := wM j) (dst := slotM d p) (q := wShare d p) (fs := W c) (fd := fd)
      (Sd := (slotM d p).view.set) () NW rfl NW_pos (Finset.Subset.refl _)) $$ [Hw HD Hv]
  · isplitl [Hw]; · iexact Hw
    isplitl [HD]; · iexact HD
    iexact Hv
  iintro Hf
  iapply Hk
  unfold fly
  isplitl [Hf]
  · iapply (Transfers.Flight_mono EC (c : Thread nD τ) (sep_mono_left ((owns_intro (c : Thread nD τ) (slotM d p) fullShare ((slotM d p).view.write (Elt F) fd ((wM j).view.read (Elt F) (W c)) Finset.univ)).trans (Entails.of_eq (by rw [View.read_write_univ]; rfl)))))
    iexact Hf
  iexact Hr

theorem wp_fetched (d p : Fin 2) (j : Fin 8) (n : ℕ) {src : Memref sig .tc .hbm S4096x256 .bf16} {w₁ : src.view.WordExact} {w₂ : (slotM d p).view.WordExact}
    {k : PUnit → P1 F PUnit} {Φ : PUnit → sProp 𝕄} :
    iprop(ctx H W κ ∗ fly W c d p j ∗ ow c n) ⊢ iprop(((ready W c d p j ∗ ow c n) -∗ WP c (k ⟨⟩) Φ)
        -∗ WP c (.op (.waitDma2 (wSem d p) src (slotM d p) w₁ w₂) k) Φ) := by
  unfold fly ow
  iintro ⟨#HC, ⟨Hf, Hr⟩, ⟨%Wd, HO⟩⟩ Hk
  iapply (Transfers.wp_waitLocalO EC 𝒱₀ (c : Thread nD τ) none (srcw := src) (dstw := slotM d p) (hsrc := w₁) (hdst := w₂) (k := k) () (N := NW) rfl (O := debt c n) (W := Wd)) $$ [Hf HO]
  · isplitl [Hf]; · iexact Hf
    isplitl [HO]; · iexact HO
    iapply (mayWait_low c (.dma (wSem d p)) n (by unfold lv; rw [kind_w]; decide)); iapply (ctx_lev H W κ); iexact HC
  iintro ⟨⟨Hm, Hw⟩, Hv, HO⟩
  iapply Hk
  isplitr [HO]
  · unfold ready w2
    isplitl [Hv]; · iexact Hv
    isplitl [Hm]; · iexact Hm
    iapply ((pointsTo_split_subset (Finset.subset_univ (wSet c j))).2)
    isplitl [Hw]; · iexact Hw
    iexact Hr
  iexists _; iexact HO

/-! ## Triples -/

/-- From `P`, a run of the operations `L` ends in `Q`, whatever was loaded before. -/
def Tri (L : List Op) (P Q : sProp 𝕄) : Prop :=
  ∀ (R : Regs F) (K : Regs F → P1 F PUnit) (Φ : PUnit → sProp 𝕄),
    iprop(ctx H W κ ∗ P ∗ (∀ R', Q -∗ WP c (K R') Φ)) ⊢ WP c (run c L R K) Φ

theorem Tri.seq {L L' : List Op} {P Q P' : sProp 𝕄} (h : Tri H W κ c L P Q) (h' : Tri H W κ c L' Q P') : Tri H W κ c (L ++ L') P P' := by
  intro R K Φ
  rw [run_append]
  iintro ⟨#HC, HP, Hk⟩
  iapply (h R (fun R' => run c L' R' K) Φ)
  isplitr; · iexact HC
  isplitl [HP]; · iexact HP
  iintro %R' HQ
  iapply (h' R' K Φ)
  isplitr; · iexact HC
  isplitl [HQ]; · iexact HQ
  iexact Hk

theorem Tri.mono {L : List Op} {P Q P' Q' : sProp 𝕄} (h : Tri H W κ c L P Q) (hP : P' ⊢ P) (hQ : Q ⊢ Q') : Tri H W κ c L P' Q' := by
  intro R K Φ
  iintro ⟨#HC, HP, Hk⟩
  iapply (h R K Φ)
  isplitr; · iexact HC
  isplitl [HP]; · iapply hP; iexact HP
  iintro %R' HQ
  iapply Hk
  iapply hQ; iexact HQ

theorem Tri.frame {L : List Op} {P Q : sProp 𝕄} (h : Tri H W κ c L P Q) (G : sProp 𝕄) : Tri H W κ c L iprop(P ∗ G) iprop(Q ∗ G) := by
  intro R K Φ
  iintro ⟨#HC, ⟨HP, HG⟩, Hk⟩
  iapply (h R K Φ)
  isplitr; · iexact HC
  isplitl [HP]; · iexact HP
  iintro %R' HQ
  iapply Hk
  isplitl [HQ]; · iexact HQ
  iexact HG

theorem Tri.nil (P : sProp 𝕄) : Tri H W κ c [] P P := by
  intro R K Φ
  iintro ⟨-, HP, Hk⟩
  ispecialize Hk $$ %R
  iapply Hk; iexact HP

end Run

end Cert.KernelIdeal
-- ==== Proof.PartsA.lean ====
/-
The printed parts of the fused call's body, each as its list of operations.
-/
module

public import proofs.«01_k».proof.Proof.Ops

@[expose] public section

set_option maxRecDepth 65536
set_option maxHeartbeats 1000000

noncomputable section

namespace Cert.KernelIdeal

open Idealize.ShloMosaic Idealize.SL.Sem
open Gen

variable {F : FTy → Type} [FloatOps F]

def l2 : List Op := [.w2start 0 0]
theorem sim2 (c : Dev nD) (R : Regs F) (v5 : BitVec 32) (v34 : BitVec 32) (c8_i32_18 : BitVec 32) :
    Sim c (ap k1_part2 c v5 v34 c8_i32_18) l2 R (fun a R' => ∃ w0 w1 w2 w3 w4, a = ⟨w0, w1, w2, w3, w4⟩) := by
  rw [k1_part2_eq_skeleton]
  exact Sim.of_ex (W := BitVec 32 × BitVec 32 × BitVec 32 × BitVec 1 × BitVec 1) (fun w R' => ⟨w.1, w.2.1, w.2.2.1, w.2.2.2.1, w.2.2.2.2⟩) ⟨(_, _, _, _, _), fun K => rfl⟩ fun _ _ => ⟨_, _, _, _, _, rfl⟩

def l3 : List Op := [.w2start 0 1, .w2start 1 0]
theorem sim3 (c : Dev nD) (R : Regs F) (v44 : BitVec 32) (v64 : BitVec 32) (v65 : BitVec 32) (v66 : BitVec 1) (v67 : BitVec 1) :
    Sim c (ap k1_part3 c v44 v64 v65 v66 v67) l3 R (fun a R' => ∃ w0 w1 w2 w3, a = ⟨w0, w1, w2, w3⟩) := by
  rw [k1_part3_eq_skeleton]
  exact Sim.of_ex (W := BitVec 32 × BitVec 32 × BitVec 1 × BitVec 32) (fun w R' => ⟨w.1, w.2.1, w.2.2.1, w.2.2.2⟩) ⟨(_, _, _, _), fun K => rfl⟩ fun _ _ => ⟨_, _, _, _, rfl⟩

def l4 : List Op := [.w2start 1 1, .signal 0, .signal 1, .barWait, .w2wait 0 0]
theorem sim4 (c : Dev nD) (R : Regs F) (v19 : BitVec 32) (v33 : BitVec 32) (v96 : BitVec 32) (c8_i32_69 : BitVec 32) (v97 : BitVec 1) (c1_i32_71 : BitVec 32) :
    Sim c (ap k1_part4 c v19 v33 v96 c8_i32_69 v97 c1_i32_71) l4 R (fun a R' => a = ⟨⟩) := by
  rw [k1_part4_eq_skeleton]
  exact Sim.of_ex (W := Unit) (fun w R' => ⟨⟩) ⟨(), fun K => rfl⟩ fun _ _ => rfl

def l5 : List Op := [.w2wait 1 0, .loadH 0, .loadW 0 0, .loadSend 0, .storeSend0 0, .sendRS 0 0, .loadH 1]
theorem sim5 (c : Dev nD) (R : Regs F) (v19 : BitVec 32) :
    Sim c (ap k1_part5 c v19) l5 R (fun a R' => a = k1_pay3 R'.h) := by
  rw [k1_part5_eq_skeleton]
  exact Sim.of_ex (W := Unit) (fun w R' => k1_pay3 R'.h) ⟨(), fun K => rfl⟩ fun _ _ => rfl

def l6 : List Op := [.loadW 0 0, .loadSend 1, .storeSend0 1, .sendRS 1 0, .loadH 2, .loadW 0 0, .loadSend 2, .storeSend0 2]
theorem sim6 (c : Dev nD) (R : Regs F) (v19 : BitVec 32) (v148 : FVec F S256x4096 .bf16) (hv148 : v148 = k1_pay3 R.h) :
    Sim c (ap k1_part6 c v19 v148) l6 R (fun a R' => a = ⟨⟩) := by
  subst hv148
  rw [k1_part6_eq_skeleton]
  exact Sim.of_ex (W := Unit) (fun w R' => ⟨⟩) ⟨(), fun K => rfl⟩ fun _ _ => rfl

def l7 : List Op := [.sendRS 2 0, .loadH 3, .loadW 0 0, .loadSend 3, .storeSend0 3]
theorem sim7 (c : Dev nD) (R : Regs F) (v19 : BitVec 32) :
    Sim c (ap k1_part7 c v19) l7 R (fun a R' => a = ⟨⟩) := by
  rw [k1_part7_eq_skeleton]
  exact Sim.of_ex (W := Unit) (fun w R' => ⟨⟩) ⟨(), fun K => rfl⟩ fun _ _ => rfl

def l8 : List Op := [.sendRS 3 0, .loadH 4, .loadW 1 0, .loadSend 4, .storeSend0 4, .sendRS 4 0, .loadH 5, .loadW 1 0]
theorem sim8 (c : Dev nD) (R : Regs F) (v33 : BitVec 32) :
    Sim c (ap k1_part8 c v33) l8 R (fun a R' => a = ⟨k1_pay8 R'.h, k1_pay9 R'.w, (constant S256x256 .f32 0x00000000#32)⟩) := by
  rw [k1_part8_eq_skeleton]
  exact Sim.of_ex (W := Unit) (fun w R' => ⟨k1_pay8 R'.h, k1_pay9 R'.w, (constant S256x256 .f32 0x00000000#32)⟩) ⟨(), fun K => rfl⟩ fun _ _ => rfl

def l9 : List Op := [.loadSend 5, .storeSend0 5, .sendRS 5 0, .loadH 6, .loadW 1 0, .loadSend 6, .storeSend0 6]
theorem sim9 (c : Dev nD) (R : Regs F) (v33 : BitVec 32) (v224 : FVec F S256x4096 .bf16) (v226 : FVec F S4096x256 .bf16) (cst_212 : FVec F S256x256 .f32) (hv224 : v224 = k1_pay8 R.h) (hv226 : v226 = k1_pay9 R.w) (hcst_212 : cst_212 = (constant S256x256 .f32 0x00000000#32)) :
    Sim c (ap k1_part9 c v33 v224 v226 cst_212) l9 R (fun a R' => a = ⟨⟩) := by
  subst hv224; subst hv226; subst hcst_212
  rw [k1_part9_eq_skeleton]
  exact Sim.of_ex (W := Unit) (fun w R' => ⟨⟩) ⟨(), fun K => rfl⟩ fun _ _ => rfl

def l10 : List Op := [.sendRS 6 0, .loadH 7, .loadW 1 0, .loadSend 7, .storeSend0 7]
theorem sim10 (c : Dev nD) (R : Regs F) (v33 : BitVec 32) :
    Sim c (ap k1_part10 c v33) l10 R (fun a R' => a = ⟨⟩) := by
  rw [k1_part10_eq_skeleton]
  exact Sim.of_ex (W := Unit) (fun w R' => ⟨⟩) ⟨(), fun K => rfl⟩ fun _ _ => rfl

def l11 : List Op := [.sendRS 7 0, .w2start 0 2]
theorem sim11 (c : Dev nD) (R : Regs F) (v5 : BitVec 32) (v44 : BitVec 32) :
    Sim c (ap k1_part11 c v5 v44) l11 R (fun a R' => a = ⟨⟩) := by
  rw [k1_part11_eq_skeleton]
  exact Sim.of_ex (W := Unit) (fun w R' => ⟨⟩) ⟨(), fun K => rfl⟩ fun _ _ => rfl

def l12 : List Op := [.w2start 1 2, .w2wait 0 1, .w2wait 1 1, .loadH 0, .loadW 0 1, .loadPiece 0, .storePiece 0, .loadH 1]
theorem sim12 (c : Dev nD) (R : Regs F)  :
    Sim c (ap k1_part12 c) l12 R (fun a R' => a = k1_pay14 R'.h) := by
  rw [k1_part12_eq_skeleton]
  exact Sim.of_ex (W := Unit) (fun w R' => k1_pay14 R'.h) ⟨(), fun K => rfl⟩ fun _ _ => rfl

def l13 : List Op := [.loadW 0 1, .loadPiece 1, .storePiece 1, .loadH 2, .loadW 0 1, .loadPiece 2, .storePiece 2, .loadH 3, .loadW 0 1, .loadPiece 3, .storePiece 3, .loadH 4, .loadW 1 1]
theorem sim13 (c : Dev nD) (R : Regs F) (v333 : FVec F S256x4096 .bf16) (hv333 : v333 = k1_pay14 R.h) :
    Sim c (ap k1_part13 v333) l13 R (fun a R' => a = ⟨k1_pay18 R'.h, k1_pay19 R'.w, (constant S256x256 .f32 0x00000000#32)⟩) := by
  subst hv333
  rw [k1_part13_eq_skeleton]
  exact Sim.of_ex (W := Unit) (fun w R' => ⟨k1_pay18 R'.h, k1_pay19 R'.w, (constant S256x256 .f32 0x00000000#32)⟩) ⟨(), fun K => rfl⟩ fun _ _ => rfl

def l14 : List Op := [.loadPiece 4, .storePiece 4, .loadH 5, .loadW 1 1, .loadPiece 5, .storePiece 5, .loadH 6, .loadW 1 1, .loadPiece 6, .storePiece 6, .loadH 7, .loadW 1 1]
theorem sim14 (c : Dev nD) (R : Regs F) (v357 : FVec F S256x4096 .bf16) (v359 : FVec F S4096x256 .bf16) (cst_357 : FVec F S256x256 .f32) (hv357 : v357 = k1_pay18 R.h) (hv359 : v359 = k1_pay19 R.w) (hcst_357 : cst_357 = (constant S256x256 .f32 0x00000000#32)) :
    Sim c (ap k1_part14 v357 v359 cst_357) l14 R (fun a R' => a = k1_pay23 R'.h R'.w) := by
  subst hv357; subst hv359; subst hcst_357
  rw [k1_part14_eq_skeleton]
  exact Sim.of_ex (W := Unit) (fun w R' => k1_pay23 R'.h R'.w) ⟨(), fun K => rfl⟩ fun _ _ => rfl

def l15 : List Op := [.loadPiece 7, .storePiece 7, .waitSendRS 0 0, .waitRecvRS 0 0, .loadRecv 0 0, .loadPiece 0]
theorem sim15 (c : Dev nD) (R : Regs F) (v19 : BitVec 32) (v384 : FVec F S256x256 .f32) (hv384 : v384 = k1_pay23 R.h R.w) :
    Sim c (ap k1_part15 v19 v384) l15 R (fun a R' => a = k1_pay25 R'.r R'.p) := by
  subst hv384
  rw [k1_part15_eq_skeleton]
  exact Sim.of_ex (W := Unit) (fun w R' => k1_pay25 R'.r R'.p) ⟨(), fun K => rfl⟩ fun _ _ => rfl

def l16 : List Op := [.loadSend 0, .storeSendN 0, .sendRS 0 1, .waitSendRS 1 0]
theorem sim16 (c : Dev nD) (R : Regs F) (v19 : BitVec 32) (v408 : FVec F S256x256 .bf16) (hv408 : v408 = k1_pay25 R.r R.p) :
    Sim c (ap k1_part16 c v19 v408) l16 R (fun a R' => ∃ w0 w1, a = ⟨w0, w1⟩) := by
  subst hv408
  rw [k1_part16_eq_skeleton]
  exact Sim.of_ex (W := BitVec 32 × BitVec 32) (fun w R' => ⟨w.1, w.2⟩) ⟨(_, _), fun K => rfl⟩ fun _ _ => ⟨_, _, rfl⟩

def l17 : List Op := [.waitRecvRS 1 0, .loadRecv 1 0, .loadPiece 1, .loadSend 1, .storeSendN 1, .sendRS 1 1]
theorem sim17 (c : Dev nD) (R : Regs F) (v19 : BitVec 32) (v428 : BitVec 32) (c0_i32_459 : BitVec 32) :
    Sim c (ap k1_part17 c v19 v428 c0_i32_459) l17 R (fun a R' => a = ⟨⟩) := by
  rw [k1_part17_eq_skeleton]
  exact Sim.of_ex (W := Unit) (fun w R' => ⟨⟩) ⟨(), fun K => rfl⟩ fun _ _ => rfl

def l18 : List Op := [.waitSendRS 2 0, .waitRecvRS 2 0, .loadRecv 2 0, .loadPiece 2, .loadSend 2, .storeSendN 2]
theorem sim18 (c : Dev nD) (R : Regs F) (v19 : BitVec 32) :
    Sim c (ap k1_part18 v19) l18 R (fun a R' => a = ⟨⟩) := by
  rw [k1_part18_eq_skeleton]
  exact Sim.of_ex (W := Unit) (fun w R' => ⟨⟩) ⟨(), fun K => rfl⟩ fun _ _ => rfl

def l19 : List Op := [.sendRS 2 1, .waitSendRS 3 0]
theorem sim19 (c : Dev nD) (R : Regs F) (v19 : BitVec 32) :
    Sim c (ap k1_part19 c v19) l19 R (fun a R' => a = ⟨⟩) := by
  rw [k1_part19_eq_skeleton]
  exact Sim.of_ex (W := Unit) (fun w R' => ⟨⟩) ⟨(), fun K => rfl⟩ fun _ _ => rfl

def l20 : List Op := [.waitRecvRS 3 0, .loadRecv 3 0, .loadPiece 3, .loadSend 3, .storeSendN 3, .sendRS 3 1]
theorem sim20 (c : Dev nD) (R : Regs F) (v19 : BitVec 32) :
    Sim c (ap k1_part20 c v19) l20 R (fun a R' => a = ⟨⟩) := by
  rw [k1_part20_eq_skeleton]
  exact Sim.of_ex (W := Unit) (fun w R' => ⟨⟩) ⟨(), fun K => rfl⟩ fun _ _ => rfl

def l21 : List Op := [.waitSendRS 4 0, .waitRecvRS 4 0, .loadRecv 4 0, .loadPiece 4, .loadSend 4, .storeSendN 4]
theorem sim21 (c : Dev nD) (R : Regs F) (v33 : BitVec 32) :
    Sim c (ap k1_part21 v33) l21 R (fun a R' => ∃ w0, a = w0) := by
  rw [k1_part21_eq_skeleton]
  exact Sim.of_ex (W := BitVec 32) (fun w R' => w) ⟨(_), fun K => rfl⟩ fun _ _ => ⟨_, rfl⟩

def l22 : List Op := [.sendRS 4 1, .waitSendRS 5 0, .waitRecvRS 5 0]
theorem sim22 (c : Dev nD) (R : Regs F) (v33 : BitVec 32) (v548 : BitVec 32) :
    Sim c (ap k1_part22 c v33 v548) l22 R (fun a R' => a = ⟨⟩) := by
  rw [k1_part22_eq_skeleton]
  exact Sim.of_ex (W := Unit) (fun w R' => ⟨⟩) ⟨(), fun K => rfl⟩ fun _ _ => rfl

def l23 : List Op := [.loadRecv 5 0, .loadPiece 5, .loadSend 5, .storeSendN 5, .sendRS 5 1, .waitSendRS 6 0]
theorem sim23 (c : Dev nD) (R : Regs F) (v33 : BitVec 32) :
    Sim c (ap k1_part23 c v33) l23 R (fun a R' => a = ⟨⟩) := by
  rw [k1_part23_eq_skeleton]
  exact Sim.of_ex (W := Unit) (fun w R' => ⟨⟩) ⟨(), fun K => rfl⟩ fun _ _ => rfl

def l24 : List Op := [.waitRecvRS 6 0, .loadRecv 6 0, .loadPiece 6, .loadSend 6, .storeSendN 6]
theorem sim24 (c : Dev nD) (R : Regs F) (v33 : BitVec 32) :
    Sim c (ap k1_part24 v33) l24 R (fun a R' => a = ⟨⟩) := by
  rw [k1_part24_eq_skeleton]
  exact Sim.of_ex (W := Unit) (fun w R' => ⟨⟩) ⟨(), fun K => rfl⟩ fun _ _ => rfl

def l25 : List Op := [.sendRS 6 1, .waitSendRS 7 0, .waitRecvRS 7 0, .loadRecv 7 0, .loadPiece 7]
theorem sim25 (c : Dev nD) (R : Regs F) (v33 : BitVec 32) :
    Sim c (ap k1_part25 c v33) l25 R (fun a R' => a = ⟨k1_pay33 R'.r, k1_pay34 R'.p⟩) := by
  rw [k1_part25_eq_skeleton]
  exact Sim.of_ex (W := Unit) (fun w R' => ⟨k1_pay33 R'.r, k1_pay34 R'.p⟩) ⟨(), fun K => rfl⟩ fun _ _ => rfl

def l26 : List Op := [.loadSend 7, .storeSendN 7, .sendRS 7 1]
theorem sim26 (c : Dev nD) (R : Regs F) (v5 : BitVec 32) (v33 : BitVec 32) (v642 : FVec F S256x256 .f32) (v644 : FVec F S256x256 .f32) (hv642 : v642 = k1_pay33 R.r) (hv644 : v644 = k1_pay34 R.p) :
    Sim c (ap k1_part26 c v5 v33 v642 v644) l26 R (fun a R' => a = ⟨⟩) := by
  subst hv642; subst hv644
  rw [k1_part26_eq_skeleton]
  exact Sim.of_ex (W := Unit) (fun w R' => ⟨⟩) ⟨(), fun K => rfl⟩ fun _ _ => rfl

def l27 : List Op := [.w2start 0 3, .w2start 1 3, .w2wait 0 2]
theorem sim27 (c : Dev nD) (R : Regs F) (v44 : BitVec 32) :
    Sim c (ap k1_part27 c v44) l27 R (fun a R' => a = ⟨⟩) := by
  rw [k1_part27_eq_skeleton]
  exact Sim.of_ex (W := Unit) (fun w R' => ⟨⟩) ⟨(), fun K => rfl⟩ fun _ _ => rfl

def l28 : List Op := [.w2wait 1 2, .loadH 0, .loadW 0 0, .loadPiece 0, .storePiece 0, .loadH 1, .loadW 0 0, .loadPiece 1, .storePiece 1, .loadH 2, .loadW 0 0, .loadPiece 2]
theorem sim28 (c : Dev nD) (R : Regs F)  :
    Sim c (ap k1_part28 c) l28 R (fun a R' => a = k1_pay38 R'.h R'.w) := by
  rw [k1_part28_eq_skeleton]
  exact Sim.of_ex (W := Unit) (fun w R' => k1_pay38 R'.h R'.w) ⟨(), fun K => rfl⟩ fun _ _ => rfl

def l29 : List Op := [.storePiece 2, .loadH 3, .loadW 0 0, .loadPiece 3, .storePiece 3, .loadH 4, .loadW 1 0, .loadPiece 4, .storePiece 4, .loadH 5, .loadW 1 0, .loadPiece 5, .storePiece 5]
theorem sim29 (c : Dev nD) (R : Regs F) (v724 : FVec F S256x256 .f32) (hv724 : v724 = k1_pay38 R.h R.w) :
    Sim c (ap k1_part29 v724) l29 R (fun a R' => a = ⟨⟩) := by
  subst hv724
  rw [k1_part29_eq_skeleton]
  exact Sim.of_ex (W := Unit) (fun w R' => ⟨⟩) ⟨(), fun K => rfl⟩ fun _ _ => rfl

def l30 : List Op := [.loadH 6, .loadW 1 0, .loadPiece 6, .storePiece 6, .loadH 7, .loadW 1 0, .loadPiece 7, .storePiece 7, .waitSendRS 0 1]
theorem sim30 (c : Dev nD) (R : Regs F)  :
    Sim c (ap k1_part30 ) l30 R (fun a R' => a = ⟨⟩) := by
  rw [k1_part30_eq_skeleton]
  exact Sim.of_ex (W := Unit) (fun w R' => ⟨⟩) ⟨(), fun K => rfl⟩ fun _ _ => rfl

def l31 : List Op := [.waitRecvRS 0 1, .loadRecv 0 1, .loadPiece 0, .loadSend 0, .storeSendN 0]
theorem sim31 (c : Dev nD) (R : Regs F) (v19 : BitVec 32) :
    Sim c (ap k1_part31 v19) l31 R (fun a R' => a = ⟨⟩) := by
  rw [k1_part31_eq_skeleton]
  exact Sim.of_ex (W := Unit) (fun w R' => ⟨⟩) ⟨(), fun K => rfl⟩ fun _ _ => rfl

def l32 : List Op := [.sendRS 0 2, .waitSendRS 1 1, .waitRecvRS 1 1, .loadRecv 1 1, .loadPiece 1]
theorem sim32 (c : Dev nD) (R : Regs F) (v19 : BitVec 32) :
    Sim c (ap k1_part32 c v19) l32 R (fun a R' => a = k1_pay46 R'.r R'.p) := by
  rw [k1_part32_eq_skeleton]
  exact Sim.of_ex (W := Unit) (fun w R' => k1_pay46 R'.r R'.p) ⟨(), fun K => rfl⟩ fun _ _ => rfl

def l33 : List Op := [.loadSend 1, .storeSendN 1, .sendRS 1 2, .waitSendRS 2 1]
theorem sim33 (c : Dev nD) (R : Regs F) (v19 : BitVec 32) (v822 : FVec F S256x256 .bf16) (hv822 : v822 = k1_pay46 R.r R.p) :
    Sim c (ap k1_part33 c v19 v822) l33 R (fun a R' => a = ⟨⟩) := by
  subst hv822
  rw [k1_part33_eq_skeleton]
  exact Sim.of_ex (W := Unit) (fun w R' => ⟨⟩) ⟨(), fun K => rfl⟩ fun _ _ => rfl

def l34 : List Op := [.waitRecvRS 2 1, .loadRecv 2 1, .loadPiece 2, .loadSend 2, .storeSendN 2, .sendRS 2 2]
theorem sim34 (c : Dev nD) (R : Regs F) (v19 : BitVec 32) :
    Sim c (ap k1_part34 c v19) l34 R (fun a R' => a = ⟨⟩) := by
  rw [k1_part34_eq_skeleton]
  exact Sim.of_ex (W := Unit) (fun w R' => ⟨⟩) ⟨(), fun K => rfl⟩ fun _ _ => rfl

def l35 : List Op := [.waitSendRS 3 1, .waitRecvRS 3 1, .loadRecv 3 1, .loadPiece 3, .loadSend 3, .storeSendN 3]
theorem sim35 (c : Dev nD) (R : Regs F) (v19 : BitVec 32) :
    Sim c (ap k1_part35 v19) l35 R (fun a R' => a = ⟨⟩) := by
  rw [k1_part35_eq_skeleton]
  exact Sim.of_ex (W := Unit) (fun w R' => ⟨⟩) ⟨(), fun K => rfl⟩ fun _ _ => rfl

def l36 : List Op := [.sendRS 3 2, .waitSendRS 4 1]
theorem sim36 (c : Dev nD) (R : Regs F) (v19 : BitVec 32) (v33 : BitVec 32) :
    Sim c (ap k1_part36 c v19 v33) l36 R (fun a R' => a = ⟨⟩) := by
  rw [k1_part36_eq_skeleton]
  exact Sim.of_ex (W := Unit) (fun w R' => ⟨⟩) ⟨(), fun K => rfl⟩ fun _ _ => rfl

def l37 : List Op := [.waitRecvRS 4 1, .loadRecv 4 1, .loadPiece 4, .loadSend 4, .storeSendN 4, .sendRS 4 2]
theorem sim37 (c : Dev nD) (R : Regs F) (v33 : BitVec 32) :
    Sim c (ap k1_part37 c v33) l37 R (fun a R' => a = ⟨⟩) := by
  rw [k1_part37_eq_skeleton]
  exact Sim.of_ex (W := Unit) (fun w R' => ⟨⟩) ⟨(), fun K => rfl⟩ fun _ _ => rfl

def l38 : List Op := [.waitSendRS 5 1, .waitRecvRS 5 1, .loadRecv 5 1, .loadPiece 5, .loadSend 5, .storeSendN 5]
theorem sim38 (c : Dev nD) (R : Regs F) (v33 : BitVec 32) :
    Sim c (ap k1_part38 v33) l38 R (fun a R' => a = ⟨⟩) := by
  rw [k1_part38_eq_skeleton]
  exact Sim.of_ex (W := Unit) (fun w R' => ⟨⟩) ⟨(), fun K => rfl⟩ fun _ _ => rfl

def l39 : List Op := [.sendRS 5 2, .waitSendRS 6 1, .waitRecvRS 6 1, .loadRecv 6 1]
theorem sim39 (c : Dev nD) (R : Regs F) (v33 : BitVec 32) :
    Sim c (ap k1_part39 c v33) l39 R (fun a R' => a = k1_pay52 R'.r) := by
  rw [k1_part39_eq_skeleton]
  exact Sim.of_ex (W := Unit) (fun w R' => k1_pay52 R'.r) ⟨(), fun K => rfl⟩ fun _ _ => rfl

def l40 : List Op := [.loadPiece 6, .loadSend 6, .storeSendN 6, .sendRS 6 2, .waitSendRS 7 1]
theorem sim40 (c : Dev nD) (R : Regs F) (v33 : BitVec 32) (v987 : FVec F S256x256 .bf16) (hv987 : v987 = k1_pay52 R.r) :
    Sim c (ap k1_part40 c v33 v987) l40 R (fun a R' => a = ⟨⟩) := by
  subst hv987
  rw [k1_part40_eq_skeleton]
  exact Sim.of_ex (W := Unit) (fun w R' => ⟨⟩) ⟨(), fun K => rfl⟩ fun _ _ => rfl

def l41 : List Op := [.waitRecvRS 7 1, .loadRecv 7 1, .loadPiece 7, .loadSend 7, .storeSendN 7]
theorem sim41 (c : Dev nD) (R : Regs F) (v33 : BitVec 32) :
    Sim c (ap k1_part41 v33) l41 R (fun a R' => a = ⟨⟩) := by
  rw [k1_part41_eq_skeleton]
  exact Sim.of_ex (W := Unit) (fun w R' => ⟨⟩) ⟨(), fun K => rfl⟩ fun _ _ => rfl

def l42 : List Op := [.sendRS 7 2, .w2start 0 4]
theorem sim42 (c : Dev nD) (R : Regs F) (v5 : BitVec 32) (v44 : BitVec 32) :
    Sim c (ap k1_part42 c v5 v44) l42 R (fun a R' => a = ⟨⟩) := by
  rw [k1_part42_eq_skeleton]
  exact Sim.of_ex (W := Unit) (fun w R' => ⟨⟩) ⟨(), fun K => rfl⟩ fun _ _ => rfl

def l43 : List Op := [.w2start 1 4, .w2wait 0 3, .w2wait 1 3, .loadH 0, .loadW 0 1, .loadPiece 0, .storePiece 0, .loadH 1]
theorem sim43 (c : Dev nD) (R : Regs F)  :
    Sim c (ap k1_part43 c) l43 R (fun a R' => a = k1_pay56 R'.h) := by
  rw [k1_part43_eq_skeleton]
  exact Sim.of_ex (W := Unit) (fun w R' => k1_pay56 R'.h) ⟨(), fun K => rfl⟩ fun _ _ => rfl

def l44 : List Op := [.loadW 0 1, .loadPiece 1, .storePiece 1, .loadH 2, .loadW 0 1, .loadPiece 2, .storePiece 2, .loadH 3, .loadW 0 1, .loadPiece 3, .storePiece 3, .loadH 4]
theorem sim44 (c : Dev nD) (R : Regs F) (v1093 : FVec F S256x4096 .bf16) (hv1093 : v1093 = k1_pay56 R.h) :
    Sim c (ap k1_part44 v1093) l44 R (fun a R' => a = k1_pay60 R'.h) := by
  subst hv1093
  rw [k1_part44_eq_skeleton]
  exact Sim.of_ex (W := Unit) (fun w R' => k1_pay60 R'.h) ⟨(), fun K => rfl⟩ fun _ _ => rfl

def l45 : List Op := [.loadW 1 1, .loadPiece 4, .storePiece 4, .loadH 5, .loadW 1 1, .loadPiece 5, .storePiece 5, .loadH 6, .loadW 1 1, .loadPiece 6, .storePiece 6, .loadH 7, .loadW 1 1]
theorem sim45 (c : Dev nD) (R : Regs F) (v1117 : FVec F S256x4096 .bf16) (hv1117 : v1117 = k1_pay60 R.h) :
    Sim c (ap k1_part45 v1117) l45 R (fun a R' => a = ⟨k1_pay64 R'.h, k1_pay65 R'.w⟩) := by
  subst hv1117
  rw [k1_part45_eq_skeleton]
  exact Sim.of_ex (W := Unit) (fun w R' => ⟨k1_pay64 R'.h, k1_pay65 R'.w⟩) ⟨(), fun K => rfl⟩ fun _ _ => rfl

def l46 : List Op := [.loadPiece 7, .storePiece 7, .waitSendRS 0 2, .waitRecvRS 0 2, .loadRecv 0 2]
theorem sim46 (c : Dev nD) (R : Regs F) (v19 : BitVec 32) (v1141 : FVec F S256x4096 .bf16) (v1143 : FVec F S4096x256 .bf16) (hv1141 : v1141 = k1_pay64 R.h) (hv1143 : v1143 = k1_pay65 R.w) :
    Sim c (ap k1_part46 v19 v1141 v1143) l46 R (fun a R' => a = k1_pay67 R'.r) := by
  subst hv1141; subst hv1143
  rw [k1_part46_eq_skeleton]
  exact Sim.of_ex (W := Unit) (fun w R' => k1_pay67 R'.r) ⟨(), fun K => rfl⟩ fun _ _ => rfl

def l47 : List Op := [.loadPiece 0, .loadSend 0, .storeSendN 0, .sendRS 0 3, .waitSendRS 1 2]
theorem sim47 (c : Dev nD) (R : Regs F) (v19 : BitVec 32) (v1164 : FVec F S256x256 .f32) (hv1164 : v1164 = k1_pay67 R.r) :
    Sim c (ap k1_part47 c v19 v1164) l47 R (fun a R' => a = ⟨⟩) := by
  subst hv1164
  rw [k1_part47_eq_skeleton]
  exact Sim.of_ex (W := Unit) (fun w R' => ⟨⟩) ⟨(), fun K => rfl⟩ fun _ _ => rfl

def l48 : List Op := [.waitRecvRS 1 2, .loadRecv 1 2, .loadPiece 1, .loadSend 1, .storeSendN 1]
theorem sim48 (c : Dev nD) (R : Regs F) (v19 : BitVec 32) :
    Sim c (ap k1_part48 v19) l48 R (fun a R' => a = ⟨⟩) := by
  rw [k1_part48_eq_skeleton]
  exact Sim.of_ex (W := Unit) (fun w R' => ⟨⟩) ⟨(), fun K => rfl⟩ fun _ _ => rfl

def l49 : List Op := [.sendRS 1 3, .waitSendRS 2 2, .waitRecvRS 2 2, .loadRecv 2 2, .loadPiece 2, .loadSend 2]
theorem sim49 (c : Dev nD) (R : Regs F) (v19 : BitVec 32) :
    Sim c (ap k1_part49 c v19) l49 R (fun a R' => a = ⟨k1_pay70 R'.r R'.p, R'.x⟩) := by
  rw [k1_part49_eq_skeleton]
  exact Sim.of_ex (W := Unit) (fun w R' => ⟨k1_pay70 R'.r R'.p, R'.x⟩) ⟨(), fun K => rfl⟩ fun _ _ => rfl

def l50 : List Op := [.storeSendN 2, .sendRS 2 3, .waitSendRS 3 2]
theorem sim50 (c : Dev nD) (R : Regs F) (v19 : BitVec 32) (v1236 : FVec F S256x256 .bf16) (v1237 : Vec F S1x256x256 .bf16) (hv1236 : v1236 = k1_pay70 R.r R.p) (hv1237 : v1237 = R.x) :
    Sim c (ap k1_part50 c v19 v1236 v1237) l50 R (fun a R' => a = ⟨⟩) := by
  subst hv1236; subst hv1237
  rw [k1_part50_eq_skeleton]
  exact Sim.of_ex (W := Unit) (fun w R' => ⟨⟩) ⟨(), fun K => rfl⟩ fun _ _ => rfl

def l51 : List Op := [.waitRecvRS 3 2, .loadRecv 3 2, .loadPiece 3, .loadSend 3, .storeSendN 3, .sendRS 3 3]
theorem sim51 (c : Dev nD) (R : Regs F) (v19 : BitVec 32) :
    Sim c (ap k1_part51 c v19) l51 R (fun a R' => a = ⟨⟩) := by
  rw [k1_part51_eq_skeleton]
  exact Sim.of_ex (W := Unit) (fun w R' => ⟨⟩) ⟨(), fun K => rfl⟩ fun _ _ => rfl

def l52 : List Op := [.waitSendRS 4 2, .waitRecvRS 4 2, .loadRecv 4 2, .loadPiece 4, .loadSend 4, .storeSendN 4]
theorem sim52 (c : Dev nD) (R : Regs F) (v33 : BitVec 32) :
    Sim c (ap k1_part52 v33) l52 R (fun a R' => a = ⟨⟩) := by
  rw [k1_part52_eq_skeleton]
  exact Sim.of_ex (W := Unit) (fun w R' => ⟨⟩) ⟨(), fun K => rfl⟩ fun _ _ => rfl

def l53 : List Op := [.sendRS 4 3, .waitSendRS 5 2, .waitRecvRS 5 2]
theorem sim53 (c : Dev nD) (R : Regs F) (v33 : BitVec 32) :
    Sim c (ap k1_part53 c v33) l53 R (fun a R' => a = ⟨⟩) := by
  rw [k1_part53_eq_skeleton]
  exact Sim.of_ex (W := Unit) (fun w R' => ⟨⟩) ⟨(), fun K => rfl⟩ fun _ _ => rfl

def l54 : List Op := [.loadRecv 5 2, .loadPiece 5, .loadSend 5, .storeSendN 5, .sendRS 5 3]
theorem sim54 (c : Dev nD) (R : Regs F) (v33 : BitVec 32) :
    Sim c (ap k1_part54 c v33) l54 R (fun a R' => a = ⟨⟩) := by
  rw [k1_part54_eq_skeleton]
  exact Sim.of_ex (W := Unit) (fun w R' => ⟨⟩) ⟨(), fun K => rfl⟩ fun _ _ => rfl

def l55 : List Op := [.waitSendRS 6 2, .waitRecvRS 6 2, .loadRecv 6 2, .loadPiece 6, .loadSend 6, .storeSendN 6]
theorem sim55 (c : Dev nD) (R : Regs F) (v33 : BitVec 32) :
    Sim c (ap k1_part55 v33) l55 R (fun a R' => a = ⟨⟩) := by
  rw [k1_part55_eq_skeleton]
  exact Sim.of_ex (W := Unit) (fun w R' => ⟨⟩) ⟨(), fun K => rfl⟩ fun _ _ => rfl

def l56 : List Op := [.sendRS 6 3, .waitSendRS 7 2, .waitRecvRS 7 2, .loadRecv 7 2]
theorem sim56 (c : Dev nD) (R : Regs F) (v33 : BitVec 32) :
    Sim c (ap k1_part56 c v33) l56 R (fun a R' => a = k1_pay76 R'.r) := by
  rw [k1_part56_eq_skeleton]
  exact Sim.of_ex (W := Unit) (fun w R' => k1_pay76 R'.r) ⟨(), fun K => rfl⟩ fun _ _ => rfl

def l57 : List Op := [.loadPiece 7, .loadSend 7, .storeSendN 7, .sendRS 7 3]
theorem sim57 (c : Dev nD) (R : Regs F) (v5 : BitVec 32) (v33 : BitVec 32) (v1402 : FVec F S256x256 .f32) (hv1402 : v1402 = k1_pay76 R.r) :
    Sim c (ap k1_part57 c v5 v33 v1402) l57 R (fun a R' => a = ⟨⟩) := by
  subst hv1402
  rw [k1_part57_eq_skeleton]
  exact Sim.of_ex (W := Unit) (fun w R' => ⟨⟩) ⟨(), fun K => rfl⟩ fun _ _ => rfl

def l58 : List Op := [.w2start 0 5, .w2start 1 5, .w2wait 0 4]
theorem sim58 (c : Dev nD) (R : Regs F) (v44 : BitVec 32) :
    Sim c (ap k1_part58 c v44) l58 R (fun a R' => a = ⟨⟩) := by
  rw [k1_part58_eq_skeleton]
  exact Sim.of_ex (W := Unit) (fun w R' => ⟨⟩) ⟨(), fun K => rfl⟩ fun _ _ => rfl

def l59 : List Op := [.w2wait 1 4, .loadH 0, .loadW 0 0, .loadPiece 0, .storePiece 0, .loadH 1, .loadW 0 0, .loadPiece 1, .storePiece 1, .loadH 2, .loadW 0 0]
theorem sim59 (c : Dev nD) (R : Regs F)  :
    Sim c (ap k1_part59 c) l59 R (fun a R' => a = k1_pay80 R'.h R'.w) := by
  rw [k1_part59_eq_skeleton]
  exact Sim.of_ex (W := Unit) (fun w R' => k1_pay80 R'.h R'.w) ⟨(), fun K => rfl⟩ fun _ _ => rfl

def l60 : List Op := [.loadPiece 2, .storePiece 2, .loadH 3, .loadW 0 0, .loadPiece 3, .storePiece 3, .loadH 4, .loadW 1 0, .loadPiece 4, .storePiece 4, .loadH 5, .loadW 1 0, .loadPiece 5]
theorem sim60 (c : Dev nD) (R : Regs F) (v1484 : FVec F S256x256 .f32) (hv1484 : v1484 = k1_pay80 R.h R.w) :
    Sim c (ap k1_part60 v1484) l60 R (fun a R' => a = ⟨k1_pay84 R'.h R'.w, R'.p⟩) := by
  subst hv1484
  rw [k1_part60_eq_skeleton]
  exact Sim.of_ex (W := Unit) (fun w R' => ⟨k1_pay84 R'.h R'.w, R'.p⟩) ⟨(), fun K => rfl⟩ fun _ _ => rfl

def l61 : List Op := [.storePiece 5, .loadH 6, .loadW 1 0, .loadPiece 6, .storePiece 6, .loadH 7, .loadW 1 0, .loadPiece 7, .storePiece 7, .waitSendRS 0 3]
theorem sim61 (c : Dev nD) (R : Regs F) (v1508 : FVec F S256x256 .f32) (v1509 : Vec F S1x256x256 .f32) (hv1508 : v1508 = k1_pay84 R.h R.w) (hv1509 : v1509 = R.p) :
    Sim c (ap k1_part61 v1508 v1509) l61 R (fun a R' => a = ⟨⟩) := by
  subst hv1508; subst hv1509
  rw [k1_part61_eq_skeleton]
  exact Sim.of_ex (W := Unit) (fun w R' => ⟨⟩) ⟨(), fun K => rfl⟩ fun _ _ => rfl

def l62 : List Op := [.waitRecvRS 0 3, .loadRecv 0 3, .loadPiece 0, .loadSend 0, .storeSendN 0]
theorem sim62 (c : Dev nD) (R : Regs F) (v19 : BitVec 32) :
    Sim c (ap k1_part62 v19) l62 R (fun a R' => a = ⟨⟩) := by
  rw [k1_part62_eq_skeleton]
  exact Sim.of_ex (W := Unit) (fun w R' => ⟨⟩) ⟨(), fun K => rfl⟩ fun _ _ => rfl

def l63 : List Op := [.sendRS 0 4, .waitSendRS 1 3, .waitRecvRS 1 3, .loadRecv 1 3, .loadPiece 1]
theorem sim63 (c : Dev nD) (R : Regs F) (v19 : BitVec 32) :
    Sim c (ap k1_part63 c v19) l63 R (fun a R' => a = ⟨k1_pay89 R'.r, k1_pay90 R'.p⟩) := by
  rw [k1_part63_eq_skeleton]
  exact Sim.of_ex (W := Unit) (fun w R' => ⟨k1_pay89 R'.r, k1_pay90 R'.p⟩) ⟨(), fun K => rfl⟩ fun _ _ => rfl

def l64 : List Op := [.loadSend 1, .storeSendN 1, .sendRS 1 4, .waitSendRS 2 3]
theorem sim64 (c : Dev nD) (R : Regs F) (v19 : BitVec 32) (v1578 : FVec F S256x256 .f32) (v1580 : FVec F S256x256 .f32) (hv1578 : v1578 = k1_pay89 R.r) (hv1580 : v1580 = k1_pay90 R.p) :
    Sim c (ap k1_part64 c v19 v1578 v1580) l64 R (fun a R' => ∃ w0, a = w0) := by
  subst hv1578; subst hv1580
  rw [k1_part64_eq_skeleton]
  exact Sim.of_ex (W := BitVec 32) (fun w R' => w) ⟨(_), fun K => rfl⟩ fun _ _ => ⟨_, rfl⟩

def l65 : List Op := [.waitRecvRS 2 3, .loadRecv 2 3, .loadPiece 2, .loadSend 2, .storeSendN 2, .sendRS 2 4]
theorem sim65 (c : Dev nD) (R : Regs F) (v19 : BitVec 32) (c1_i32_2030 : BitVec 32) :
    Sim c (ap k1_part65 c v19 c1_i32_2030) l65 R (fun a R' => a = ⟨⟩) := by
  rw [k1_part65_eq_skeleton]
  exact Sim.of_ex (W := Unit) (fun w R' => ⟨⟩) ⟨(), fun K => rfl⟩ fun _ _ => rfl

def l66 : List Op := [.waitSendRS 3 3, .waitRecvRS 3 3, .loadRecv 3 3, .loadPiece 3, .loadSend 3]
theorem sim66 (c : Dev nD) (R : Regs F) (v19 : BitVec 32) :
    Sim c (ap k1_part66 v19) l66 R (fun a R' => a = k1_pay93 R'.r R'.p) := by
  rw [k1_part66_eq_skeleton]
  exact Sim.of_ex (W := Unit) (fun w R' => k1_pay93 R'.r R'.p) ⟨(), fun K => rfl⟩ fun _ _ => rfl

def l67 : List Op := [.storeSendN 3, .sendRS 3 4, .waitSendRS 4 3]
theorem sim67 (c : Dev nD) (R : Regs F) (v19 : BitVec 32) (v33 : BitVec 32) (v1653 : FVec F S1x256x256 .bf16) (hv1653 : v1653 = k1_pay93 R.r R.p) :
    Sim c (ap k1_part67 c v19 v33 v1653) l67 R (fun a R' => a = ⟨⟩) := by
  subst hv1653
  rw [k1_part67_eq_skeleton]
  exact Sim.of_ex (W := Unit) (fun w R' => ⟨⟩) ⟨(), fun K => rfl⟩ fun _ _ => rfl

def l68 : List Op := [.waitRecvRS 4 3, .loadRecv 4 3, .loadPiece 4, .loadSend 4, .storeSendN 4, .sendRS 4 4]
theorem sim68 (c : Dev nD) (R : Regs F) (v33 : BitVec 32) :
    Sim c (ap k1_part68 c v33) l68 R (fun a R' => a = ⟨⟩) := by
  rw [k1_part68_eq_skeleton]
  exact Sim.of_ex (W := Unit) (fun w R' => ⟨⟩) ⟨(), fun K => rfl⟩ fun _ _ => rfl

def l69 : List Op := [.waitSendRS 5 3, .waitRecvRS 5 3, .loadRecv 5 3, .loadPiece 5, .loadSend 5, .storeSendN 5]
theorem sim69 (c : Dev nD) (R : Regs F) (v33 : BitVec 32) :
    Sim c (ap k1_part69 v33) l69 R (fun a R' => a = ⟨⟩) := by
  rw [k1_part69_eq_skeleton]
  exact Sim.of_ex (W := Unit) (fun w R' => ⟨⟩) ⟨(), fun K => rfl⟩ fun _ _ => rfl

def l70 : List Op := [.sendRS 5 4, .waitSendRS 6 3, .waitRecvRS 6 3]
theorem sim70 (c : Dev nD) (R : Regs F) (v33 : BitVec 32) :
    Sim c (ap k1_part70 c v33) l70 R (fun a R' => a = ⟨⟩) := by
  rw [k1_part70_eq_skeleton]
  exact Sim.of_ex (W := Unit) (fun w R' => ⟨⟩) ⟨(), fun K => rfl⟩ fun _ _ => rfl

def l71 : List Op := [.loadRecv 6 3, .loadPiece 6, .loadSend 6, .storeSendN 6, .sendRS 6 4]
theorem sim71 (c : Dev nD) (R : Regs F) (v33 : BitVec 32) :
    Sim c (ap k1_part71 c v33) l71 R (fun a R' => a = ⟨⟩) := by
  rw [k1_part71_eq_skeleton]
  exact Sim.of_ex (W := Unit) (fun w R' => ⟨⟩) ⟨(), fun K => rfl⟩ fun _ _ => rfl

def l72 : List Op := [.waitSendRS 7 3, .waitRecvRS 7 3, .loadRecv 7 3, .loadPiece 7, .loadSend 7, .storeSendN 7]
theorem sim72 (c : Dev nD) (R : Regs F) (v33 : BitVec 32) :
    Sim c (ap k1_part72 v33) l72 R (fun a R' => a = ⟨⟩) := by
  rw [k1_part72_eq_skeleton]
  exact Sim.of_ex (W := Unit) (fun w R' => ⟨⟩) ⟨(), fun K => rfl⟩ fun _ _ => rfl

def l73 : List Op := [.sendRS 7 4, .w2start 0 6]
theorem sim73 (c : Dev nD) (R : Regs F) (v5 : BitVec 32) (v44 : BitVec 32) :
    Sim c (ap k1_part73 c v5 v44) l73 R (fun a R' => ∃ w0, a = w0) := by
  rw [k1_part73_eq_skeleton]
  exact Sim.of_ex (W := BitVec 32) (fun w R' => w) ⟨(_), fun K => rfl⟩ fun _ _ => ⟨_, rfl⟩

def l74 : List Op := [.w2start 1 6, .w2wait 0 5, .w2wait 1 5, .loadH 0, .loadW 0 1, .loadPiece 0, .storePiece 0]
theorem sim74 (c : Dev nD) (R : Regs F) (v1827 : BitVec 32) :
    Sim c (ap k1_part74 c v1827) l74 R (fun a R' => a = ⟨⟩) := by
  rw [k1_part74_eq_skeleton]
  exact Sim.of_ex (W := Unit) (fun w R' => ⟨⟩) ⟨(), fun K => rfl⟩ fun _ _ => rfl

def l75 : List Op := [.loadH 1, .loadW 0 1, .loadPiece 1, .storePiece 1, .loadH 2, .loadW 0 1, .loadPiece 2, .storePiece 2, .loadH 3, .loadW 0 1, .loadPiece 3, .storePiece 3, .loadH 4]
theorem sim75 (c : Dev nD) (R : Regs F)  :
    Sim c (ap k1_part75 ) l75 R (fun a R' => a = R'.h) := by
  rw [k1_part75_eq_skeleton]
  exact Sim.of_ex (W := Unit) (fun w R' => R'.h) ⟨(), fun K => rfl⟩ fun _ _ => rfl

def l76 : List Op := [.loadW 1 1, .loadPiece 4, .storePiece 4, .loadH 5, .loadW 1 1, .loadPiece 5, .storePiece 5, .loadH 6, .loadW 1 1, .loadPiece 6, .storePiece 6, .loadH 7]
theorem sim76 (c : Dev nD) (R : Regs F) (v1876 : Vec F S256x4096 .bf16) (hv1876 : v1876 = R.h) :
    Sim c (ap k1_part76 v1876) l76 R (fun a R' => a = k1_pay105 R'.h) := by
  subst hv1876
  rw [k1_part76_eq_skeleton]
  exact Sim.of_ex (W := Unit) (fun w R' => k1_pay105 R'.h) ⟨(), fun K => rfl⟩ fun _ _ => rfl

def l77 : List Op := [.loadW 1 1, .loadPiece 7, .storePiece 7, .waitSendRS 0 4, .waitRecvRS 0 4, .loadRecv 0 4]
theorem sim77 (c : Dev nD) (R : Regs F) (v19 : BitVec 32) (v1901 : FVec F S256x4096 .bf16) (hv1901 : v1901 = k1_pay105 R.h) :
    Sim c (ap k1_part77 v19 v1901) l77 R (fun a R' => a = k1_pay107 R'.r) := by
  subst hv1901
  rw [k1_part77_eq_skeleton]
  exact Sim.of_ex (W := Unit) (fun w R' => k1_pay107 R'.r) ⟨(), fun K => rfl⟩ fun _ _ => rfl

def l78 : List Op := [.loadPiece 0, .loadSend 0, .storeSendN 0, .sendRS 0 5, .waitSendRS 1 4]
theorem sim78 (c : Dev nD) (R : Regs F) (v19 : BitVec 32) (v1923 : FVec F S256x256 .bf16) (hv1923 : v1923 = k1_pay107 R.r) :
    Sim c (ap k1_part78 c v19 v1923) l78 R (fun a R' => a = ⟨⟩) := by
  subst hv1923
  rw [k1_part78_eq_skeleton]
  exact Sim.of_ex (W := Unit) (fun w R' => ⟨⟩) ⟨(), fun K => rfl⟩ fun _ _ => rfl

def l79 : List Op := [.waitRecvRS 1 4, .loadRecv 1 4, .loadPiece 1, .loadSend 1, .storeSendN 1]
theorem sim79 (c : Dev nD) (R : Regs F) (v19 : BitVec 32) :
    Sim c (ap k1_part79 v19) l79 R (fun a R' => a = ⟨⟩) := by
  rw [k1_part79_eq_skeleton]
  exact Sim.of_ex (W := Unit) (fun w R' => ⟨⟩) ⟨(), fun K => rfl⟩ fun _ _ => rfl

def l80 : List Op := [.sendRS 1 5, .waitSendRS 2 4, .waitRecvRS 2 4, .loadRecv 2 4, .loadPiece 2]
theorem sim80 (c : Dev nD) (R : Regs F) (v19 : BitVec 32) :
    Sim c (ap k1_part80 c v19) l80 R (fun a R' => a = k1_pay110 R'.r R'.p) := by
  rw [k1_part80_eq_skeleton]
  exact Sim.of_ex (W := Unit) (fun w R' => k1_pay110 R'.r R'.p) ⟨(), fun K => rfl⟩ fun _ _ => rfl

def l81 : List Op := [.loadSend 2, .storeSendN 2, .sendRS 2 5, .waitSendRS 3 4]
theorem sim81 (c : Dev nD) (R : Regs F) (v19 : BitVec 32) (v1996 : FVec F S256x256 .bf16) (hv1996 : v1996 = k1_pay110 R.r R.p) :
    Sim c (ap k1_part81 c v19 v1996) l81 R (fun a R' => ∃ w0 w1, a = ⟨w0, w1⟩) := by
  subst hv1996
  rw [k1_part81_eq_skeleton]
  exact Sim.of_ex (W := BitVec 32 × BitVec 32) (fun w R' => ⟨w.1, w.2⟩) ⟨(_, _), fun K => rfl⟩ fun _ _ => ⟨_, _, rfl⟩

def l82 : List Op := [.waitRecvRS 3 4, .loadRecv 3 4, .loadPiece 3, .loadSend 3, .storeSendN 3, .sendRS 3 5]
theorem sim82 (c : Dev nD) (R : Regs F) (v19 : BitVec 32) (v2016 : BitVec 32) (c0_i32_2587 : BitVec 32) :
    Sim c (ap k1_part82 c v19 v2016 c0_i32_2587) l82 R (fun a R' => a = ⟨⟩) := by
  rw [k1_part82_eq_skeleton]
  exact Sim.of_ex (W := Unit) (fun w R' => ⟨⟩) ⟨(), fun K => rfl⟩ fun _ _ => rfl

def l83 : List Op := [.waitSendRS 4 4, .waitRecvRS 4 4, .loadRecv 4 4, .loadPiece 4, .loadSend 4, .storeSendN 4]
theorem sim83 (c : Dev nD) (R : Regs F) (v33 : BitVec 32) :
    Sim c (ap k1_part83 v33) l83 R (fun a R' => a = ⟨⟩) := by
  rw [k1_part83_eq_skeleton]
  exact Sim.of_ex (W := Unit) (fun w R' => ⟨⟩) ⟨(), fun K => rfl⟩ fun _ _ => rfl

def l84 : List Op := [.sendRS 4 5, .waitSendRS 5 4]
theorem sim84 (c : Dev nD) (R : Regs F) (v33 : BitVec 32) :
    Sim c (ap k1_part84 c v33) l84 R (fun a R' => a = ⟨⟩) := by
  rw [k1_part84_eq_skeleton]
  exact Sim.of_ex (W := Unit) (fun w R' => ⟨⟩) ⟨(), fun K => rfl⟩ fun _ _ => rfl

def l85 : List Op := [.waitRecvRS 5 4, .loadRecv 5 4, .loadPiece 5, .loadSend 5, .storeSendN 5, .sendRS 5 5]
theorem sim85 (c : Dev nD) (R : Regs F) (v33 : BitVec 32) :
    Sim c (ap k1_part85 c v33) l85 R (fun a R' => a = ⟨⟩) := by
  rw [k1_part85_eq_skeleton]
  exact Sim.of_ex (W := Unit) (fun w R' => ⟨⟩) ⟨(), fun K => rfl⟩ fun _ _ => rfl

def l86 : List Op := [.waitSendRS 6 4, .waitRecvRS 6 4, .loadRecv 6 4, .loadPiece 6, .loadSend 6, .storeSendN 6]
theorem sim86 (c : Dev nD) (R : Regs F) (v33 : BitVec 32) :
    Sim c (ap k1_part86 v33) l86 R (fun a R' => ∃ w0, a = w0) := by
  rw [k1_part86_eq_skeleton]
  exact Sim.of_ex (W := BitVec 32) (fun w R' => w) ⟨(_), fun K => rfl⟩ fun _ _ => ⟨_, rfl⟩

def l87 : List Op := [.sendRS 6 5, .waitSendRS 7 4, .waitRecvRS 7 4]
theorem sim87 (c : Dev nD) (R : Regs F) (v33 : BitVec 32) (v2136 : BitVec 32) :
    Sim c (ap k1_part87 c v33 v2136) l87 R (fun a R' => a = ⟨⟩) := by
  rw [k1_part87_eq_skeleton]
  exact Sim.of_ex (W := Unit) (fun w R' => ⟨⟩) ⟨(), fun K => rfl⟩ fun _ _ => rfl

def l88 : List Op := [.loadRecv 7 4, .loadPiece 7, .loadSend 7, .storeSendN 7, .sendRS 7 5]
theorem sim88 (c : Dev nD) (R : Regs F) (v5 : BitVec 32) (v33 : BitVec 32) :
    Sim c (ap k1_part88 c v5 v33) l88 R (fun a R' => ∃ w0 w1, a = ⟨w0, w1⟩) := by
  rw [k1_part88_eq_skeleton]
  exact Sim.of_ex (W := BitVec 32 × BitVec 32) (fun w R' => ⟨w.1, w.2⟩) ⟨(_, _), fun K => rfl⟩ fun _ _ => ⟨_, _, rfl⟩

def l89 : List Op := [.w2start 0 7, .w2start 1 7, .w2wait 0 6]
theorem sim89 (c : Dev nD) (R : Regs F) (v44 : BitVec 32) (v2190 : BitVec 32) (c256_i32_2814 : BitVec 32) :
    Sim c (ap k1_part89 c v44 v2190 c256_i32_2814) l89 R (fun a R' => a = ⟨⟩) := by
  rw [k1_part89_eq_skeleton]
  exact Sim.of_ex (W := Unit) (fun w R' => ⟨⟩) ⟨(), fun K => rfl⟩ fun _ _ => rfl

def l90 : List Op := [.w2wait 1 6, .loadH 0, .loadW 0 0, .loadPiece 0, .storePiece 0, .loadH 1, .loadW 0 0, .loadPiece 1, .storePiece 1, .loadH 2, .loadW 0 0]
theorem sim90 (c : Dev nD) (R : Regs F)  :
    Sim c (ap k1_part90 c) l90 R (fun a R' => a = ⟨k1_pay119 R'.h, R'.w⟩) := by
  rw [k1_part90_eq_skeleton]
  exact Sim.of_ex (W := Unit) (fun w R' => ⟨k1_pay119 R'.h, R'.w⟩) ⟨(), fun K => rfl⟩ fun _ _ => rfl

def l91 : List Op := [.loadPiece 2, .storePiece 2, .loadH 3, .loadW 0 0, .loadPiece 3, .storePiece 3, .loadH 4, .loadW 1 0, .loadPiece 4, .storePiece 4, .loadH 5, .loadW 1 0]
theorem sim91 (c : Dev nD) (R : Regs F) (v2241 : FVec F S256x4096 .bf16) (v2242 : Vec F S1x1x4096x256 .bf16) (hv2241 : v2241 = k1_pay119 R.h) (hv2242 : v2242 = R.w) :
    Sim c (ap k1_part91 v2241 v2242) l91 R (fun a R' => a = k1_pay123 R'.h R'.w) := by
  subst hv2241; subst hv2242
  rw [k1_part91_eq_skeleton]
  exact Sim.of_ex (W := Unit) (fun w R' => k1_pay123 R'.h R'.w) ⟨(), fun K => rfl⟩ fun _ _ => rfl

def l92 : List Op := [.loadPiece 5, .storePiece 5, .loadH 6, .loadW 1 0, .loadPiece 6, .storePiece 6, .loadH 7, .loadW 1 0, .loadPiece 7, .storePiece 7]
theorem sim92 (c : Dev nD) (R : Regs F) (v2268 : FVec F S256x256 .f32) (hv2268 : v2268 = k1_pay123 R.h R.w) :
    Sim c (ap k1_part92 v2268) l92 R (fun a R' => a = ⟨⟩) := by
  subst hv2268
  rw [k1_part92_eq_skeleton]
  exact Sim.of_ex (W := Unit) (fun w R' => ⟨⟩) ⟨(), fun K => rfl⟩ fun _ _ => rfl

def l93 : List Op := [.waitSendRS 0 5, .waitRecvRS 0 5, .loadRecv 0 5, .loadPiece 0, .loadSend 0, .storeSendN 0]
theorem sim93 (c : Dev nD) (R : Regs F) (v19 : BitVec 32) :
    Sim c (ap k1_part93 v19) l93 R (fun a R' => a = ⟨⟩) := by
  rw [k1_part93_eq_skeleton]
  exact Sim.of_ex (W := Unit) (fun w R' => ⟨⟩) ⟨(), fun K => rfl⟩ fun _ _ => rfl

def l94 : List Op := [.sendRS 0 6, .waitSendRS 1 5, .waitRecvRS 1 5, .loadRecv 1 5]
theorem sim94 (c : Dev nD) (R : Regs F) (v19 : BitVec 32) :
    Sim c (ap k1_part94 c v19) l94 R (fun a R' => a = k1_pay128 R'.r) := by
  rw [k1_part94_eq_skeleton]
  exact Sim.of_ex (W := Unit) (fun w R' => k1_pay128 R'.r) ⟨(), fun K => rfl⟩ fun _ _ => rfl

def l95 : List Op := [.loadPiece 1, .loadSend 1, .storeSendN 1, .sendRS 1 6, .waitSendRS 2 5]
theorem sim95 (c : Dev nD) (R : Regs F) (v19 : BitVec 32) (v2338 : FVec F S256x256 .f32) (hv2338 : v2338 = k1_pay128 R.r) :
    Sim c (ap k1_part95 c v19 v2338) l95 R (fun a R' => a = ⟨⟩) := by
  subst hv2338
  rw [k1_part95_eq_skeleton]
  exact Sim.of_ex (W := Unit) (fun w R' => ⟨⟩) ⟨(), fun K => rfl⟩ fun _ _ => rfl

def l96 : List Op := [.waitRecvRS 2 5, .loadRecv 2 5, .loadPiece 2, .loadSend 2, .storeSendN 2]
theorem sim96 (c : Dev nD) (R : Regs F) (v19 : BitVec 32) :
    Sim c (ap k1_part96 v19) l96 R (fun a R' => a = ⟨⟩) := by
  rw [k1_part96_eq_skeleton]
  exact Sim.of_ex (W := Unit) (fun w R' => ⟨⟩) ⟨(), fun K => rfl⟩ fun _ _ => rfl

def l97 : List Op := [.sendRS 2 6, .waitSendRS 3 5, .waitRecvRS 3 5, .loadRecv 3 5, .loadPiece 3]
theorem sim97 (c : Dev nD) (R : Regs F) (v19 : BitVec 32) :
    Sim c (ap k1_part97 c v19) l97 R (fun a R' => a = k1_pay131 R'.r R'.p) := by
  rw [k1_part97_eq_skeleton]
  exact Sim.of_ex (W := Unit) (fun w R' => k1_pay131 R'.r R'.p) ⟨(), fun K => rfl⟩ fun _ _ => rfl

def l98 : List Op := [.loadSend 3, .storeSendN 3, .sendRS 3 6, .waitSendRS 4 5]
theorem sim98 (c : Dev nD) (R : Regs F) (v19 : BitVec 32) (v33 : BitVec 32) (v2410 : FVec F S256x256 .bf16) (hv2410 : v2410 = k1_pay131 R.r R.p) :
    Sim c (ap k1_part98 c v19 v33 v2410) l98 R (fun a R' => a = ⟨⟩) := by
  subst hv2410
  rw [k1_part98_eq_skeleton]
  exact Sim.of_ex (W := Unit) (fun w R' => ⟨⟩) ⟨(), fun K => rfl⟩ fun _ _ => rfl

def l99 : List Op := [.waitRecvRS 4 5, .loadRecv 4 5, .loadPiece 4, .loadSend 4, .storeSendN 4, .sendRS 4 6]
theorem sim99 (c : Dev nD) (R : Regs F) (v33 : BitVec 32) :
    Sim c (ap k1_part99 c v33) l99 R (fun a R' => a = ⟨⟩) := by
  rw [k1_part99_eq_skeleton]
  exact Sim.of_ex (W := Unit) (fun w R' => ⟨⟩) ⟨(), fun K => rfl⟩ fun _ _ => rfl

def l100 : List Op := [.waitSendRS 5 5, .waitRecvRS 5 5, .loadRecv 5 5, .loadPiece 5, .loadSend 5, .storeSendN 5]
theorem sim100 (c : Dev nD) (R : Regs F) (v33 : BitVec 32) :
    Sim c (ap k1_part100 v33) l100 R (fun a R' => a = ⟨⟩) := by
  rw [k1_part100_eq_skeleton]
  exact Sim.of_ex (W := Unit) (fun w R' => ⟨⟩) ⟨(), fun K => rfl⟩ fun _ _ => rfl

def l101 : List Op := [.sendRS 5 6, .waitSendRS 6 5]
theorem sim101 (c : Dev nD) (R : Regs F) (v33 : BitVec 32) :
    Sim c (ap k1_part101 c v33) l101 R (fun a R' => a = ⟨⟩) := by
  rw [k1_part101_eq_skeleton]
  exact Sim.of_ex (W := Unit) (fun w R' => ⟨⟩) ⟨(), fun K => rfl⟩ fun _ _ => rfl

def l102 : List Op := [.waitRecvRS 6 5, .loadRecv 6 5, .loadPiece 6, .loadSend 6, .storeSendN 6, .sendRS 6 6]
theorem sim102 (c : Dev nD) (R : Regs F) (v33 : BitVec 32) :
    Sim c (ap k1_part102 c v33) l102 R (fun a R' => a = ⟨⟩) := by
  rw [k1_part102_eq_skeleton]
  exact Sim.of_ex (W := Unit) (fun w R' => ⟨⟩) ⟨(), fun K => rfl⟩ fun _ _ => rfl

def l103 : List Op := [.waitSendRS 7 5, .waitRecvRS 7 5, .loadRecv 7 5, .loadPiece 7, .loadSend 7, .storeSendN 7]
theorem sim103 (c : Dev nD) (R : Regs F) (v33 : BitVec 32) :
    Sim c (ap k1_part103 v33) l103 R (fun a R' => a = ⟨⟩) := by
  rw [k1_part103_eq_skeleton]
  exact Sim.of_ex (W := Unit) (fun w R' => ⟨⟩) ⟨(), fun K => rfl⟩ fun _ _ => rfl

def l104 : List Op := [.sendRS 7 6, .w2wait 0 7, .w2wait 1 7, .loadH 0, .loadW 0 1, .loadPiece 0, .storePiece 0]
theorem sim104 (c : Dev nD) (R : Regs F)  :
    Sim c (ap k1_part104 c) l104 R (fun a R' => a = ⟨⟩) := by
  rw [k1_part104_eq_skeleton]
  exact Sim.of_ex (W := Unit) (fun w R' => ⟨⟩) ⟨(), fun K => rfl⟩ fun _ _ => rfl

def l105 : List Op := [.loadH 1, .loadW 0 1, .loadPiece 1, .storePiece 1, .loadH 2, .loadW 0 1, .loadPiece 2, .storePiece 2, .loadH 3, .loadW 0 1, .loadPiece 3, .storePiece 3, .loadH 4]
theorem sim105 (c : Dev nD) (R : Regs F)  :
    Sim c (ap k1_part105 ) l105 R (fun a R' => a = k1_pay141 R'.h) := by
  rw [k1_part105_eq_skeleton]
  exact Sim.of_ex (W := Unit) (fun w R' => k1_pay141 R'.h) ⟨(), fun K => rfl⟩ fun _ _ => rfl

def l106 : List Op := [.loadW 1 1, .loadPiece 4, .storePiece 4, .loadH 5, .loadW 1 1, .loadPiece 5, .storePiece 5, .loadH 6, .loadW 1 1, .loadPiece 6, .storePiece 6, .loadH 7]
theorem sim106 (c : Dev nD) (R : Regs F) (v2603 : FVec F S256x4096 .bf16) (hv2603 : v2603 = k1_pay141 R.h) :
    Sim c (ap k1_part106 v2603) l106 R (fun a R' => a = k1_pay145 R'.h) := by
  subst hv2603
  rw [k1_part106_eq_skeleton]
  exact Sim.of_ex (W := Unit) (fun w R' => k1_pay145 R'.h) ⟨(), fun K => rfl⟩ fun _ _ => rfl

def l107 : List Op := [.loadW 1 1, .loadPiece 7, .storePiece 7, .waitSendRS 0 6, .waitRecvRS 0 6, .loadRecv 0 6]
theorem sim107 (c : Dev nD) (R : Regs F) (v19 : BitVec 32) (v2627 : FVec F S256x4096 .bf16) (hv2627 : v2627 = k1_pay145 R.h) :
    Sim c (ap k1_part107 v19 v2627) l107 R (fun a R' => a = k1_pay147 R'.r) := by
  subst hv2627
  rw [k1_part107_eq_skeleton]
  exact Sim.of_ex (W := Unit) (fun w R' => k1_pay147 R'.r) ⟨(), fun K => rfl⟩ fun _ _ => rfl

def l108 : List Op := [.loadPiece 0, .loadGathOwn 0, .storeGath 0]
theorem sim108 (c : Dev nD) (R : Regs F) (v5 : BitVec 32) (v2650 : FVec F S256x256 .f32) (hv2650 : v2650 = k1_pay147 R.r) :
    Sim c (ap k1_part108 c v5 v2650) l108 R (fun a R' => ∃ w0, a = ⟨k1_pay148 (k1_pay147 R'.r) R'.p, w0⟩) := by
  subst hv2650
  rw [k1_part108_eq_skeleton]
  exact Sim.of_ex (W := BitVec 32) (fun w R' => ⟨k1_pay148 (k1_pay147 R'.r) R'.p, w⟩) ⟨(_), fun K => rfl⟩ fun _ _ => ⟨_, rfl⟩

def l109 : List Op := [.sendAG 0 0, .loadOutOwn 0, .storeOutOwn 0, .waitSendRS 1 6, .waitRecvRS 1 6]
theorem sim109 (c : Dev nD) (R : Regs F) (v19 : BitVec 32) (v2653 : FVec F S256x256 .f32) (v2664 : BitVec 32) (hv2653 : v2653 = k1_pay148 (k1_pay147 R.r) R.p) :
    Sim c (ap k1_part109 c v19 v2653 v2664) l109 R (fun a R' => a = ⟨⟩) := by
  subst hv2653
  rw [k1_part109_eq_skeleton]
  exact Sim.of_ex (W := Unit) (fun w R' => ⟨⟩) ⟨(), fun K => rfl⟩ fun _ _ => rfl

end Cert.KernelIdeal
-- ==== Proof.PartsB.lean ====
/-
The printed parts of the fused call's body, each as its list of operations.
-/
module

public import proofs.«01_k».proof.Proof.Ops

@[expose] public section

set_option maxRecDepth 65536
set_option maxHeartbeats 1000000

noncomputable section

namespace Cert.KernelIdeal

open Idealize.ShloMosaic Idealize.SL.Sem
open Gen

variable {F : FTy → Type} [FloatOps F]

def l110 : List Op := [.loadRecv 1 6, .loadPiece 1, .loadGathOwn 1, .storeGath 1]
theorem sim110 (c : Dev nD) (R : Regs F) (v5 : BitVec 32) :
    Sim c (ap k1_part110 c v5) l110 R (fun a R' => ∃ w0 w1, a = ⟨k1_pay150 R'.r R'.p, w0, w1⟩) := by
  rw [k1_part110_eq_skeleton]
  exact Sim.of_ex (W := BitVec 32 × BitVec 32) (fun w R' => ⟨k1_pay150 R'.r R'.p, w.1, w.2⟩) ⟨(_, _), fun K => rfl⟩ fun _ _ => ⟨_, _, rfl⟩

def l111 : List Op := [.sendAG 1 0, .loadOutOwn 1, .storeOutOwn 1, .waitSendRS 2 6]
theorem sim111 (c : Dev nD) (R : Regs F) (v19 : BitVec 32) (v2715 : FVec F S256x256 .f32) (v2726 : BitVec 32) (v2744 : BitVec 32) (hv2715 : v2715 = k1_pay150 R.r R.p) :
    Sim c (ap k1_part111 c v19 v2715 v2726 v2744) l111 R (fun a R' => a = ⟨⟩) := by
  subst hv2715
  rw [k1_part111_eq_skeleton]
  exact Sim.of_ex (W := Unit) (fun w R' => ⟨⟩) ⟨(), fun K => rfl⟩ fun _ _ => rfl

def l112 : List Op := [.waitRecvRS 2 6, .loadRecv 2 6, .loadPiece 2, .loadGathOwn 2, .storeGath 2]
theorem sim112 (c : Dev nD) (R : Regs F) (v5 : BitVec 32) :
    Sim c (ap k1_part112 c v5) l112 R (fun a R' => ∃ w0 w1 w2 w3, a = ⟨k1_pay152 R'.r R'.p, w0, w1, w2, w3⟩) := by
  rw [k1_part112_eq_skeleton]
  exact Sim.of_ex (W := BitVec 32 × BitVec 32 × BitVec 32 × BitVec 1) (fun w R' => ⟨k1_pay152 R'.r R'.p, w.1, w.2.1, w.2.2.1, w.2.2.2⟩) ⟨(_, _, _, _), fun K => rfl⟩ fun _ _ => ⟨_, _, _, _, rfl⟩

def l113 : List Op := [.sendAG 2 0, .loadOutOwn 2, .storeOutOwn 2, .waitSendRS 3 6]
theorem sim113 (c : Dev nD) (R : Regs F) (v19 : BitVec 32) (v2777 : FVec F S256x256 .f32) (v2788 : BitVec 32) (v2798 : BitVec 32) (v2799 : BitVec 32) (v2800 : BitVec 1) (hv2777 : v2777 = k1_pay152 R.r R.p) :
    Sim c (ap k1_part113 c v19 v2777 v2788 v2798 v2799 v2800) l113 R (fun a R' => a = ⟨⟩) := by
  subst hv2777
  rw [k1_part113_eq_skeleton]
  exact Sim.of_ex (W := Unit) (fun w R' => ⟨⟩) ⟨(), fun K => rfl⟩ fun _ _ => rfl

def l114 : List Op := [.waitRecvRS 3 6, .loadRecv 3 6, .loadPiece 3, .loadGathOwn 3, .storeGath 3]
theorem sim114 (c : Dev nD) (R : Regs F) (v5 : BitVec 32) (v19 : BitVec 32) :
    Sim c (ap k1_part114 c v5 v19) l114 R (fun a R' => ∃ w0 w1, a = ⟨k1_pay154 R'.r R'.p, w0, w1⟩) := by
  rw [k1_part114_eq_skeleton]
  exact Sim.of_ex (W := BitVec 32 × BitVec 32) (fun w R' => ⟨k1_pay154 R'.r R'.p, w.1, w.2⟩) ⟨(_, _), fun K => rfl⟩ fun _ _ => ⟨_, _, rfl⟩

def l115 : List Op := [.sendAG 3 0, .loadOutOwn 3, .storeOutOwn 3]
theorem sim115 (c : Dev nD) (R : Regs F) (v19 : BitVec 32) (v2839 : FVec F S256x256 .f32) (v2850 : BitVec 32) (v2858 : BitVec 32) (hv2839 : v2839 = k1_pay154 R.r R.p) :
    Sim c (ap k1_part115 c v19 v2839 v2850 v2858) l115 R (fun a R' => a = ⟨⟩) := by
  subst hv2839
  rw [k1_part115_eq_skeleton]
  exact Sim.of_ex (W := Unit) (fun w R' => ⟨⟩) ⟨(), fun K => rfl⟩ fun _ _ => rfl

def l116 : List Op := [.waitSendRS 4 6, .waitRecvRS 4 6, .loadRecv 4 6, .loadPiece 4]
theorem sim116 (c : Dev nD) (R : Regs F) (v33 : BitVec 32) (v44 : BitVec 32) :
    Sim c (ap k1_part116 v33 v44) l116 R (fun a R' => ∃ w0, a = ⟨k1_pay156 R'.r R'.p, w0, k1_pay157 R'.r R'.p⟩) := by
  rw [k1_part116_eq_skeleton]
  exact Sim.of_ex (W := BitVec 32) (fun w R' => ⟨k1_pay156 R'.r R'.p, w, k1_pay157 R'.r R'.p⟩) ⟨(_), fun K => rfl⟩ fun _ _ => ⟨_, rfl⟩

def l117 : List Op := [.loadGathOwn 4, .storeGath 4, .sendAG 4 0, .loadOutOwn 4, .storeOutOwn 4]
theorem sim117 (c : Dev nD) (R : Regs F) (v33 : BitVec 32) (v44 : BitVec 32) (v2901 : FVec F S256x256 .f32) (v2912 : BitVec 32) (v2913 : FVec F S256x256 .bf16) (hv2901 : v2901 = k1_pay156 R.r R.p) (hv2913 : v2913 = k1_pay157 R.r R.p) :
    Sim c (ap k1_part117 c v33 v44 v2901 v2912 v2913) l117 R (fun a R' => a = ⟨⟩) := by
  subst hv2901; subst hv2913
  rw [k1_part117_eq_skeleton]
  exact Sim.of_ex (W := Unit) (fun w R' => ⟨⟩) ⟨(), fun K => rfl⟩ fun _ _ => rfl

def l118 : List Op := [.waitSendRS 5 6, .waitRecvRS 5 6, .loadRecv 5 6, .loadPiece 5]
theorem sim118 (c : Dev nD) (R : Regs F) (v33 : BitVec 32) (v44 : BitVec 32) :
    Sim c (ap k1_part118 v33 v44) l118 R (fun a R' => ∃ w0 w1 w2 w3, a = ⟨k1_pay159 R'.r R'.p, w0, w1, w2, w3⟩) := by
  rw [k1_part118_eq_skeleton]
  exact Sim.of_ex (W := BitVec 32 × BitVec 32 × BitVec 1 × BitVec 1) (fun w R' => ⟨k1_pay159 R'.r R'.p, w.1, w.2.1, w.2.2.1, w.2.2.2⟩) ⟨(_, _, _, _), fun K => rfl⟩ fun _ _ => ⟨_, _, _, _, rfl⟩

def l119 : List Op := [.loadGathOwn 5, .storeGath 5, .sendAG 5 0, .loadOutOwn 5, .storeOutOwn 5]
theorem sim119 (c : Dev nD) (R : Regs F) (v33 : BitVec 32) (v44 : BitVec 32) (v2963 : FVec F S256x256 .f32) (v2966 : BitVec 32) (v2967 : BitVec 32) (v2968 : BitVec 1) (v2971 : BitVec 1) (hv2963 : v2963 = k1_pay159 R.r R.p) :
    Sim c (ap k1_part119 c v33 v44 v2963 v2966 v2967 v2968 v2971) l119 R (fun a R' => a = ⟨⟩) := by
  subst hv2963
  rw [k1_part119_eq_skeleton]
  exact Sim.of_ex (W := Unit) (fun w R' => ⟨⟩) ⟨(), fun K => rfl⟩ fun _ _ => rfl

def l120 : List Op := [.waitSendRS 6 6, .waitRecvRS 6 6, .loadRecv 6 6, .loadPiece 6]
theorem sim120 (c : Dev nD) (R : Regs F) (v33 : BitVec 32) (v44 : BitVec 32) :
    Sim c (ap k1_part120 v33 v44) l120 R (fun a R' => ∃ w0 w1, a = ⟨k1_pay161 R'.r R'.p, w0, w1⟩) := by
  rw [k1_part120_eq_skeleton]
  exact Sim.of_ex (W := BitVec 32 × BitVec 32) (fun w R' => ⟨k1_pay161 R'.r R'.p, w.1, w.2⟩) ⟨(_, _), fun K => rfl⟩ fun _ _ => ⟨_, _, rfl⟩

def l121 : List Op := [.loadGathOwn 6, .storeGath 6]
theorem sim121 (c : Dev nD) (R : Regs F) (v33 v44 : BitVec 32) (v3025 : FVec F S256x256 .f32) (v3026 v3028 : BitVec 32) (hv3025 : v3025 = k1_pay161 R.r R.p) :
    Sim c (ap k1_part121 c v33 v44 v3025 v3026 v3028) l121 R (fun a R' => (∃ w0, a = w0) ∧ R'.r = R.r ∧ R'.p = R.p) := by
  subst hv3025
  rw [k1_part121_eq_skeleton]
  intro K K' hK
  obtain ⟨w, h⟩ : ∃ w, ∀ K : BitVec 32 → P1 F PUnit, (ap k1_part121_skel c v33 v44 (k1_pay161 R.r R.p) v3026 v3028 >>= K) = run c l121 R fun _ => K w := ⟨_, fun K => rfl⟩
  refine (h K).trans ?_
  show Prog.op _ _ = Prog.op _ _
  congr 1; funext v
  show Prog.op _ _ = Prog.op _ _
  congr 1; funext _
  exact hK _ _ ⟨⟨_, rfl⟩, rfl, rfl⟩

def l122 : List Op := [.sendAG 6 0, .loadOutOwn 6, .storeOutOwn 6, .waitSendRS 7 6, .waitRecvRS 7 6, .loadRecv 7 6, .loadPiece 7]
theorem sim122 (c : Dev nD) (R : Regs F) (v33 : BitVec 32) (v3025 : FVec F S256x256 .f32) (v3036 : BitVec 32) (hv3025 : v3025 = k1_pay161 R.r R.p) :
    Sim c (ap k1_part122 c v33 v3025 v3036) l122 R (fun a R' => a = ⟨k1_pay163 R'.r, k1_pay164 R'.p⟩) := by
  subst hv3025
  rw [k1_part122_eq_skeleton]
  exact Sim.of_ex (W := Unit) (fun w R' => ⟨k1_pay163 R'.r, k1_pay164 R'.p⟩) ⟨(), fun K => rfl⟩ fun _ _ => rfl

def l123 : List Op := [.loadGathOwn 7, .storeGath 7]
theorem sim123 (c : Dev nD) (R : Regs F) (v33 : BitVec 32) (v44 : BitVec 32) (v3084 : FVec F S256x256 .f32) (v3086 : FVec F S256x256 .f32) (hv3084 : v3084 = k1_pay163 R.r) (hv3086 : v3086 = k1_pay164 R.p) :
    Sim c (ap k1_part123 c v33 v44 v3084 v3086) l123 R (fun a R' => ∃ w0, a = ⟨k1_pay165 (k1_pay163 R'.r) (k1_pay164 R'.p), w0⟩) := by
  subst hv3084; subst hv3086
  rw [k1_part123_eq_skeleton]
  exact Sim.of_ex (W := BitVec 32) (fun w R' => ⟨k1_pay165 (k1_pay163 R'.r) (k1_pay164 R'.p), w⟩) ⟨(_), fun K => rfl⟩ fun _ _ => ⟨_, rfl⟩

def l124 : List Op := [.sendAG 7 0, .loadOutOwn 7, .storeOutOwn 7, .waitSendAG 0 0, .waitRecvAG 0 0]
theorem sim124 (c : Dev nD) (R : Regs F) (v5 : BitVec 32) (v19 : BitVec 32) (v3087 : FVec F S256x256 .f32) (v3098 : BitVec 32) (hv3087 : v3087 = k1_pay165 (k1_pay163 R.r) (k1_pay164 R.p)) :
    Sim c (ap k1_part124 c v5 v19 v3087 v3098) l124 R (fun a R' => ∃ w0 w1 w2, a = ⟨w0, w1, w2⟩) := by
  subst hv3087
  rw [k1_part124_eq_skeleton]
  exact Sim.of_ex (W := BitVec 32 × BitVec 32 × BitVec 1) (fun w R' => ⟨w.1, w.2.1, w.2.2⟩) ⟨(_, _, _), fun K => rfl⟩ fun _ _ => ⟨_, _, _, rfl⟩

def l125 : List Op := [.sendAG 0 1, .loadGath 0 0, .loadOut 0 0, .storeOut 0 0]
theorem sim125 (c : Dev nD) (R : Regs F) (v5 : BitVec 32) (v19 : BitVec 32) (v3143 : BitVec 32) (v3144 : BitVec 32) (v3149 : BitVec 1) :
    Sim c (ap k1_part125 c v5 v19 v3143 v3144 v3149) l125 R (fun a R' => a = ⟨⟩) := by
  rw [k1_part125_eq_skeleton]
  exact Sim.of_ex (W := Unit) (fun w R' => ⟨⟩) ⟨(), fun K => rfl⟩ fun _ _ => rfl

def l126 : List Op := [.waitSendAG 1 0, .waitRecvAG 1 0]
theorem sim126 (c : Dev nD) (R : Regs F) (v5 : BitVec 32) (v19 : BitVec 32) :
    Sim c (ap k1_part126 c v5 v19) l126 R (fun a R' => a = ⟨⟩) := by
  rw [k1_part126_eq_skeleton]
  exact Sim.of_ex (W := Unit) (fun w R' => ⟨⟩) ⟨(), fun K => rfl⟩ fun _ _ => rfl

def l127 : List Op := [.sendAG 1 1, .loadGath 1 0, .loadOut 1 0, .storeOut 1 0, .waitSendAG 2 0, .waitRecvAG 2 0]
theorem sim127 (c : Dev nD) (R : Regs F) (v5 : BitVec 32) (v19 : BitVec 32) :
    Sim c (ap k1_part127 c v5 v19) l127 R (fun a R' => ∃ w0, a = w0) := by
  rw [k1_part127_eq_skeleton]
  exact Sim.of_ex (W := BitVec 32) (fun w R' => w) ⟨(_), fun K => rfl⟩ fun _ _ => ⟨_, rfl⟩

def l128 : List Op := [.sendAG 2 1]
theorem sim128 (c : Dev nD) (R : Regs F) (v5 : BitVec 32) (v19 : BitVec 32) (v3240 : BitVec 32) :
    Sim c (ap k1_part128 c v5 v19 v3240) l128 R (fun a R' => ∃ w0 w1, a = ⟨w0, w1⟩) := by
  rw [k1_part128_eq_skeleton]
  exact Sim.of_ex (W := BitVec 32 × BitVec 32) (fun w R' => ⟨w.1, w.2⟩) ⟨(_, _), fun K => rfl⟩ fun _ _ => ⟨_, _, rfl⟩

def l129 : List Op := [.loadGath 2 0, .loadOut 2 0, .storeOut 2 0, .waitSendAG 3 0, .waitRecvAG 3 0]
theorem sim129 (c : Dev nD) (R : Regs F) (v5 : BitVec 32) (v19 : BitVec 32) (v3272 : BitVec 32) (v3273 : BitVec 32) :
    Sim c (ap k1_part129 c v5 v19 v3272 v3273) l129 R (fun a R' => a = ⟨⟩) := by
  rw [k1_part129_eq_skeleton]
  exact Sim.of_ex (W := Unit) (fun w R' => ⟨⟩) ⟨(), fun K => rfl⟩ fun _ _ => rfl

def l130 : List Op := [.sendAG 3 1, .loadGath 3 0, .loadOut 3 0, .storeOut 3 0, .waitSendAG 4 0]
theorem sim130 (c : Dev nD) (R : Regs F) (v5 : BitVec 32) (v19 : BitVec 32) :
    Sim c (ap k1_part130 c v5 v19) l130 R (fun a R' => a = ⟨⟩) := by
  rw [k1_part130_eq_skeleton]
  exact Sim.of_ex (W := Unit) (fun w R' => ⟨⟩) ⟨(), fun K => rfl⟩ fun _ _ => rfl

def l131 : List Op := [.waitRecvAG 4 0, .sendAG 4 1]
theorem sim131 (c : Dev nD) (R : Regs F) (v33 : BitVec 32) (v44 : BitVec 32) :
    Sim c (ap k1_part131 c v33 v44) l131 R (fun a R' => ∃ w0 w1 w2, a = ⟨w0, w1, w2⟩) := by
  rw [k1_part131_eq_skeleton]
  exact Sim.of_ex (W := BitVec 32 × BitVec 32 × BitVec 1) (fun w R' => ⟨w.1, w.2.1, w.2.2⟩) ⟨(_, _, _), fun K => rfl⟩ fun _ _ => ⟨_, _, _, rfl⟩

def l132 : List Op := [.loadGath 4 0, .loadOut 4 0, .storeOut 4 0, .waitSendAG 5 0, .waitRecvAG 5 0]
theorem sim132 (c : Dev nD) (R : Regs F) (v33 : BitVec 32) (v44 : BitVec 32) (v3362 : BitVec 32) (c8_i32_4101 : BitVec 32) (v3363 : BitVec 1) :
    Sim c (ap k1_part132 c v33 v44 v3362 c8_i32_4101 v3363) l132 R (fun a R' => ∃ w0 w1 w2 w3, a = ⟨w0, w1, w2, w3⟩) := by
  rw [k1_part132_eq_skeleton]
  exact Sim.of_ex (W := BitVec 32 × BitVec 32 × BitVec 1 × BitVec 32) (fun w R' => ⟨w.1, w.2.1, w.2.2.1, w.2.2.2⟩) ⟨(_, _, _, _), fun K => rfl⟩ fun _ _ => ⟨_, _, _, _, rfl⟩

def l133 : List Op := [.sendAG 5 1, .loadGath 5 0]
theorem sim133 (c : Dev nD) (R : Regs F) (v33 : BitVec 32) (v44 : BitVec 32) (v3391 : BitVec 32) (c8_i32_4128 : BitVec 32) (v3392 : BitVec 1) (c1_i32_4130 : BitVec 32) :
    Sim c (ap k1_part133 c v33 v44 v3391 c8_i32_4128 v3392 c1_i32_4130) l133 R (fun a R' => ∃ w0, a = ⟨k1_pay172 R'.g, w0⟩) := by
  rw [k1_part133_eq_skeleton]
  exact Sim.of_ex (W := BitVec 32) (fun w R' => ⟨k1_pay172 R'.g, w⟩) ⟨(_), fun K => rfl⟩ fun _ _ => ⟨_, rfl⟩

def l134 : List Op := [.loadOut 5 0, .storeOut 5 0, .waitSendAG 6 0, .waitRecvAG 6 0]
theorem sim134 (c : Dev nD) (R : Regs F) (v33 : BitVec 32) (v44 : BitVec 32) (v3426 : FVec F S256x256 .f32) (v3427 : BitVec 32) (hv3426 : v3426 = k1_pay172 R.g) :
    Sim c (ap k1_part134 c v33 v44 v3426 v3427) l134 R (fun a R' => ∃ w0, a = w0) := by
  subst hv3426
  rw [k1_part134_eq_skeleton]
  exact Sim.of_ex (W := BitVec 32) (fun w R' => w) ⟨(_), fun K => rfl⟩ fun _ _ => ⟨_, rfl⟩

def l135 : List Op := [.sendAG 6 1, .loadGath 6 0, .loadOut 6 0, .storeOut 6 0, .waitSendAG 7 0]
theorem sim135 (c : Dev nD) (R : Regs F) (v33 : BitVec 32) (v44 : BitVec 32) (v3454 : BitVec 32) :
    Sim c (ap k1_part135 c v33 v44 v3454) l135 R (fun a R' => ∃ w0 w1, a = ⟨w0, w1⟩) := by
  rw [k1_part135_eq_skeleton]
  exact Sim.of_ex (W := BitVec 32 × BitVec 32) (fun w R' => ⟨w.1, w.2⟩) ⟨(_, _), fun K => rfl⟩ fun _ _ => ⟨_, _, rfl⟩

def l136 : List Op := [.waitRecvAG 7 0, .sendAG 7 1]
theorem sim136 (c : Dev nD) (R : Regs F) (v33 : BitVec 32) (v44 : BitVec 32) (v3484 : BitVec 32) (c0_i32_4211 : BitVec 32) :
    Sim c (ap k1_part136 c v33 v44 v3484 c0_i32_4211) l136 R (fun a R' => ∃ w0 w1 w2 w3, a = ⟨w0, w1, w2, w3⟩) := by
  rw [k1_part136_eq_skeleton]
  exact Sim.of_ex (W := BitVec 32 × BitVec 32 × BitVec 1 × BitVec 32) (fun w R' => ⟨w.1, w.2.1, w.2.2.1, w.2.2.2⟩) ⟨(_, _, _, _), fun K => rfl⟩ fun _ _ => ⟨_, _, _, _, rfl⟩

def l137 : List Op := [.loadGath 7 0, .loadOut 7 0, .storeOut 7 0, .waitSendAG 0 1, .waitRecvAG 0 1]
theorem sim137 (c : Dev nD) (R : Regs F) (v5 : BitVec 32) (v19 : BitVec 32) (v3514 : BitVec 32) (v3515 : BitVec 32) (v3516 : BitVec 1) (c0_i32_4237 : BitVec 32) :
    Sim c (ap k1_part137 c v5 v19 v3514 v3515 v3516 c0_i32_4237) l137 R (fun a R' => ∃ w0 w1 w2 w3, a = ⟨w0, w1, w2, w3⟩) := by
  rw [k1_part137_eq_skeleton]
  exact Sim.of_ex (W := BitVec 32 × BitVec 32 × BitVec 1 × BitVec 1) (fun w R' => ⟨w.1, w.2.1, w.2.2.1, w.2.2.2⟩) ⟨(_, _, _, _), fun K => rfl⟩ fun _ _ => ⟨_, _, _, _, rfl⟩

def l138 : List Op := [.sendAG 0 2, .loadGath 0 1, .loadOut 0 1, .storeOut 0 1]
theorem sim138 (c : Dev nD) (R : Regs F) (v5 : BitVec 32) (v19 : BitVec 32) (v3543 : BitVec 32) (v3544 : BitVec 32) (v3545 : BitVec 1) (v3546 : BitVec 1) :
    Sim c (ap k1_part138 c v5 v19 v3543 v3544 v3545 v3546) l138 R (fun a R' => a = ⟨⟩) := by
  rw [k1_part138_eq_skeleton]
  exact Sim.of_ex (W := Unit) (fun w R' => ⟨⟩) ⟨(), fun K => rfl⟩ fun _ _ => rfl

def l139 : List Op := [.waitSendAG 1 1, .waitRecvAG 1 1]
theorem sim139 (c : Dev nD) (R : Regs F) (v5 : BitVec 32) (v19 : BitVec 32) :
    Sim c (ap k1_part139 c v5 v19) l139 R (fun a R' => a = ⟨⟩) := by
  rw [k1_part139_eq_skeleton]
  exact Sim.of_ex (W := Unit) (fun w R' => ⟨⟩) ⟨(), fun K => rfl⟩ fun _ _ => rfl

def l140 : List Op := [.sendAG 1 2, .loadGath 1 1, .loadOut 1 1, .storeOut 1 1, .waitSendAG 2 1]
theorem sim140 (c : Dev nD) (R : Regs F) (v5 : BitVec 32) (v19 : BitVec 32) :
    Sim c (ap k1_part140 c v5 v19) l140 R (fun a R' => a = ⟨⟩) := by
  rw [k1_part140_eq_skeleton]
  exact Sim.of_ex (W := Unit) (fun w R' => ⟨⟩) ⟨(), fun K => rfl⟩ fun _ _ => rfl

def l141 : List Op := [.waitRecvAG 2 1, .sendAG 2 2]
theorem sim141 (c : Dev nD) (R : Regs F) (v5 : BitVec 32) (v19 : BitVec 32) :
    Sim c (ap k1_part141 c v5 v19) l141 R (fun a R' => ∃ w0 w1 w2, a = ⟨w0, w1, w2⟩) := by
  rw [k1_part141_eq_skeleton]
  exact Sim.of_ex (W := BitVec 32 × BitVec 1 × BitVec 32) (fun w R' => ⟨w.1, w.2.1, w.2.2⟩) ⟨(_, _, _), fun K => rfl⟩ fun _ _ => ⟨_, _, _, rfl⟩

def l142 : List Op := [.loadGath 2 1, .loadOut 2 1, .storeOut 2 1, .waitSendAG 3 1, .waitRecvAG 3 1]
theorem sim142 (c : Dev nD) (R : Regs F) (v5 : BitVec 32) (v19 : BitVec 32) (v3665 : BitVec 32) (v3670 : BitVec 1) (v3671 : BitVec 32) :
    Sim c (ap k1_part142 c v5 v19 v3665 v3670 v3671) l142 R (fun a R' => ∃ w0, a = w0) := by
  rw [k1_part142_eq_skeleton]
  exact Sim.of_ex (W := BitVec 32) (fun w R' => w) ⟨(_), fun K => rfl⟩ fun _ _ => ⟨_, rfl⟩

def l143 : List Op := [.sendAG 3 2, .loadGath 3 1, .loadOut 3 1, .storeOut 3 1]
theorem sim143 (c : Dev nD) (R : Regs F) (v5 : BitVec 32) (v19 : BitVec 32) (v3701 : BitVec 32) :
    Sim c (ap k1_part143 c v5 v19 v3701) l143 R (fun a R' => a = ⟨⟩) := by
  rw [k1_part143_eq_skeleton]
  exact Sim.of_ex (W := Unit) (fun w R' => ⟨⟩) ⟨(), fun K => rfl⟩ fun _ _ => rfl

def l144 : List Op := [.waitSendAG 4 1, .waitRecvAG 4 1, .sendAG 4 2]
theorem sim144 (c : Dev nD) (R : Regs F) (v33 : BitVec 32) (v44 : BitVec 32) :
    Sim c (ap k1_part144 c v33 v44) l144 R (fun a R' => ∃ w0, a = w0) := by
  rw [k1_part144_eq_skeleton]
  exact Sim.of_ex (W := BitVec 32) (fun w R' => w) ⟨(_), fun K => rfl⟩ fun _ _ => ⟨_, rfl⟩

def l145 : List Op := [.loadGath 4 1, .loadOut 4 1, .storeOut 4 1, .waitSendAG 5 1, .waitRecvAG 5 1]
theorem sim145 (c : Dev nD) (R : Regs F) (v33 : BitVec 32) (v44 : BitVec 32) (c1_i32_4451 : BitVec 32) :
    Sim c (ap k1_part145 c v33 v44 c1_i32_4451) l145 R (fun a R' => ∃ w0, a = w0) := by
  rw [k1_part145_eq_skeleton]
  exact Sim.of_ex (W := BitVec 32) (fun w R' => w) ⟨(_), fun K => rfl⟩ fun _ _ => ⟨_, rfl⟩

def l146 : List Op := [.sendAG 5 2, .loadGath 5 1]
theorem sim146 (c : Dev nD) (R : Regs F) (v33 : BitVec 32) (v44 : BitVec 32) (v3791 : BitVec 32) :
    Sim c (ap k1_part146 c v33 v44 v3791) l146 R (fun a R' => ∃ w0, a = ⟨w0, R'.g⟩) := by
  rw [k1_part146_eq_skeleton]
  exact Sim.of_ex (W := BitVec 32) (fun w R' => ⟨w, R'.g⟩) ⟨(_), fun K => rfl⟩ fun _ _ => ⟨_, rfl⟩

def l147 : List Op := [.loadOut 5 1, .storeOut 5 1, .waitSendAG 6 1, .waitRecvAG 6 1]
theorem sim147 (c : Dev nD) (R : Regs F) (v33 : BitVec 32) (v44 : BitVec 32) (v3822 : BitVec 32) (v3825 : Vec F S256x256 .bf16) (hv3825 : v3825 = R.g) :
    Sim c (ap k1_part147 c v33 v44 v3822 v3825) l147 R (fun a R' => a = ⟨⟩) := by
  subst hv3825
  rw [k1_part147_eq_skeleton]
  exact Sim.of_ex (W := Unit) (fun w R' => ⟨⟩) ⟨(), fun K => rfl⟩ fun _ _ => rfl

def l148 : List Op := [.sendAG 6 2, .loadGath 6 1, .loadOut 6 1, .storeOut 6 1, .waitSendAG 7 1]
theorem sim148 (c : Dev nD) (R : Regs F) (v33 : BitVec 32) (v44 : BitVec 32) :
    Sim c (ap k1_part148 c v33 v44) l148 R (fun a R' => a = ⟨⟩) := by
  rw [k1_part148_eq_skeleton]
  exact Sim.of_ex (W := Unit) (fun w R' => ⟨⟩) ⟨(), fun K => rfl⟩ fun _ _ => rfl

def l149 : List Op := [.waitRecvAG 7 1, .sendAG 7 2]
theorem sim149 (c : Dev nD) (R : Regs F) (v33 : BitVec 32) (v44 : BitVec 32) :
    Sim c (ap k1_part149 c v33 v44) l149 R (fun a R' => ∃ w0 w1, a = ⟨w0, w1⟩) := by
  rw [k1_part149_eq_skeleton]
  exact Sim.of_ex (W := BitVec 32 × BitVec 32) (fun w R' => ⟨w.1, w.2⟩) ⟨(_, _), fun K => rfl⟩ fun _ _ => ⟨_, _, rfl⟩

def l150 : List Op := [.loadGath 7 1, .loadOut 7 1, .storeOut 7 1, .waitSendAG 0 2, .waitRecvAG 0 2]
theorem sim150 (c : Dev nD) (R : Regs F) (v5 : BitVec 32) (v19 : BitVec 32) (v3912 : BitVec 32) (v3914 : BitVec 32) :
    Sim c (ap k1_part150 c v5 v19 v3912 v3914) l150 R (fun a R' => ∃ w0 w1, a = ⟨w0, w1⟩) := by
  rw [k1_part150_eq_skeleton]
  exact Sim.of_ex (W := BitVec 32 × BitVec 32) (fun w R' => ⟨w.1, w.2⟩) ⟨(_, _), fun K => rfl⟩ fun _ _ => ⟨_, _, rfl⟩

def l151 : List Op := [.sendAG 0 3, .loadGath 0 2, .loadOut 0 2]
theorem sim151 (c : Dev nD) (R : Regs F) (v5 : BitVec 32) (v19 : BitVec 32) (v3943 : BitVec 32) (v3944 : BitVec 32) :
    Sim c (ap k1_part151 c v5 v19 v3943 v3944) l151 R (fun a R' => a = k1_pay183 R'.g) := by
  rw [k1_part151_eq_skeleton]
  exact Sim.of_ex (W := Unit) (fun w R' => k1_pay183 R'.g) ⟨(), fun K => rfl⟩ fun _ _ => rfl

def l152 : List Op := [.storeOut 0 2, .waitSendAG 1 2, .waitRecvAG 1 2]
theorem sim152 (c : Dev nD) (R : Regs F) (v5 : BitVec 32) (v19 : BitVec 32) (v3976 : FVec F S256x256 .f32) (hv3976 : v3976 = k1_pay183 R.g) :
    Sim c (ap k1_part152 c v5 v19 v3976) l152 R (fun a R' => a = ⟨⟩) := by
  subst hv3976
  rw [k1_part152_eq_skeleton]
  exact Sim.of_ex (W := Unit) (fun w R' => ⟨⟩) ⟨(), fun K => rfl⟩ fun _ _ => rfl

def l153 : List Op := [.sendAG 1 3, .loadGath 1 2, .loadOut 1 2, .storeOut 1 2, .waitSendAG 2 2]
theorem sim153 (c : Dev nD) (R : Regs F) (v5 : BitVec 32) (v19 : BitVec 32) :
    Sim c (ap k1_part153 c v5 v19) l153 R (fun a R' => a = ⟨⟩) := by
  rw [k1_part153_eq_skeleton]
  exact Sim.of_ex (W := Unit) (fun w R' => ⟨⟩) ⟨(), fun K => rfl⟩ fun _ _ => rfl

def l154 : List Op := [.waitRecvAG 2 2, .sendAG 2 3]
theorem sim154 (c : Dev nD) (R : Regs F) (v5 : BitVec 32) (v19 : BitVec 32) :
    Sim c (ap k1_part154 c v5 v19) l154 R (fun a R' => ∃ w0 w1 w2 w3 w4, a = ⟨w0, w1, w2, w3, w4⟩) := by
  rw [k1_part154_eq_skeleton]
  exact Sim.of_ex (W := BitVec 32 × BitVec 32 × BitVec 1 × BitVec 1 × BitVec 32) (fun w R' => ⟨w.1, w.2.1, w.2.2.1, w.2.2.2.1, w.2.2.2.2⟩) ⟨(_, _, _, _, _), fun K => rfl⟩ fun _ _ => ⟨_, _, _, _, _, rfl⟩

def l155 : List Op := [.loadGath 2 2, .loadOut 2 2, .storeOut 2 2, .waitSendAG 3 2, .waitRecvAG 3 2]
theorem sim155 (c : Dev nD) (R : Regs F) (v5 : BitVec 32) (v19 : BitVec 32) (v4064 : BitVec 32) (v4065 : BitVec 32) (v4066 : BitVec 1) (v4067 : BitVec 1) (c0_i32_4720 : BitVec 32) :
    Sim c (ap k1_part155 c v5 v19 v4064 v4065 v4066 v4067 c0_i32_4720) l155 R (fun a R' => ∃ w0 w1 w2 w3 w4, a = ⟨w0, w1, w2, w3, w4⟩) := by
  rw [k1_part155_eq_skeleton]
  exact Sim.of_ex (W := BitVec 32 × BitVec 32 × BitVec 1 × BitVec 1 × BitVec 1) (fun w R' => ⟨w.1, w.2.1, w.2.2.1, w.2.2.2.1, w.2.2.2.2⟩) ⟨(_, _, _, _, _), fun K => rfl⟩ fun _ _ => ⟨_, _, _, _, _, rfl⟩

def l156 : List Op := [.sendAG 3 3, .loadGath 3 2, .loadOut 3 2, .storeOut 3 2]
theorem sim156 (c : Dev nD) (R : Regs F) (v5 : BitVec 32) (v19 : BitVec 32) (v4093 : BitVec 32) (v4094 : BitVec 32) (v4095 : BitVec 1) (v4096 : BitVec 1) (v4097 : BitVec 1) :
    Sim c (ap k1_part156 c v5 v19 v4093 v4094 v4095 v4096 v4097) l156 R (fun a R' => a = ⟨⟩) := by
  rw [k1_part156_eq_skeleton]
  exact Sim.of_ex (W := Unit) (fun w R' => ⟨⟩) ⟨(), fun K => rfl⟩ fun _ _ => rfl

def l157 : List Op := [.waitSendAG 4 2, .waitRecvAG 4 2]
theorem sim157 (c : Dev nD) (R : Regs F) (v33 : BitVec 32) (v44 : BitVec 32) :
    Sim c (ap k1_part157 c v33 v44) l157 R (fun a R' => a = ⟨⟩) := by
  rw [k1_part157_eq_skeleton]
  exact Sim.of_ex (W := Unit) (fun w R' => ⟨⟩) ⟨(), fun K => rfl⟩ fun _ _ => rfl

def l158 : List Op := [.sendAG 4 3, .loadGath 4 2, .loadOut 4 2, .storeOut 4 2, .waitSendAG 5 2, .waitRecvAG 5 2]
theorem sim158 (c : Dev nD) (R : Regs F) (v33 : BitVec 32) (v44 : BitVec 32) :
    Sim c (ap k1_part158 c v33 v44) l158 R (fun a R' => a = ⟨⟩) := by
  rw [k1_part158_eq_skeleton]
  exact Sim.of_ex (W := Unit) (fun w R' => ⟨⟩) ⟨(), fun K => rfl⟩ fun _ _ => rfl

def l159 : List Op := [.sendAG 5 3]
theorem sim159 (c : Dev nD) (R : Regs F) (v33 : BitVec 32) (v44 : BitVec 32) :
    Sim c (ap k1_part159 c v33 v44) l159 R (fun a R' => ∃ w0 w1, a = ⟨w0, w1⟩) := by
  rw [k1_part159_eq_skeleton]
  exact Sim.of_ex (W := BitVec 32 × BitVec 32) (fun w R' => ⟨w.1, w.2⟩) ⟨(_, _), fun K => rfl⟩ fun _ _ => ⟨_, _, rfl⟩

def l160 : List Op := [.loadGath 5 2, .loadOut 5 2, .storeOut 5 2, .waitSendAG 6 2, .waitRecvAG 6 2]
theorem sim160 (c : Dev nD) (R : Regs F) (v33 : BitVec 32) (v44 : BitVec 32) (v4222 : BitVec 32) (c256_i32_4853 : BitVec 32) :
    Sim c (ap k1_part160 c v33 v44 v4222 c256_i32_4853) l160 R (fun a R' => ∃ w0, a = w0) := by
  rw [k1_part160_eq_skeleton]
  exact Sim.of_ex (W := BitVec 32) (fun w R' => w) ⟨(_), fun K => rfl⟩ fun _ _ => ⟨_, rfl⟩

def l161 : List Op := [.sendAG 6 3, .loadGath 6 2, .loadOut 6 2, .storeOut 6 2]
theorem sim161 (c : Dev nD) (R : Regs F) (v33 : BitVec 32) (v44 : BitVec 32) (v4251 : BitVec 32) :
    Sim c (ap k1_part161 c v33 v44 v4251) l161 R (fun a R' => a = ⟨⟩) := by
  rw [k1_part161_eq_skeleton]
  exact Sim.of_ex (W := Unit) (fun w R' => ⟨⟩) ⟨(), fun K => rfl⟩ fun _ _ => rfl

def l162 : List Op := [.waitSendAG 7 2, .waitRecvAG 7 2, .sendAG 7 3]
theorem sim162 (c : Dev nD) (R : Regs F) (v33 : BitVec 32) (v44 : BitVec 32) :
    Sim c (ap k1_part162 c v33 v44) l162 R (fun a R' => ∃ w0 w1, a = ⟨w0, w1⟩) := by
  rw [k1_part162_eq_skeleton]
  exact Sim.of_ex (W := BitVec 32 × BitVec 32) (fun w R' => ⟨w.1, w.2⟩) ⟨(_, _), fun K => rfl⟩ fun _ _ => ⟨_, _, rfl⟩

def l163 : List Op := [.loadGath 7 2, .loadOut 7 2, .storeOut 7 2, .waitSendAG 0 3, .waitRecvAG 0 3]
theorem sim163 (c : Dev nD) (R : Regs F) (v5 : BitVec 32) (v19 : BitVec 32) (v4312 : BitVec 32) (c8_i32_4935 : BitVec 32) :
    Sim c (ap k1_part163 c v5 v19 v4312 c8_i32_4935) l163 R (fun a R' => ∃ w0 w1 w2, a = ⟨w0, w1, w2⟩) := by
  rw [k1_part163_eq_skeleton]
  exact Sim.of_ex (W := BitVec 32 × BitVec 32 × BitVec 32) (fun w R' => ⟨w.1, w.2.1, w.2.2⟩) ⟨(_, _, _), fun K => rfl⟩ fun _ _ => ⟨_, _, _, rfl⟩

def l164 : List Op := [.sendAG 0 4, .loadGath 0 3]
theorem sim164 (c : Dev nD) (R : Regs F) (v5 : BitVec 32) (v19 : BitVec 32) (v4341 : BitVec 32) (c8_i32_4962 : BitVec 32) (c0_i32_4963 : BitVec 32) :
    Sim c (ap k1_part164 c v5 v19 v4341 c8_i32_4962 c0_i32_4963) l164 R (fun a R' => ∃ w0 w1, a = ⟨w0, k1_pay191 R'.g, w1⟩) := by
  rw [k1_part164_eq_skeleton]
  exact Sim.of_ex (W := BitVec 32 × BitVec 32) (fun w R' => ⟨w.1, k1_pay191 R'.g, w.2⟩) ⟨(_, _), fun K => rfl⟩ fun _ _ => ⟨_, _, rfl⟩

def l165 : List Op := [.loadOut 0 3, .storeOut 0 3, .waitSendAG 1 3, .waitRecvAG 1 3]
theorem sim165 (c : Dev nD) (R : Regs F) (v5 : BitVec 32) (v19 : BitVec 32) (v4372 : BitVec 32) (v4376 : FVec F S256x256 .f32) (c256_i32_4987 : BitVec 32) (hv4376 : v4376 = k1_pay191 R.g) :
    Sim c (ap k1_part165 c v5 v19 v4372 v4376 c256_i32_4987) l165 R (fun a R' => a = ⟨⟩) := by
  subst hv4376
  rw [k1_part165_eq_skeleton]
  exact Sim.of_ex (W := Unit) (fun w R' => ⟨⟩) ⟨(), fun K => rfl⟩ fun _ _ => rfl

def l166 : List Op := [.sendAG 1 4, .loadGath 1 3, .loadOut 1 3, .storeOut 1 3, .waitSendAG 2 3]
theorem sim166 (c : Dev nD) (R : Regs F) (v5 : BitVec 32) (v19 : BitVec 32) :
    Sim c (ap k1_part166 c v5 v19) l166 R (fun a R' => ∃ w0, a = w0) := by
  rw [k1_part166_eq_skeleton]
  exact Sim.of_ex (W := BitVec 32) (fun w R' => w) ⟨(_), fun K => rfl⟩ fun _ _ => ⟨_, rfl⟩

def l167 : List Op := [.waitRecvAG 2 3, .sendAG 2 4]
theorem sim167 (c : Dev nD) (R : Regs F) (v5 : BitVec 32) (v19 : BitVec 32) (c1_i32_5044 : BitVec 32) :
    Sim c (ap k1_part167 c v5 v19 c1_i32_5044) l167 R (fun a R' => ∃ w0 w1 w2, a = ⟨w0, w1, w2⟩) := by
  rw [k1_part167_eq_skeleton]
  exact Sim.of_ex (W := BitVec 32 × BitVec 32 × BitVec 32) (fun w R' => ⟨w.1, w.2.1, w.2.2⟩) ⟨(_, _, _), fun K => rfl⟩ fun _ _ => ⟨_, _, _, rfl⟩

def l168 : List Op := [.loadGath 2 3, .loadOut 2 3, .storeOut 2 3, .waitSendAG 3 3, .waitRecvAG 3 3]
theorem sim168 (c : Dev nD) (R : Regs F) (v5 : BitVec 32) (v19 : BitVec 32) (v4464 : BitVec 32) (v4465 : BitVec 32) (c0_i32_5070 : BitVec 32) :
    Sim c (ap k1_part168 c v5 v19 v4464 v4465 c0_i32_5070) l168 R (fun a R' => ∃ w0 w1 w2, a = ⟨w0, w1, w2⟩) := by
  rw [k1_part168_eq_skeleton]
  exact Sim.of_ex (W := BitVec 32 × BitVec 32 × BitVec 1) (fun w R' => ⟨w.1, w.2.1, w.2.2⟩) ⟨(_, _, _), fun K => rfl⟩ fun _ _ => ⟨_, _, _, rfl⟩

def l169 : List Op := [.sendAG 3 4, .loadGath 3 3, .loadOut 3 3, .storeOut 3 3]
theorem sim169 (c : Dev nD) (R : Regs F) (v5 : BitVec 32) (v19 : BitVec 32) (v4493 : BitVec 32) (v4494 : BitVec 32) (v4495 : BitVec 1) :
    Sim c (ap k1_part169 c v5 v19 v4493 v4494 v4495) l169 R (fun a R' => a = ⟨⟩) := by
  rw [k1_part169_eq_skeleton]
  exact Sim.of_ex (W := Unit) (fun w R' => ⟨⟩) ⟨(), fun K => rfl⟩ fun _ _ => rfl

def l170 : List Op := [.waitSendAG 4 3, .waitRecvAG 4 3]
theorem sim170 (c : Dev nD) (R : Regs F) (v33 : BitVec 32) (v44 : BitVec 32) :
    Sim c (ap k1_part170 c v33 v44) l170 R (fun a R' => a = ⟨⟩) := by
  rw [k1_part170_eq_skeleton]
  exact Sim.of_ex (W := Unit) (fun w R' => ⟨⟩) ⟨(), fun K => rfl⟩ fun _ _ => rfl

def l171 : List Op := [.sendAG 4 4, .loadGath 4 3, .loadOut 4 3, .storeOut 4 3, .waitSendAG 5 3]
theorem sim171 (c : Dev nD) (R : Regs F) (v33 : BitVec 32) (v44 : BitVec 32) :
    Sim c (ap k1_part171 c v33 v44) l171 R (fun a R' => a = ⟨⟩) := by
  rw [k1_part171_eq_skeleton]
  exact Sim.of_ex (W := Unit) (fun w R' => ⟨⟩) ⟨(), fun K => rfl⟩ fun _ _ => rfl

def l172 : List Op := [.waitRecvAG 5 3, .sendAG 5 4]
theorem sim172 (c : Dev nD) (R : Regs F) (v33 : BitVec 32) (v44 : BitVec 32) :
    Sim c (ap k1_part172 c v33 v44) l172 R (fun a R' => ∃ w0 w1 w2 w3, a = ⟨w0, w1, w2, w3⟩) := by
  rw [k1_part172_eq_skeleton]
  exact Sim.of_ex (W := BitVec 32 × BitVec 32 × BitVec 1 × BitVec 1) (fun w R' => ⟨w.1, w.2.1, w.2.2.1, w.2.2.2⟩) ⟨(_, _, _, _), fun K => rfl⟩ fun _ _ => ⟨_, _, _, _, rfl⟩

def l173 : List Op := [.loadGath 5 3, .loadOut 5 3, .storeOut 5 3, .waitSendAG 6 3, .waitRecvAG 6 3]
theorem sim173 (c : Dev nD) (R : Regs F) (v33 : BitVec 32) (v44 : BitVec 32) (v4614 : BitVec 32) (v4615 : BitVec 32) (v4616 : BitVec 1) (v4619 : BitVec 1) :
    Sim c (ap k1_part173 c v33 v44 v4614 v4615 v4616 v4619) l173 R (fun a R' => ∃ w0 w1 w2, a = ⟨w0, w1, w2⟩) := by
  rw [k1_part173_eq_skeleton]
  exact Sim.of_ex (W := BitVec 32 × BitVec 32 × BitVec 1) (fun w R' => ⟨w.1, w.2.1, w.2.2⟩) ⟨(_, _, _), fun K => rfl⟩ fun _ _ => ⟨_, _, _, rfl⟩

def l174 : List Op := [.sendAG 6 4, .loadGath 6 3, .loadOut 6 3, .storeOut 6 3]
theorem sim174 (c : Dev nD) (R : Regs F) (v33 : BitVec 32) (v44 : BitVec 32) (v4643 : BitVec 32) (v4644 : BitVec 32) (v4649 : BitVec 1) :
    Sim c (ap k1_part174 c v33 v44 v4643 v4644 v4649) l174 R (fun a R' => a = ⟨⟩) := by
  rw [k1_part174_eq_skeleton]
  exact Sim.of_ex (W := Unit) (fun w R' => ⟨⟩) ⟨(), fun K => rfl⟩ fun _ _ => rfl

def l175 : List Op := [.waitSendAG 7 3, .waitRecvAG 7 3]
theorem sim175 (c : Dev nD) (R : Regs F) (v33 : BitVec 32) (v44 : BitVec 32) :
    Sim c (ap k1_part175 c v33 v44) l175 R (fun a R' => a = ⟨⟩) := by
  rw [k1_part175_eq_skeleton]
  exact Sim.of_ex (W := Unit) (fun w R' => ⟨⟩) ⟨(), fun K => rfl⟩ fun _ _ => rfl

def l176 : List Op := [.sendAG 7 4, .loadGath 7 3, .loadOut 7 3, .storeOut 7 3, .waitSendAG 0 4, .waitRecvAG 0 4]
theorem sim176 (c : Dev nD) (R : Regs F) (v5 : BitVec 32) (v19 : BitVec 32) (v44 : BitVec 32) :
    Sim c (ap k1_part176 c v5 v19 v44) l176 R (fun a R' => ∃ w0, a = w0) := by
  rw [k1_part176_eq_skeleton]
  exact Sim.of_ex (W := BitVec 32) (fun w R' => w) ⟨(_), fun K => rfl⟩ fun _ _ => ⟨_, rfl⟩

def l177 : List Op := [.sendAG 0 5]
theorem sim177 (c : Dev nD) (R : Regs F) (v5 : BitVec 32) (v19 : BitVec 32) (v4740 : BitVec 32) :
    Sim c (ap k1_part177 c v5 v19 v4740) l177 R (fun a R' => ∃ w0 w1, a = ⟨w0, w1⟩) := by
  rw [k1_part177_eq_skeleton]
  exact Sim.of_ex (W := BitVec 32 × BitVec 32) (fun w R' => ⟨w.1, w.2⟩) ⟨(_, _), fun K => rfl⟩ fun _ _ => ⟨_, _, rfl⟩

def l178 : List Op := [.loadGath 0 4, .loadOut 0 4, .storeOut 0 4, .waitSendAG 1 4, .waitRecvAG 1 4]
theorem sim178 (c : Dev nD) (R : Regs F) (v5 : BitVec 32) (v19 : BitVec 32) (v4772 : BitVec 32) (v4773 : BitVec 32) :
    Sim c (ap k1_part178 c v5 v19 v4772 v4773) l178 R (fun a R' => a = ⟨⟩) := by
  rw [k1_part178_eq_skeleton]
  exact Sim.of_ex (W := Unit) (fun w R' => ⟨⟩) ⟨(), fun K => rfl⟩ fun _ _ => rfl

def l179 : List Op := [.sendAG 1 5, .loadGath 1 4, .loadOut 1 4, .storeOut 1 4, .waitSendAG 2 4]
theorem sim179 (c : Dev nD) (R : Regs F) (v5 : BitVec 32) (v19 : BitVec 32) :
    Sim c (ap k1_part179 c v5 v19) l179 R (fun a R' => a = ⟨⟩) := by
  rw [k1_part179_eq_skeleton]
  exact Sim.of_ex (W := Unit) (fun w R' => ⟨⟩) ⟨(), fun K => rfl⟩ fun _ _ => rfl

def l180 : List Op := [.waitRecvAG 2 4, .sendAG 2 5]
theorem sim180 (c : Dev nD) (R : Regs F) (v5 : BitVec 32) (v19 : BitVec 32) :
    Sim c (ap k1_part180 c v5 v19) l180 R (fun a R' => ∃ w0 w1 w2, a = ⟨w0, w1, w2⟩) := by
  rw [k1_part180_eq_skeleton]
  exact Sim.of_ex (W := BitVec 32 × BitVec 32 × BitVec 1) (fun w R' => ⟨w.1, w.2.1, w.2.2⟩) ⟨(_, _, _), fun K => rfl⟩ fun _ _ => ⟨_, _, _, rfl⟩

def l181 : List Op := [.loadGath 2 4, .loadOut 2 4, .storeOut 2 4, .waitSendAG 3 4, .waitRecvAG 3 4]
theorem sim181 (c : Dev nD) (R : Regs F) (v5 : BitVec 32) (v19 : BitVec 32) (v4862 : BitVec 32) (c8_i32_5418 : BitVec 32) (v4863 : BitVec 1) :
    Sim c (ap k1_part181 c v5 v19 v4862 c8_i32_5418 v4863) l181 R (fun a R' => ∃ w0 w1 w2 w3, a = ⟨w0, w1, w2, w3⟩) := by
  rw [k1_part181_eq_skeleton]
  exact Sim.of_ex (W := BitVec 32 × BitVec 32 × BitVec 1 × BitVec 32) (fun w R' => ⟨w.1, w.2.1, w.2.2.1, w.2.2.2⟩) ⟨(_, _, _, _), fun K => rfl⟩ fun _ _ => ⟨_, _, _, _, rfl⟩

def l182 : List Op := [.sendAG 3 5, .loadGath 3 4]
theorem sim182 (c : Dev nD) (R : Regs F) (v5 : BitVec 32) (v19 : BitVec 32) (v4891 : BitVec 32) (c8_i32_5445 : BitVec 32) (v4892 : BitVec 1) (c1_i32_5447 : BitVec 32) :
    Sim c (ap k1_part182 c v5 v19 v4891 c8_i32_5445 v4892 c1_i32_5447) l182 R (fun a R' => ∃ w0, a = ⟨k1_pay202 R'.g, w0⟩) := by
  rw [k1_part182_eq_skeleton]
  exact Sim.of_ex (W := BitVec 32) (fun w R' => ⟨k1_pay202 R'.g, w⟩) ⟨(_), fun K => rfl⟩ fun _ _ => ⟨_, rfl⟩

def l183 : List Op := [.loadOut 3 4, .storeOut 3 4, .waitSendAG 4 4, .waitRecvAG 4 4]
theorem sim183 (c : Dev nD) (R : Regs F) (v33 : BitVec 32) (v44 : BitVec 32) (v4926 : FVec F S256x256 .f32) (v4927 : BitVec 32) (hv4926 : v4926 = k1_pay202 R.g) :
    Sim c (ap k1_part183 c v33 v44 v4926 v4927) l183 R (fun a R' => ∃ w0, a = w0) := by
  subst hv4926
  rw [k1_part183_eq_skeleton]
  exact Sim.of_ex (W := BitVec 32) (fun w R' => w) ⟨(_), fun K => rfl⟩ fun _ _ => ⟨_, rfl⟩

def l184 : List Op := [.sendAG 4 5, .loadGath 4 4, .loadOut 4 4, .storeOut 4 4, .waitSendAG 5 4]
theorem sim184 (c : Dev nD) (R : Regs F) (v33 : BitVec 32) (v44 : BitVec 32) (v4954 : BitVec 32) :
    Sim c (ap k1_part184 c v33 v44 v4954) l184 R (fun a R' => ∃ w0 w1, a = ⟨w0, w1⟩) := by
  rw [k1_part184_eq_skeleton]
  exact Sim.of_ex (W := BitVec 32 × BitVec 32) (fun w R' => ⟨w.1, w.2⟩) ⟨(_, _), fun K => rfl⟩ fun _ _ => ⟨_, _, rfl⟩

def l185 : List Op := [.waitRecvAG 5 4, .sendAG 5 5]
theorem sim185 (c : Dev nD) (R : Regs F) (v33 : BitVec 32) (v44 : BitVec 32) (v4984 : BitVec 32) (c0_i32_5528 : BitVec 32) :
    Sim c (ap k1_part185 c v33 v44 v4984 c0_i32_5528) l185 R (fun a R' => ∃ w0 w1 w2 w3, a = ⟨w0, w1, w2, w3⟩) := by
  rw [k1_part185_eq_skeleton]
  exact Sim.of_ex (W := BitVec 32 × BitVec 32 × BitVec 1 × BitVec 32) (fun w R' => ⟨w.1, w.2.1, w.2.2.1, w.2.2.2⟩) ⟨(_, _, _, _), fun K => rfl⟩ fun _ _ => ⟨_, _, _, _, rfl⟩

def l186 : List Op := [.loadGath 5 4, .loadOut 5 4, .storeOut 5 4, .waitSendAG 6 4, .waitRecvAG 6 4]
theorem sim186 (c : Dev nD) (R : Regs F) (v33 : BitVec 32) (v44 : BitVec 32) (v5014 : BitVec 32) (v5015 : BitVec 32) (v5016 : BitVec 1) (c0_i32_5554 : BitVec 32) :
    Sim c (ap k1_part186 c v33 v44 v5014 v5015 v5016 c0_i32_5554) l186 R (fun a R' => ∃ w0 w1 w2 w3, a = ⟨w0, w1, w2, w3⟩) := by
  rw [k1_part186_eq_skeleton]
  exact Sim.of_ex (W := BitVec 32 × BitVec 32 × BitVec 1 × BitVec 1) (fun w R' => ⟨w.1, w.2.1, w.2.2.1, w.2.2.2⟩) ⟨(_, _, _, _), fun K => rfl⟩ fun _ _ => ⟨_, _, _, _, rfl⟩

def l187 : List Op := [.sendAG 6 5, .loadGath 6 4, .loadOut 6 4, .storeOut 6 4]
theorem sim187 (c : Dev nD) (R : Regs F) (v33 : BitVec 32) (v44 : BitVec 32) (v5043 : BitVec 32) (v5044 : BitVec 32) (v5045 : BitVec 1) (v5046 : BitVec 1) :
    Sim c (ap k1_part187 c v33 v44 v5043 v5044 v5045 v5046) l187 R (fun a R' => a = ⟨⟩) := by
  rw [k1_part187_eq_skeleton]
  exact Sim.of_ex (W := Unit) (fun w R' => ⟨⟩) ⟨(), fun K => rfl⟩ fun _ _ => rfl

def l188 : List Op := [.waitSendAG 7 4, .waitRecvAG 7 4]
theorem sim188 (c : Dev nD) (R : Regs F) (v33 : BitVec 32) (v44 : BitVec 32) :
    Sim c (ap k1_part188 c v33 v44) l188 R (fun a R' => a = ⟨⟩) := by
  rw [k1_part188_eq_skeleton]
  exact Sim.of_ex (W := Unit) (fun w R' => ⟨⟩) ⟨(), fun K => rfl⟩ fun _ _ => rfl

def l189 : List Op := [.sendAG 7 5, .loadGath 7 4, .loadOut 7 4, .storeOut 7 4, .waitSendAG 0 5]
theorem sim189 (c : Dev nD) (R : Regs F) (v19 : BitVec 32) (v44 : BitVec 32) :
    Sim c (ap k1_part189 c v19 v44) l189 R (fun a R' => a = ⟨⟩) := by
  rw [k1_part189_eq_skeleton]
  exact Sim.of_ex (W := Unit) (fun w R' => ⟨⟩) ⟨(), fun K => rfl⟩ fun _ _ => rfl

def l190 : List Op := [.waitRecvAG 0 5, .sendAG 0 6]
theorem sim190 (c : Dev nD) (R : Regs F) (v5 : BitVec 32) (v19 : BitVec 32) :
    Sim c (ap k1_part190 c v5 v19) l190 R (fun a R' => ∃ w0 w1 w2, a = ⟨w0, w1, w2⟩) := by
  rw [k1_part190_eq_skeleton]
  exact Sim.of_ex (W := BitVec 32 × BitVec 1 × BitVec 32) (fun w R' => ⟨w.1, w.2.1, w.2.2⟩) ⟨(_, _, _), fun K => rfl⟩ fun _ _ => ⟨_, _, _, rfl⟩

def l191 : List Op := [.loadGath 0 5, .loadOut 0 5, .storeOut 0 5, .waitSendAG 1 5, .waitRecvAG 1 5]
theorem sim191 (c : Dev nD) (R : Regs F) (v5 : BitVec 32) (v19 : BitVec 32) (v5165 : BitVec 32) (v5170 : BitVec 1) (v5171 : BitVec 32) :
    Sim c (ap k1_part191 c v5 v19 v5165 v5170 v5171) l191 R (fun a R' => ∃ w0, a = w0) := by
  rw [k1_part191_eq_skeleton]
  exact Sim.of_ex (W := BitVec 32) (fun w R' => w) ⟨(_), fun K => rfl⟩ fun _ _ => ⟨_, rfl⟩

def l192 : List Op := [.sendAG 1 6, .loadGath 1 5, .loadOut 1 5, .storeOut 1 5]
theorem sim192 (c : Dev nD) (R : Regs F) (v5 : BitVec 32) (v19 : BitVec 32) (v5201 : BitVec 32) :
    Sim c (ap k1_part192 c v5 v19 v5201) l192 R (fun a R' => a = ⟨⟩) := by
  rw [k1_part192_eq_skeleton]
  exact Sim.of_ex (W := Unit) (fun w R' => ⟨⟩) ⟨(), fun K => rfl⟩ fun _ _ => rfl

def l193 : List Op := [.waitSendAG 2 5, .waitRecvAG 2 5, .sendAG 2 6]
theorem sim193 (c : Dev nD) (R : Regs F) (v5 : BitVec 32) (v19 : BitVec 32) :
    Sim c (ap k1_part193 c v5 v19) l193 R (fun a R' => ∃ w0, a = w0) := by
  rw [k1_part193_eq_skeleton]
  exact Sim.of_ex (W := BitVec 32) (fun w R' => w) ⟨(_), fun K => rfl⟩ fun _ _ => ⟨_, rfl⟩

def l194 : List Op := [.loadGath 2 5, .loadOut 2 5, .storeOut 2 5, .waitSendAG 3 5, .waitRecvAG 3 5]
theorem sim194 (c : Dev nD) (R : Regs F) (v5 : BitVec 32) (v19 : BitVec 32) (c5_i32_5768 : BitVec 32) :
    Sim c (ap k1_part194 c v5 v19 c5_i32_5768) l194 R (fun a R' => ∃ w0, a = w0) := by
  rw [k1_part194_eq_skeleton]
  exact Sim.of_ex (W := BitVec 32) (fun w R' => w) ⟨(_), fun K => rfl⟩ fun _ _ => ⟨_, rfl⟩

def l195 : List Op := [.sendAG 3 6, .loadGath 3 5]
theorem sim195 (c : Dev nD) (R : Regs F) (v5 : BitVec 32) (v19 : BitVec 32) (v5291 : BitVec 32) :
    Sim c (ap k1_part195 c v5 v19 v5291) l195 R (fun a R' => ∃ w0, a = ⟨w0, R'.g⟩) := by
  rw [k1_part195_eq_skeleton]
  exact Sim.of_ex (W := BitVec 32) (fun w R' => ⟨w, R'.g⟩) ⟨(_), fun K => rfl⟩ fun _ _ => ⟨_, rfl⟩

def l196 : List Op := [.loadOut 3 5, .storeOut 3 5, .waitSendAG 4 5, .waitRecvAG 4 5]
theorem sim196 (c : Dev nD) (R : Regs F) (v33 : BitVec 32) (v44 : BitVec 32) (v5322 : BitVec 32) (v5325 : Vec F S256x256 .bf16) (hv5325 : v5325 = R.g) :
    Sim c (ap k1_part196 c v33 v44 v5322 v5325) l196 R (fun a R' => a = ⟨⟩) := by
  subst hv5325
  rw [k1_part196_eq_skeleton]
  exact Sim.of_ex (W := Unit) (fun w R' => ⟨⟩) ⟨(), fun K => rfl⟩ fun _ _ => rfl

def l197 : List Op := [.sendAG 4 6, .loadGath 4 5, .loadOut 4 5, .storeOut 4 5, .waitSendAG 5 5]
theorem sim197 (c : Dev nD) (R : Regs F) (v33 : BitVec 32) (v44 : BitVec 32) :
    Sim c (ap k1_part197 c v33 v44) l197 R (fun a R' => a = ⟨⟩) := by
  rw [k1_part197_eq_skeleton]
  exact Sim.of_ex (W := Unit) (fun w R' => ⟨⟩) ⟨(), fun K => rfl⟩ fun _ _ => rfl

def l198 : List Op := [.waitRecvAG 5 5, .sendAG 5 6]
theorem sim198 (c : Dev nD) (R : Regs F) (v33 : BitVec 32) (v44 : BitVec 32) :
    Sim c (ap k1_part198 c v33 v44) l198 R (fun a R' => ∃ w0 w1, a = ⟨w0, w1⟩) := by
  rw [k1_part198_eq_skeleton]
  exact Sim.of_ex (W := BitVec 32 × BitVec 32) (fun w R' => ⟨w.1, w.2⟩) ⟨(_, _), fun K => rfl⟩ fun _ _ => ⟨_, _, rfl⟩

def l199 : List Op := [.loadGath 5 5, .loadOut 5 5, .storeOut 5 5, .waitSendAG 6 5, .waitRecvAG 6 5]
theorem sim199 (c : Dev nD) (R : Regs F) (v33 : BitVec 32) (v44 : BitVec 32) (v5412 : BitVec 32) (v5414 : BitVec 32) :
    Sim c (ap k1_part199 c v33 v44 v5412 v5414) l199 R (fun a R' => ∃ w0 w1, a = ⟨w0, w1⟩) := by
  rw [k1_part199_eq_skeleton]
  exact Sim.of_ex (W := BitVec 32 × BitVec 32) (fun w R' => ⟨w.1, w.2⟩) ⟨(_, _), fun K => rfl⟩ fun _ _ => ⟨_, _, rfl⟩

def l200 : List Op := [.sendAG 6 6, .loadGath 6 5, .loadOut 6 5]
theorem sim200 (c : Dev nD) (R : Regs F) (v33 : BitVec 32) (v44 : BitVec 32) (v5443 : BitVec 32) (v5444 : BitVec 32) :
    Sim c (ap k1_part200 c v33 v44 v5443 v5444) l200 R (fun a R' => a = k1_pay213 R'.g) := by
  rw [k1_part200_eq_skeleton]
  exact Sim.of_ex (W := Unit) (fun w R' => k1_pay213 R'.g) ⟨(), fun K => rfl⟩ fun _ _ => rfl

def l201 : List Op := [.storeOut 6 5, .waitSendAG 7 5, .waitRecvAG 7 5]
theorem sim201 (c : Dev nD) (R : Regs F) (v33 : BitVec 32) (v44 : BitVec 32) (v5476 : FVec F S256x256 .f32) (hv5476 : v5476 = k1_pay213 R.g) :
    Sim c (ap k1_part201 c v33 v44 v5476) l201 R (fun a R' => a = ⟨⟩) := by
  subst hv5476
  rw [k1_part201_eq_skeleton]
  exact Sim.of_ex (W := Unit) (fun w R' => ⟨⟩) ⟨(), fun K => rfl⟩ fun _ _ => rfl

def l202 : List Op := [.sendAG 7 6, .loadGath 7 5, .loadOut 7 5, .storeOut 7 5, .waitSendAG 0 6]
theorem sim202 (c : Dev nD) (R : Regs F) (v19 : BitVec 32) (v44 : BitVec 32) :
    Sim c (ap k1_part202 c v19 v44) l202 R (fun a R' => a = ⟨⟩) := by
  rw [k1_part202_eq_skeleton]
  exact Sim.of_ex (W := Unit) (fun w R' => ⟨⟩) ⟨(), fun K => rfl⟩ fun _ _ => rfl

def l203 : List Op := [.waitRecvAG 0 6, .loadGath 0 6, .loadOut 0 6, .storeOut 0 6, .waitSendAG 1 6]
theorem sim203 (c : Dev nD) (R : Regs F) (v5 : BitVec 32) (v19 : BitVec 32) :
    Sim c (ap k1_part203 c v5 v19) l203 R (fun a R' => a = ⟨⟩) := by
  rw [k1_part203_eq_skeleton]
  exact Sim.of_ex (W := Unit) (fun w R' => ⟨⟩) ⟨(), fun K => rfl⟩ fun _ _ => rfl

def l204 : List Op := [.waitRecvAG 1 6, .loadGath 1 6, .loadOut 1 6, .storeOut 1 6, .waitSendAG 2 6, .waitRecvAG 2 6]
theorem sim204 (c : Dev nD) (R : Regs F) (v5 : BitVec 32) (v19 : BitVec 32) :
    Sim c (ap k1_part204 c v5 v19) l204 R (fun a R' => a = ⟨⟩) := by
  rw [k1_part204_eq_skeleton]
  exact Sim.of_ex (W := Unit) (fun w R' => ⟨⟩) ⟨(), fun K => rfl⟩ fun _ _ => rfl

def l205 : List Op := [.loadGath 2 6, .loadOut 2 6, .storeOut 2 6, .waitSendAG 3 6, .waitRecvAG 3 6]
theorem sim205 (c : Dev nD) (R : Regs F) (v5 : BitVec 32) (v19 : BitVec 32) :
    Sim c (ap k1_part205 c v5 v19) l205 R (fun a R' => ∃ w0 w1, a = ⟨w0, w1⟩) := by
  rw [k1_part205_eq_skeleton]
  exact Sim.of_ex (W := BitVec 32 × BitVec 32) (fun w R' => ⟨w.1, w.2⟩) ⟨(_, _), fun K => rfl⟩ fun _ _ => ⟨_, _, rfl⟩

def l206 : List Op := [.loadGath 3 6, .loadOut 3 6, .storeOut 3 6, .waitSendAG 4 6, .waitRecvAG 4 6]
theorem sim206 (c : Dev nD) (R : Regs F) (v33 : BitVec 32) (v44 : BitVec 32) (v5624 : BitVec 32) (c8_i32_6093 : BitVec 32) :
    Sim c (ap k1_part206 c v33 v44 v5624 c8_i32_6093) l206 R (fun a R' => ∃ w0 w1 w2 w3, a = ⟨w0, w1, w2, w3⟩) := by
  rw [k1_part206_eq_skeleton]
  exact Sim.of_ex (W := BitVec 32 × BitVec 32 × BitVec 1 × BitVec 32) (fun w R' => ⟨w.1, w.2.1, w.2.2.1, w.2.2.2⟩) ⟨(_, _, _, _), fun K => rfl⟩ fun _ _ => ⟨_, _, _, _, rfl⟩

def l207 : List Op := [.loadGath 4 6, .loadOut 4 6, .storeOut 4 6, .waitSendAG 5 6, .waitRecvAG 5 6]
theorem sim207 (c : Dev nD) (R : Regs F) (v33 : BitVec 32) (v44 : BitVec 32) (v5652 : BitVec 32) (c8_i32_6119 : BitVec 32) (v5653 : BitVec 1) (c1_i32_6121 : BitVec 32) :
    Sim c (ap k1_part207 c v33 v44 v5652 c8_i32_6119 v5653 c1_i32_6121) l207 R (fun a R' => ∃ w0 w1 w2, a = ⟨w0, w1, w2⟩) := by
  rw [k1_part207_eq_skeleton]
  exact Sim.of_ex (W := BitVec 32 × BitVec 32 × BitVec 32) (fun w R' => ⟨w.1, w.2.1, w.2.2⟩) ⟨(_, _, _), fun K => rfl⟩ fun _ _ => ⟨_, _, _, rfl⟩

def l208 : List Op := [.loadGath 5 6, .loadOut 5 6, .storeOut 5 6, .waitSendAG 6 6, .waitRecvAG 6 6]
theorem sim208 (c : Dev nD) (R : Regs F) (v33 : BitVec 32) (v44 : BitVec 32) (v5682 : BitVec 32) (v5683 : BitVec 32) (c0_i32_6148 : BitVec 32) :
    Sim c (ap k1_part208 c v33 v44 v5682 v5683 c0_i32_6148) l208 R (fun a R' => ∃ w0 w1 w2 w3, a = ⟨w0, w1, w2, w3⟩) := by
  rw [k1_part208_eq_skeleton]
  exact Sim.of_ex (W := BitVec 32 × BitVec 32 × BitVec 1 × BitVec 1) (fun w R' => ⟨w.1, w.2.1, w.2.2.1, w.2.2.2⟩) ⟨(_, _, _, _), fun K => rfl⟩ fun _ _ => ⟨_, _, _, _, rfl⟩

def l209 : List Op := [.loadGath 6 6, .loadOut 6 6, .storeOut 6 6, .waitSendAG 7 6, .waitRecvAG 7 6]
theorem sim209 (c : Dev nD) (R : Regs F) (v33 : BitVec 32) (v44 : BitVec 32) (v5710 : BitVec 32) (v5711 : BitVec 32) (v5712 : BitVec 1) (v5713 : BitVec 1) :
    Sim c (ap k1_part209 c v33 v44 v5710 v5711 v5712 v5713) l209 R (fun a R' => ∃ w0 w1 w2 w3, a = ⟨w0, w1, w2, w3⟩) := by
  rw [k1_part209_eq_skeleton]
  exact Sim.of_ex (W := BitVec 32 × BitVec 32 × BitVec 1 × BitVec 1) (fun w R' => ⟨w.1, w.2.1, w.2.2.1, w.2.2.2⟩) ⟨(_, _, _, _), fun K => rfl⟩ fun _ _ => ⟨_, _, _, _, rfl⟩

end Cert.KernelIdeal
-- ==== Proof.Body.lean ====
/-
The whole of the fused call's body, each as its list of operations.
-/
module

public import proofs.«01_k».proof.Proof.PartsA
public import proofs.«01_k».proof.Proof.PartsB

@[expose] public section

set_option maxRecDepth 65536
set_option maxHeartbeats 1000000

noncomputable section

namespace Cert.KernelIdeal

open Idealize.ShloMosaic Idealize.SL.Sem
open Gen

variable {F : FTy → Type} [FloatOps F]

/-- The operations of printed part 210, which reads the device first. -/
def l210 : List Op := l2 ++ (l3 ++ (l4 ++ (l5 ++ (l6 ++ (l7 ++ (l8 ++ (l9 ++ (l10 ++ (l11 ++ (l12 ++ (l13 ++ (l14 ++ (l15 ++ (l16 ++ (l17 ++ (l18 ++ (l19 ++ (l20 ++ (l21 ++ (l22 ++ (l23 ++ (l24 ++ (l25 ++ (l26 ++ (l27 ++ (l28 ++ (l29 ++ (l30 ++ (l31 ++ (l32 ++ (l33 ++ (l34 ++ (l35 ++ (l36 ++ (l37 ++ (l38 ++ (l39 ++ (l40 ++ (l41 ++ (l42 ++ (l43 ++ (l44 ++ (l45 ++ (l46 ++ (l47 ++ (l48 ++ (l49 ++ (l50 ++ (l51 ++ (l52 ++ (l53 ++ (l54 ++ (l55 ++ (l56 ++ (l57 ++ (l58 ++ (l59 ++ (l60 ++ ([])))))))))))))))))))))))))))))))))))))))))))))))))))))))))))
theorem sim210 (K : _ → P1 F PUnit) (K' : Dev nD → Regs F → P1 F PUnit) (R : Regs F)
    (hK : ∀ c a R', (∃ w0 w1 w2 w3, a = ⟨c, w0, w1, w2, w3, k1_pay84 R'.h R'.w, R'.p⟩) → K a = K' c R') :
    (ap k1_part210 >>= K) = .op .deviceId fun c => run c l210 R (K' c) := by
  rw [k1_part210_eq_skeleton]
  obtain ⟨w1, w2, w3, w4, w5, h1⟩ : ∃ w1 w2 w3 w4 w5 : Dev nD → BitVec 32, ∀ K : _ → P1 F PUnit,
      (ap k1_part1 >>= K) = .op .deviceId fun c => K ⟨c, w1 c, w2 c, w3 c, w4 c, w5 c⟩ := by
    rw [k1_part1_eq_skeleton]
    exact ⟨_, _, _, _, _, fun K => rfl⟩
  show ((ap k1_part1 >>= _) >>= K) = _
  rw [bind_assoc, h1]
  congr 1; funext c
  refine (?_ : Sim c _ _ R _) K (K' c) (hK c)
  refine Sim.bind (sim2 c R _ _ _) ?_
  rintro _ R ⟨_, _, _, _, _, rfl⟩
  refine Sim.bind (sim3 c R _ _ _ _ _) ?_
  rintro _ R ⟨_, _, _, _, rfl⟩
  refine Sim.bind (sim4 c R _ _ _ _ _ _) ?_
  rintro _ R rfl
  refine Sim.bind (sim5 c R _) ?_
  rintro _ R rfl
  refine Sim.bind (sim6 c R _ _ rfl) ?_
  rintro _ R rfl
  refine Sim.bind (sim7 c R _) ?_
  rintro _ R rfl
  refine Sim.bind (sim8 c R _) ?_
  rintro _ R rfl
  refine Sim.bind (sim9 c R _ _ _ _ rfl rfl rfl) ?_
  rintro _ R rfl
  refine Sim.bind (sim10 c R _) ?_
  rintro _ R rfl
  refine Sim.bind (sim11 c R _ _) ?_
  rintro _ R rfl
  refine Sim.bind (sim12 c R) ?_
  rintro _ R rfl
  refine Sim.bind (sim13 c R _ rfl) ?_
  rintro _ R rfl
  refine Sim.bind (sim14 c R _ _ _ rfl rfl rfl) ?_
  rintro _ R rfl
  refine Sim.bind (sim15 c R _ _ rfl) ?_
  rintro _ R rfl
  refine Sim.bind (sim16 c R _ _ rfl) ?_
  rintro _ R ⟨_, _, rfl⟩
  refine Sim.bind (sim17 c R _ _ _) ?_
  rintro _ R rfl
  refine Sim.bind (sim18 c R _) ?_
  rintro _ R rfl
  refine Sim.bind (sim19 c R _) ?_
  rintro _ R rfl
  refine Sim.bind (sim20 c R _) ?_
  rintro _ R rfl
  refine Sim.bind (sim21 c R _) ?_
  rintro _ R ⟨_, rfl⟩
  refine Sim.bind (sim22 c R _ _) ?_
  rintro _ R rfl
  refine Sim.bind (sim23 c R _) ?_
  rintro _ R rfl
  refine Sim.bind (sim24 c R _) ?_
  rintro _ R rfl
  refine Sim.bind (sim25 c R _) ?_
  rintro _ R rfl
  refine Sim.bind (sim26 c R _ _ _ _ rfl rfl) ?_
  rintro _ R rfl
  refine Sim.bind (sim27 c R _) ?_
  rintro _ R rfl
  refine Sim.bind (sim28 c R) ?_
  rintro _ R rfl
  refine Sim.bind (sim29 c R _ rfl) ?_
  rintro _ R rfl
  refine Sim.bind (sim30 c R) ?_
  rintro _ R rfl
  refine Sim.bind (sim31 c R _) ?_
  rintro _ R rfl
  refine Sim.bind (sim32 c R _) ?_
  rintro _ R rfl
  refine Sim.bind (sim33 c R _ _ rfl) ?_
  rintro _ R rfl
  refine Sim.bind (sim34 c R _) ?_
  rintro _ R rfl
  refine Sim.bind (sim35 c R _) ?_
  rintro _ R rfl
  refine Sim.bind (sim36 c R _ _) ?_
  rintro _ R rfl
  refine Sim.bind (sim37 c R _) ?_
  rintro _ R rfl
  refine Sim.bind (sim38 c R _) ?_
  rintro _ R rfl
  refine Sim.bind (sim39 c R _) ?_
  rintro _ R rfl
  refine Sim.bind (sim40 c R _ _ rfl) ?_
  rintro _ R rfl
  refine Sim.bind (sim41 c R _) ?_
  rintro _ R rfl
  refine Sim.bind (sim42 c R _ _) ?_
  rintro _ R rfl
  refine Sim.bind (sim43 c R) ?_
  rintro _ R rfl
  refine Sim.bind (sim44 c R _ rfl) ?_
  rintro _ R rfl
  refine Sim.bind (sim45 c R _ rfl) ?_
  rintro _ R rfl
  refine Sim.bind (sim46 c R _ _ _ rfl rfl) ?_
  rintro _ R rfl
  refine Sim.bind (sim47 c R _ _ rfl) ?_
  rintro _ R rfl
  refine Sim.bind (sim48 c R _) ?_
  rintro _ R rfl
  refine Sim.bind (sim49 c R _) ?_
  rintro _ R rfl
  refine Sim.bind (sim50 c R _ _ _ rfl rfl) ?_
  rintro _ R rfl
  refine Sim.bind (sim51 c R _) ?_
  rintro _ R rfl
  refine Sim.bind (sim52 c R _) ?_
  rintro _ R rfl
  refine Sim.bind (sim53 c R _) ?_
  rintro _ R rfl
  refine Sim.bind (sim54 c R _) ?_
  rintro _ R rfl
  refine Sim.bind (sim55 c R _) ?_
  rintro _ R rfl
  refine Sim.bind (sim56 c R _) ?_
  rintro _ R rfl
  refine Sim.bind (sim57 c R _ _ _ rfl) ?_
  rintro _ R rfl
  refine Sim.bind (sim58 c R _) ?_
  rintro _ R rfl
  refine Sim.bind (sim59 c R) ?_
  rintro _ R rfl
  refine Sim.bind (sim60 c R _ rfl) ?_
  rintro _ R rfl
  exact Sim.pure ⟨_, _, _, _, rfl⟩

/-- The operations of printed part 211. -/
def l211 : List Op := l61 ++ (l62 ++ (l63 ++ (l64 ++ (l65 ++ (l66 ++ (l67 ++ (l68 ++ (l69 ++ (l70 ++ (l71 ++ (l72 ++ (l73 ++ (l74 ++ (l75 ++ (l76 ++ (l77 ++ (l78 ++ (l79 ++ (l80 ++ (l81 ++ (l82 ++ (l83 ++ (l84 ++ (l85 ++ (l86 ++ (l87 ++ (l88 ++ (l89 ++ (l90 ++ (l91 ++ (l92 ++ (l93 ++ (l94 ++ (l95 ++ (l96 ++ (l97 ++ (l98 ++ (l99 ++ (l100 ++ (l101 ++ (l102 ++ (l103 ++ (l104 ++ (l105 ++ (l106 ++ (l107 ++ (l108 ++ (l109 ++ (l110 ++ (l111 ++ (l112 ++ (l113 ++ (l114 ++ (l115 ++ (l116 ++ (l117 ++ (l118 ++ (l119 ++ (l120 ++ ([]))))))))))))))))))))))))))))))))))))))))))))))))))))))))))))
theorem sim211 (c : Dev nD) (R : Regs F) (v5 : BitVec 32) (v19 : BitVec 32) (v33 : BitVec 32) (v44 : BitVec 32) (v1508 : FVec F S256x256 .f32) (v1509 : Vec F S1x256x256 .f32) (hv1508 : v1508 = k1_pay84 R.h R.w) (hv1509 : v1509 = R.p) :
    Sim c (ap k1_part211 c v5 v19 v33 v44 v1508 v1509) l211 R (fun a R' => ∃ w0 w1, a = ⟨k1_pay161 R'.r R'.p, w0, w1⟩) := by
  subst hv1508; subst hv1509
  rw [k1_part211_eq_skeleton]
  refine Sim.bind (sim61 c R _ _ rfl rfl) ?_
  rintro _ R rfl
  refine Sim.bind (sim62 c R _) ?_
  rintro _ R rfl
  refine Sim.bind (sim63 c R _) ?_
  rintro _ R rfl
  refine Sim.bind (sim64 c R _ _ _ rfl rfl) ?_
  rintro _ R ⟨_, rfl⟩
  refine Sim.bind (sim65 c R _ _) ?_
  rintro _ R rfl
  refine Sim.bind (sim66 c R _) ?_
  rintro _ R rfl
  refine Sim.bind (sim67 c R _ _ _ rfl) ?_
  rintro _ R rfl
  refine Sim.bind (sim68 c R _) ?_
  rintro _ R rfl
  refine Sim.bind (sim69 c R _) ?_
  rintro _ R rfl
  refine Sim.bind (sim70 c R _) ?_
  rintro _ R rfl
  refine Sim.bind (sim71 c R _) ?_
  rintro _ R rfl
  refine Sim.bind (sim72 c R _) ?_
  rintro _ R rfl
  refine Sim.bind (sim73 c R _ _) ?_
  rintro _ R ⟨_, rfl⟩
  refine Sim.bind (sim74 c R _) ?_
  rintro _ R rfl
  refine Sim.bind (sim75 c R) ?_
  rintro _ R rfl
  refine Sim.bind (sim76 c R _ rfl) ?_
  rintro _ R rfl
  refine Sim.bind (sim77 c R _ _ rfl) ?_
  rintro _ R rfl
  refine Sim.bind (sim78 c R _ _ rfl) ?_
  rintro _ R rfl
  refine Sim.bind (sim79 c R _) ?_
  rintro _ R rfl
  refine Sim.bind (sim80 c R _) ?_
  rintro _ R rfl
  refine Sim.bind (sim81 c R _ _ rfl) ?_
  rintro _ R ⟨_, _, rfl⟩
  refine Sim.bind (sim82 c R _ _ _) ?_
  rintro _ R rfl
  refine Sim.bind (sim83 c R _) ?_
  rintro _ R rfl
  refine Sim.bind (sim84 c R _) ?_
  rintro _ R rfl
  refine Sim.bind (sim85 c R _) ?_
  rintro _ R rfl
  refine Sim.bind (sim86 c R _) ?_
  rintro _ R ⟨_, rfl⟩
  refine Sim.bind (sim87 c R _ _) ?_
  rintro _ R rfl
  refine Sim.bind (sim88 c R _ _) ?_
  rintro _ R ⟨_, _, rfl⟩
  refine Sim.bind (sim89 c R _ _ _) ?_
  rintro _ R rfl
  refine Sim.bind (sim90 c R) ?_
  rintro _ R rfl
  refine Sim.bind (sim91 c R _ _ rfl rfl) ?_
  rintro _ R rfl
  refine Sim.bind (sim92 c R _ rfl) ?_
  rintro _ R rfl
  refine Sim.bind (sim93 c R _) ?_
  rintro _ R rfl
  refine Sim.bind (sim94 c R _) ?_
  rintro _ R rfl
  refine Sim.bind (sim95 c R _ _ rfl) ?_
  rintro _ R rfl
  refine Sim.bind (sim96 c R _) ?_
  rintro _ R rfl
  refine Sim.bind (sim97 c R _) ?_
  rintro _ R rfl
  refine Sim.bind (sim98 c R _ _ _ rfl) ?_
  rintro _ R rfl
  refine Sim.bind (sim99 c R _) ?_
  rintro _ R rfl
  refine Sim.bind (sim100 c R _) ?_
  rintro _ R rfl
  refine Sim.bind (sim101 c R _) ?_
  rintro _ R rfl
  refine Sim.bind (sim102 c R _) ?_
  rintro _ R rfl
  refine Sim.bind (sim103 c R _) ?_
  rintro _ R rfl
  refine Sim.bind (sim104 c R) ?_
  rintro _ R rfl
  refine Sim.bind (sim105 c R) ?_
  rintro _ R rfl
  refine Sim.bind (sim106 c R _ rfl) ?_
  rintro _ R rfl
  refine Sim.bind (sim107 c R _ _ rfl) ?_
  rintro _ R rfl
  refine Sim.bind (sim108 c R _ _ rfl) ?_
  rintro _ R ⟨_, rfl⟩
  refine Sim.bind (sim109 c R _ _ _ rfl) ?_
  rintro _ R rfl
  refine Sim.bind (sim110 c R _) ?_
  rintro _ R ⟨_, _, rfl⟩
  refine Sim.bind (sim111 c R _ _ _ _ rfl) ?_
  rintro _ R rfl
  refine Sim.bind (sim112 c R _) ?_
  rintro _ R ⟨_, _, _, _, rfl⟩
  refine Sim.bind (sim113 c R _ _ _ _ _ _ rfl) ?_
  rintro _ R rfl
  refine Sim.bind (sim114 c R _ _) ?_
  rintro _ R ⟨_, _, rfl⟩
  refine Sim.bind (sim115 c R _ _ _ _ rfl) ?_
  rintro _ R rfl
  refine Sim.bind (sim116 c R _ _) ?_
  rintro _ R ⟨_, rfl⟩
  refine Sim.bind (sim117 c R _ _ _ _ _ rfl rfl) ?_
  rintro _ R rfl
  refine Sim.bind (sim118 c R _ _) ?_
  rintro _ R ⟨_, _, _, _, rfl⟩
  refine Sim.bind (sim119 c R _ _ _ _ _ _ _ rfl) ?_
  rintro _ R rfl
  refine Sim.bind (sim120 c R _ _) ?_
  rintro _ R ⟨_, _, rfl⟩
  exact Sim.pure ⟨_, _, rfl⟩

/-- The operations of printed part 212. -/
def l212 : List Op := l121 ++ (l122 ++ (l123 ++ (l124 ++ (l125 ++ (l126 ++ (l127 ++ (l128 ++ (l129 ++ (l130 ++ (l131 ++ (l132 ++ (l133 ++ (l134 ++ (l135 ++ (l136 ++ (l137 ++ (l138 ++ (l139 ++ (l140 ++ (l141 ++ (l142 ++ (l143 ++ (l144 ++ (l145 ++ (l146 ++ (l147 ++ (l148 ++ (l149 ++ (l150 ++ (l151 ++ (l152 ++ (l153 ++ (l154 ++ (l155 ++ (l156 ++ (l157 ++ (l158 ++ (l159 ++ (l160 ++ (l161 ++ (l162 ++ (l163 ++ (l164 ++ (l165 ++ (l166 ++ (l167 ++ (l168 ++ (l169 ++ (l170 ++ (l171 ++ (l172 ++ (l173 ++ (l174 ++ (l175 ++ (l176 ++ (l177 ++ (l178 ++ (l179 ++ (l180 ++ ([]))))))))))))))))))))))))))))))))))))))))))))))))))))))))))))
theorem sim212 (c : Dev nD) (R : Regs F) (v5 : BitVec 32) (v19 : BitVec 32) (v33 : BitVec 32) (v44 : BitVec 32) (v3025 : FVec F S256x256 .f32) (v3026 : BitVec 32) (v3028 : BitVec 32) (hv3025 : v3025 = k1_pay161 R.r R.p) :
    Sim c (ap k1_part212 c v5 v19 v33 v44 v3025 v3026 v3028) l212 R (fun a R' => ∃ w0 w1 w2, a = ⟨w0, w1, w2⟩) := by
  subst hv3025
  rw [k1_part212_eq_skeleton]
  refine Sim.bind (sim121 c R _ _ _ _ _ rfl) ?_
  rintro _ R ⟨⟨_, rfl⟩, hr, hp⟩
  refine Sim.bind (sim122 c R _ _ _ (by rw [hr, hp])) ?_
  rintro _ R rfl
  refine Sim.bind (sim123 c R _ _ _ _ rfl rfl) ?_
  rintro _ R ⟨_, rfl⟩
  refine Sim.bind (sim124 c R _ _ _ _ rfl) ?_
  rintro _ R ⟨_, _, _, rfl⟩
  refine Sim.bind (sim125 c R _ _ _ _ _) ?_
  rintro _ R rfl
  refine Sim.bind (sim126 c R _ _) ?_
  rintro _ R rfl
  refine Sim.bind (sim127 c R _ _) ?_
  rintro _ R ⟨_, rfl⟩
  refine Sim.bind (sim128 c R _ _ _) ?_
  rintro _ R ⟨_, _, rfl⟩
  refine Sim.bind (sim129 c R _ _ _ _) ?_
  rintro _ R rfl
  refine Sim.bind (sim130 c R _ _) ?_
  rintro _ R rfl
  refine Sim.bind (sim131 c R _ _) ?_
  rintro _ R ⟨_, _, _, rfl⟩
  refine Sim.bind (sim132 c R _ _ _ _ _) ?_
  rintro _ R ⟨_, _, _, _, rfl⟩
  refine Sim.bind (sim133 c R _ _ _ _ _ _) ?_
  rintro _ R ⟨_, rfl⟩
  refine Sim.bind (sim134 c R _ _ _ _ rfl) ?_
  rintro _ R ⟨_, rfl⟩
  refine Sim.bind (sim135 c R _ _ _) ?_
  rintro _ R ⟨_, _, rfl⟩
  refine Sim.bind (sim136 c R _ _ _ _) ?_
  rintro _ R ⟨_, _, _, _, rfl⟩
  refine Sim.bind (sim137 c R _ _ _ _ _ _) ?_
  rintro _ R ⟨_, _, _, _, rfl⟩
  refine Sim.bind (sim138 c R _ _ _ _ _ _) ?_
  rintro _ R rfl
  refine Sim.bind (sim139 c R _ _) ?_
  rintro _ R rfl
  refine Sim.bind (sim140 c R _ _) ?_
  rintro _ R rfl
  refine Sim.bind (sim141 c R _ _) ?_
  rintro _ R ⟨_, _, _, rfl⟩
  refine Sim.bind (sim142 c R _ _ _ _ _) ?_
  rintro _ R ⟨_, rfl⟩
  refine Sim.bind (sim143 c R _ _ _) ?_
  rintro _ R rfl
  refine Sim.bind (sim144 c R _ _) ?_
  rintro _ R ⟨_, rfl⟩
  refine Sim.bind (sim145 c R _ _ _) ?_
  rintro _ R ⟨_, rfl⟩
  refine Sim.bind (sim146 c R _ _ _) ?_
  rintro _ R ⟨_, rfl⟩
  refine Sim.bind (sim147 c R _ _ _ _ rfl) ?_
  rintro _ R rfl
  refine Sim.bind (sim148 c R _ _) ?_
  rintro _ R rfl
  refine Sim.bind (sim149 c R _ _) ?_
  rintro _ R ⟨_, _, rfl⟩
  refine Sim.bind (sim150 c R _ _ _ _) ?_
  rintro _ R ⟨_, _, rfl⟩
  refine Sim.bind (sim151 c R _ _ _ _) ?_
  rintro _ R rfl
  refine Sim.bind (sim152 c R _ _ _ rfl) ?_
  rintro _ R rfl
  refine Sim.bind (sim153 c R _ _) ?_
  rintro _ R rfl
  refine Sim.bind (sim154 c R _ _) ?_
  rintro _ R ⟨_, _, _, _, _, rfl⟩
  refine Sim.bind (sim155 c R _ _ _ _ _ _ _) ?_
  rintro _ R ⟨_, _, _, _, _, rfl⟩
  refine Sim.bind (sim156 c R _ _ _ _ _ _ _) ?_
  rintro _ R rfl
  refine Sim.bind (sim157 c R _ _) ?_
  rintro _ R rfl
  refine Sim.bind (sim158 c R _ _) ?_
  rintro _ R rfl
  refine Sim.bind (sim159 c R _ _) ?_
  rintro _ R ⟨_, _, rfl⟩
  refine Sim.bind (sim160 c R _ _ _ _) ?_
  rintro _ R ⟨_, rfl⟩
  refine Sim.bind (sim161 c R _ _ _) ?_
  rintro _ R rfl
  refine Sim.bind (sim162 c R _ _) ?_
  rintro _ R ⟨_, _, rfl⟩
  refine Sim.bind (sim163 c R _ _ _ _) ?_
  rintro _ R ⟨_, _, _, rfl⟩
  refine Sim.bind (sim164 c R _ _ _ _ _) ?_
  rintro _ R ⟨_, _, rfl⟩
  refine Sim.bind (sim165 c R _ _ _ _ _ rfl) ?_
  rintro _ R rfl
  refine Sim.bind (sim166 c R _ _) ?_
  rintro _ R ⟨_, rfl⟩
  refine Sim.bind (sim167 c R _ _ _) ?_
  rintro _ R ⟨_, _, _, rfl⟩
  refine Sim.bind (sim168 c R _ _ _ _ _) ?_
  rintro _ R ⟨_, _, _, rfl⟩
  refine Sim.bind (sim169 c R _ _ _ _ _) ?_
  rintro _ R rfl
  refine Sim.bind (sim170 c R _ _) ?_
  rintro _ R rfl
  refine Sim.bind (sim171 c R _ _) ?_
  rintro _ R rfl
  refine Sim.bind (sim172 c R _ _) ?_
  rintro _ R ⟨_, _, _, _, rfl⟩
  refine Sim.bind (sim173 c R _ _ _ _ _ _) ?_
  rintro _ R ⟨_, _, _, rfl⟩
  refine Sim.bind (sim174 c R _ _ _ _ _) ?_
  rintro _ R rfl
  refine Sim.bind (sim175 c R _ _) ?_
  rintro _ R rfl
  refine Sim.bind (sim176 c R _ _ _) ?_
  rintro _ R ⟨_, rfl⟩
  refine Sim.bind (sim177 c R _ _ _) ?_
  rintro _ R ⟨_, _, rfl⟩
  refine Sim.bind (sim178 c R _ _ _ _) ?_
  rintro _ R rfl
  refine Sim.bind (sim179 c R _ _) ?_
  rintro _ R rfl
  refine Sim.bind (sim180 c R _ _) ?_
  rintro _ R ⟨_, _, _, rfl⟩
  exact Sim.pure ⟨_, _, _, rfl⟩

/-- The operations after printed part 210. -/
def lRest : List Op := l211 ++ (l212 ++ (l181 ++ (l182 ++ (l183 ++ (l184 ++ (l185 ++ (l186 ++ (l187 ++ (l188 ++ (l189 ++ (l190 ++ (l191 ++ (l192 ++ (l193 ++ (l194 ++ (l195 ++ (l196 ++ (l197 ++ (l198 ++ (l199 ++ (l200 ++ (l201 ++ (l202 ++ (l203 ++ (l204 ++ (l205 ++ (l206 ++ (l207 ++ (l208 ++ (l209 ++ ([.loadGath 7 6, .loadOut 7 6, .storeOut 7 6])))))))))))))))))))))))))))))))
theorem body_run (R : Regs F) :
    ap (cc1__fused_body (F := F)) = .op .deviceId fun c => run c (l210 ++ lRest) R fun _ => .ret ⟨⟩ := by
  rw [cc1__fused_body_eq_skeleton]
  refine (sim210 _ (fun c R' => run c lRest R' fun _ => .ret ⟨⟩) R ?_).trans ?_
  · rintro c _ R ⟨_, _, _, _, rfl⟩
    refine Sim.run (Q := fun _ _ => True) ?_
    refine Sim.bind (sim211 c R _ _ _ _ _ _ rfl rfl) ?_
    rintro _ R ⟨_, _, rfl⟩
    refine Sim.bind (sim212 c R _ _ _ _ _ _ _ rfl) ?_
    rintro _ R ⟨_, _, _, rfl⟩
    refine Sim.bind (sim181 c R _ _ _ _ _) ?_
    rintro _ R ⟨_, _, _, _, rfl⟩
    refine Sim.bind (sim182 c R _ _ _ _ _ _) ?_
    rintro _ R ⟨_, rfl⟩
    refine Sim.bind (sim183 c R _ _ _ _ rfl) ?_
    rintro _ R ⟨_, rfl⟩
    refine Sim.bind (sim184 c R _ _ _) ?_
    rintro _ R ⟨_, _, rfl⟩
    refine Sim.bind (sim185 c R _ _ _ _) ?_
    rintro _ R ⟨_, _, _, _, rfl⟩
    refine Sim.bind (sim186 c R _ _ _ _ _ _) ?_
    rintro _ R ⟨_, _, _, _, rfl⟩
    refine Sim.bind (sim187 c R _ _ _ _ _ _) ?_
    rintro _ R rfl
    refine Sim.bind (sim188 c R _ _) ?_
    rintro _ R rfl
    refine Sim.bind (sim189 c R _ _) ?_
    rintro _ R rfl
    refine Sim.bind (sim190 c R _ _) ?_
    rintro _ R ⟨_, _, _, rfl⟩
    refine Sim.bind (sim191 c R _ _ _ _ _) ?_
    rintro _ R ⟨_, rfl⟩
    refine Sim.bind (sim192 c R _ _ _) ?_
    rintro _ R rfl
    refine Sim.bind (sim193 c R _ _) ?_
    rintro _ R ⟨_, rfl⟩
    refine Sim.bind (sim194 c R _ _ _) ?_
    rintro _ R ⟨_, rfl⟩
    refine Sim.bind (sim195 c R _ _ _) ?_
    rintro _ R ⟨_, rfl⟩
    refine Sim.bind (sim196 c R _ _ _ _ rfl) ?_
    rintro _ R rfl
    refine Sim.bind (sim197 c R _ _) ?_
    rintro _ R rfl
    refine Sim.bind (sim198 c R _ _) ?_
    rintro _ R ⟨_, _, rfl⟩
    refine Sim.bind (sim199 c R _ _ _ _) ?_
    rintro _ R ⟨_, _, rfl⟩
    refine Sim.bind (sim200 c R _ _ _ _) ?_
    rintro _ R rfl
    refine Sim.bind (sim201 c R _ _ _ rfl) ?_
    rintro _ R rfl
    refine Sim.bind (sim202 c R _ _) ?_
    rintro _ R rfl
    refine Sim.bind (sim203 c R _ _) ?_
    rintro _ R rfl
    refine Sim.bind (sim204 c R _ _) ?_
    rintro _ R rfl
    refine Sim.bind (sim205 c R _ _) ?_
    rintro _ R ⟨_, _, rfl⟩
    refine Sim.bind (sim206 c R _ _ _ _) ?_
    rintro _ R ⟨_, _, _, _, rfl⟩
    refine Sim.bind (sim207 c R _ _ _ _ _ _) ?_
    rintro _ R ⟨_, _, _, rfl⟩
    refine Sim.bind (sim208 c R _ _ _ _ _) ?_
    rintro _ R ⟨_, _, _, _, rfl⟩
    refine Sim.bind (sim209 c R _ _ _ _ _ _) ?_
    rintro _ R ⟨_, _, _, _, rfl⟩
    exact Sim.of_ex (W := Unit) (fun _ _ => ⟨⟩) ⟨(), fun K => rfl⟩ fun _ _ => trivial
  · simp only [run_append]

/-! ## The body's operations in order -/

/-- All the pipelines. -/
def qs : List (Fin 8) := [0, 1, 2, 3, 4, 5, 6, 7]

/-- The entry: the first fetches of the second weight and the handshake with both neighbours. -/
def opsStart : List Op :=
  [.w2start 0 0, .w2start 0 1, .w2start 1 0, .w2start 1 1, .signal 0, .signal 1, .barWait, .w2wait 0 0, .w2wait 1 0]

/-- The first piece of a pipeline, sent off. -/
def opsFirst (q : Fin 8) : List Op := [.loadH q, .loadW (dirOf q) 0, .loadSend q, .storeSend0 q, .sendRS q 0]

/-- The fetches around reduce-scatter step `s`. -/
def opsFetch (s : Fin 7) : List Op :=
  (if h : s.val + 2 < 8 then [.w2start 0 ⟨s.val + 2, h⟩, .w2start 1 ⟨s.val + 2, h⟩] else []) ++
    [.w2wait 0 ⟨s.val + 1, by omega⟩, .w2wait 1 ⟨s.val + 1, by omega⟩]

/-- The piece of the chunk a pipeline adds to at step `s`. -/
def opsPiece (s : Fin 7) (q : Fin 8) : List Op :=
  [.loadH q, .loadW (dirOf q) (par ⟨s.val + 1, by omega⟩), .loadPiece q, .storePiece q]

/-- What a pipeline does once its neighbour's sum of step `s` is here. -/
def opsAdd (s : Fin 7) (q : Fin 8) : List Op :=
  [.waitSendRS q s, .waitRecvRS q s, .loadRecv q s, .loadPiece q] ++
    (if h : s.val + 1 < 7 then [.loadSend q, .storeSendN q, .sendRS q ⟨s.val + 1, h⟩]
      else [.loadGathOwn q, .storeGath q, .sendAG q 0, .loadOutOwn q, .storeOutOwn q])

/-- A gather step of a pipeline. -/
def opsGather (t : Fin 7) (q : Fin 8) : List Op :=
  [.waitSendAG q t, .waitRecvAG q t] ++ (if h : t.val + 1 < 7 then [.sendAG q ⟨t.val + 1, h⟩] else []) ++
    [.loadGath q t, .loadOut q t, .storeOut q t]

def opsStep (s : Fin 7) : List Op := opsFetch s ++ (qs.flatMap (opsPiece s) ++ qs.flatMap (opsAdd s))

def steps : List (Fin 7) := [0, 1, 2, 3, 4, 5, 6]

def opsAll : List Op :=
  opsStart ++ (qs.flatMap opsFirst ++ (steps.flatMap opsStep ++ steps.flatMap fun t => qs.flatMap (opsGather t)))

theorem ops_eq : l210 ++ lRest = opsAll := by rfl

end Cert.KernelIdeal
-- ==== Proof.Talk.lean ====
/-
The fused call's body on one device: what each pipeline holds between its operations, and the run of the whole list.
-/
module

public import proofs.«01_k».proof.Proof.Steps
public import proofs.«01_k».proof.Proof.Body

@[expose] public section

set_option maxRecDepth 16384

noncomputable section

namespace Cert.KernelIdeal

open Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Counting through a finite range -/

def frm (N n : ℕ) : Finset (Fin N) := Finset.univ.filter fun i => n ≤ i.val
def upto (N n : ℕ) : Finset (Fin N) := Finset.univ.filter fun i => i.val < n

theorem frm_step {N : ℕ} (i : Fin N) : frm N i.val = insert i (frm N (i.val + 1)) := by
  ext j; simp only [frm, Finset.mem_filter, Finset.mem_univ, true_and, Finset.mem_insert]
  constructor
  · intro h
    by_cases e : j = i
    · exact .inl e
    · right; have : j.val ≠ i.val := fun h' => e (Fin.ext h'); omega
  · rintro (rfl | h) <;> omega
theorem upto_step {N : ℕ} (i : Fin N) : upto N (i.val + 1) = insert i (upto N i.val) := by
  ext j; simp only [upto, Finset.mem_filter, Finset.mem_univ, true_and, Finset.mem_insert]
  constructor
  · intro h
    by_cases e : j = i
    · exact .inl e
    · right; have : j.val ≠ i.val := fun h' => e (Fin.ext h'); omega
  · rintro (rfl | h) <;> omega
theorem frm_zero (N : ℕ) : frm N 0 = Finset.univ := by ext j; simp [frm]
theorem frm_end (N : ℕ) : frm N N = ∅ := by ext j; simp [frm]
theorem upto_zero (N : ℕ) : upto N 0 = ∅ := by ext j; simp [upto]
theorem upto_end (N : ℕ) : upto N N = Finset.univ := by ext j; simp [upto]

theorem bigSep_frm {N : ℕ} (i : Fin N) (Φ : Fin N → sProp 𝕄) : bigSep (frm N i.val) Φ = iprop(Φ i ∗ bigSep (frm N (i.val + 1)) Φ) := by
  rw [frm_step, bigSep_insert (by simp [frm])]; rfl
theorem bigSep_upto {N : ℕ} (i : Fin N) (Φ : Fin N → sProp 𝕄) : bigSep (upto N (i.val + 1)) Φ = iprop(Φ i ∗ bigSep (upto N i.val) Φ) := by
  rw [upto_step, bigSep_insert (by simp [upto])]; rfl

/-- Take one member out, and put one back. -/
theorem bigSep_acc {I : Type} [Fintype I] [DecidableEq I] (i : I) (Φ Ψ : I → sProp 𝕄) (h : ∀ j, j ≠ i → Φ j ⊢ Ψ j) :
    bigSep Finset.univ Φ ⊢ iprop(Φ i ∗ (Ψ i -∗ bigSep Finset.univ Ψ)) := by
  rw [bigSep_univ_at Φ i, bigSep_univ_at Ψ i]
  iintro ⟨H, Hr⟩
  isplitl [H]; · iexact H
  iintro H
  isplitl [H]; · iexact H
  iapply (show bigSep (Finset.univ.erase i) Φ ⊢ bigSep (Finset.univ.erase i) Ψ from bigSep_mono fun j hj => h j (Finset.ne_of_mem_erase hj)); iexact Hr

/-! ## Loads and stores of tiles -/

section Mem

variable (c : Dev nD) {sp : CoreSpace} {s : Shape} {e : EltTy} {m : Memref sig .tc sp s e} {r : Rect s}

theorem ldM (hr : ∀ a, r.stride a = 1) {hl : m.view.LoadsAt r.toLoadRect} {k : (r.shape.Idx → Elt F e) → P1 F PUnit} {q : PosShare TreeShare}
    {M : Memref sig .tc (.core sp) r.shape e} (hM : m.slice r hr = M) {X : r.shape.Idx → Elt F e} {Φ : PUnit → sProp 𝕄} :
    (ownsTc c M q X) ⊢ iprop((ownsTc c M q X -∗ WP c (k X) Φ) -∗ WP c (.op (.load m r.toLoadRect hl) k) Φ) := by
  subst hM; exact ld c hr

theorem stM (hr : ∀ a, r.stride a = 1) {w : r.shape.Idx → Elt F e} {hx : (m.access r).Stores Finset.univ} {hm : (Finset.univ : Finset r.shape.Idx) = Finset.univ ∨ ∀ a, r.stride a = 1}
    {k : PUnit → P1 F PUnit} {M : Memref sig .tc (.core sp) r.shape e} (hM : m.slice r hr = M) {X Y : r.shape.Idx → Elt F e} (hw : w = Y) {Φ : PUnit → sProp 𝕄} :
    (ownsTc c M fullShare X) ⊢ iprop((ownsTc c M fullShare Y -∗ WP c (k ⟨⟩) Φ) -∗ WP c (.op (.store m r w Finset.univ hx hm) k) Φ) := by
  subst hM hw; exact st c hr

theorem ldQ (hr : ∀ a, r.stride a = 1) {hl : m.view.LoadsAt r.toLoadRect} {k : (r.shape.Idx → Elt F e) → P1 F PUnit} {q : PosShare TreeShare}
    {s' : Shape} (hsq : r.shape.Squeezes s') (hc : s'.ShapeCasts r.shape) {X : s'.Idx → Elt F e} {Φ : PUnit → sProp 𝕄} :
    (ownsTc c ((m.slice r hr).squeeze s' hsq) q X) ⊢ iprop((ownsTc c ((m.slice r hr).squeeze s' hsq) q X -∗ WP c (k (shapeCast r.shape X hc)) Φ)
      -∗ WP c (.op (.load m r.toLoadRect hl) k) Φ) := by
  rw [owns_squeeze c _ hsq q X hc]; exact ld c hr

theorem stQ (hr : ∀ a, r.stride a = 1) {w : r.shape.Idx → Elt F e} {hx : (m.access r).Stores Finset.univ} {hm : (Finset.univ : Finset r.shape.Idx) = Finset.univ ∨ ∀ a, r.stride a = 1}
    {k : PUnit → P1 F PUnit} {s' : Shape} (hsq : r.shape.Squeezes s') (hc : s'.ShapeCasts r.shape) {X Y : s'.Idx → Elt F e} (hw : w = shapeCast r.shape Y hc) {Φ : PUnit → sProp 𝕄} :
    (ownsTc c ((m.slice r hr).squeeze s' hsq) fullShare X) ⊢ iprop((ownsTc c ((m.slice r hr).squeeze s' hsq) fullShare Y -∗ WP c (k ⟨⟩) Φ)
      -∗ WP c (.op (.store m r w Finset.univ hx hm) k) Φ) := by
  subst hw
  rw [owns_squeeze c _ hsq fullShare X hc, owns_squeeze c _ hsq fullShare Y hc]; exact st c hr

/-- Two shares of a tile. -/
theorem owns_halves {sp : Space} {s : Shape} {e : EltTy} (m : Memref sig .tc sp s e) (X : s.Idx → Elt F e) :
    (ownsTc c m fullShare X : sProp 𝕄) ⊢ iprop(ownsTc c m fullShare.left X ∗ ownsTc c m fullShare.right X) := by
  iintro H
  ihave H' := (show (ownsTc c m fullShare X : sProp 𝕄) ⊢ iprop(∃ f, ⌜m.view.read (Elt F) f = X⌝ ∗ (m.view.loc (c : Thread nD τ) ↦[m.view.set]{fullShare} f)) from .rfl) $$ H
  icases H' with ⟨%f, %hf, H⟩
  ihave H' := ((pointsTo_share (PosShare.mem_left_op_right fullShare)).1) $$ H
  icases H' with ⟨H1, H2⟩
  subst hf
  isplitl [H1]
  · iapply (owns_intro (c : Thread nD τ) m fullShare.left f); iexact H1
  · iapply (owns_intro (c : Thread nD τ) m fullShare.right f); iexact H2

theorem owns_whole_of_halves {sp : Space} {s : Shape} {e : EltTy} (m : Memref sig .tc sp s e) (X Y : s.Idx → Elt F e) :
    iprop(ownsTc c m fullShare.left X ∗ ownsTc c m fullShare.right Y) ⊢ (ownsTc c m fullShare X : sProp 𝕄) := by
  iintro ⟨H1, H2⟩
  ihave H1' := (show (ownsTc c m fullShare.left X : sProp 𝕄) ⊢ iprop(∃ f, ⌜m.view.read (Elt F) f = X⌝ ∗ (m.view.loc (c : Thread nD τ) ↦[m.view.set]{fullShare.left} f)) from .rfl) $$ H1
  ihave H2' := (show (ownsTc c m fullShare.right Y : sProp 𝕄) ⊢ iprop(∃ f, ⌜m.view.read (Elt F) f = Y⌝ ∗ (m.view.loc (c : Thread nD τ) ↦[m.view.set]{fullShare.right} f)) from .rfl) $$ H2
  icases H1' with ⟨%f, %hf, H1⟩
  icases H2' with ⟨%g, -, H2⟩
  ihave %hag := (pointsTo_agree) $$ [H1 H2]
  · isplitl [H1]; · iexact H1
    iexact H2
  subst hf
  iapply (owns_intro (c : Thread nD τ) m fullShare f)
  iapply ((pointsTo_share (PosShare.mem_left_op_right fullShare)).2)
  isplitl [H1]; · iexact H1
  rw [pointsTo_congr (f := f) (g := g) fun i hi => (hag i (Finset.mem_inter.mpr ⟨hi, hi⟩)).1]
  iexact H2

end Mem

/-! ## Tiles of the two square buffers -/

/-- A tile of the output. -/
abbrev outM (q j : Fin 8) : Memref sig .tc .vmem S256x256 .f32 := aOut.slice (gridR q j) (fun _ => rfl)

/-- A lane of the piece buffer. -/
abbrev pieceM (q : Fin 8) : Memref sig .tc .vmem S256x256 .f32 := (aPiece.slice (laneR q) (fun _ => rfl)).squeeze S256x256 squeezes_S1x256x256_S256x256

section Eqs

variable (q : Fin 8) (c : Dev nD) (t : Fin 7)

theorem agM_eq : agM q c t = gathM q (ck q c (7 + t.val)) := Memref.slice_unit_congr _ (agOff_eq q c t) _ _ _ _
theorem ownM_eq : aGath.slice (ownR q c) (fun _ => rfl) = gathM q (ck q c 7) := Memref.slice_unit_congr _ (ownOff_eq q c) _ _ _ _
theorem arM_eq : aGath.slice (arR q c t) (fun _ => rfl) = gathM q (ck q c t.val) := Memref.slice_unit_congr _ (arOff_eq q c t) _ _ _ _
theorem ownO_eq : aOut.slice (ownR q c) (fun _ => rfl) = outM q (ck q c 7) := Memref.slice_unit_congr _ (ownOff_eq q c) _ _ _ _
theorem arO_eq : aOut.slice (arR q c t) (fun _ => rfl) = outM q (ck q c t.val) := Memref.slice_unit_congr _ (arOff_eq q c t) _ _ _ _
theorem wkM_eq (d : Fin 2) (k : Fin 8) : wM (chunk d c k.val) = wkM d c k := (Memref.slice_unit_congr aW (wOff_eq d c k) (wOff_inb d c k) (wInb _) (fun _ => rfl) (fun _ => rfl)).symm

theorem srcM_rs : srcM q (hRS t) c = sendM q := if_pos t.isLt
theorem srcM_ag : srcM q (hAG t) c = gathM q (ck q c (7 + t.val)) := if_neg (by simp [hAG])
theorem dstM_rs : dstM q (hRS t) c = recvM q t := dif_pos t.isLt
theorem dstM_ag : dstM q (hAG t) c = gathM q (ck q c t.val) := by
  unfold dstM
  rw [dif_neg (by simp [hAG]), show (hAG t).val - 7 = t.val from by simp [hAG]]
theorem ck_tgt_ag : ck q (tgt q c) t.val = ck q c (7 + t.val) := by revert q c t; decide +kernel
theorem srcM_ag' : srcM q (hAG t) c = agM q c t := by rw [srcM_ag, agM_eq]
theorem dstM_ag' : dstM q (hAG t) (tgt q c) = agM q c t := by rw [dstM_ag, agM_eq, ck_tgt_ag]
/-- What arrives at a gather step is what is sent on at the next. -/
theorem srcM_next (h : t.val + 1 < 7) : srcM q (hAG ⟨t.val + 1, h⟩) c = dstM q (hAG t) c := by
  rw [srcM_ag, dstM_ag, show 7 + (⟨t.val + 1, h⟩ : Fin 7).val = 8 + t.val from by simp; omega, ck_add8]
theorem share_rs : hopShare (hRS t) = fullShare := if_pos t.isLt
theorem share_ag : hopShare (hAG t) = fullShare.left := if_neg (by simp [hAG])

end Eqs

theorem dotV_cast (h : Vec F S256x4096 .bf16) (w : Vec F S4096x256 .bf16) (hc : S4096x256.ShapeCasts S1x1x4096x256) :
    dotV h (shapeCast S1x1x4096x256 w hc) = dotT h w := by
  unfold dotV dotT; rw [shapeCast_shapeCast]
theorem sumV_cast (r : Tile16 F) (p : Tile32 F) (hc : S256x256.ShapeCasts S1x1x256x256) (hc' : S256x256.ShapeCasts S1x256x256) :
    sumV (shapeCast S1x1x256x256 r hc) (shapeCast S1x256x256 p hc') = sumT r p := by
  unfold sumV sumT; rw [shapeCast_shapeCast, shapeCast_shapeCast]
theorem tileB_eq (v : Tile32 F) : tileB v = truncT v := shapeCast_self _ _

theorem cast_slot : S4096x256.ShapeCasts S1x1x4096x256 := squeezes_S1x1x4096x256_S4096x256.numel_eq.symm
theorem cast_recv : S256x256.ShapeCasts S1x1x256x256 := squeezes_S1x1x256x256_S256x256.numel_eq.symm
theorem cast_lane : S256x256.ShapeCasts S1x256x256 := squeezes_S1x256x256_S256x256.numel_eq.symm

/-! ## What a pipeline holds -/

section Run

variable (H : Dev nD → S2048x4096.Idx → Elt F .bf16) (W : Dev nD → S4096x2048.Idx → Elt F .bf16)
variable (κ : GSem nD τ sig → ℕ) (c : Dev nD)

/-- A tile at some contents. -/
def any {sp : Space} {s : Shape} {e : EltTy} (m : Memref sig .tc sp s e) : sProp 𝕄 := iprop(∃ X, ownsTc c m fullShare X)

/-- The buffer a hop that is over leaves behind: what arrived, in the reduce-scatter; what was sent, in the gather. -/
def spare (q : Fin 8) (h : Fin 14) : Memref sig .tc .vmem S256x256 .bf16 := if h.val < 7 then dstM q h c else srcM q h c

theorem spare_rs (q : Fin 8) (t : Fin 7) : spare c q (hRS t) = dstM q (hRS t) c := if_pos t.isLt
theorem spare_ag (q : Fin 8) (t : Fin 7) : spare c q (hAG t) = srcM q (hAG t) c := if_neg (by simp [hAG])

/-- A hop that is over. -/
def done (q : Fin 8) (h : Fin 14) : sProp 𝕄 :=
  iprop(atPos ER (sCell c q h) 1 ∅ 0 ∗ atPos ER (rCell c q h) 1 ∅ 0 ∗ any c (spare c q h))

/-- The first `n` hops over, none under way. -/
def base (q : Fin 8) (n : ℕ) : sProp 𝕄 :=
  iprop(bigSep (frm 14 n) (hop c q) ∗ bigSep (frm 14 n) (rcv c q) ∗ bigSep (upto 14 n) (done c q))

/-- Hop `h` under way. -/
def com (q : Fin 8) (h : Fin 14) : sProp 𝕄 :=
  iprop(sCred c q h ∗ bigSep (frm 14 (h.val + 1)) (hop c q) ∗ bigSep (frm 14 h.val) (rcv c q) ∗ bigSep (upto 14 h.val) (done c q))

theorem base_send (q : Fin 8) (h : Fin 14) : base (F := F) c q h.val ⊢ iprop(hop c q h ∗ (sCred c q h -∗ com c q h)) := by
  unfold base com
  rw [bigSep_frm h (hop c q)]
  iintro ⟨⟨Hh, H1⟩, H2, H3⟩
  isplitl [Hh]; · iexact Hh
  iintro Hc
  isplitl [Hc]; · iexact Hc
  isplitl [H1]; · iexact H1
  isplitl [H2]; · iexact H2
  iexact H3

theorem com_wait (q : Fin 8) (h : Fin 14) : com (F := F) c q h ⊢ iprop(sCred c q h ∗ rcv c q h ∗ (done c q h -∗ base c q (h.val + 1))) := by
  unfold base com
  rw [bigSep_frm h (rcv c q), bigSep_upto h (done c q)]
  iintro ⟨Hc, H1, ⟨Hr, H2⟩, H3⟩
  isplitl [Hc]; · iexact Hc
  isplitl [Hr]; · iexact Hr
  iintro Hd
  isplitl [H1]; · iexact H1
  isplitl [H2]; · iexact H2
  isplitl [Hd]; · iexact Hd
  iexact H3

/-- The finished tile of chunk `k` places behind. -/
def outV (q : Fin 8) (k : Fin 8) : Tile32 F :=
  if k.val = 7 then acc H W q 7 c else extf .f32 (snd H W q (7 + k.val) (src q c)) bitsLt_bf16_f32

/-- The output's tiles of a pipeline, those of `S` finished. -/
def outT (q : Fin 8) (S : Fin 8 → Prop) : sProp 𝕄 :=
  bigSep Finset.univ fun k : Fin 8 => iprop(∃ X, ⌜S k → X = outV H W c q k⌝ ∗ ownsTc c (outM q (ck q c k.val)) fullShare X)

theorem outT_acc (q : Fin 8) (k : Fin 8) (S S' : Fin 8 → Prop) (hS : ∀ j, j ≠ k → S' j → S j) :
    outT H W c q S ⊢ iprop(any c (outM q (ck q c k.val)) ∗ (ownsTc c (outM q (ck q c k.val)) fullShare (outV H W c q k) -∗ outT H W c q S')) := by
  unfold outT any
  refine (bigSep_acc k (fun k : Fin 8 => iprop(∃ X, ⌜S k → X = outV H W c q k⌝ ∗ ownsTc c (outM q (ck q c k.val)) fullShare X))
    (fun k : Fin 8 => iprop(∃ X, ⌜S' k → X = outV H W c q k⌝ ∗ ownsTc c (outM q (ck q c k.val)) fullShare X)) fun j hj => ?_).trans ?_
  · iintro ⟨%X, %hX, HX⟩
    iexists X
    isplitr; · ipureintro; exact fun h => hX (hS j hj h)
    iexact HX
  · iintro ⟨⟨%X, -, HX⟩, Hk⟩
    isplitl [HX]; · iexists X; iexact HX
    iintro HX
    iapply Hk
    iexists (outV H W c q k)
    isplitr; · ipureintro; exact fun _ => rfl
    iexact HX

/-- Before its first piece. -/
def St0 (q : Fin 8) : sProp 𝕄 :=
  iprop(base c q 0 ∗ any c (sendM q) ∗ any c (pieceM q) ∗ any c (gathM q (ck q c 7)) ∗ outT H W c q fun _ => False)
/-- Hop `s` of the reduce-scatter under way. -/
def St1 (q : Fin 8) (s : Fin 7) : sProp 𝕄 :=
  iprop(com c q (hRS s) ∗ any c (pieceM q) ∗ any c (gathM q (ck q c 7)) ∗ outT H W c q fun _ => False)
/-- The same, with the next piece computed. -/
def St2 (q : Fin 8) (s : Fin 7) : sProp 𝕄 :=
  iprop(com c q (hRS s) ∗ ownsTc c (pieceM q) fullShare (piece H W q c (s.val + 1)) ∗ any c (gathM q (ck q c 7)) ∗ outT H W c q fun _ => False)
/-- Hop `t` of the gather under way. -/
def St3 (q : Fin 8) (t : Fin 7) : sProp 𝕄 :=
  iprop(com c q (hAG t) ∗ any c (pieceM q) ∗ any c (sendM q) ∗ ownsTc c (srcM q (hAG t) c) fullShare.right (snd H W q (7 + t.val) c)
    ∗ outT H W c q fun k => k.val < t.val ∨ k.val = 7)
/-- All hops over. -/
def St4 (q : Fin 8) : sProp 𝕄 :=
  iprop(base c q 14 ∗ any c (pieceM q) ∗ any c (sendM q) ∗ any c (dstM q (hAG 6) c) ∗ outT H W c q fun _ => True)

/-- The device's `h`, and the state of the second weight's slots once chunk `n` is there. -/
def hP : sProp 𝕄 := ((c : Thread nD τ).loc cc1_stg0_0) ↦{fullShare} H c
def slot (n : ℕ) : Fin 2 := ⟨n % 2, Nat.mod_lt _ (by decide)⟩
def rdy (n : ℕ) : sProp 𝕄 := iprop(ready W c 0 (slot n) (chunk 0 c n) ∗ ready W c 1 (slot n) (chunk 1 c n))
def flying (n : ℕ) : sProp 𝕄 := iprop(fly W c 0 (slot n) (chunk 0 c n) ∗ fly W c 1 (slot n) (chunk 1 c n))
def idles (n : ℕ) : sProp 𝕄 := iprop(idle W c 0 (slot n) ∗ idle W c 1 (slot n))
def ws (n : ℕ) : sProp 𝕄 := iprop(rdy W c n ∗ if n < 7 then flying W c (n + 1) else idles W c (n + 1))

theorem rdy_idles (n : ℕ) : rdy W c n ⊢ idles W c (n + 2) := by
  unfold rdy idles
  rw [show slot (n + 2) = slot n from Fin.ext (by simp [slot])]
  iintro ⟨H1, H2⟩
  isplitl [H1]
  · iapply (ready_idle W c 0 (slot n) (chunk 0 c n)); iexact H1
  · iapply (ready_idle W c 1 (slot n) (chunk 1 c n)); iexact H2

theorem rdy_acc (d : Fin 2) (n : ℕ) : rdy W c n ⊢ iprop(ready W c d (slot n) (chunk d c n) ∗ (ready W c d (slot n) (chunk d c n) -∗ rdy W c n)) := by
  unfold rdy
  match d with
  | 0 =>
    iintro ⟨H1, H2⟩
    isplitl [H1]; · iexact H1
    iintro H1
    isplitl [H1]; · iexact H1
    iexact H2
  | 1 =>
    iintro ⟨H1, H2⟩
    isplitl [H2]; · iexact H2
    iintro H2
    isplitl [H1]; · iexact H1
    iexact H2

theorem ow_eq {n m : ℕ} (h : n = m) : ow (F := F) c n ⊢ ow c m := by subst h; exact .rfl

/-! ## The rule of each operation -/

theorem credit_eq (m : Memref sig .tc .vmem S256x256 .bf16) : m.view.dmaCredit = NN := rfl

section Rules

variable {R : Regs F} {L : List Op} {K : Regs F → P1 F PUnit}

theorem op_end {Φ : PUnit → sProp 𝕄} : WP c (K R) Φ ⊢ WP c (run c [] R K) Φ := .rfl

theorem op_loadH {Φ : PUnit → sProp 𝕄} (q : Fin 8) : hP H c ⊢ iprop((hP H c -∗ WP c (run c L { R with h := hBand H c q } K) Φ) -∗ WP c (run c (.loadH q :: L) R K) Φ) := by
  unfold hP
  iintro HH Hk
  iapply (wp_load_rect 𝒱₀ (c : Thread nD τ) none Set.univ (m := aH) (r := bandR q) (S := Finset.univ) (f := H c) (q := fullShare)
    (k := fun v => run c L { R with h := v } K) (Q := Φ) (Finset.subset_univ _)) $$ HH
  iexact Hk

theorem op_loadW {Φ : PUnit → sProp 𝕄} (d p : Fin 2) (j : Fin 8) : ready W c d p j ⊢ iprop((ready W c d p j -∗ WP c (run c L { R with w := shapeCast S1x1x4096x256 (wCol W c j) cast_slot } K) Φ)
    -∗ WP c (run c (.loadW d p :: L) R K) Φ) := by
  unfold ready
  iintro ⟨Hv, HM, Hw⟩ Hk
  iapply (ldQ c (m := aSlot) (r := slotR d p) (fun _ => rfl) (k := fun v => run c L { R with w := v } K) squeezes_S1x1x4096x256_S4096x256 cast_slot) $$ HM
  iintro HM
  iapply Hk
  isplitl [Hv]; · iexact Hv
  isplitl [HM]; · iexact HM
  iexact Hw

theorem op_loadC {Φ : PUnit → sProp 𝕄} (d : Fin 2) (n : ℕ) {p : Fin 2} (hp : slot n = p) : rdy W c n
    ⊢ iprop((rdy W c n -∗ WP c (run c L { R with w := shapeCast S1x1x4096x256 (wCol W c (chunk d c n)) cast_slot } K) Φ) -∗ WP c (run c (.loadW d p :: L) R K) Φ) := by
  subst hp
  iintro HW Hk
  ihave HW' := (rdy_acc W c d n) $$ HW
  icases HW' with ⟨HW, Hwk⟩
  iapply (op_loadW W c d (slot n) (chunk d c n)) $$ HW
  iintro HW
  iapply Hk
  iapply Hwk; iexact HW

theorem op_loadSend {Φ : PUnit → sProp 𝕄} (q : Fin 8) {X : Tile16 F} : (ownsTc c (sendM q) fullShare X) ⊢ iprop((ownsTc c (sendM q) fullShare X -∗ WP c (run c L { R with x := shapeCast S1x256x256 X cast_lane } K) Φ)
    -∗ WP c (run c (.loadSend q :: L) R K) Φ) :=
  ldQ c (m := aSend) (r := laneR q) (fun _ => rfl) (k := fun v => run c L { R with x := v } K) squeezes_S1x256x256_S256x256 cast_lane
theorem op_storeSend0 {Φ : PUnit → sProp 𝕄} (q : Fin 8) {X : Tile16 F} (Y : Tile32 F) (hY : dotV R.h R.w = Y) : (ownsTc c (sendM q) fullShare X) ⊢ iprop((ownsTc c (sendM q) fullShare (truncT Y) -∗ WP c (run c L R K) Φ)
    -∗ WP c (run c (.storeSend0 q :: L) R K) Φ) :=
  stQ c (m := aSend) (r := laneR q) (fun _ => rfl) (k := fun _ => run c L R K) squeezes_S1x256x256_S256x256 cast_lane (by rw [hY]; rfl)
theorem op_storeSendN {Φ : PUnit → sProp 𝕄} (q : Fin 8) {X : Tile16 F} (Y : Tile32 F) (hY : sumV R.r R.p = Y) : (ownsTc c (sendM q) fullShare X) ⊢ iprop((ownsTc c (sendM q) fullShare (truncT Y) -∗ WP c (run c L R K) Φ)
    -∗ WP c (run c (.storeSendN q :: L) R K) Φ) :=
  stQ c (m := aSend) (r := laneR q) (fun _ => rfl) (k := fun _ => run c L R K) squeezes_S1x256x256_S256x256 cast_lane (by rw [hY]; rfl)
theorem op_loadPiece {Φ : PUnit → sProp 𝕄} (q : Fin 8) {X : Tile32 F} : (ownsTc c (pieceM q) fullShare X) ⊢ iprop((ownsTc c (pieceM q) fullShare X -∗ WP c (run c L { R with p := shapeCast S1x256x256 X cast_lane } K) Φ)
    -∗ WP c (run c (.loadPiece q :: L) R K) Φ) :=
  ldQ c (m := aPiece) (r := laneR q) (fun _ => rfl) (k := fun v => run c L { R with p := v } K) squeezes_S1x256x256_S256x256 cast_lane
theorem op_storePiece {Φ : PUnit → sProp 𝕄} (q : Fin 8) {X : Tile32 F} (Y : Tile32 F) (hY : dotV R.h R.w = Y) : (ownsTc c (pieceM q) fullShare X) ⊢ iprop((ownsTc c (pieceM q) fullShare Y -∗ WP c (run c L R K) Φ)
    -∗ WP c (run c (.storePiece q :: L) R K) Φ) :=
  stQ c (m := aPiece) (r := laneR q) (fun _ => rfl) (k := fun _ => run c L R K) squeezes_S1x256x256_S256x256 cast_lane (by rw [hY]; rfl)
theorem op_loadRecv {Φ : PUnit → sProp 𝕄} (q : Fin 8) (s : Fin 7) {X : Tile16 F} : (ownsTc c (dstM q (hRS s) c) fullShare X) ⊢ iprop((ownsTc c (dstM q (hRS s) c) fullShare X -∗ WP c (run c L { R with r := shapeCast S1x1x256x256 X cast_recv } K) Φ)
    -∗ WP c (run c (.loadRecv q s :: L) R K) Φ) := by
  rw [dstM_rs]
  exact ldQ c (m := aRecv) (r := recvR q s) (fun _ => rfl) (k := fun v => run c L { R with r := v } K) squeezes_S1x1x256x256_S256x256 cast_recv
theorem op_loadGathOwn {Φ : PUnit → sProp 𝕄} (q : Fin 8) {X : Tile16 F} : (ownsTc c (gathM q (ck q c 7)) fullShare X) ⊢ iprop((ownsTc c (gathM q (ck q c 7)) fullShare X -∗ WP c (run c L { R with z := X } K) Φ)
    -∗ WP c (run c (.loadGathOwn q :: L) R K) Φ) :=
  ldM c (m := aGath) (r := ownR q c) (fun _ => rfl) (k := fun v => run c L { R with z := v } K) (ownM_eq q c)
theorem op_storeGath {Φ : PUnit → sProp 𝕄} (q : Fin 8) {X : Tile16 F} (Y : Tile32 F) (hY : sumV R.r R.p = Y) : (ownsTc c (gathM q (ck q c 7)) fullShare X) ⊢ iprop((ownsTc c (gathM q (ck q c 7)) fullShare (truncT Y) -∗ WP c (run c L R K) Φ)
    -∗ WP c (run c (.storeGath q :: L) R K) Φ) :=
  stM c (m := aGath) (r := ownR q c) (fun _ => rfl) (k := fun _ => run c L R K) (ownM_eq q c) (by rw [hY]; exact tileB_eq Y)
theorem op_loadOutOwn {Φ : PUnit → sProp 𝕄} (q : Fin 8) {X : Tile32 F} : (ownsTc c (outM q (ck q c 7)) fullShare X) ⊢ iprop((ownsTc c (outM q (ck q c 7)) fullShare X -∗ WP c (run c L { R with y := X } K) Φ)
    -∗ WP c (run c (.loadOutOwn q :: L) R K) Φ) :=
  ldM c (m := aOut) (r := ownR q c) (fun _ => rfl) (k := fun v => run c L { R with y := v } K) (ownO_eq q c)
theorem op_storeOutOwn {Φ : PUnit → sProp 𝕄} (q : Fin 8) {X : Tile32 F} (Y : Tile32 F) (hY : sumV R.r R.p = Y) : (ownsTc c (outM q (ck q c 7)) fullShare X) ⊢ iprop((ownsTc c (outM q (ck q c 7)) fullShare Y -∗ WP c (run c L R K) Φ)
    -∗ WP c (run c (.storeOutOwn q :: L) R K) Φ) :=
  stM c (m := aOut) (r := ownR q c) (fun _ => rfl) (k := fun _ => run c L R K) (ownO_eq q c) hY
theorem op_loadGath {Φ : PUnit → sProp 𝕄} (q : Fin 8) (t : Fin 7) {p : PosShare TreeShare} {X : Tile16 F} : (ownsTc c (gathM q (ck q c t.val)) p X) ⊢ iprop((ownsTc c (gathM q (ck q c t.val)) p X -∗ WP c (run c L { R with g := X } K) Φ)
    -∗ WP c (run c (.loadGath q t :: L) R K) Φ) :=
  ldM c (m := aGath) (r := arR q c t) (fun _ => rfl) (k := fun v => run c L { R with g := v } K) (arM_eq q c t)
theorem op_loadOut {Φ : PUnit → sProp 𝕄} (q : Fin 8) (t : Fin 7) {X : Tile32 F} : (ownsTc c (outM q (ck q c t.val)) fullShare X) ⊢ iprop((ownsTc c (outM q (ck q c t.val)) fullShare X -∗ WP c (run c L { R with y := X } K) Φ)
    -∗ WP c (run c (.loadOut q t :: L) R K) Φ) :=
  ldM c (m := aOut) (r := arR q c t) (fun _ => rfl) (k := fun v => run c L { R with y := v } K) (arO_eq q c t)
theorem op_storeOut {Φ : PUnit → sProp 𝕄} (q : Fin 8) (t : Fin 7) {X : Tile32 F} (Y : Tile32 F) (hY : wideV R.g = Y) : (ownsTc c (outM q (ck q c t.val)) fullShare X) ⊢ iprop((ownsTc c (outM q (ck q c t.val)) fullShare Y -∗ WP c (run c L R K) Φ)
    -∗ WP c (run c (.storeOut q t :: L) R K) Φ) :=
  stM c (m := aOut) (r := arR q c t) (fun _ => rfl) (k := fun _ => run c L R K) (arO_eq q c t) hY

/-- A send takes what it needs from the pipeline and leaves its hop under way. -/
theorem op_hop {Φ : PUnit → sProp 𝕄} (q : Fin 8) (h : Fin 14) {p k : P1 F PUnit}
    (rule : iprop(ctx H W κ ∗ hop c q h ∗ ow c (8 * h.val + q.val) ∗ sndPay H W c q h) ⊢ iprop(((sCred c q h ∗ ow c (8 * h.val + q.val + 1)) -∗ WP c k Φ) -∗ WP c p Φ)) :
    iprop(ctx H W κ ∗ base c q h.val ∗ ow c (8 * h.val + q.val) ∗ sndPay H W c q h) ⊢ iprop(((com c q h ∗ ow c (8 * h.val + q.val + 1)) -∗ WP c k Φ) -∗ WP c p Φ) := by
  iintro ⟨#HC, Hb, HO, HX⟩ Hk
  ihave Hb' := (base_send c q h) $$ Hb
  icases Hb' with ⟨Hh, Hb⟩
  iapply rule $$ [Hh HO HX]
  · isplitr; · iexact HC
    isplitl [Hh]; · iexact Hh
    isplitl [HO]; · iexact HO
    iexact HX
  iintro ⟨Hc, HO⟩
  iapply Hk
  isplitl [Hb Hc]; · iapply Hb; iexact Hc
  iexact HO

theorem op_sendRS {Φ : PUnit → sProp 𝕄} (q : Fin 8) (s : Fin 7) : iprop(ctx H W κ ∗ base c q s.val ∗ ow c (8 * s.val + q.val) ∗ ownsTc c (sendM q) fullShare (truncT (acc H W q s.val c)))
    ⊢ iprop(((com c q (hRS s) ∗ ow c (8 * s.val + q.val + 1)) -∗ WP c (run c L R K) Φ) -∗ WP c (run c (.sendRS q s :: L) R K) Φ) := by
  have e : sndPay H W c q (hRS s) = ownsTc c (sendM q) fullShare (truncT (acc H W q s.val c)) := by
    unfold sndPay; rw [srcM_rs, share_rs, ← snd_rs H W q _ s.isLt]; rfl
  rw [← e]
  exact op_hop H W κ c q (hRS s) (wp_hop H W κ c q (hRS s) (srcM_rs q c s) (dstM_rs q _ s) (k := fun _ => run c L R K))
theorem op_sendAG {Φ : PUnit → sProp 𝕄} (q : Fin 8) (t : Fin 7) : iprop(ctx H W κ ∗ base c q (7 + t.val) ∗ ow c (8 * (7 + t.val) + q.val) ∗ ownsTc c (srcM q (hAG t) c) fullShare.left (snd H W q (7 + t.val) c))
    ⊢ iprop(((com c q (hAG t) ∗ ow c (8 * (7 + t.val) + q.val + 1)) -∗ WP c (run c L R K) Φ) -∗ WP c (run c (.sendAG q t :: L) R K) Φ) := by
  have e : sndPay H W c q (hAG t) = ownsTc c (srcM q (hAG t) c) fullShare.left (snd H W q (7 + t.val) c) := by
    unfold sndPay; rw [share_ag]; rfl
  rw [← e]
  exact op_hop H W κ c q (hAG t) (wp_hop H W κ c q (hAG t) (srcM_ag' q c t) (dstM_ag' q c t) (k := fun _ => run c L R K))

/-- The two waits of a hop. -/
theorem op_waits {Φ : PUnit → sProp 𝕄} (q : Fin 8) (h : Fin 14) (n : ℕ) (hn : 8 * (h.val + 1) ≤ n) {p p' k : P1 F PUnit}
    (r1 : iprop(ctx H W κ ∗ sCred c q h ∗ ow c n ∗ atPos ER (sCell c q h) 0 ∅ 0) ⊢ iprop(((ow c n ∗ atPos ER (sCell c q h) 1 ∅ 0 ∗ sndPay H W c q h) -∗ WP c p' Φ) -∗ WP c p Φ))
    (r2 : iprop(ctx H W κ ∗ cred (tallyAt (rCell c q h) () NN) ∗ ow c n ∗ atPos ER (rCell c q h) 0 ∅ 0) ⊢ iprop(((ow c n ∗ atPos ER (rCell c q h) 1 ∅ 0 ∗ rcvPay H W c q h) -∗ WP c k Φ) -∗ WP c p' Φ)) :
    iprop(ctx H W κ ∗ com c q h ∗ ow c n) ⊢ iprop(((sndPay H W c q h ∗ rcvPay H W c q h ∗ (any c (spare c q h) -∗ base c q (h.val + 1)) ∗ ow c n) -∗ WP c k Φ) -∗ WP c p Φ) := by
  iintro ⟨#HC, Hm, HO⟩ Hk
  ihave Hm' := (com_wait c q h) $$ Hm
  unfold rcv done
  icases Hm' with ⟨Hc, ⟨Ha, Hb, Hr⟩, Hd⟩
  iapply r1 $$ [Hc HO Ha]
  · isplitr; · iexact HC
    isplitl [Hc]; · iexact Hc
    isplitl [HO]; · iexact HO
    iexact Ha
  iintro ⟨HO, Ha, Hs⟩
  iapply r2 $$ [Hr HO Hb]
  · isplitr; · iexact HC
    isplitl [Hr]; · iexact Hr
    isplitl [HO]; · iexact HO
    iexact Hb
  iintro ⟨HO, Hb, Hx⟩
  iapply Hk
  isplitl [Hs]; · iexact Hs
  isplitl [Hx]; · iexact Hx
  isplitr [HO]
  · iintro Hany
    iapply Hd
    isplitl [Ha]; · iexact Ha
    isplitl [Hb]; · iexact Hb
    iexact Hany
  · iexact HO

theorem op_waitsRS {Φ : PUnit → sProp 𝕄} (q : Fin 8) (s : Fin 7) (n : ℕ) (hn : 8 * (s.val + 1) ≤ n) :
    iprop(ctx H W κ ∗ com c q (hRS s) ∗ ow c n) ⊢ iprop(((sndPay H W c q (hRS s) ∗ rcvPay H W c q (hRS s) ∗ (any c (spare c q (hRS s)) -∗ base c q (s.val + 1)) ∗ ow c n) -∗ WP c (run c L R K) Φ)
      -∗ WP c (run c (.waitSendRS q s :: .waitRecvRS q s :: L) R K) Φ) :=
  op_waits H W κ c q (hRS s) n hn (wp_waitS H W κ c q (hRS s) n (credit_eq _) (k := fun _ => run c (.waitRecvRS q s :: L) R K)) (wp_waitR H W κ c q (hRS s) n hn (credit_eq _) (k := fun _ => run c L R K))
theorem op_waitsAG {Φ : PUnit → sProp 𝕄} (q : Fin 8) (t : Fin 7) (n : ℕ) (hn : 8 * (7 + t.val + 1) ≤ n) :
    iprop(ctx H W κ ∗ com c q (hAG t) ∗ ow c n) ⊢ iprop(((sndPay H W c q (hAG t) ∗ rcvPay H W c q (hAG t) ∗ (any c (spare c q (hAG t)) -∗ base c q (7 + t.val + 1)) ∗ ow c n) -∗ WP c (run c L R K) Φ)
      -∗ WP c (run c (.waitSendAG q t :: .waitRecvAG q t :: L) R K) Φ) :=
  op_waits H W κ c q (hAG t) n hn (wp_waitS H W κ c q (hAG t) n (credit_eq _) (k := fun _ => run c (.waitRecvAG q t :: L) R K)) (wp_waitR H W κ c q (hAG t) n hn (credit_eq _) (k := fun _ => run c L R K))

theorem op_w2start {Φ : PUnit → sProp 𝕄} (d : Fin 2) (k : Fin 8) (n : ℕ) (hk : k.val = n) :
    idle W c d (slot n) ⊢ iprop((fly W c d (slot n) (chunk d c n) -∗ WP c (run c L R K) Φ) -∗ WP c (run c (.w2start d k :: L) R K) Φ) := by
  subst hk
  exact wp_fetch W c d (slot k.val) (chunk d c k.val) (wkM_eq c d k) (k := fun _ => run c L R K)
theorem op_w2wait {Φ : PUnit → sProp 𝕄} (d : Fin 2) (k : Fin 8) (n : ℕ) (hk : k.val = n) (o : ℕ) : iprop(ctx H W κ ∗ fly W c d (slot n) (chunk d c n) ∗ ow c o)
    ⊢ iprop(((ready W c d (slot n) (chunk d c n) ∗ ow c o) -∗ WP c (run c L R K) Φ) -∗ WP c (run c (.w2wait d k :: L) R K) Φ) := by
  subst hk
  exact wp_fetched H W κ c d (slot k.val) (chunk d c k.val) o (k := fun _ => run c L R K)

theorem op_signal {Φ : PUnit → sProp 𝕄} (d : Fin 2) {O₀' : CellTallies nD τ sig Unit} (O : CellTallies nD τ sig Unit) (hO : O₀' = O + tallyAt (barCell (devS d c)) () 1) :
    iprop(ctx H W κ ∗ (∃ Wd, owes (c : Thread nD τ) O₀' Wd) ∗ dutyTok ER (barCell (devS d c)) 0 (1 - d) ∗ lands c (1 - d))
      ⊢ iprop(((∃ Wd, owes (c : Thread nD τ) O Wd) -∗ WP c (run c L R K) Φ) -∗ WP c (run c (.signal d :: L) R K) Φ) :=
  wp_sig H W κ c d O hO (k := fun _ => run c L R K)
theorem op_barWait {Φ : PUnit → sProp 𝕄} (n : ℕ) : iprop(ctx H W κ ∗ cred (tallyAt (barCell c) () 2) ∗ ow c n ∗ atPos ER (barCell c) 0 ∅ 0)
      ⊢ iprop(((ow c n ∗ atPos ER (barCell c) 1 ∅ 0 ∗ barPay (F := F) c 0 ∗ barPay (F := F) c 1) -∗ WP c (run c L R K) Φ) -∗ WP c (run c (.barWait :: L) R K) Φ) :=
  wp_bar H W κ c n (k := fun _ => run c L R K)

end Rules

/-! ## The segments -/

theorem tri_first (q : Fin 8) : Tri H W κ c (opsFirst q) iprop(St0 H W c q ∗ (hP H c ∗ ws W c 0) ∗ ow c q.val) iprop(St1 H W c q 0 ∗ (hP H c ∗ ws W c 0) ∗ ow c (q.val + 1)) := by
  intro R K Φ
  unfold St0 St1 ws opsFirst
  iintro ⟨#HC, ⟨⟨Hb, HS, Hp, Hg, Ho⟩, ⟨HH, HW, HF⟩, HO⟩, Hk⟩
  ihave HS := (show any c (sendM q) ⊢ iprop(∃ X, ownsTc c (sendM q) fullShare X) from .rfl) $$ HS
  icases HS with ⟨%X, HS⟩
  iapply (op_loadH H c q) $$ HH
  iintro HH
  iapply (op_loadC W c (dirOf q) 0 rfl) $$ HW
  iintro HW
  iapply (op_loadSend c q) $$ HS
  iintro HS
  have hval : dotV (hBand H c q) (shapeCast S1x1x4096x256 (wCol W c (chunk (dirOf q) c 0)) cast_slot) = acc H W q 0 c := dotV_cast _ _ _
  iapply (op_storeSend0 c q (acc H W q 0 c) hval) $$ HS
  iintro HS
  iapply (op_sendRS H W κ c q 0) $$ [Hb HO HS]
  · isplitr; · iexact HC
    isplitl [Hb]; · iexact Hb
    isplitl [HO]; · iapply (ow_eq c (show q.val = 8 * (0 : Fin 7).val + q.val from by simp)); iexact HO
    iexact HS
  iintro ⟨Hc, HO⟩
  iapply (op_end c); iapply Hk
  isplitl [Hc Hp Hg Ho]
  · isplitl [Hc]; · iexact Hc
    isplitl [Hp]; · iexact Hp
    isplitl [Hg]; · iexact Hg
    iexact Ho
  isplitl [HH HW HF]
  · isplitl [HH]; · iexact HH
    isplitl [HW]; · iexact HW
    iexact HF
  iapply (ow_eq c (show 8 * (0 : Fin 7).val + q.val + 1 = q.val + 1 from by simp)); iexact HO

theorem tri_piece (s : Fin 7) (q : Fin 8) (n : ℕ) : Tri H W κ c (opsPiece s q) iprop(St1 H W c q s ∗ (hP H c ∗ ws W c (s.val + 1)) ∗ ow c n)
    iprop(St2 H W c q s ∗ (hP H c ∗ ws W c (s.val + 1)) ∗ ow c n) := by
  intro R K Φ
  unfold St1 St2 ws opsPiece
  iintro ⟨#HC, ⟨⟨Hb, HP, Hg, Ho⟩, ⟨HH, HW, HF⟩, HO⟩, Hk⟩
  ihave HP := (show any c (pieceM q) ⊢ iprop(∃ X, ownsTc c (pieceM q) fullShare X) from .rfl) $$ HP
  icases HP with ⟨%X, HP⟩
  iapply (op_loadH H c q) $$ HH
  iintro HH
  iapply (op_loadC W c (dirOf q) (s.val + 1) rfl) $$ HW
  iintro HW
  iapply (op_loadPiece c q) $$ HP
  iintro HP
  have hval : dotV (hBand H c q) (shapeCast S1x1x4096x256 (wCol W c (chunk (dirOf q) c (s.val + 1))) cast_slot) = piece H W q c (s.val + 1) := dotV_cast _ _ _
  iapply (op_storePiece c q (piece H W q c (s.val + 1)) hval) $$ HP
  iintro HP
  iapply (op_end c); iapply Hk
  isplitl [Hb HP Hg Ho]
  · isplitl [Hb]; · iexact Hb
    isplitl [HP]; · iexact HP
    isplitl [Hg]; · iexact Hg
    iexact Ho
  isplitr [HO]
  · isplitl [HH]; · iexact HH
    isplitl [HW]; · iexact HW
    iexact HF
  iexact HO

/-- What a pipeline holds after reduce-scatter step `n`. -/
def StA (q : Fin 8) (n : ℕ) : sProp 𝕄 := if h : n < 7 then St1 H W c q ⟨n, h⟩ else St3 H W c q 0

theorem tri_add (s : Fin 7) (q : Fin 8) : Tri H W κ c (opsAdd s q) iprop(St2 H W c q s ∗ ow c (8 * (s.val + 1) + q.val))
    iprop(StA H W c q (s.val + 1) ∗ ow c (8 * (s.val + 1) + (q.val + 1))) := by
  intro R K Φ
  unfold St2 opsAdd
  iintro ⟨#HC, ⟨⟨Hc, HP, Hg, Ho⟩, HO⟩, Hk⟩
  have hval : sumV (shapeCast S1x1x256x256 (snd H W q s.val (src q c)) cast_recv) (shapeCast S1x256x256 (piece H W q c (s.val + 1)) cast_lane) = acc H W q (s.val + 1) c := by
    rw [sumV_cast, snd_rs H W q _ s.isLt]; rfl
  by_cases hs : s.val + 1 < 7
  · rw [dif_pos hs]
    unfold StA; rw [dif_pos hs]; unfold St1
    iapply (op_waitsRS H W κ c q s (8 * (s.val + 1) + q.val) (Nat.le_add_right _ _)) $$ [Hc HO]
    · isplitr; · iexact HC
      isplitl [Hc]; · iexact Hc
      iexact HO
    unfold sndPay rcvPay
    rw [srcM_rs, share_rs]
    iintro ⟨HS, HR, Hb, HO⟩
    iapply (op_loadRecv c q s) $$ HR
    iintro HR
    iapply (op_loadPiece c q) $$ HP
    iintro HP
    iapply (op_loadSend c q) $$ HS
    iintro HS
    iapply (op_storeSendN c q (acc H W q (s.val + 1) c) hval) $$ HS
    iintro HS
    ihave Hb := Hb $$ [HR]
    · rw [spare_rs]; unfold any; iexists _; iexact HR
    iapply (op_sendRS (R := _) H W κ c q ⟨s.val + 1, hs⟩) $$ [Hb HO HS]
    · isplitr; · iexact HC
      isplitl [Hb]; · iexact Hb
      isplitl [HO]; · iexact HO
      iexact HS
    iintro ⟨Hc, HO⟩
    iapply (op_end c); iapply Hk
    isplitr [HO]
    · isplitl [Hc]; · iexact Hc
      isplitl [HP]; · unfold any; iexists _; iexact HP
      isplitl [Hg]; · iexact Hg
      iexact Ho
    iexact HO
  · obtain rfl : s = 6 := Fin.ext (by have := s.isLt; show s.val = 6; omega)
    rw [dif_neg hs]
    unfold StA; rw [dif_neg hs]; unfold St3
    iapply (op_waitsRS H W κ c q 6 (8 * ((6 : Fin 7).val + 1) + q.val) (Nat.le_add_right _ _)) $$ [Hc HO]
    · isplitr; · iexact HC
      isplitl [Hc]; · iexact Hc
      iexact HO
    unfold sndPay rcvPay
    rw [srcM_rs, share_rs]
    iintro ⟨HS, HR, Hb, HO⟩
    iapply (op_loadRecv c q 6) $$ HR
    iintro HR
    iapply (op_loadPiece c q) $$ HP
    iintro HP
    ihave Hg := (show any c (gathM q (ck q c 7)) ⊢ iprop(∃ X, ownsTc c (gathM q (ck q c 7)) fullShare X) from .rfl) $$ Hg
    icases Hg with ⟨%Y, Hg⟩
    iapply (op_loadGathOwn c q) $$ Hg
    iintro Hg
    iapply (op_storeGath c q (acc H W q 7 c) hval) $$ Hg
    iintro Hg
    ihave Hb := Hb $$ [HR]
    · rw [spare_rs]; unfold any; iexists _; iexact HR
    have eg : (ownsTc c (gathM q (ck q c 7)) fullShare (truncT (acc H W q 7 c)) : sProp 𝕄) = ownsTc c (srcM q (hAG 0) c) fullShare (snd H W q (7 + (0 : Fin 7).val) c) := by
      rw [srcM_ag]; exact congrArg _ (snd_own H W q c).symm
    ihave Hg := (Entails.of_eq eg) $$ Hg
    ihave Hg' := (owns_halves c (srcM q (hAG 0) c) (snd H W q (7 + (0 : Fin 7).val) c)) $$ Hg
    icases Hg' with ⟨Hl, Hr⟩
    iapply (op_sendAG H W κ c q 0) $$ [Hb HO Hl]
    · isplitr; · iexact HC
      isplitl [Hb]; · iexact Hb
      isplitl [HO]; · iexact HO
      iexact Hl
    iintro ⟨Hc, HO⟩
    ihave Ho' := (show (outT H W c q fun _ => False) ⊢ iprop(any c (outM q (ck q c 7)) ∗ (ownsTc c (outM q (ck q c 7)) fullShare (acc H W q 7 c) -∗ outT H W c q fun k => k.val < 0 ∨ k.val = 7)) from outT_acc H W c q 7 (fun _ => False) (fun k => k.val < 0 ∨ k.val = 7) (fun j hj h => h.elim (fun h => absurd h (Nat.not_lt_zero _)) fun h => hj (Fin.ext h))) $$ Ho
    unfold any
    icases Ho' with ⟨⟨%Z, Ho⟩, Hok⟩
    iapply (op_loadOutOwn c q) $$ Ho
    iintro Ho
    iapply (op_storeOutOwn c q (acc H W q 7 c) hval) $$ Ho
    iintro Ho
    ihave Ho := Hok $$ [Ho]
    · iexact Ho
    iapply (op_end c); iapply Hk
    isplitr [HO]
    · isplitl [Hc]; · iexact Hc
      isplitl [HP]; · iexists _; iexact HP
      isplitl [HS]; · iexists _; iexact HS
      isplitl [Hr]; · iexact Hr
      iexact Ho
    iexact HO

/-- What a pipeline holds after `n` gather steps. -/
def StG (q : Fin 8) (n : ℕ) : sProp 𝕄 := if h : n < 7 then St3 H W c q ⟨n, h⟩ else St4 H W c q

theorem tri_gather (t : Fin 7) (q : Fin 8) : Tri H W κ c (opsGather t q) iprop(StG H W c q t.val ∗ ow c (min (8 * (8 + t.val) + q.val) 112))
    iprop(StG H W c q (t.val + 1) ∗ ow c (min (8 * (8 + t.val) + (q.val + 1)) 112)) := by
  intro R K Φ
  unfold opsGather
  rw [show StG H W c q t.val = St3 H W c q t from dif_pos t.isLt]
  unfold St3
  iintro ⟨#HC, ⟨⟨Hc, HP, HS, Hr, Ho⟩, HO⟩, Hk⟩
  iapply (op_waitsAG H W κ c q t (min (8 * (8 + t.val) + q.val) 112) (by have := t.isLt; omega)) $$ [Hc HO]
  · isplitr; · iexact HC
    isplitl [Hc]; · iexact Hc
    iexact HO
  unfold sndPay rcvPay
  rw [share_ag, show (hAG t).val = 7 + t.val from rfl, ← snd_ag H W q (7 + t.val) (Nat.le_add_right _ _) c]
  iintro ⟨Hl, HR, Hb, HO⟩
  ihave Hb := Hb $$ [Hl Hr]
  · rw [spare_ag]; unfold any; iexists _
    iapply (owns_whole_of_halves c (srcM q (hAG t) c) (snd H W q (7 + t.val) c) (snd H W q (7 + t.val) c))
    isplitl [Hl]; · iexact Hl
    iexact Hr
  have hval : wideV (snd H W q (7 + t.val + 1) c) = outV H W c q (Fin.castSucc t) := by
    unfold outV
    rw [if_neg (by have := t.isLt; show ¬ t.val = 7; omega), snd_ag H W q (7 + t.val) (Nat.le_add_right _ _) c]; rfl
  ihave Ho' := (show (outT H W c q fun k => k.val < t.val ∨ k.val = 7) ⊢ iprop(any c (outM q (ck q c t.val)) ∗ (ownsTc c (outM q (ck q c t.val)) fullShare (outV H W c q (Fin.castSucc t)) -∗ outT H W c q fun k => k.val < t.val + 1 ∨ k.val = 7)) from outT_acc H W c q (Fin.castSucc t) (fun k => k.val < t.val ∨ k.val = 7) (fun k => k.val < t.val + 1 ∨ k.val = 7)
    (fun j hj h => h.imp_left fun h => by have : j.val ≠ t.val := fun e => hj (Fin.ext e); omega)) $$ Ho
  unfold any
  icases Ho' with ⟨⟨%Z, Ho⟩, Hok⟩
  by_cases ht : t.val + 1 < 7
  · rw [dif_pos ht]
    unfold StG; rw [dif_pos ht]; unfold St3 any
    rw [← srcM_next q c t ht]
    ihave HR' := (owns_halves c (srcM q (hAG ⟨t.val + 1, ht⟩) c) (snd H W q (7 + t.val + 1) c)) $$ HR
    icases HR' with ⟨Hl, Hr⟩
    iapply (op_sendAG H W κ c q ⟨t.val + 1, ht⟩) $$ [Hb HO Hl]
    · isplitr; · iexact HC
      isplitl [Hb]; · iexact Hb
      isplitl [HO]; · iapply (ow_eq c (show min (8 * (8 + t.val) + q.val) 112 = 8 * (7 + (t.val + 1)) + q.val from by have := q.isLt; omega)); iexact HO
      iexact Hl
    iintro ⟨Hc, HO⟩
    rw [srcM_next q c t ht, dstM_ag]
    iapply (op_loadGath c q t) $$ Hr
    iintro Hr
    iapply (op_loadOut c q t) $$ Ho
    iintro Ho
    iapply (op_storeOut c q t (outV H W c q (Fin.castSucc t)) hval) $$ Ho
    iintro Ho
    ihave Ho := Hok $$ [Ho]
    · iexact Ho
    iapply (op_end c); iapply Hk
    isplitr [HO]
    · isplitl [Hc]; · iexact Hc
      isplitl [HP]; · iexact HP
      isplitl [HS]; · iexact HS
      isplitl [Hr]; · iexact Hr
      iexact Ho
    iapply (ow_eq c (show 8 * (7 + (t.val + 1)) + q.val + 1 = min (8 * (8 + t.val) + (q.val + 1)) 112 from by have := q.isLt; omega)); iexact HO
  · obtain rfl : t = 6 := Fin.ext (by have := t.isLt; show t.val = 6; omega)
    rw [dif_neg ht]
    unfold StG; rw [dif_neg ht]; unfold St4 any
    rw [dstM_ag]
    iapply (op_loadGath c q 6) $$ HR
    iintro HR
    iapply (op_loadOut c q 6) $$ Ho
    iintro Ho
    iapply (op_storeOut c q 6 (outV H W c q (Fin.castSucc 6)) hval) $$ Ho
    iintro Ho
    ihave Ho := Hok $$ [Ho]
    · iexact Ho
    iapply (op_end c); iapply Hk
    isplitr [HO]
    · isplitl [Hb]; · iexact Hb
      isplitl [HP]; · iexact HP
      isplitl [HS]; · iexact HS
      isplitl [HR]; · iexists _; iexact HR
      iapply (Entails.of_eq (congrArg (outT H W c q) (funext fun k : Fin 8 => propext ⟨fun _ => trivial, fun _ => by
        have := k.isLt; show k.val < 6 + 1 ∨ k.val = 7; omega⟩)))
      iexact Ho
    iapply (ow_eq c (by have := q.isLt; show min (8 * (8 + 6) + q.val) 112 = min (8 * (8 + 6) + (q.val + 1)) 112; omega)); iexact HO

/-- The fetches of one step. -/
theorem tri_fetch (s : Fin 7) (n : ℕ) : Tri H W κ c (opsFetch s) iprop(ws W c s.val ∗ ow c n) iprop(ws W c (s.val + 1) ∗ ow c n) := by
  have hs1 : s.val + 1 < 8 := by have := s.isLt; omega
  have hw : Tri H W κ c [.w2wait 0 ⟨s.val + 1, hs1⟩, .w2wait 1 ⟨s.val + 1, hs1⟩] iprop(flying W c (s.val + 1) ∗ ow c n) iprop(rdy W c (s.val + 1) ∗ ow c n) := by
    intro R K Φ
    unfold flying rdy
    iintro ⟨#HC, ⟨⟨H0, H1⟩, HO⟩, Hk⟩
    iapply (op_w2wait H W κ c 0 ⟨s.val + 1, hs1⟩ (s.val + 1) rfl n) $$ [H0 HO]
    · isplitr; · iexact HC
      isplitl [H0]; · iexact H0
      iexact HO
    iintro ⟨H0, HO⟩
    iapply (op_w2wait H W κ c 1 ⟨s.val + 1, hs1⟩ (s.val + 1) rfl n) $$ [H1 HO]
    · isplitr; · iexact HC
      isplitl [H1]; · iexact H1
      iexact HO
    iintro ⟨H1, HO⟩
    iapply (op_end c); iapply Hk
    isplitl [H0 H1]
    · isplitl [H0]; · iexact H0
      iexact H1
    iexact HO
  unfold opsFetch
  by_cases hs : s.val + 2 < 8
  · rw [dif_pos hs]
    have h1 : Tri H W κ c [.w2start 0 ⟨s.val + 2, hs⟩, .w2start 1 ⟨s.val + 2, hs⟩] (rdy W c s.val) (flying W c (s.val + 2)) := by
      intro R K Φ
      iintro ⟨#HC, HI, Hk⟩
      ihave HI := (rdy_idles W c s.val) $$ HI
      unfold idles flying
      icases HI with ⟨H0, H1⟩
      iapply (op_w2start W c 0 ⟨s.val + 2, hs⟩ (s.val + 2) rfl) $$ H0
      iintro H0
      iapply (op_w2start W c 1 ⟨s.val + 2, hs⟩ (s.val + 2) rfl) $$ H1
      iintro H1
      iapply (op_end c); iapply Hk
      isplitl [H0]; · iexact H0
      iexact H1
    have e1 : ws W c s.val = iprop(rdy W c s.val ∗ flying W c (s.val + 1)) := by unfold ws; rw [if_pos s.isLt]
    have e2 : ws W c (s.val + 1) = iprop(rdy W c (s.val + 1) ∗ flying W c (s.val + 2)) := by unfold ws; rw [if_pos (by omega)]
    rw [e1, e2]
    refine Tri.seq H W κ c (Q := iprop(flying W c (s.val + 2) ∗ (flying W c (s.val + 1) ∗ ow c n)))
      (Tri.mono H W κ c (Tri.frame H W κ c h1 iprop(flying W c (s.val + 1) ∗ ow c n)) ?_ .rfl)
      (Tri.mono H W κ c (Tri.frame H W κ c hw (flying W c (s.val + 2))) ?_ ?_)
    · iintro ⟨⟨H1, H2⟩, H3⟩
      isplitl [H1]; · iexact H1
      isplitl [H2]; · iexact H2
      iexact H3
    · iintro ⟨H1, H2⟩
      isplitl [H2]; · iexact H2
      iexact H1
    · iintro ⟨⟨H1, H2⟩, H3⟩
      isplitr [H2]
      · isplitl [H1]; · iexact H1
        iexact H3
      · iexact H2
  · rw [dif_neg hs, List.nil_append]
    have e1 : ws W c s.val = iprop(rdy W c s.val ∗ flying W c (s.val + 1)) := by unfold ws; rw [if_pos s.isLt]
    have e2 : ws W c (s.val + 1) = iprop(rdy W c (s.val + 1) ∗ idles W c (s.val + 2)) := by unfold ws; rw [if_neg (by omega)]
    rw [e1, e2]
    refine Tri.mono H W κ c (Tri.frame H W κ c hw (rdy W c s.val)) ?_ ?_
    · iintro ⟨⟨H1, H2⟩, H3⟩
      isplitr [H1]
      · isplitl [H2]; · iexact H2
        iexact H3
      · iexact H1
    · iintro ⟨⟨H1, H2⟩, H3⟩
      isplitr [H2]
      · isplitl [H1]; · iexact H1
        iapply (rdy_idles W c s.val); iexact H3
      · iexact H2

/-! ## The start -/

/-- What a device brings to the barrier and its first fetches, and what it has after them. -/
def pStart : sProp 𝕄 :=
  iprop((idles W c 0 ∗ idles W c 1) ∗ (∃ Wd, owes (c : Thread nD τ) (O₀ c) Wd)
    ∗ (dutyTok ER (barCell (devS 0 c)) 0 1 ∗ lands c 1) ∗ (dutyTok ER (barCell (devS 1 c)) 0 0 ∗ lands c 0)
    ∗ cred (tallyAt (barCell c) () 2) ∗ atPos ER (barCell c) 0 ∅ 0)
def qStart : sProp 𝕄 := iprop(ws W c 0 ∗ ow c 0 ∗ atPos ER (barCell c) 1 ∅ 0 ∗ barPay c 0 ∗ barPay c 1)

theorem tri_start : Tri H W κ c opsStart (pStart W c) (qStart W c) := by
  intro R K Φ
  unfold pStart qStart opsStart idles
  iintro ⟨#HC, ⟨⟨⟨H00, H10⟩, H01, H11⟩, HO, ⟨Ht0, Hl0⟩, ⟨Ht1, Hl1⟩, Hcr, Hat⟩, Hk⟩
  iapply (op_w2start W c 0 0 0 rfl) $$ H00
  iintro H00
  iapply (op_w2start W c 0 1 1 rfl) $$ H01
  iintro H01
  iapply (op_w2start W c 1 0 0 rfl) $$ H10
  iintro H10
  iapply (op_w2start W c 1 1 1 rfl) $$ H11
  iintro H11
  iapply (op_signal H W κ c 0 (debt c 0 + tallyAt (barCell (devS 1 c)) () 1) rfl) $$ [HO Ht0 Hl0]
  · isplitr; · iexact HC
    isplitl [HO]; · iexact HO
    isplitl [Ht0]; · iexact Ht0
    iexact Hl0
  iintro HO
  iapply (op_signal H W κ c 1 (debt c 0) rfl) $$ [HO Ht1 Hl1]
  · isplitr; · iexact HC
    isplitl [HO]; · iexact HO
    isplitl [Ht1]; · iexact Ht1
    iexact Hl1
  iintro HO
  iapply (op_barWait H W κ c 0) $$ [HO Hcr Hat]
  · isplitr; · iexact HC
    isplitl [Hcr]; · iexact Hcr
    isplitl [HO]; · unfold ow; iexact HO
    iexact Hat
  iintro ⟨HO, Hat, Hb0, Hb1⟩
  iapply (op_w2wait H W κ c 0 0 0 rfl 0) $$ [H00 HO]
  · isplitr; · iexact HC
    isplitl [H00]; · iexact H00
    iexact HO
  iintro ⟨H00, HO⟩
  iapply (op_w2wait H W κ c 1 0 0 rfl 0) $$ [H10 HO]
  · isplitr; · iexact HC
    isplitl [H10]; · iexact H10
    iexact HO
  iintro ⟨H10, HO⟩
  iapply (op_end c); iapply Hk
  isplitl [H00 H01 H10 H11]
  · unfold ws rdy
    rw [if_pos (by decide)]
    unfold flying
    isplitl [H00 H10]
    · isplitl [H00]; · iexact H00
      iexact H10
    · isplitl [H01]; · iexact H01
      iexact H11
  isplitl [HO]; · iexact HO
  isplitl [Hat]; · iexact Hat
  isplitl [Hb0]; · iexact Hb0
  iexact Hb1

/-! ## The whole list -/

/-- A loop over the pipelines. -/
theorem Tri.loop8 (f : Fin 8 → List Op) (A B : Fin 8 → sProp 𝕄) (I : ℕ → sProp 𝕄)
    (h : ∀ q, Tri H W κ c (f q) iprop(A q ∗ I q.val) iprop(B q ∗ I (q.val + 1))) :
    Tri H W κ c (qs.flatMap f) iprop(bigSep Finset.univ A ∗ I 0) iprop(bigSep Finset.univ B ∗ I 8) := by
  have step (q : Fin 8) : Tri H W κ c (f q) iprop((bigSep (frm 8 q.val) A ∗ bigSep (upto 8 q.val) B) ∗ I q.val)
      iprop((bigSep (frm 8 (q.val + 1)) A ∗ bigSep (upto 8 (q.val + 1)) B) ∗ I (q.val + 1)) := by
    rw [bigSep_frm q A, bigSep_upto q B]
    refine Tri.mono H W κ c (Tri.frame H W κ c (h q) iprop(bigSep (frm 8 (q.val + 1)) A ∗ bigSep (upto 8 q.val) B)) ?_ ?_
    · iintro ⟨⟨⟨HA, Hf⟩, Hu⟩, HI⟩
      isplitl [HA HI]
      · isplitl [HA]; · iexact HA
        iexact HI
      · isplitl [Hf]; · iexact Hf
        iexact Hu
    · iintro ⟨⟨HB, HI⟩, Hf, Hu⟩
      isplitr [HI]
      · isplitl [Hf]; · iexact Hf
        isplitl [HB]; · iexact HB
        iexact Hu
      · iexact HI
  have all := (step 0).seq H W κ c ((step 1).seq H W κ c ((step 2).seq H W κ c ((step 3).seq H W κ c ((step 4).seq H W κ c
    ((step 5).seq H W κ c ((step 6).seq H W κ c ((step 7).seq H W κ c (Tri.nil H W κ c _))))))))
  refine Tri.mono H W κ c all ?_ ?_
  · show _ ⊢ iprop((bigSep (frm 8 0) A ∗ bigSep (upto 8 0) B) ∗ I 0)
    rw [frm_zero, upto_zero]
    iintro ⟨HA, HI⟩
    isplitl [HA]
    · isplitl [HA]; · iexact HA
      rw [bigSep_empty]; iempintro
    · iexact HI
  · show iprop((bigSep (frm 8 8) A ∗ bigSep (upto 8 8) B) ∗ I 8) ⊢ _
    rw [frm_end, upto_end]
    iintro ⟨⟨-, HB⟩, HI⟩
    isplitl [HB]; · iexact HB
    iexact HI

/-- A loop over the steps. -/
theorem Tri.loop7 (f : Fin 7 → List Op) (J : ℕ → sProp 𝕄) (h : ∀ s, Tri H W κ c (f s) (J s.val) (J (s.val + 1))) :
    Tri H W κ c (steps.flatMap f) (J 0) (J 7) :=
  (h 0).seq H W κ c ((h 1).seq H W κ c ((h 2).seq H W κ c ((h 3).seq H W κ c ((h 4).seq H W κ c
    ((h 5).seq H W κ c ((h 6).seq H W κ c (Tri.nil H W κ c (J 7))))))))

theorem tri_step (s : Fin 7) : Tri H W κ c (opsStep s) iprop(bigSep Finset.univ (fun q => StA H W c q s.val) ∗ hP H c ∗ ws W c s.val ∗ ow c (8 * (s.val + 1)))
    iprop(bigSep Finset.univ (fun q => StA H W c q (s.val + 1)) ∗ hP H c ∗ ws W c (s.val + 1) ∗ ow c (8 * (s.val + 1 + 1))) := by
  have e : (fun q => StA H W c q s.val) = fun q => St1 H W c q s := funext fun q => dif_pos s.isLt
  rw [e]
  unfold opsStep
  refine Tri.seq H W κ c (Tri.mono H W κ c (Tri.frame H W κ c (tri_fetch H W κ c s (8 * (s.val + 1))) iprop(bigSep Finset.univ (fun q => St1 H W c q s) ∗ hP H c)) ?_ .rfl) ?_
  · iintro ⟨H1, H2, H3, H4⟩
    isplitl [H3 H4]
    · isplitl [H3]; · iexact H3
      iexact H4
    · isplitl [H1]; · iexact H1
      iexact H2
  refine Tri.seq H W κ c (Tri.mono H W κ c (Tri.loop8 H W κ c (opsPiece s) (fun q => St1 H W c q s) (fun q => St2 H W c q s)
    (fun _ => iprop((hP H c ∗ ws W c (s.val + 1)) ∗ ow c (8 * (s.val + 1)))) fun q => tri_piece H W κ c s q _) ?_ .rfl) ?_
  · iintro ⟨⟨H3, H4⟩, H1, H2⟩
    isplitl [H1]; · iexact H1
    isplitr [H4]
    · isplitl [H2]; · iexact H2
      iexact H3
    · iexact H4
  refine Tri.mono H W κ c (Tri.frame H W κ c (Tri.loop8 H W κ c (opsAdd s) (fun q => St2 H W c q s) (fun q => StA H W c q (s.val + 1))
    (fun n => ow c (8 * (s.val + 1) + n)) fun q => tri_add H W κ c s q) iprop(hP H c ∗ ws W c (s.val + 1))) ?_ ?_
  · iintro ⟨H1, H2, H3⟩
    isplitl [H1 H3]
    · isplitl [H1]; · iexact H1
      iexact H3
    · iexact H2
  · iintro ⟨⟨H1, H3⟩, H2, H4⟩
    isplitl [H1]; · iexact H1
    isplitl [H2]; · iexact H2
    isplitl [H4]; · iexact H4
    iapply (ow_eq c (show 8 * (s.val + 1) + 8 = 8 * (s.val + 1 + 1) from by omega)); iexact H3

theorem tri_round (t : Fin 7) : Tri H W κ c (qs.flatMap (opsGather t)) iprop(bigSep Finset.univ (fun q => StG H W c q t.val) ∗ ow c (min (8 * (8 + t.val)) 112))
    iprop(bigSep Finset.univ (fun q => StG H W c q (t.val + 1)) ∗ ow c (min (8 * (8 + (t.val + 1))) 112)) := by
  refine Tri.mono H W κ c (Tri.loop8 H W κ c (opsGather t) (fun q => StG H W c q t.val) (fun q => StG H W c q (t.val + 1))
    (fun n => ow c (min (8 * (8 + t.val) + n) 112)) fun q => tri_gather H W κ c t q) .rfl ?_
  iintro ⟨H1, H2⟩
  isplitl [H1]; · iexact H1
  iapply (ow_eq c (show min (8 * (8 + t.val) + 8) 112 = min (8 * (8 + (t.val + 1))) 112 from by omega)); iexact H2

/-- From the pipelines ready to the pipelines done. -/
theorem tri_body : Tri H W κ c (qs.flatMap opsFirst ++ (steps.flatMap opsStep ++ steps.flatMap fun t => qs.flatMap (opsGather t)))
    iprop(bigSep Finset.univ (St0 H W c) ∗ (hP H c ∗ ws W c 0) ∗ ow c 0) iprop((bigSep Finset.univ (St4 H W c) ∗ ow c 112) ∗ hP H c ∗ ws W c 7) := by
  refine Tri.seq H W κ c (Tri.mono H W κ c (Tri.loop8 H W κ c opsFirst (St0 H W c) (fun q => St1 H W c q 0) (fun n => iprop((hP H c ∗ ws W c 0) ∗ ow c n)) (tri_first H W κ c)) .rfl .rfl) ?_
  refine Tri.seq H W κ c (Tri.mono H W κ c (Tri.loop7 H W κ c opsStep
    (fun n => iprop(bigSep Finset.univ (fun q => StA H W c q n) ∗ hP H c ∗ ws W c n ∗ ow c (8 * (n + 1)))) (tri_step H W κ c)) ?_ .rfl) ?_
  · iintro ⟨H1, ⟨H2, H3⟩, H4⟩
    isplitl [H1]; · iexact H1
    isplitl [H2]; · iexact H2
    isplitl [H3]; · iexact H3
    iexact H4
  refine Tri.mono H W κ c (Tri.frame H W κ c (Tri.loop7 H W κ c (fun t => qs.flatMap (opsGather t))
    (fun n => iprop(bigSep Finset.univ (fun q => StG H W c q n) ∗ ow c (min (8 * (8 + n)) 112))) (tri_round H W κ c)) iprop(hP H c ∗ ws W c 7)) ?_ .rfl
  iintro ⟨H1, H2, H3, H4⟩
  isplitl [H1 H4]
  · isplitl [H1]; · iexact H1
    iexact H4
  · isplitl [H2]; · iexact H2
    iexact H3

/-- What a pipeline starts from, besides what its receivers let it write. -/
def tok (q : Fin 8) (h : Fin 14) : sProp 𝕄 :=
  iprop((dutyTok ER (sCell c q h) 0 0 ∗ reached ER (sCell c q h) 0) ∗ dutyTok ER (rCell (tgt q c) q h) 0 0)
def pre (q : Fin 8) : sProp 𝕄 :=
  iprop(bigSep Finset.univ (tok (F := F) c q) ∗ bigSep Finset.univ (rcv c q) ∗ any c (sendM q) ∗ any c (pieceM q) ∗ any c (gathM q (ck q c 7)) ∗ outT H W c q fun _ => False)

theorem pre_land (q : Fin 8) : iprop(pre H W c q ∗ land (tgt q c) q) ⊢ St0 H W c q := by
  have e : iprop(bigSep Finset.univ (tok (F := F) c q) ∗ land (tgt q c) q) ⊢ bigSep Finset.univ (hop (F := F) c q) := by
    unfold land
    refine (Entails.of_eq (bigSep_sep' (M := 𝕄) Finset.univ (tok (F := F) c q) _).symm).trans (bigSep_mono fun h _ => ?_)
    show iprop(tok (F := F) c q h ∗ (∃ X, ownsTc (tgt q c) (dstM q h (tgt q c)) fullShare X) ∗ reached ER (rCell (tgt q c) q h) 0) ⊢ hop c q h
    unfold tok hop
    iintro ⟨⟨H1, H2⟩, H3, H4⟩
    isplitl [H1]; · iexact H1
    isplitl [H2]; · iexact H2
    isplitl [H3]; · iexact H3
    iexact H4
  unfold pre St0 base
  rw [frm_zero, upto_zero, bigSep_empty]
  iintro ⟨⟨H1, H2, H3⟩, H4⟩
  isplitr [H3]
  · isplitl [H1 H4]
    · iapply e
      isplitl [H1]; · iexact H1
      iexact H4
    isplitl [H2]; · iexact H2
    iempintro
  · iexact H3

theorem bar_lands : iprop(barPay (F := F) c 0 ∗ barPay c 1) ⊢ bigSep Finset.univ fun q => land (F := F) (tgt q c) q := by
  have e (d : Fin 2) : barPay (F := F) c d = bigSep (Finset.univ.filter fun q : Fin 8 => dirOf q = d) fun q => land (tgt q c) q :=
    bigSep_congr fun q hq => by rw [tgt_eq, (Finset.mem_filter.mp hq).2]
  rw [e, e]
  exact Entails.of_eq ((bigSep_union (by decide)).symm.trans (congrArg (fun s => bigSep s fun q => land (F := F) (tgt q c) q) (by decide)))

/-- The run of all the operations. -/
theorem tri_all : Tri H W κ c opsAll iprop(pStart W c ∗ bigSep Finset.univ (pre H W c) ∗ hP H c)
    iprop((bigSep Finset.univ (St4 H W c) ∗ ow c 112) ∗ (hP H c ∗ ws W c 7) ∗ atPos ER (barCell c) 1 ∅ 0) := by
  unfold opsAll
  refine Tri.seq H W κ c (Tri.frame H W κ c (tri_start H W κ c) iprop(bigSep Finset.univ (pre H W c) ∗ hP H c)) ?_
  refine Tri.mono H W κ c (Tri.frame H W κ c (tri_body H W κ c) (atPos ER (barCell c) 1 ∅ 0)) ?_ ?_
  · unfold qStart
    iintro ⟨⟨HW, HO, Hat, Hb⟩, Hp, HH⟩
    isplitr [Hat]
    · isplitl [Hb Hp]
      · ihave Hb := (bar_lands c) $$ Hb
        iapply ((Entails.of_eq (bigSep_sep' (M := 𝕄) Finset.univ (pre H W c) (fun q => land (F := F) (tgt q c) q)).symm).trans (bigSep_mono fun q _ => pre_land H W c q))
        isplitl [Hp]; · iexact Hp
        iexact Hb
      isplitr [HO]
      · isplitl [HH]; · iexact HH
        iexact HW
      · iexact HO
    · iexact Hat
  · iintro ⟨⟨H1, H2⟩, H3⟩
    isplitl [H1]; · iexact H1
    isplitl [H2]; · iexact H2
    iexact H3

/-- The fused call's body. -/
theorem wp_body {Φ : PUnit → sProp 𝕄} : iprop(ctx H W κ ∗ (pStart W c ∗ bigSep Finset.univ (pre H W c) ∗ hP H c)
    ∗ (((bigSep Finset.univ (St4 H W c) ∗ ow c 112) ∗ (hP H c ∗ ws W c 7) ∗ atPos ER (barCell c) 1 ∅ 0) -∗ Φ ⟨⟩))
    ⊢ WP c (ap (cc1__fused_body (F := F))) Φ := by
  rw [body_run ⟨fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _)⟩, ops_eq]
  simp only [WP, wp_deviceId]
  iintro ⟨#HC, HP, Hk⟩
  iapply (tri_all H W κ c _ (fun _ => .ret ⟨⟩) Φ)
  isplitr; · iexact HC
  isplitl [HP]; · iexact HP
  iintro %R' HQ
  iapply (show Φ ⟨⟩ ⊢ WP c (.ret ⟨⟩) Φ from by unfold WP; rw [wp_ret]; iintro H; imodintro; iexact H)
  iapply Hk; iexact HQ

end Run

end Cert.KernelIdeal
-- ==== Proof.Tiles.lean ====
/-
A whole buffer and its tiles: each buffer of the fused call is cut into the tiles its pipelines hold, and put together again.
-/
module

public import proofs.«01_k».proof.Proof.Talk

@[expose] public section

set_option maxRecDepth 16384

noncomputable section

namespace Cert.KernelIdeal

open Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

local instance eltNonempty : ∀ e, Nonempty (Elt F e) := fun e => Elt.nonempty F e

theorem mono {I : Type} {s : Finset I} {Φ Ψ : I → sProp 𝕄} (h : ∀ i ∈ s, Φ i ⊢ Ψ i) : bigSep s Φ ⊢ bigSep s Ψ := bigSep_mono h
theorem eqv {P Q : sProp 𝕄} (h : P ⊢ Q) (h' : Q ⊢ P) : P = Q := equiv_iff.mp ⟨h, h'⟩

/-! ## One buffer -/

section Cut

variable (c : Dev nD) {sp : Space} {sh : Shape} {e : EltTy} (m : Memref sig .tc sp sh e) {T : Type} [Fintype T] [DecidableEq T]
  (r : T → Rect sh) (hr : ∀ t a, (r t).stride a = 1)
  (hd : ∀ t t', t ≠ t' → Disjoint (r t).set (r t').set)
  (hcov : (Finset.univ : Finset T).biUnion (fun t => (r t).set) = Finset.univ)
include hd hcov

theorem any_cut : any (F := F) c m ⊢ bigSep Finset.univ fun t => any (F := F) c (m.slice (r t) (hr t)) := by
  iintro H
  ihave H := (show any (F := F) c m ⊢ iprop(∃ X, ownsTc c m fullShare X) from .rfl) $$ H
  icases H with ⟨%X, H⟩
  ihave H := (owns_rects (c : Thread nD τ) m fullShare r hr hd hcov X) $$ H
  iapply (show bigSep Finset.univ (fun t => (ownsTc c (m.slice (r t) (hr t)) fullShare (fun j => X ((r t).emb j)) : sProp 𝕄)) ⊢ bigSep Finset.univ (fun t => any (F := F) c (m.slice (r t) (hr t)))
    from mono fun t _ => by
      show _ ⊢ iprop(∃ X, ownsTc c (m.slice (r t) (hr t)) fullShare X)
      iintro H; iexists _; iexact H)
  iexact H

theorem glue_own (Xs : ∀ t, (r t).shape.Idx → Elt F e) :
    bigSep Finset.univ (fun t => (ownsTc c (m.slice (r t) (hr t)) fullShare (Xs t) : sProp 𝕄)) ⊢ ownsTc c m fullShare (Rect.glue r hcov Xs) := by
  have hg (t : T) : (fun j => Rect.glue r hcov Xs ((r t).emb j)) = Xs t := funext fun y => Rect.glue_emb r hcov hd Xs t y
  refine .trans ?_ (owns_of_rects (c : Thread nD τ) m fullShare r hr hd hcov (Rect.glue r hcov Xs))
  simp only [hg]
  exact .rfl

theorem any_glue : (bigSep Finset.univ fun t => any (F := F) c (m.slice (r t) (hr t))) ⊢ any (F := F) c m := by
  refine (show (bigSep Finset.univ fun t => any (F := F) c (m.slice (r t) (hr t))) ⊢ bigSep Finset.univ (fun t => iprop(∃ X, ownsTc c (m.slice (r t) (hr t)) fullShare X)) from .rfl).trans ?_
  refine (BI.bigSep_exists_pi Finset.univ (fun t X => (ownsTc c (m.slice (r t) (hr t)) fullShare X : sProp 𝕄))).trans ?_
  iintro ⟨%Xs, H⟩
  ihave H := (glue_own (F := F) c m r hr hd hcov Xs) $$ H
  iapply (show iprop(∃ X, ownsTc c m fullShare X) ⊢ any (F := F) c m from .rfl)
  iexists _; iexact H

end Cut

theorem any_squeeze (c : Dev nD) {sp : Space} {s s' : Shape} {e : EltTy} (m : Memref sig .tc sp s e) (h : s.Squeezes s') (hc : s'.ShapeCasts s) :
    any (F := F) c (m.squeeze s' h) = any (F := F) c m := by
  refine eqv ?_ ?_
  · show iprop(∃ X, ownsTc c (m.squeeze s' h) fullShare X) ⊢ iprop(∃ X, ownsTc c m fullShare X)
    iintro ⟨%X, H⟩
    iexists (shapeCast s X hc)
    rw [← owns_squeeze (F := F) c m h fullShare X hc]
    iexact H
  · show iprop(∃ X, ownsTc c m fullShare X) ⊢ iprop(∃ X, ownsTc c (m.squeeze s' h) fullShare X)
    iintro ⟨%X, H⟩
    iexists (shapeCast s' X h.numel_eq)
    rw [owns_squeeze (F := F) c m h fullShare _ hc, shapeCast_shapeCast]
    iexact H

/-! ## The rectangles cover and are disjoint -/

section Cover

theorem lane_disj : ∀ q q' : Fin 8, q ≠ q' → Disjoint (laneR q).set (laneR q').set := fun q q' h =>
  Rect.unit_disjoint (0 : Fin 3) (by have : q.val ≠ q'.val := fun e => h (Fin.ext e); simp [S1x256x256]; omega)
theorem lane_cov : (Finset.univ : Finset (Fin 8)).biUnion (fun q => (laneR q).set) = Finset.univ := by
  ext i
  simp only [Finset.mem_biUnion, Finset.mem_univ, true_and, iff_true]
  have h0 : (i (0 : Fin 3)).val < 8 := (i (0 : Fin 3)).isLt
  have h1 : (i (1 : Fin 3)).val < 256 := (i (1 : Fin 3)).isLt
  have h2 : (i (2 : Fin 3)).val < 256 := (i (2 : Fin 3)).isLt
  refine ⟨⟨_, h0⟩, Rect.mem_set_unit.mpr fun a => ?_⟩
  match a with
  | ⟨0, _⟩ => exact ⟨le_rfl, Nat.lt_succ_self _⟩
  | ⟨1, _⟩ => exact ⟨Nat.zero_le _, by show _ < 0 + 256; rw [Nat.zero_add]; exact h1⟩
  | ⟨2, _⟩ => exact ⟨Nat.zero_le _, by show _ < 0 + 256; rw [Nat.zero_add]; exact h2⟩

theorem recv_disj : ∀ t t' : Fin 8 × Fin 7, t ≠ t' → Disjoint (recvR t.1 t.2).set (recvR t'.1 t'.2).set := fun t t' h => by
  by_cases h0 : t.1 = t'.1
  · refine Rect.unit_disjoint (1 : Fin 4) ?_
    have : t.2.val ≠ t'.2.val := fun e => h (Prod.ext h0 (Fin.ext e))
    simp [S1x1x256x256]; omega
  · refine Rect.unit_disjoint (0 : Fin 4) ?_
    have : t.1.val ≠ t'.1.val := fun e => h0 (Fin.ext e)
    simp [S1x1x256x256]; omega
theorem recv_cov : (Finset.univ : Finset (Fin 8 × Fin 7)).biUnion (fun t => (recvR t.1 t.2).set) = Finset.univ := by
  ext i
  simp only [Finset.mem_biUnion, Finset.mem_univ, true_and, iff_true]
  have h0 : (i (0 : Fin 4)).val < 8 := (i (0 : Fin 4)).isLt
  have h1 : (i (1 : Fin 4)).val < 7 := (i (1 : Fin 4)).isLt
  have h2 : (i (2 : Fin 4)).val < 256 := (i (2 : Fin 4)).isLt
  have h3 : (i (3 : Fin 4)).val < 256 := (i (3 : Fin 4)).isLt
  refine ⟨(⟨_, h0⟩, ⟨_, h1⟩), Rect.mem_set_unit.mpr fun a => ?_⟩
  match a with
  | ⟨0, _⟩ => exact ⟨le_rfl, Nat.lt_succ_self _⟩
  | ⟨1, _⟩ => exact ⟨le_rfl, Nat.lt_succ_self _⟩
  | ⟨2, _⟩ => exact ⟨Nat.zero_le _, by show _ < 0 + 256; rw [Nat.zero_add]; exact h2⟩
  | ⟨3, _⟩ => exact ⟨Nat.zero_le _, by show _ < 0 + 256; rw [Nat.zero_add]; exact h3⟩

theorem slot_disj : ∀ t t' : Fin 2 × Fin 2, t ≠ t' → Disjoint (slotR t.1 t.2).set (slotR t'.1 t'.2).set := fun t t' h => by
  by_cases h0 : t.1 = t'.1
  · refine Rect.unit_disjoint (1 : Fin 4) ?_
    have : t.2.val ≠ t'.2.val := fun e => h (Prod.ext h0 (Fin.ext e))
    simp [S1x1x4096x256]; omega
  · refine Rect.unit_disjoint (0 : Fin 4) ?_
    have : t.1.val ≠ t'.1.val := fun e => h0 (Fin.ext e)
    simp [S1x1x4096x256]; omega
theorem slot_cov : (Finset.univ : Finset (Fin 2 × Fin 2)).biUnion (fun t => (slotR t.1 t.2).set) = Finset.univ := by
  ext i
  simp only [Finset.mem_biUnion, Finset.mem_univ, true_and, iff_true]
  have h0 : (i (0 : Fin 4)).val < 2 := (i (0 : Fin 4)).isLt
  have h1 : (i (1 : Fin 4)).val < 2 := (i (1 : Fin 4)).isLt
  have h2 : (i (2 : Fin 4)).val < 4096 := (i (2 : Fin 4)).isLt
  have h3 : (i (3 : Fin 4)).val < 256 := (i (3 : Fin 4)).isLt
  refine ⟨(⟨_, h0⟩, ⟨_, h1⟩), Rect.mem_set_unit.mpr fun a => ?_⟩
  match a with
  | ⟨0, _⟩ => exact ⟨le_rfl, Nat.lt_succ_self _⟩
  | ⟨1, _⟩ => exact ⟨le_rfl, Nat.lt_succ_self _⟩
  | ⟨2, _⟩ => exact ⟨Nat.zero_le _, by show _ < 0 + 4096; rw [Nat.zero_add]; exact h2⟩
  | ⟨3, _⟩ => exact ⟨Nat.zero_le _, by show _ < 0 + 256; rw [Nat.zero_add]; exact h3⟩

/-- The grid of tiles, its columns renumbered in each row. -/
abbrev gridS (σ : Fin 8 → Fin 8 → Fin 8) (t : Fin 8 × Fin 8) := gridR t.1 (σ t.1 t.2)

theorem grid_disj (σ : Fin 8 → Fin 8 → Fin 8) (hσ : ∀ q, Function.Injective (σ q)) :
    ∀ t t' : Fin 8 × Fin 8, t ≠ t' → Disjoint (gridS σ t).set (gridS σ t').set := fun t t' h => by
  by_cases h0 : t.1 = t'.1
  · refine Rect.unit_disjoint (1 : Fin 2) ?_
    have : (σ t.1 t.2).val ≠ (σ t'.1 t'.2).val := fun e => h (Prod.ext h0 (hσ t.1 (by rw [Fin.ext e, h0])))
    simp [S256x256]; omega
  · refine Rect.unit_disjoint (0 : Fin 2) ?_
    have : t.1.val ≠ t'.1.val := fun e => h0 (Fin.ext e)
    simp [S256x256]; omega

theorem grid_cov (σ : Fin 8 → Fin 8 → Fin 8) (hσ : ∀ q, Function.Injective (σ q)) :
    (Finset.univ : Finset (Fin 8 × Fin 8)).biUnion (fun t => (gridS σ t).set) = Finset.univ := by
  ext i
  simp only [Finset.mem_biUnion, Finset.mem_univ, true_and, iff_true]
  have h0 : (i (0 : Fin 2)).val < 2048 := (i (0 : Fin 2)).isLt
  have h1 : (i (1 : Fin 2)).val < 2048 := (i (1 : Fin 2)).isLt
  let q : Fin 8 := ⟨(i (0 : Fin 2)).val / 256, by omega⟩
  let j : Fin 8 := ⟨(i (1 : Fin 2)).val / 256, by omega⟩
  obtain ⟨k, hk⟩ : ∃ k, σ q k = j := (Finite.injective_iff_surjective.mp (hσ q)) j
  refine ⟨(q, k), Rect.mem_set_unit.mpr fun a => ?_⟩
  match a with
  | ⟨0, _⟩ =>
    show 256 * ((i (0 : Fin 2)).val / 256) ≤ (i (0 : Fin 2)).val ∧ (i (0 : Fin 2)).val < 256 * ((i (0 : Fin 2)).val / 256) + 256
    omega
  | ⟨1, _⟩ =>
    show 256 * (σ q k).val ≤ (i (1 : Fin 2)).val ∧ (i (1 : Fin 2)).val < 256 * (σ q k).val + 256
    rw [hk]
    show 256 * ((i (1 : Fin 2)).val / 256) ≤ (i (1 : Fin 2)).val ∧ (i (1 : Fin 2)).val < 256 * ((i (1 : Fin 2)).val / 256) + 256
    omega

end Cover

/-! ## The buffers of the fused call -/

theorem bigSep_last (Φ : Fin 8 → sProp 𝕄) : bigSep Finset.univ Φ = iprop((bigSep Finset.univ fun t : Fin 7 => Φ t.castSucc) ∗ Φ 7) := by
  have e : (Finset.univ : Finset (Fin 8)) = insert 7 (Finset.univ.map Fin.castSuccEmb) := by decide
  rw [e, bigSep_insert (by decide), bigSep_map]
  refine eqv (P := iprop(Φ 7 ∗ bigSep Finset.univ fun t : Fin 7 => Φ t.castSucc)) ?_ ?_
  · iintro ⟨H, K⟩
    isplitl [K] <;> iassumption
  · iintro ⟨H, K⟩
    isplitl [K] <;> iassumption

def rsEmb : Fin 7 ↪ Fin 14 := ⟨hRS, by decide⟩
def agEmb : Fin 7 ↪ Fin 14 := ⟨hAG, by decide⟩

theorem bigSep_hops (Φ : Fin 14 → sProp 𝕄) : bigSep Finset.univ Φ = iprop((bigSep Finset.univ fun t : Fin 7 => Φ (hRS t)) ∗ bigSep Finset.univ fun t : Fin 7 => Φ (hAG t)) := by
  have e : (Finset.univ : Finset (Fin 14)) = Finset.univ.map rsEmb ∪ Finset.univ.map agEmb := by decide
  rw [e, bigSep_union (by decide), bigSep_map, bigSep_map]
  rfl

variable (c : Dev nD)

theorem ck_first (q : Fin 8) : Function.Injective fun k : Fin 8 => ck q c k.val := by
  revert q c; decide +kernel
theorem ck_second (q : Fin 8) : Function.Injective fun k : Fin 8 => ck q c (7 + k.val) := by
  revert q c; decide +kernel

/-- Every lane of a stack of eight tiles. -/
theorem send_tiles : any (F := F) c aSend ⊢ bigSep Finset.univ fun q => any (F := F) c (sendM q) := by
  refine (any_cut c aSend laneR (fun _ _ => rfl) lane_disj lane_cov).trans (mono fun q _ => ?_)
  rw [any_squeeze c _ squeezes_S1x256x256_S256x256 cast_lane]
theorem tiles_send : (bigSep Finset.univ fun q => any (F := F) c (sendM q)) ⊢ any (F := F) c aSend := by
  refine .trans (mono fun q _ => ?_) (any_glue c aSend laneR (fun _ _ => rfl) lane_disj lane_cov)
  rw [any_squeeze c _ squeezes_S1x256x256_S256x256 cast_lane]
theorem piece_tiles : any (F := F) c aPiece ⊢ bigSep Finset.univ fun q => any (F := F) c (pieceM q) := by
  refine (any_cut c aPiece laneR (fun _ _ => rfl) lane_disj lane_cov).trans (mono fun q _ => ?_)
  rw [any_squeeze c _ squeezes_S1x256x256_S256x256 cast_lane]
theorem tiles_piece : (bigSep Finset.univ fun q => any (F := F) c (pieceM q)) ⊢ any (F := F) c aPiece := by
  refine .trans (mono fun q _ => ?_) (any_glue c aPiece laneR (fun _ _ => rfl) lane_disj lane_cov)
  rw [any_squeeze c _ squeezes_S1x256x256_S256x256 cast_lane]

theorem recv_tiles : any (F := F) c aRecv ⊢ bigSep Finset.univ fun q => bigSep Finset.univ fun t : Fin 7 => any (F := F) c (recvM q t) := by
  refine (any_cut c aRecv (fun t : Fin 8 × Fin 7 => recvR t.1 t.2) (fun _ _ => rfl) recv_disj recv_cov).trans ?_
  rw [bigSep_univ_prod]
  refine mono fun q _ => mono fun t _ => ?_
  rw [any_squeeze c _ squeezes_S1x1x256x256_S256x256 cast_recv]
theorem tiles_recv : (bigSep Finset.univ fun q => bigSep Finset.univ fun t : Fin 7 => any (F := F) c (recvM q t)) ⊢ any (F := F) c aRecv := by
  refine .trans ?_ (any_glue c aRecv (fun t : Fin 8 × Fin 7 => recvR t.1 t.2) (fun _ _ => rfl) recv_disj recv_cov)
  rw [bigSep_univ_prod]
  refine mono fun q _ => mono fun t _ => ?_
  rw [any_squeeze c _ squeezes_S1x1x256x256_S256x256 cast_recv]

theorem slot_tiles : any (F := F) c aSlot ⊢ bigSep Finset.univ fun t : Fin 2 × Fin 2 => any (F := F) c (slotM t.1 t.2) := by
  refine (any_cut c aSlot (fun t : Fin 2 × Fin 2 => slotR t.1 t.2) (fun _ _ => rfl) slot_disj slot_cov).trans ?_
  refine mono fun t _ => ?_
  rw [any_squeeze c _ squeezes_S1x1x4096x256_S4096x256 cast_slot]
theorem tiles_slot : (bigSep Finset.univ fun t : Fin 2 × Fin 2 => any (F := F) c (slotM t.1 t.2)) ⊢ any (F := F) c aSlot := by
  refine .trans ?_ (any_glue c aSlot (fun t : Fin 2 × Fin 2 => slotR t.1 t.2) (fun _ _ => rfl) slot_disj slot_cov)
  refine mono fun t _ => ?_
  rw [any_squeeze c _ squeezes_S1x1x4096x256_S4096x256 cast_slot]

theorem gath_tiles : any (F := F) c aGath ⊢ bigSep Finset.univ fun q => iprop((bigSep Finset.univ fun t : Fin 7 => any (F := F) c (gathM q (ck q c t.val))) ∗ any (F := F) c (gathM q (ck q c 7))) := by
  refine (any_cut c aGath (gridS fun q k => ck q c k.val) (fun _ _ => rfl) (grid_disj _ (ck_first c)) (grid_cov _ (ck_first c))).trans ?_
  rw [bigSep_univ_prod]
  refine mono fun q _ => ?_
  rw [bigSep_last]; exact .rfl
theorem tiles_gath : (bigSep Finset.univ fun q => iprop((bigSep Finset.univ fun t : Fin 7 => any (F := F) c (gathM q (ck q c (7 + t.val)))) ∗ any (F := F) c (gathM q (ck q c 6)))) ⊢ any (F := F) c aGath := by
  refine .trans ?_ (any_glue c aGath (gridS fun q k => ck q c (7 + k.val)) (fun _ _ => rfl) (grid_disj _ (ck_second c)) (grid_cov _ (ck_second c)))
  rw [bigSep_univ_prod]
  refine mono fun q _ => ?_
  rw [bigSep_last]
  have e : ck q c 6 = ck q c (7 + (7 : Fin 8).val) := by revert q c; decide +kernel
  rw [e]; exact .rfl

theorem out_tiles (H : Dev nD → S2048x4096.Idx → Elt F .bf16) (W : Dev nD → S4096x2048.Idx → Elt F .bf16) :
    any (F := F) c aOut ⊢ bigSep Finset.univ fun q => outT H W c q fun _ => False := by
  refine (any_cut c aOut (gridS fun q k => ck q c k.val) (fun _ _ => rfl) (grid_disj _ (ck_first c)) (grid_cov _ (ck_first c))).trans ?_
  rw [bigSep_univ_prod]
  refine mono fun q _ => ?_
  refine mono fun k _ => ?_
  show iprop(∃ X, ownsTc c (outM q (ck q c k.val)) fullShare X) ⊢ _
  iintro ⟨%X, H⟩
  iexists X
  isplitr [H]
  · ipureintro; exact fun h => h.elim
  · iexact H

/-- What the fused call leaves in the output: tile by tile, what the pipelines put there. -/
def outF (H : Dev nD → S2048x4096.Idx → Elt F .bf16) (W : Dev nD → S4096x2048.Idx → Elt F .bf16) : S2048x2048.Idx → Elt F .f32 :=
  Rect.glue (gridS fun q k => ck q c k.val) (grid_cov _ (ck_first c)) fun t => outV H W c t.1 t.2

theorem outF_emb (H : Dev nD → S2048x4096.Idx → Elt F .bf16) (W : Dev nD → S4096x2048.Idx → Elt F .bf16) (q k : Fin 8) (j : S256x256.Idx) :
    outF c H W ((gridR q (ck q c k.val)).emb j) = outV H W c q k j :=
  Rect.glue_emb (gridS fun q k => ck q c k.val) (grid_cov _ (ck_first c)) (grid_disj _ (ck_first c)) (fun t => outV H W c t.1 t.2) (q, k) j

theorem tiles_out (H : Dev nD → S2048x4096.Idx → Elt F .bf16) (W : Dev nD → S4096x2048.Idx → Elt F .bf16) :
    (bigSep Finset.univ fun q => outT H W c q fun _ => True) ⊢ (ownsTc c aOut fullShare (outF c H W) : sProp 𝕄) := by
  refine .trans ?_ (glue_own c aOut (gridS fun q k => ck q c k.val) (fun _ _ => rfl) (grid_disj _ (ck_first c)) (grid_cov _ (ck_first c)) (fun t => outV H W c t.1 t.2))
  rw [bigSep_univ_prod]
  refine mono fun q _ => ?_
  refine mono fun k _ => ?_
  show iprop(∃ X, ⌜True → X = outV H W c q k⌝ ∗ ownsTc c (outM q (ck q c k.val)) fullShare X) ⊢ (ownsTc c (outM q (ck q c k.val)) fullShare (outV H W c q k) : sProp 𝕄)
  iintro ⟨%X, %hX, H⟩
  rw [hX trivial]
  iexact H

end Cert.KernelIdeal
-- ==== Proof.Enter.lean ====
/-
What the fused call takes over at its entry and hands back at its exit, around the run of its body.
-/
module

public import proofs.«01_k».proof.Proof.Tiles

@[expose] public section

set_option maxRecDepth 16384

noncomputable section

namespace Cert.KernelIdeal

open Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (H : Dev nD → S2048x4096.Idx → Elt F .bf16) (W : Dev nD → S4096x2048.Idx → Elt F .bf16)
variable (κ : GSem nD τ sig → ℕ) (c : Dev nD)

/-! ## Semaphores of the call -/

abbrev KK := (Fin 2 × Fin 2) ⊕ (Fin 8 × Fin 14) ⊕ (Fin 8 × Fin 14)
def osem1 : KK → SemLoc sig
  | .inl x => .dma (wSem x.1 x.2)
  | .inr (.inl x) => .dma (sSem x.1 x.2)
  | .inr (.inr x) => .dma (rSem x.1 x.2)

theorem wSem_inj : ∀ x y : Fin 2 × Fin 2, wSem x.1 x.2 = wSem y.1 y.2 → x = y := by decide +kernel

theorem osem1_inj : Function.Injective osem1 := by
  intro x y e
  have hk : kind (osem1 x) = kind (osem1 y) := congrArg kind e
  rcases x with x | x | x <;> rcases y with y | y | y <;> simp only [osem1, kind_s, kind_r, kind_w] at hk
  · exact congrArg _ (wSem_inj x y (SemLoc.dma.inj e))
  · exact CK.noConfusion hk
  · exact CK.noConfusion hk
  · exact CK.noConfusion hk
  · simp only [CK.snd.injEq] at hk; rw [Prod.ext hk.1 hk.2]
  · exact CK.noConfusion hk
  · exact CK.noConfusion hk
  · exact CK.noConfusion hk
  · simp only [CK.rcv.injEq] at hk; rw [Prod.ext hk.1 hk.2]

theorem facts1 : Pipeline.OwnSemFacts spec1 osem1 where
  isScoped := by
    rintro (x | x | x)
    · revert x; decide +kernel
    · revert x; decide +kernel
    · revert x; decide +kernel
  inj := osem1_inj
  disj := by
    rintro (x | x | x)
    · revert x; decide +kernel
    · revert x; decide +kernel
    · revert x; decide +kernel

def wVals : sProp 𝕄 := bigSep Finset.univ fun x : Fin 2 × Fin 2 => semVal ((c : Thread nD τ), .dma (wSem x.1 x.2)) 0
def hopVals (q : Fin 8) (h : Fin 14) : sProp 𝕄 := iprop(semVal (sCell c q h) 0 ∗ semVal (rCell c q h) 0)

theorem ownSems1_eq : (Pipeline.ownSems0 osem1 c : sProp 𝕄) = iprop(wVals c ∗ bigSep Finset.univ fun q => bigSep Finset.univ (hopVals (F := F) c q)) := by
  unfold Pipeline.ownSems0
  rw [BI.bigSep_univ_sum, BI.bigSep_univ_sum]
  have e : (bigSep Finset.univ fun q : Fin 8 => bigSep Finset.univ (hopVals (F := F) c q))
      = iprop((bigSep Finset.univ fun x : Fin 8 × Fin 14 => semVal (sCell c x.1 x.2) 0) ∗ bigSep Finset.univ fun x : Fin 8 × Fin 14 => semVal (rCell c x.1 x.2) 0) := by
    rw [← bigSep_sep' (M := 𝕄), bigSep_univ_prod]; rfl
  rw [e]; rfl

/-! ## Opening the cells -/

/-- What a device brings to the barrier. -/
def barKeys : sProp 𝕄 :=
  iprop(dutyTok ER (barCell (devS 0 c)) 0 1 ∗ dutyTok ER (barCell (devS 1 c)) 0 0 ∗ cred (tallyAt (barCell c) () 2) ∗ atPos ER (barCell c) 0 ∅ 0)
/-- And for a hop, its cells not yet open. -/
def hopKeys (q : Fin 8) (h : Fin 14) : sProp 𝕄 :=
  iprop((openTok ER (sCell c q h) ∗ openTok ER (rCell c q h)) ∗ cred (tallyAt (rCell c q h) () NN) ∗ dutyTok ER (sCell c q h) 0 0
    ∗ dutyTok ER (rCell (tgt q c) q h) 0 0)
/-- The same, open. -/
def hopOpen (q : Fin 8) (h : Fin 14) : sProp 𝕄 := iprop(tok (F := F) c q h ∗ rcv (F := F) c q h ∗ reached ER (rCell c q h) 0)

def Tk : sProp 𝕄 := iprop(∃ κ, (invs H W κ ∗ barReached (F := F)) ∗ barKeys (F := F) c ∗ bigSep Finset.univ fun q => bigSep Finset.univ (hopKeys (F := F) c q))
def Xk : sProp 𝕄 := iprop(∃ κ, ctx H W κ ∗ barKeys (F := F) c ∗ (bigSep Finset.univ fun q => bigSep Finset.univ (hopOpen (F := F) c q)) ∗ wVals (F := F) c)

theorem open_hop (q : Fin 8) (h : Fin 14) : iprop(ctx H W κ ∗ hopKeys c q h ∗ hopVals c q h) ⊢ (|={Set.univ}=> hopOpen c q h : sProp 𝕄) := by
  unfold hopKeys hopVals hopOpen tok rcv
  iintro ⟨#HC, ⟨⟨Ho, Ho'⟩, Hcr, Ht, Ht'⟩, Hv, Hv'⟩
  imod (Rounds.cell_open ER (rd H W) (g := sCell c q h) (Set.mem_univ (κ (sCell c q h)))) $$ [Ho Hv] with ⟨Hat, #Hr⟩
  · isplitr; · iapply (ctx_inv H W κ (s_mem c q h)); iexact HC
    isplitl [Ho] <;> iassumption
  imod (Rounds.cell_open ER (rd H W) (g := rCell c q h) (Set.mem_univ (κ (rCell c q h)))) $$ [Ho' Hv'] with ⟨Hat', #Hr'⟩
  · isplitr; · iapply (ctx_inv H W κ (r_mem c q h)); iexact HC
    isplitl [Ho'] <;> iassumption
  imodintro
  isplitl [Ht Ht']
  · isplitl [Ht]
    · isplitl [Ht]; · iexact Ht
      iexact Hr
    iexact Ht'
  isplitl [Hat Hat' Hcr]
  · isplitl [Hat]; · iexact Hat
    isplitl [Hat']; · iexact Hat'
    iexact Hcr
  iexact Hr'

theorem open_q (q : Fin 8) : iprop(ctx H W κ ∗ bigSep Finset.univ (hopKeys (F := F) c q) ∗ bigSep Finset.univ (hopVals (F := F) c q))
    ⊢ (|={Set.univ}=> bigSep Finset.univ (hopOpen (F := F) c q) : sProp 𝕄) := by
  rw [← bigSep_sep' (M := 𝕄)]
  exact (bigSep_with_persistent fun h _ => open_hop H W κ c q h).trans (bigSep_fupd _ _)

theorem open_all : iprop(ctx H W κ ∗ (bigSep Finset.univ fun q => bigSep Finset.univ (hopKeys (F := F) c q)) ∗ (bigSep Finset.univ fun q => bigSep Finset.univ (hopVals (F := F) c q)))
    ⊢ (|={Set.univ}=> bigSep Finset.univ fun q => bigSep Finset.univ (hopOpen (F := F) c q) : sProp 𝕄) := by
  rw [← bigSep_sep' (M := 𝕄)]
  exact (bigSep_with_persistent fun q _ => open_q H W κ c q).trans (bigSep_fupd _ _)

theorem ctx_mk : iprop((invs H W κ ∗ barReached (F := F)) ∗ levAts L lv) ⊢ ctx H W κ := by
  unfold ctx
  iintro ⟨⟨#HI, #HB⟩, #Hl⟩
  isplitr; · iexact Hl
  isplitr; · iexact HI
  iexact HB

theorem open_core : iprop(((invs H W κ ∗ barReached (F := F)) ∗ barKeys (F := F) c ∗ bigSep Finset.univ fun q => bigSep Finset.univ (hopKeys (F := F) c q))
      ∗ (wVals (F := F) c ∗ bigSep Finset.univ fun q => bigSep Finset.univ (hopVals (F := F) c q)) ∗ levAts L lv)
    ⊢ (|={Set.univ}=> iprop(ctx H W κ ∗ barKeys (F := F) c ∗ (bigSep Finset.univ fun q => bigSep Finset.univ (hopOpen (F := F) c q)) ∗ wVals (F := F) c) : sProp 𝕄) := by
  iintro ⟨⟨HI, Hb, Hk⟩, ⟨Hw, Hv⟩, Hl⟩
  ihave HC := (ctx_mk H W κ) $$ [HI Hl]
  · isplitl [HI]; · iexact HI
    iexact Hl
  icases HC with #HC
  imod (open_all H W κ c) $$ [Hk Hv] with Ho
  · isplitr; · iexact HC
    isplitl [Hk]; · iexact Hk
    iexact Hv
  imodintro
  isplitr; · iexact HC
  isplitl [Hb]; · iexact Hb
  isplitl [Ho]; · iexact Ho
  iexact Hw

theorem hopen1 : iprop(Tk H W c ∗ Pipeline.ownSems0 osem1 c ∗ levAts L lv) ⊢ (|={Set.univ}=> Xk H W c : sProp 𝕄) := by
  rw [ownSems1_eq]
  unfold Tk Xk
  iintro ⟨⟨%κ, HI, Hb, Hk⟩, Hs, Hl⟩
  imod (open_core H W κ c) $$ [HI Hb Hk Hs Hl] with Ho
  · isplitl [HI Hb Hk]
    · isplitl [HI]; · iexact HI
      isplitl [Hb] <;> iassumption
    isplitl [Hs] <;> iassumption
  imodintro
  iexists κ
  iexact Ho

/-! ## The second weight in four shares -/

theorem w2_half (p : PosShare TreeShare) : w2 W c p ⊢ iprop(w2 W c p.left ∗ w2 W c p.right) := (pointsTo_share (PosShare.mem_left_op_right p)).1
theorem half_w2 (p : PosShare TreeShare) : iprop(w2 W c p.left ∗ w2 W c p.right) ⊢ w2 W c p := (pointsTo_share (PosShare.mem_left_op_right p)).2

theorem bigSep_slots (Φ : Fin 2 × Fin 2 → sProp 𝕄) : bigSep Finset.univ Φ = iprop((Φ (0, 0) ∗ Φ (0, 1)) ∗ (Φ (1, 0) ∗ Φ (1, 1))) := by
  rw [bigSep_univ_prod, BI.bigSep_fin_two, BI.bigSep_fin_two, BI.bigSep_fin_two]; rfl

theorem w2_cut : w2 W c fullShare ⊢ bigSep Finset.univ fun x : Fin 2 × Fin 2 => w2 W c (wShare x.1 x.2) := by
  rw [bigSep_slots]
  iintro Hw
  ihave Hw := (w2_half W c fullShare) $$ Hw
  icases Hw with ⟨H0, H1⟩
  isplitl [H0]
  · iapply (w2_half W c fullShare.left); iexact H0
  · iapply (w2_half W c fullShare.right); iexact H1
theorem w2_join : (bigSep Finset.univ fun x : Fin 2 × Fin 2 => w2 W c (wShare x.1 x.2)) ⊢ w2 W c fullShare := by
  rw [bigSep_slots]
  iintro ⟨H0, H1⟩
  iapply (half_w2 W c fullShare)
  isplitl [H0]
  · iapply (half_w2 W c fullShare.left); iexact H0
  · iapply (half_w2 W c fullShare.right); iexact H1

theorem idles_all : (bigSep Finset.univ fun x : Fin 2 × Fin 2 => idle W c x.1 x.2) = iprop(idles W c 0 ∗ idles W c 1) := by
  rw [bigSep_slots]
  unfold idles
  show iprop((idle W c 0 0 ∗ idle W c 0 1) ∗ idle W c 1 0 ∗ idle W c 1 1) = iprop((idle W c 0 0 ∗ idle W c 1 0) ∗ idle W c 0 1 ∗ idle W c 1 1)
  refine eqv ?_ ?_
  · iintro ⟨⟨Ha, Hb⟩, Hc, Hd⟩
    isplitl [Ha Hc]; · isplitl [Ha] <;> iassumption
    isplitl [Hb] <;> iassumption
  · iintro ⟨⟨Ha, Hb⟩, Hc, Hd⟩
    isplitl [Ha Hc]; · isplitl [Ha] <;> iassumption
    isplitl [Hb] <;> iassumption

theorem idles_eq : (bigSep Finset.univ fun x : Fin 2 × Fin 2 => idle W c x.1 x.2)
    = iprop(wVals c ∗ (bigSep Finset.univ fun x : Fin 2 × Fin 2 => any (F := F) c (slotM x.1 x.2)) ∗ bigSep Finset.univ fun x : Fin 2 × Fin 2 => w2 W c (wShare x.1 x.2)) := by
  unfold wVals
  rw [← bigSep_sep' (M := 𝕄), ← bigSep_sep' (M := 𝕄)]; rfl

/-! ## Entry -/

/-- The call's scratch buffers. -/
def scr : sProp 𝕄 := iprop(any (F := F) c aGath ∗ any (F := F) c aRecv ∗ any (F := F) c aSend ∗ any (F := F) c aPiece ∗ any (F := F) c aSlot)

/-- What pipeline `q` is made from. -/
def mix (q : Fin 8) : sProp 𝕄 :=
  iprop(((bigSep Finset.univ fun t : Fin 7 => any (F := F) c (gathM q (ck q c t.val))) ∗ any (F := F) c (gathM q (ck q c 7)))
    ∗ (bigSep Finset.univ fun t : Fin 7 => any (F := F) c (recvM q t)) ∗ any (F := F) c (sendM q) ∗ any (F := F) c (pieceM q)
    ∗ (outT H W c q fun _ => False) ∗ bigSep Finset.univ (hopOpen (F := F) c q))

theorem mix_pre (q : Fin 8) : mix H W c q ⊢ iprop(land (F := F) c q ∗ pre H W c q) := by
  have hd : iprop((bigSep Finset.univ fun t : Fin 7 => any (F := F) c (recvM q t)) ∗ (bigSep Finset.univ fun t : Fin 7 => any (F := F) c (gathM q (ck q c t.val))))
      ⊢ bigSep Finset.univ fun h : Fin 14 => any (F := F) c (dstM q h c) := by
    rw [bigSep_hops]
    simp only [dstM_rs, dstM_ag]
    exact .rfl
  have ho : bigSep Finset.univ (hopOpen (F := F) c q) ⊢ iprop(bigSep Finset.univ (tok (F := F) c q) ∗ bigSep Finset.univ (rcv (F := F) c q)
      ∗ bigSep Finset.univ fun h : Fin 14 => (reached ER (rCell c q h) 0 : sProp 𝕄)) := by
    rw [← bigSep_sep' (M := 𝕄), ← bigSep_sep' (M := 𝕄)]; exact .rfl
  unfold mix pre land
  iintro ⟨⟨Hg, Hg7⟩, Hr, Hs, Hp, Ht, Ho⟩
  ihave Ho := ho $$ Ho
  icases Ho with ⟨H1, H2, H3⟩
  ihave Hd := hd $$ [Hr Hg]
  · isplitl [Hr] <;> iassumption
  isplitl [Hd H3]
  · rw [bigSep_sep' (M := 𝕄)]
    isplitl [Hd]; · iexact Hd
    iexact H3
  isplitl [H1]; · iexact H1
  isplitl [H2]; · iexact H2
  isplitl [Hs]; · iexact Hs
  isplitl [Hp]; · iexact Hp
  isplitl [Hg7]; · iexact Hg7
  iexact Ht

theorem lands_all : bigSep Finset.univ (land (F := F) c) = iprop(lands (F := F) c 0 ∗ lands (F := F) c 1) := by
  unfold lands
  have e : (Finset.univ : Finset (Fin 8)) = (Finset.univ.filter fun q => dirOf q = 0) ∪ (Finset.univ.filter fun q => dirOf q = 1) := by decide
  have hd : Disjoint (Finset.univ.filter fun q : Fin 8 => dirOf q = 0) (Finset.univ.filter fun q => dirOf q = 1) := by decide
  exact (congrArg (fun s => bigSep s (land (F := F) c)) e).trans (bigSep_union hd)

theorem enter : iprop(barKeys (F := F) c ∗ (bigSep Finset.univ fun q => bigSep Finset.univ (hopOpen (F := F) c q)) ∗ wVals (F := F) c
      ∗ scr (F := F) c ∗ w2 W c fullShare ∗ (∃ Wd, owes (c : Thread nD τ) (O₀ c) Wd) ∗ any (F := F) c aOut)
    ⊢ iprop(pStart W c ∗ bigSep Finset.univ (pre H W c)) := by
  have hm : iprop((bigSep Finset.univ fun q => iprop((bigSep Finset.univ fun t : Fin 7 => any (F := F) c (gathM q (ck q c t.val))) ∗ any (F := F) c (gathM q (ck q c 7))))
      ∗ (bigSep Finset.univ fun q => bigSep Finset.univ fun t : Fin 7 => any (F := F) c (recvM q t)) ∗ (bigSep Finset.univ fun q => any (F := F) c (sendM q))
      ∗ (bigSep Finset.univ fun q => any (F := F) c (pieceM q)) ∗ (bigSep Finset.univ fun q => outT H W c q fun _ => False)
      ∗ (bigSep Finset.univ fun q => bigSep Finset.univ (hopOpen (F := F) c q))) ⊢ iprop(bigSep Finset.univ (land (F := F) c) ∗ bigSep Finset.univ (pre H W c)) := by
    rw [← bigSep_sep' (M := 𝕄), ← bigSep_sep' (M := 𝕄), ← bigSep_sep' (M := 𝕄), ← bigSep_sep' (M := 𝕄), ← bigSep_sep' (M := 𝕄), ← bigSep_sep' (M := 𝕄)]
    exact mono fun q _ => mix_pre H W c q
  unfold barKeys scr pStart
  iintro ⟨⟨Ht1, Ht0, Hcr, Hat⟩, Ho, Hw, ⟨Hg, Hr, Hs, Hp, Hsl⟩, H2, HO, Hout⟩
  ihave Hg := (gath_tiles (F := F) c) $$ Hg
  ihave Hr := (recv_tiles (F := F) c) $$ Hr
  ihave Hs := (send_tiles (F := F) c) $$ Hs
  ihave Hp := (piece_tiles (F := F) c) $$ Hp
  ihave Hsl := (slot_tiles (F := F) c) $$ Hsl
  ihave H2 := (w2_cut W c) $$ H2
  ihave Hout := (out_tiles c H W) $$ Hout
  ihave Hm := hm $$ [Hg Hr Hs Hp Hout Ho]
  · isplitl [Hg]; · iexact Hg
    isplitl [Hr]; · iexact Hr
    isplitl [Hs]; · iexact Hs
    isplitl [Hp]; · iexact Hp
    isplitl [Hout]; · iexact Hout
    iexact Ho
  rw [lands_all]
  icases Hm with ⟨⟨Hl0, Hl1⟩, Hpre⟩
  isplitr [Hpre]
  · isplitl [Hw Hsl H2]
    · rw [← idles_all, idles_eq]
      isplitl [Hw]; · iexact Hw
      isplitl [Hsl]; · iexact Hsl
      iexact H2
    isplitl [HO]; · iexact HO
    isplitl [Ht1 Hl1]; · isplitl [Ht1] <;> iassumption
    isplitl [Ht0 Hl0]; · isplitl [Ht0] <;> iassumption
    isplitl [Hcr] <;> iassumption
  iexact Hpre

/-! ## Exit -/

theorem close_cell {g : GSem nD τ sig} (hg : g ∈ (barCells ∪ scCells : Finset (GSem nD τ sig))) :
    iprop(ctx H W κ ∗ atPos ER g 1 ∅ 0) ⊢ (|={Set.univ}=> semVal g 0 : sProp 𝕄) := by
  iintro ⟨#HC, Hat⟩
  iapply (Rounds.cell_close ER (rd H W) (g := g) (Set.mem_univ (κ g)) id (R := 1) (duties_later H W g))
  isplitr; · iapply (ctx_inv H W κ hg); iexact HC
  iexact Hat

theorem close_hop (q : Fin 8) (h : Fin 14) : iprop(ctx H W κ ∗ done c q h) ⊢ (|={Set.univ}=> iprop(hopVals c q h ∗ any c (spare c q h)) : sProp 𝕄) := by
  unfold done hopVals
  iintro ⟨#HC, Hs, Hr, Ha⟩
  imod (close_cell H W κ (s_mem c q h)) $$ [Hs] with Hs
  · isplitr; · iexact HC
    iexact Hs
  imod (close_cell H W κ (r_mem c q h)) $$ [Hr] with Hr
  · isplitr; · iexact HC
    iexact Hr
  imodintro
  isplitr [Ha]
  · isplitl [Hs] <;> iassumption
  iexact Ha

/-- What pipeline `q` leaves. -/
def leftQ (q : Fin 8) : sProp 𝕄 :=
  iprop(((bigSep Finset.univ fun t : Fin 7 => any (F := F) c (gathM q (ck q c (7 + t.val)))) ∗ any (F := F) c (gathM q (ck q c 6)))
    ∗ (bigSep Finset.univ fun t : Fin 7 => any (F := F) c (recvM q t)) ∗ any (F := F) c (sendM q) ∗ any (F := F) c (pieceM q)
    ∗ (outT H W c q fun _ => True) ∗ bigSep Finset.univ (hopVals (F := F) c q))

theorem close_q (q : Fin 8) : iprop(ctx H W κ ∗ St4 H W c q) ⊢ (|={Set.univ}=> leftQ H W c q : sProp 𝕄) := by
  have hs : bigSep Finset.univ (fun h : Fin 14 => any (F := F) c (spare c q h))
      ⊢ iprop((bigSep Finset.univ fun t : Fin 7 => any (F := F) c (recvM q t)) ∗ (bigSep Finset.univ fun t : Fin 7 => any (F := F) c (gathM q (ck q c (7 + t.val))))) := by
    rw [bigSep_hops]
    simp only [spare_rs, spare_ag, dstM_rs, srcM_ag]
    exact .rfl
  have e6 : dstM q (hAG 6) c = gathM q (ck q c 6) := dstM_ag ..
  unfold St4 base leftQ
  rw [upto_end, e6]
  iintro ⟨#HC, ⟨-, -, Hd⟩, Hp, Hs, Hg6, Ht⟩
  imod (show iprop(ctx H W κ ∗ bigSep Finset.univ (done (F := F) c q)) ⊢ (|={Set.univ}=> iprop(bigSep Finset.univ (hopVals (F := F) c q) ∗ bigSep Finset.univ (fun h : Fin 14 => any (F := F) c (spare c q h))) : sProp 𝕄) from by
    rw [← bigSep_sep' (M := 𝕄)]
    exact (bigSep_with_persistent fun h _ => close_hop H W κ c q h).trans (bigSep_fupd _ _)) $$ [Hd] with ⟨Hv, Ha⟩
  · isplitr; · iexact HC
    iexact Hd
  ihave Ha := hs $$ Ha
  icases Ha with ⟨Hr, Hg⟩
  imodintro
  isplitl [Hg Hg6]; · isplitl [Hg] <;> iassumption
  isplitl [Hr]; · iexact Hr
  isplitl [Hs]; · iexact Hs
  isplitl [Hp]; · iexact Hp
  isplitl [Ht]; · iexact Ht
  iexact Hv

theorem ws_end : ws W c 7 ⊢ iprop(idles W c 0 ∗ idles W c 1) := by
  unfold ws
  rw [if_neg (by decide : ¬ (7 : ℕ) < 7)]
  iintro ⟨H1, H0⟩
  ihave H1 := (rdy_idles W c 7) $$ H1
  isplitl [H0]
  · iapply (show idles W c 8 ⊢ idles W c 0 from .rfl); iexact H0
  · iapply (show idles W c 9 ⊢ idles W c 1 from .rfl); iexact H1

theorem leave : iprop(ctx H W κ ∗ (bigSep Finset.univ (St4 H W c) ∗ ow (F := F) c 112) ∗ ws W c 7 ∗ atPos ER (barCell c) 1 ∅ 0)
    ⊢ (|={Set.univ}=> iprop(Pipeline.ownSems0 osem1 c ∗ scr (F := F) c ∗ w2 W c fullShare ∗ semVal (barCell c) 0 ∗ ownsTc c aOut fullShare (outF c H W)
      ∗ ∃ Wd, owes (c : Thread nD τ) 0 Wd) : sProp 𝕄) := by
  have hl : bigSep Finset.univ (leftQ H W c) ⊢ iprop((bigSep Finset.univ fun q => iprop((bigSep Finset.univ fun t : Fin 7 => any (F := F) c (gathM q (ck q c (7 + t.val)))) ∗ any (F := F) c (gathM q (ck q c 6))))
      ∗ (bigSep Finset.univ fun q => bigSep Finset.univ fun t : Fin 7 => any (F := F) c (recvM q t)) ∗ (bigSep Finset.univ fun q => any (F := F) c (sendM q))
      ∗ (bigSep Finset.univ fun q => any (F := F) c (pieceM q)) ∗ (bigSep Finset.univ fun q => outT H W c q fun _ => True)
      ∗ (bigSep Finset.univ fun q => bigSep Finset.univ (hopVals (F := F) c q))) := by
    rw [← bigSep_sep' (M := 𝕄), ← bigSep_sep' (M := 𝕄), ← bigSep_sep' (M := 𝕄), ← bigSep_sep' (M := 𝕄), ← bigSep_sep' (M := 𝕄)]
    exact .rfl
  rw [ownSems1_eq]
  unfold scr ow
  iintro ⟨#HC, ⟨Hq, ⟨%Wd, HO⟩⟩, Hw, Hb⟩
  imod (show iprop(ctx H W κ ∗ bigSep Finset.univ (St4 H W c)) ⊢ (|={Set.univ}=> bigSep Finset.univ (leftQ H W c) : sProp 𝕄) from
    (bigSep_with_persistent fun q _ => close_q H W κ c q).trans (bigSep_fupd _ _)) $$ [Hq] with Hq
  · isplitr; · iexact HC
    iexact Hq
  imod (close_cell H W κ (b_mem c)) $$ [Hb] with Hb
  · isplitr; · iexact HC
    iexact Hb
  imodintro
  ihave Hq := hl $$ Hq
  icases Hq with ⟨Hg, Hr, Hs, Hp, Ht, Hv⟩
  ihave Hw := (ws_end W c) $$ Hw
  ihave Hw := (Entails.of_eq ((idles_all W c).symm.trans (idles_eq W c))) $$ Hw
  icases Hw with ⟨Hw, Hsl, H2⟩
  isplitl [Hw Hv]; · isplitl [Hw] <;> iassumption
  isplitl [Hg Hr Hs Hp Hsl]
  · isplitl [Hg]; · iapply (tiles_gath (F := F) c); iexact Hg
    isplitl [Hr]; · iapply (tiles_recv (F := F) c); iexact Hr
    isplitl [Hs]; · iapply (tiles_send (F := F) c); iexact Hs
    isplitl [Hp]; · iapply (tiles_piece (F := F) c); iexact Hp
    iapply (tiles_slot (F := F) c); iexact Hsl
  isplitl [H2]; · iapply (w2_join W c); iexact H2
  isplitl [Hb]; · iexact Hb
  isplitl [Ht]; · iapply (tiles_out c H W); iexact Ht
  iexists Wd
  rw [← debt_end c]
  iexact HO

end Cert.KernelIdeal
-- ==== Proof.Fill.lean ====
/-
The first call's body at one point: a band of the second weight is fetched, rounded and sent out, and a block of the hidden layer is computed.
-/
module

public import proofs.«01_k».proof.Proof.Enter
public import proofs.«01_k».proof.Proof.Gen.KernelIdeal.Points
public import proofs.«01_k».proof.Proof.Gen.KernelIdeal.Skeleton

@[expose] public section

set_option maxRecDepth 16384

noncomputable section

namespace Cert.KernelIdeal

open Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Memrefs -/

abbrev aX : Memref sig .tc .vmem S2048x2048 .bf16 := Memref.whole cc0_scratch0
abbrev aIn : Memref sig .tc .vmem S2x512x2048 .f32 := Memref.whole cc0_scratch1
abbrev aCv : Memref sig .tc .vmem S2x512x2048 .bf16 := Memref.whole cc0_scratch2
abbrev aW2 : Memref sig .tc .hbm S4096x2048 .f32 := Memref.whole main_arg2

theorem pInb (p : Fin 2) : ∀ a, (![p.val, 0, 0] : Fin 3 → ℕ) a + S1x512x2048.size a ≤ S2x512x2048.size a := by
  revert p; decide
theorem bInb (j : Fin 8) : ∀ a, (![512 * j.val, 0] : Fin 2 → ℕ) a + S512x2048.size a ≤ S4096x2048.size a := by
  revert j; decide
theorem p1Inb (p : Fin 2) : ∀ a, (![p.val] : Fin 1 → ℕ) a + S1.size a ≤ S2.size a := by
  revert p; decide
/-- Slot `p`, and band `j` of the rows of the second weight. -/
abbrev pR (p : Fin 2) : Rect S2x512x2048 := Rect.unit (s := S2x512x2048) ![p.val, 0, 0] S1x512x2048.size (pInb p)
abbrev bR (j : Fin 8) : Rect S4096x2048 := Rect.unit (s := S4096x2048) ![512 * j.val, 0] S512x2048.size (bInb j)
abbrev inM (p : Fin 2) : Memref sig .tc .vmem S512x2048 .f32 := (aIn.slice (pR p) (fun _ => rfl)).squeeze S512x2048 squeezes_S1x512x2048_S512x2048
abbrev cvM (p : Fin 2) : Memref sig .tc .vmem S512x2048 .bf16 := (aCv.slice (pR p) (fun _ => rfl)).squeeze S512x2048 squeezes_S1x512x2048_S512x2048
abbrev w2S (j : Fin 8) : Memref sig .tc .hbm S512x2048 .f32 := aW2.slice (bR j) (fun _ => rfl)
abbrev outB (j : Fin 8) : Memref sig .tc .hbm S512x2048 .bf16 := aW.slice (bR j) (fun _ => rfl)
abbrev iSem (p : Fin 2) : DmaSem sig := ((cc0_scratch3.slice (Rect.unit (s := S2) ![p.val] S1.size (p1Inb p))).squeeze S_ squeezes_S1_S_).sem
abbrev oSem (p : Fin 2) : DmaSem sig := ((cc0_scratch4.slice (Rect.unit (s := S2) ![p.val] S1.size (p1Inb p))).squeeze S_ squeezes_S1_S_).sem

theorem kind_i : ∀ p, kind (.dma (iSem p)) = .other := by decide +kernel
theorem kind_o : ∀ p, kind (.dma (oSem p)) = .other := by decide +kernel

/-- The point's number. -/
def pt (i : grid0.Coords) : Fin 8 := i 0

theorem sem_at (A : DmaSems sig S2) {off off' : Fin 1 → ℕ} (h : off = off') (p : ∀ a, off a + S1.size a ≤ S2.size a) (p' : ∀ a, off' a + S1.size a ≤ S2.size a) :
    ((A.slice (Rect.unit (s := S2) off S1.size p)).squeeze S_ squeezes_S1_S_).sem = ((A.slice (Rect.unit (s := S2) off' S1.size p')).squeeze S_ squeezes_S1_S_).sem := by
  subst h; rfl

section Names
variable (i : grid0.Coords)
theorem iS_eq : ((cc0_scratch3.slice (Rect.unit (s := S2) (k0_off4 i) S1.size (k0_off4_inb i))).squeeze S_ squeezes_S1_S_).sem = iSem (par (pt i)) :=
  sem_at _ (k0_off4_eq i) _ _
theorem oS_eq : ((cc0_scratch4.slice (Rect.unit (s := S2) (k0_off4 i) S1.size (k0_off4_inb i))).squeeze S_ squeezes_S1_S_).sem = oSem (par (pt i)) :=
  sem_at _ (k0_off4_eq i) _ _
theorem inM_eq : (aIn.slice (Rect.unit (s := S2x512x2048) (k0_off5 i) S1x512x2048.size (k0_off5_inb i)) (fun _ => rfl)).squeeze S512x2048 squeezes_S1x512x2048_S512x2048 = inM (par (pt i)) :=
  congrArg (fun m => Memref.squeeze m S512x2048 squeezes_S1x512x2048_S512x2048) (Memref.slice_unit_congr _ (k0_off5_eq i) _ _ _ _)
theorem cvM_eq : (aCv.slice (Rect.unit (s := S2x512x2048) (k0_off5 i) S1x512x2048.size (k0_off5_inb i)) (fun _ => rfl)).squeeze S512x2048 squeezes_S1x512x2048_S512x2048 = cvM (par (pt i)) :=
  congrArg (fun m => Memref.squeeze m S512x2048 squeezes_S1x512x2048_S512x2048) (Memref.slice_unit_congr _ (k0_off5_eq i) _ _ _ _)
theorem w2S_eq : aW2.slice (Rect.unit (s := S4096x2048) (k0_off6 i) S512x2048.size (k0_off6_inb i)) (fun _ => rfl) = w2S (pt i) :=
  Memref.slice_unit_congr _ (k0_off6_eq i) _ _ _ _
theorem outB_eq : aW.slice (Rect.unit (s := S4096x2048) (k0_off6 i) S512x2048.size (k0_off6_inb i)) (fun _ => rfl) = outB (pt i) :=
  Memref.slice_unit_congr _ (k0_off6_eq i) _ _ _ _
theorem off7_eq : k0_off7 i = ![(i 0).val % 2, 0, 0] := by revert i; decide +kernel
theorem inL_eq : aIn.slice (Rect.unit (s := S2x512x2048) (k0_off7 i) S1x512x2048.size (k0_off7_inb i)) (fun _ => rfl) = aIn.slice (pR (par (pt i))) (fun _ => rfl) :=
  Memref.slice_unit_congr _ (off7_eq i) _ _ _ _
theorem cvL_eq : aCv.slice (Rect.unit (s := S2x512x2048) (k0_off7 i) S1x512x2048.size (k0_off7_inb i)) (fun _ => rfl) = aCv.slice (pR (par (pt i))) (fun _ => rfl) :=
  Memref.slice_unit_congr _ (off7_eq i) _ _ _ _
theorem cond1_iff : k0_cond1 i = 1#1 ↔ 2 ≤ (pt i).val := by revert i; decide +kernel
theorem cond3_iff : k0_cond3 i = 1#1 ↔ (pt i).val = 7 := by revert i; decide +kernel
/-- The condition of the block the first point alone runs. -/
abbrev isFirst : BitVec 1 := Scalar.cmpi .ne (Scalar.extui (Scalar.cmpi .eq (BitVec.ofNat 32 (i 0).val) 0#32) : BitVec 32) 0#32
theorem first_iff : isFirst i = 1#1 ↔ (pt i).val = 0 := by revert i; decide +kernel

theorem off1_eq : k0_off1 i = ![(i 0).val % 2] := k0_off1_eq i
theorem oS1_eq (h : k0_cond1 i = 1#1) : ((cc0_scratch4.slice (Rect.unit (s := S2) (k0_off1 i) S1.size (k0_off1_inb i h))).squeeze S_ squeezes_S1_S_).sem = oSem (par (pt i)) :=
  sem_at _ (k0_off1_eq i) _ _
theorem off8_eq : k0_cond3 i = 1#1 → k0_off8 i = ![0] := by revert i; decide +kernel
theorem off11_eq : k0_cond3 i = 1#1 → k0_off11 i = ![1] := by revert i; decide +kernel
theorem oS8_eq (h : k0_cond3 i = 1#1) : ((cc0_scratch4.slice (Rect.unit (s := S2) (k0_off8 i) S1.size (k0_off8_inb i h))).squeeze S_ squeezes_S1_S_).sem = oSem 0 :=
  sem_at _ (off8_eq i h) _ _
theorem oS11_eq (h : k0_cond3 i = 1#1) : ((cc0_scratch4.slice (Rect.unit (s := S2) (k0_off11 i) S1.size (k0_off11_inb i h))).squeeze S_ squeezes_S1_S_).sem = oSem 1 :=
  sem_at _ (off11_eq i h) _ _
end Names

/-! ## The body in parts -/

section Parts
variable (i : grid0.Coords) (a1 : Memref sig .tc .vmem S2048x2048 .f32) (h1 : a1.IsWhole) (a2 : Memref sig .tc .vmem S2048x512 .f32) (h2 : a2.IsWhole)
  (a4 : Memref sig .tc .vmem S2048x512 .bf16) (h4 : a4.IsWhole)

theorem wholeCv : aCv.IsWhole := Memref.isWhole_whole _
theorem wholeW : aW.IsWhole := Memref.isWhole_whole _
theorem wholeX : aX.IsWhole := Memref.isWhole_whole _

/-- The wait for the band sent two points before. -/
def hd : P1 F PUnit :=
  if h : k0_cond1 i = 1#1 then
    .op (.waitDma2 ((cc0_scratch4.slice (Rect.unit (s := S2) (k0_off1 i) S1.size (k0_off1_inb i h))).squeeze S_ squeezes_S1_S_).sem
      ((aCv.slice (Rect.unit (s := S2x512x2048) (k0_off3 i) S1x512x2048.size (k0_off3_inb i h)) (fun _ => rfl)).squeeze S512x2048 squeezes_S1x512x2048_S512x2048)
      (aW.slice (Rect.unit (s := S4096x2048) (k0_off2 i) S512x2048.size (k0_off2_inb i h)) (fun _ => rfl))
      ((wholeCv.wordExact_slice rfl _ (k0_off3_wordsbf16 i h)).reshape _ _) (wholeW.wordExact_slice rfl _ (k0_off2_wordsbf16 i h))) .ret
  else .ret ⟨⟩
/-- The first point's rounding of the input. -/
def rnd : P1 F PUnit :=
  if isFirst i = 1#1 then
    .op (.load a1 (Rect.unit (s := S2048x2048) ![0, 0] S2048x2048.size inb_S2048x2048_S2048x2048_0_0).toLoadRect (View.loadsAt_vmem h_S2048x2048)) fun v =>
    .op (.load aX (Rect.unit (s := S2048x2048) ![0, 0] S2048x2048.size inb_S2048x2048_S2048x2048_0_0).toLoadRect (View.loadsAt_vmem h_S2048x2048)) fun _ =>
    .op (.store aX (Rect.unit (s := S2048x2048) ![0, 0] S2048x2048.size inb_S2048x2048_S2048x2048_0_0) (k0_pay2 v) Finset.univ
      (View.stores_vmem h_S2048x2048 (wholeX.storeExact_slice rfl _ packedbf16_S2048x2048_S2048x2048_0_0) (fun _ => rfl)) (.inl rfl)) .ret
  else .ret ⟨⟩
/-- The last point's two waits. -/
def tl : P1 F PUnit :=
  if h : k0_cond3 i = 1#1 then
    .op (.waitDma2 ((cc0_scratch4.slice (Rect.unit (s := S2) (k0_off8 i) S1.size (k0_off8_inb i h))).squeeze S_ squeezes_S1_S_).sem
      ((aCv.slice (Rect.unit (s := S2x512x2048) (k0_off10 i) S1x512x2048.size (k0_off10_inb i h)) (fun _ => rfl)).squeeze S512x2048 squeezes_S1x512x2048_S512x2048)
      (aW.slice (Rect.unit (s := S4096x2048) (k0_off9 i) S512x2048.size (k0_off9_inb i h)) (fun _ => rfl))
      ((wholeCv.wordExact_slice rfl _ (k0_off10_wordsbf16 i h)).reshape _ _) (wholeW.wordExact_slice rfl _ (k0_off9_wordsbf16 i h))) fun _ =>
    .op (.waitDma2 ((cc0_scratch4.slice (Rect.unit (s := S2) (k0_off11 i) S1.size (k0_off11_inb i h))).squeeze S_ squeezes_S1_S_).sem
      ((aCv.slice (Rect.unit (s := S2x512x2048) (k0_off13 i) S1x512x2048.size (k0_off13_inb i h)) (fun _ => rfl)).squeeze S512x2048 squeezes_S1x512x2048_S512x2048)
      (aW.slice (Rect.unit (s := S4096x2048) (k0_off12 i) S512x2048.size (k0_off12_inb i h)) (fun _ => rfl))
      ((wholeCv.wordExact_slice rfl _ (k0_off13_wordsbf16 i h)).reshape _ _) (wholeW.wordExact_slice rfl _ (k0_off12_wordsbf16 i h))) .ret
  else .ret ⟨⟩

/-- The body, the parts put together. -/
def whole0 : P1 F PUnit :=
  hd i >>= fun _ =>
  .op (.enqueueDma (aW2.slice (Rect.unit (s := S4096x2048) (k0_off6 i) S512x2048.size (k0_off6_inb i)) (fun _ => rfl))
    (.here ((aIn.slice (Rect.unit (s := S2x512x2048) (k0_off5 i) S1x512x2048.size (k0_off5_inb i)) (fun _ => rfl)).squeeze S512x2048 squeezes_S1x512x2048_S512x2048))
    (.dma ((cc0_scratch3.slice (Rect.unit (s := S2) (k0_off4 i) S1.size (k0_off4_inb i))).squeeze S_ squeezes_S1_S_).sem)
    (View.wordExact_bits rfl) ((View.wordExact_bits rfl).reshape _ _) ⟨Or.inl rfl, trivial⟩) fun _ =>
  rnd i a1 >>= fun _ =>
  .op (.load aX (Rect.unit (s := S2048x2048) ![0, 0] S2048x2048.size inb_S2048x2048_S2048x2048_0_0).toLoadRect (View.loadsAt_vmem h_S2048x2048)) fun v13 =>
  .op (.load a2 (Rect.unit (s := S2048x512) ![0, 0] S2048x512.size inb_S2048x512_S2048x512_0_0).toLoadRect (View.loadsAt_vmem h_S2048x512)) fun v14 =>
  .op (.load a4 (Rect.unit (s := S2048x512) ![0, 0] S2048x512.size inb_S2048x512_S2048x512_0_0).toLoadRect (View.loadsAt_vmem h_S2048x512)) fun _ =>
  .op (.store a4 (Rect.unit (s := S2048x512) ![0, 0] S2048x512.size inb_S2048x512_S2048x512_0_0) (k0_pay3 v13 v14) Finset.univ
    (View.stores_vmem h_S2048x512 (h4.storeExact_slice rfl _ packedbf16_S2048x512_S2048x512_0_0) (fun _ => rfl)) (.inl rfl)) fun _ =>
  .op (.waitDma2 ((cc0_scratch3.slice (Rect.unit (s := S2) (k0_off4 i) S1.size (k0_off4_inb i))).squeeze S_ squeezes_S1_S_).sem
    (aW2.slice (Rect.unit (s := S4096x2048) (k0_off6 i) S512x2048.size (k0_off6_inb i)) (fun _ => rfl))
    ((aIn.slice (Rect.unit (s := S2x512x2048) (k0_off5 i) S1x512x2048.size (k0_off5_inb i)) (fun _ => rfl)).squeeze S512x2048 squeezes_S1x512x2048_S512x2048)
    (View.wordExact_bits rfl) ((View.wordExact_bits rfl).reshape _ _)) fun _ =>
  .op (.load aIn (Rect.unit (s := S2x512x2048) (k0_off7 i) S1x512x2048.size (k0_off7_inb i)).toLoadRect (View.loadsAt_vmem h_S1x512x2048)) fun v29 =>
  .op (.load aCv (Rect.unit (s := S2x512x2048) (k0_off7 i) S1x512x2048.size (k0_off7_inb i)).toLoadRect (View.loadsAt_vmem h_S1x512x2048)) fun _ =>
  .op (.store aCv (Rect.unit (s := S2x512x2048) (k0_off7 i) S1x512x2048.size (k0_off7_inb i)) (k0_pay1 (k0_pay4 v29)) Finset.univ
    (View.stores_vmem h_S1x512x2048 (wholeCv.storeExact_slice rfl _ (k0_off7_packedbf16 i)) (fun _ => rfl)) (.inl rfl)) fun _ =>
  .op (.enqueueDma ((aCv.slice (Rect.unit (s := S2x512x2048) (k0_off5 i) S1x512x2048.size (k0_off5_inb i)) (fun _ => rfl)).squeeze S512x2048 squeezes_S1x512x2048_S512x2048)
    (.here (aW.slice (Rect.unit (s := S4096x2048) (k0_off6 i) S512x2048.size (k0_off6_inb i)) (fun _ => rfl)))
    (.dma ((cc0_scratch4.slice (Rect.unit (s := S2) (k0_off4 i) S1.size (k0_off4_inb i))).squeeze S_ squeezes_S1_S_).sem)
    ((wholeCv.wordExact_slice rfl _ (k0_off5_wordsbf16 i)).reshape _ _) (wholeW.wordExact_slice rfl _ (k0_off6_wordsbf16 i)) ⟨Or.inl rfl, trivial⟩) fun _ =>
  tl i

set_option maxRecDepth 65536 in
theorem body0_eq : cc0__dot1_body (F := F) i a1 h1 a2 h2 aW2 (Memref.isWhole_whole _) a4 h4 aW (Memref.isWhole_whole _) aX (Memref.isWhole_whole _)
    aIn (Memref.isWhole_whole _) aCv (Memref.isWhole_whole _) cc0_scratch3 cc0_scratch4 = whole0 i a1 a2 a4 h4 := by
  rw [cc0__dot1_body_eq_skeleton]
  unfold cc0__dot1_body_skel
  rw [k0_part1_eq_skeleton]
  unfold k0_part1_skel whole0 hd rnd tl
  by_cases c1 : k0_cond1 i = 1#1 <;> by_cases c2 : isFirst i = 1#1 <;> by_cases c3 : k0_cond3 i = 1#1 <;>
    simp only [dif_pos, dif_neg, if_pos, if_neg, c1, c2, c3] <;> rfl
end Parts

/-! ## State -/

section Run
variable (A : Dev nD → S4096x2048.Idx → Elt F .f32) (c : Dev nD)

/-- Band `j` of the second weight, and the same rounded. -/
def inV (j : Fin 8) : FVec F S512x2048 .f32 := fun y => A c ((bR j).emb y)
def cvV (j : Fin 8) : FVec F S512x2048 .bf16 := truncf .bf16 (inV A c j) bitsLt_bf16_f32

abbrev NI : ℕ := (inM 0).view.dmaCredit
abbrev NO : ℕ := (outB 0).view.dmaCredit
theorem NI_pos : 0 < NI := View.dmaCredit_pos _ (by decide)
theorem NO_pos : 0 < NO := View.dmaCredit_pos _ (by decide)
theorem creditI (m : Memref sig .tc .vmem S512x2048 .f32) : m.view.dmaCredit = NI := rfl
theorem creditO (m : Memref sig .tc .hbm S512x2048 .bf16) : m.view.dmaCredit = NO := rfl

/-- The second weight, as passed in. -/
def wt : sProp 𝕄 := ((c : Thread nD τ).loc main_arg2) ↦{fullShare} A c
/-- What the core owes all along. -/
def oO : sProp 𝕄 := iprop(∃ Wd, owes (c : Thread nD τ) (O₀ c) Wd)
/-- A slot out of use. -/
def restI (p : Fin 2) : sProp 𝕄 := iprop(semVal ((c : Thread nD τ), .dma (iSem p)) 0 ∗ any (F := F) c (inM p))
def restO (p : Fin 2) : sProp 𝕄 := iprop(semVal ((c : Thread nD τ), .dma (oSem p)) 0 ∗ any (F := F) c (cvM p))
/-- Band `j` on its way in. -/
def flyI (j : Fin 8) : sProp 𝕄 :=
  iprop(Transfers.Flight EC (c : Thread nD τ) (.dma (iSem (par j))) () NI
      iprop(ownsTc c (inM (par j)) fullShare (inV A c j) ∗ (((c : Thread nD τ).loc main_arg2) ↦[(w2S j).view.set]{fullShare} A c))
    ∗ (((c : Thread nD τ).loc main_arg2) ↦[Finset.univ \ (w2S j).view.set]{fullShare} A c))
/-- Band `j` on its way out. -/
def flyO (j : Fin 8) : sProp 𝕄 :=
  Transfers.Flight EC (c : Thread nD τ) (.dma (oSem (par j))) () NO
      iprop(ownsTc c (outB j) fullShare (cvV A c j) ∗ ownsTc c (cvM (par j)) fullShare (cvV A c j))

theorem mayWait_O (sm : SemLoc sig) (h : lv ((c : Thread nD τ), sm) () = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by
      rcases O₀_pos hg with ⟨hh, q, rfl⟩ | ⟨d, rfl⟩ <;> (rw [L_tc]; exact Finset.mem_singleton_self _))
    (fun p hp => by rw [Finset.mem_singleton.mp hp]; exact h.le)
    (fun g u hg => by
      rcases O₀_pos hg with ⟨hh, q, rfl⟩ | ⟨d, rfl⟩
      · rw [lv_r]; omega
      · rw [lv_b]; omega)

/-! ## Rules -/

theorem wp_in (j : Fin 8) {src : Memref sig .tc .hbm S512x2048 .f32} (hs : src = w2S j) {dst : Memref sig .tc .vmem S512x2048 .f32} (hd : dst = inM (par j))
    {sem : DmaSem sig} (he : sem = iSem (par j)) {w₁ : src.view.WordExact} {w₂ : dst.view.WordExact}
    {ty : DmaTarget.Typed (nD := nD) (p := (.tc : Proc τ)) .hbm (.dma sem) (.here dst)} {k : PUnit → P1 F PUnit} {Φ : PUnit → sProp 𝕄} :
    iprop(restI c (par j) ∗ wt A c) ⊢ iprop((flyI A c j -∗ WP c (k ⟨⟩) Φ) -∗ WP c (.op (.enqueueDma src (.here dst) (.dma sem) w₁ w₂ ty) k) Φ) := by
  subst hs hd he
  unfold restI any wt
  iintro ⟨⟨Hv, ⟨%Y, HD⟩⟩, Hw⟩ Hk
  ihave HD' := (show ownsTc c (inM (par j)) fullShare Y ⊢ iprop(∃ f, ⌜(inM (par j)).view.read (Elt F) f = Y⌝ ∗ ((inM (par j)).view.loc (c : Thread nD τ) ↦[(inM (par j)).view.set]{fullShare} f)) from .rfl) $$ HD
  icases HD' with ⟨%fd, -, HD⟩
  ihave Hw' := ((pointsTo_split_subset (Finset.subset_univ (w2S j).view.set)).1) $$ Hw
  icases Hw' with ⟨Hw, Hr⟩
  iapply (Transfers.wp_dmaLocal EC 𝒱₀ (c : Thread nD τ) none (src := w2S j) (dst := inM (par j)) (q := fullShare) (fs := A c) (fd := fd)
      (Sd := (inM (par j)).view.set) () NI (show (inM (par j)).view.amount (.dma (iSem (par j))) = NI from creditI _) NI_pos (Finset.Subset.refl _)) $$ [Hw HD Hv]
  · isplitl [Hw]; · iexact Hw
    isplitl [HD]; · iexact HD
    iexact Hv
  iintro Hf
  iapply Hk
  unfold flyI
  isplitl [Hf]
  · iapply (Transfers.Flight_mono EC (c : Thread nD τ) (sep_mono_left ((owns_intro (c : Thread nD τ) (inM (par j)) fullShare ((inM (par j)).view.write (Elt F) fd ((w2S j).view.read (Elt F) (A c)) Finset.univ)).trans (Entails.of_eq (by rw [View.read_write_univ]; rfl)))))
    iexact Hf
  iexact Hr

theorem wp_inWait (j : Fin 8) {src : Memref sig .tc .hbm S512x2048 .f32} {dst : Memref sig .tc .vmem S512x2048 .f32}
    {sem : DmaSem sig} (he : sem = iSem (par j)) {w₁ : src.view.WordExact} {w₂ : dst.view.WordExact} {k : PUnit → P1 F PUnit} {Φ : PUnit → sProp 𝕄} :
    iprop(levAts L lv ∗ flyI A c j ∗ oO c) ⊢ iprop((((semVal ((c : Thread nD τ), .dma (iSem (par j))) 0 ∗ ownsTc c (inM (par j)) fullShare (inV A c j) ∗ wt A c) ∗ oO c) -∗ WP c (k ⟨⟩) Φ)
      -∗ WP c (.op (.waitDma2 sem src dst w₁ w₂) k) Φ) := by
  subst he
  unfold flyI oO
  iintro ⟨#HL, ⟨Hf, Hr⟩, ⟨%Wd, HO⟩⟩ Hk
  iapply (Transfers.wp_waitLocalO EC 𝒱₀ (c : Thread nD τ) none (srcw := src) (dstw := dst) (hsrc := w₁) (hdst := w₂) (k := k) () (N := NI) (creditI _) (O := O₀ c) (W := Wd)) $$ [Hf HO]
  · isplitl [Hf]; · iexact Hf
    isplitl [HO]; · iexact HO
    iapply (mayWait_O c (.dma (iSem (par j))) (by unfold lv; rw [kind_i])); iexact HL
  iintro ⟨⟨Hm, Hw⟩, Hv, HO⟩
  iapply Hk
  isplitr [HO]
  · unfold wt
    isplitl [Hv]; · iexact Hv
    isplitl [Hm]; · iexact Hm
    iapply ((pointsTo_split_subset (Finset.subset_univ (w2S j).view.set)).2)
    isplitl [Hw]; · iexact Hw
    iexact Hr
  iexists _; iexact HO

theorem wp_out (j : Fin 8) {src : Memref sig .tc .vmem S512x2048 .bf16} (hs : src = cvM (par j)) {dst : Memref sig .tc .hbm S512x2048 .bf16} (hd : dst = outB j)
    {sem : DmaSem sig} (he : sem = oSem (par j)) {w₁ : src.view.WordExact} {w₂ : dst.view.WordExact}
    {ty : DmaTarget.Typed (nD := nD) (p := (.tc : Proc τ)) .vmem (.dma sem) (.here dst)} {k : PUnit → P1 F PUnit} {Φ : PUnit → sProp 𝕄} :
    iprop(semVal ((c : Thread nD τ), .dma (oSem (par j))) 0 ∗ ownsTc c (cvM (par j)) fullShare (cvV A c j) ∗ any (F := F) c (outB j))
      ⊢ iprop((flyO A c j -∗ WP c (k ⟨⟩) Φ) -∗ WP c (.op (.enqueueDma src (.here dst) (.dma sem) w₁ w₂ ty) k) Φ) := by
  subst hs hd he
  unfold any
  iintro ⟨Hv, HS, ⟨%Y, HD⟩⟩ Hk
  ihave HD' := (show ownsTc c (outB j) fullShare Y ⊢ iprop(∃ f, ⌜(outB j).view.read (Elt F) f = Y⌝ ∗ ((outB j).view.loc (c : Thread nD τ) ↦[(outB j).view.set]{fullShare} f)) from .rfl) $$ HD
  icases HD' with ⟨%fd, -, HD⟩
  ihave HS' := (show ownsTc c (cvM (par j)) fullShare (cvV A c j) ⊢ iprop(∃ f, ⌜(cvM (par j)).view.read (Elt F) f = cvV A c j⌝ ∗ ((cvM (par j)).view.loc (c : Thread nD τ) ↦[(cvM (par j)).view.set]{fullShare} f)) from .rfl) $$ HS
  icases HS' with ⟨%fs, %hfs, HS⟩
  iapply (Transfers.wp_dmaLocal EC 𝒱₀ (c : Thread nD τ) none (src := cvM (par j)) (dst := outB j) (q := fullShare) (fs := fs) (fd := fd)
      (Sd := (outB j).view.set) () NO (show (outB j).view.amount (.dma (oSem (par j))) = NO from creditO _) NO_pos (Finset.Subset.refl _)) $$ [HS HD Hv]
  · isplitl [HS]; · iexact HS
    isplitl [HD]; · iexact HD
    iexact Hv
  iintro Hf
  iapply Hk
  unfold flyO
  iapply (Transfers.Flight_mono EC (c : Thread nD τ) (BIClass.sep_mono
    ((owns_intro (c : Thread nD τ) (outB j) fullShare ((outB j).view.write (Elt F) fd ((cvM (par j)).view.read (Elt F) fs) Finset.univ)).trans (Entails.of_eq (by rw [View.read_write_univ, hfs])))
    ((owns_intro (c : Thread nD τ) (cvM (par j)) fullShare fs).trans (Entails.of_eq (by rw [hfs])))))
  iexact Hf

theorem wp_outWait (j : Fin 8) {src : Memref sig .tc .vmem S512x2048 .bf16} {dst : Memref sig .tc .hbm S512x2048 .bf16}
    {sem : DmaSem sig} (he : sem = oSem (par j)) {w₁ : src.view.WordExact} {w₂ : dst.view.WordExact} {k : PUnit → P1 F PUnit} {Φ : PUnit → sProp 𝕄} :
    iprop(levAts L lv ∗ flyO A c j ∗ oO c) ⊢ iprop(((restO c (par j) ∗ ownsTc c (outB j) fullShare (cvV A c j) ∗ oO c) -∗ WP c (k ⟨⟩) Φ)
      -∗ WP c (.op (.waitDma2 sem src dst w₁ w₂) k) Φ) := by
  subst he
  unfold flyO oO
  iintro ⟨#HL, Hf, ⟨%Wd, HO⟩⟩ Hk
  iapply (Transfers.wp_waitLocalO EC 𝒱₀ (c : Thread nD τ) none (srcw := src) (dstw := dst) (hsrc := w₁) (hdst := w₂) (k := k) () (N := NO) (creditO _) (O := O₀ c) (W := Wd)) $$ [Hf HO]
  · isplitl [Hf]; · iexact Hf
    isplitl [HO]; · iexact HO
    iapply (mayWait_O c (.dma (oSem (par j))) (by unfold lv; rw [kind_o])); iexact HL
  iintro ⟨⟨Hm, Hw⟩, Hv, HO⟩
  iapply Hk
  isplitl [Hv Hw]
  · unfold restO any
    isplitl [Hv]; · iexact Hv
    iexists _; iexact Hw
  isplitl [Hm]; · iexact Hm
  iexists _; iexact HO

end Run

/-! ## A whole memref as its full rectangle -/

section Full
variable (c : Dev nD) {sp : Space} {sh : Shape} {e : EltTy} (m : Memref sig .tc sp sh e) {off : Fin sh.rank → ℕ} (h : ∀ a, off a = 0)
  {p : ∀ a, off a + sh.size a ≤ sh.size a}
include h

theorem full_emb (y : sh.Idx) : (Rect.unit (s := sh) off sh.size p).emb y = y :=
  funext fun a => Fin.ext (by rw [Rect.emb_apply]; show off a + 1 * (y a).val = (y a).val; rw [h a]; omega)

theorem owns_full (hs : ∀ a, (Rect.unit (s := sh) off sh.size p).stride a = 1) (q : PosShare TreeShare) (X : sh.Idx → Elt F e) :
    (ownsTc c m q X : sProp 𝕄) = ownsTc c (m.slice (Rect.unit (s := sh) off sh.size p) hs) q X := by
  have hd : ∀ t t' : Unit, t ≠ t' → Disjoint (Rect.unit (s := sh) off sh.size p).set (Rect.unit (s := sh) off sh.size p).set := fun t t' ht => absurd rfl ht
  have hcov : (Finset.univ : Finset Unit).biUnion (fun _ => (Rect.unit (s := sh) off sh.size p).set) = Finset.univ := by
    ext i; simp only [Finset.mem_biUnion, Finset.mem_univ, true_and, iff_true]
    exact ⟨(), Rect.mem_set_unit.mpr fun a => by rw [h a]; exact ⟨Nat.zero_le _, by rw [Nat.zero_add]; exact (i a).isLt⟩⟩
  have hx : (fun j => X ((Rect.unit (s := sh) off sh.size p).emb j)) = X := funext fun y => congrArg X (full_emb h y)
  refine eqv ?_ ?_
  · refine (owns_rects (c : Thread nD τ) m q (fun _ : Unit => Rect.unit (s := sh) off sh.size p) (fun _ => hs) hd hcov X).trans ?_
    refine (bigSep_elim (Finset.mem_univ ())).trans ?_
    exact Entails.of_eq (congrArg (ownsTc c (m.slice (Rect.unit (s := sh) off sh.size p) hs) q) hx)
  · refine .trans ?_ (owns_of_rects (c : Thread nD τ) m q (fun _ : Unit => Rect.unit (s := sh) off sh.size p) (fun _ => hs) hd hcov X)
    rw [show (Finset.univ : Finset Unit) = {()} from rfl, bigSep_singleton]
    exact Entails.of_eq (congrArg (ownsTc c (m.slice (Rect.unit (s := sh) off sh.size p) hs) q) hx.symm)
end Full

section FullRules
variable (c : Dev nD) {sp : CoreSpace} {sh : Shape} {e : EltTy} {m : Memref sig .tc (.core sp) sh e} {off : Fin sh.rank → ℕ} (h : ∀ a, off a = 0)
  {p : ∀ a, off a + sh.size a ≤ sh.size a}
include h

theorem ldF {hl : m.view.LoadsAt (Rect.unit (s := sh) off sh.size p).toLoadRect} {k : (sh.Idx → Elt F e) → P1 F PUnit} {q : PosShare TreeShare}
    {X : sh.Idx → Elt F e} {Φ : PUnit → sProp 𝕄} :
    (ownsTc c m q X) ⊢ iprop((ownsTc c m q X -∗ WP c (k X) Φ) -∗ WP c (.op (.load m (Rect.unit (s := sh) off sh.size p).toLoadRect hl) k) Φ) := by
  rw [owns_full c m h (p := p) (fun _ => rfl) q X]
  exact ld c (fun _ => rfl)

theorem stF {w : sh.Idx → Elt F e} {hx : (m.access (Rect.unit (s := sh) off sh.size p)).Stores Finset.univ}
    {hm : (Finset.univ : Finset (Rect.unit (s := sh) off sh.size p).shape.Idx) = Finset.univ ∨ ∀ a, (Rect.unit (s := sh) off sh.size p).stride a = 1}
    {k : PUnit → P1 F PUnit} {X : sh.Idx → Elt F e} {Φ : PUnit → sProp 𝕄} :
    (ownsTc c m fullShare X) ⊢ iprop((ownsTc c m fullShare w -∗ WP c (k ⟨⟩) Φ) -∗ WP c (.op (.store m (Rect.unit (s := sh) off sh.size p) w Finset.univ hx hm) k) Φ) := by
  rw [owns_full c m h (p := p) (fun _ => rfl) fullShare X, owns_full c m h (p := p) (fun _ => rfl) fullShare w]
  exact st c (fun _ => rfl)
end FullRules

/-! ## The body's run -/

section Body
variable (A : Dev nD → S4096x2048.Idx → Elt F .f32) (c : Dev nD)

/-- A band written. -/
def doneB (j : Fin 8) : sProp 𝕄 := ownsTc c (outB j) fullShare (cvV A c j)
/-- What the point numbered `n` finds in the slot it is to use: the band sent two points before, still on its way out, if there is one. -/
def lane (n : ℕ) : sProp 𝕄 := if h : 2 ≤ n ∧ n < 10 then flyO A c ⟨n - 2, by omega⟩ else restO c ⟨n % 2, Nat.mod_lt _ (by decide)⟩
/-- The bands, and the outgoing slots, before the point numbered `n`. -/
def outs (n : ℕ) : sProp 𝕄 :=
  if n = 8 then iprop(bigSep Finset.univ (doneB A c) ∗ restO c 0 ∗ restO c 1)
  else iprop(bigSep (upto 8 (n - 2)) (doneB A c) ∗ bigSep (frm 8 n) (fun j => any (F := F) c (outB j)) ∗ lane A c n ∗ lane A c (n + 1))
/-- The rounded input before the point numbered `n`. -/
def xSt (X : S2048x2048.Idx → Elt F .f32) (n : ℕ) : sProp 𝕄 := if n = 0 then any (F := F) c aX else ownsTc c aX fullShare (k0_pay2 X)

theorem lane_fly (j : Fin 8) : lane A c (j.val + 2) = flyO A c j := dif_pos (show 2 ≤ j.val + 2 ∧ j.val + 2 < 10 by omega)
theorem lane_rest (n : ℕ) (h : n < 2) : lane A c n = restO c ⟨n % 2, Nat.mod_lt _ (by decide)⟩ := dif_neg (by omega)

variable (i : grid0.Coords)

theorem hd_ok {k : PUnit → P1 F PUnit} {Φ : PUnit → sProp 𝕄} :
    iprop(levAts L lv ∗ (bigSep (upto 8 ((pt i).val - 2)) (doneB A c) ∗ lane A c (pt i).val) ∗ oO c)
      ⊢ iprop(((restO c (par (pt i)) ∗ bigSep (upto 8 ((pt i).val - 1)) (doneB A c) ∗ oO c) -∗ WP c (k ⟨⟩) Φ) -∗ WP c (hd i >>= k) Φ) := by
  unfold hd
  have hlt : (pt i).val < 8 := (pt i).isLt
  by_cases h : k0_cond1 i = 1#1
  · have h2 : 2 ≤ (pt i).val := (cond1_iff i).mp h
    rw [dif_pos h, Prog.bind_op]
    simp only [Prog.bind_ret]
    have hl : lane A c (pt i).val = flyO A c ⟨(pt i).val - 2, by omega⟩ := dif_pos (by omega)
    have hp : par ⟨(pt i).val - 2, by omega⟩ = par (pt i) := Fin.ext (by show ((pt i).val - 2) % 2 = (pt i).val % 2; omega)
    have hu := bigSep_upto (F := F) ⟨(pt i).val - 2, by omega⟩ (doneB A c)
    rw [show (⟨(pt i).val - 2, by omega⟩ : Fin 8).val + 1 = (pt i).val - 1 from by show (pt i).val - 2 + 1 = _; omega] at hu
    rw [hl, hu, ← hp]
    iintro ⟨#HL, ⟨HB, Hf⟩, HO⟩ Hk
    iapply (wp_outWait A c ⟨(pt i).val - 2, by omega⟩ ((oS1_eq i h).trans (congrArg oSem hp.symm))) $$ [Hf HO]
    · isplitr; · iexact HL
      isplitl [Hf]; · iexact Hf
      iexact HO
    iintro ⟨Hr, Hd, HO⟩
    iapply Hk
    isplitl [Hr]; · iexact Hr
    isplitl [Hd HB]
    · isplitl [Hd]; · unfold doneB; iexact Hd
      iexact HB
    iexact HO
  · have h2 : (pt i).val < 2 := by by_contra h2; exact h ((cond1_iff i).mpr (by omega))
    rw [dif_neg h, Prog.bind_ret, lane_rest A c _ h2, show (pt i).val - 2 = (pt i).val - 1 from by omega]
    iintro ⟨#HL, ⟨HB, Hf⟩, HO⟩ Hk
    iapply Hk
    isplitl [Hf]; · iexact Hf
    isplitl [HB]; · iexact HB
    iexact HO

theorem rnd_ok (a1 : Memref sig .tc .vmem S2048x2048 .f32) (X : S2048x2048.Idx → Elt F .f32) {k : PUnit → P1 F PUnit} {Φ : PUnit → sProp 𝕄} :
    iprop(xSt c X (pt i).val ∗ ownsTc c a1 fullShare X)
      ⊢ iprop(((ownsTc c aX fullShare (k0_pay2 X) ∗ ownsTc c a1 fullShare X) -∗ WP c (k ⟨⟩) Φ) -∗ WP c (rnd i a1 >>= k) Φ) := by
  unfold rnd
  by_cases h : isFirst i = 1#1
  · rw [if_pos h]
    simp only [Prog.bind_op, Prog.bind_ret]
    unfold xSt any
    rw [if_pos ((first_iff i).mp h)]
    iintro ⟨⟨%Y, HX⟩, Ha⟩ Hk
    iapply (ldF c (by decide)) $$ Ha; iintro Ha
    iapply (ldF c (by decide)) $$ HX; iintro HX
    iapply (stF c (by decide)) $$ HX; iintro HX
    iapply Hk
    isplitl [HX]; · iexact HX
    iexact Ha
  · rw [if_neg h, Prog.bind_ret]
    unfold xSt
    rw [if_neg (fun e => h ((first_iff i).mpr e))]
    iintro ⟨HX, Ha⟩ Hk
    iapply Hk
    isplitl [HX]; · iexact HX
    iexact Ha

theorem tl_ok {Φ : PUnit → sProp 𝕄} :
    iprop(levAts L lv ∗ (bigSep (upto 8 ((pt i).val - 1)) (doneB A c) ∗ bigSep (frm 8 ((pt i).val + 1)) (fun j => any (F := F) c (outB j))
        ∗ lane A c ((pt i).val + 1) ∗ flyO A c (pt i)) ∗ oO c)
      ⊢ iprop(((outs A c ((pt i).val + 1) ∗ oO c) -∗ Φ ⟨⟩) -∗ WP c (tl i) Φ) := by
  unfold tl
  have hlt : (pt i).val < 8 := (pt i).isLt
  by_cases h : k0_cond3 i = 1#1
  · have h7 : (pt i).val = 7 := (cond3_iff i).mp h
    have e7 : pt i = 7 := Fin.ext h7
    have hu : bigSep Finset.univ (doneB A c) = iprop(doneB A c 7 ∗ doneB A c 6 ∗ bigSep (upto 8 6) (doneB A c)) := by
      have h₂ : bigSep (upto 8 7) (doneB A c) = iprop(doneB A c 6 ∗ bigSep (upto 8 6) (doneB A c)) := bigSep_upto (6 : Fin 8) (doneB A c)
      rw [← h₂, ← upto_end 8]; exact bigSep_upto (7 : Fin 8) (doneB A c)
    have hO : outs A c ((pt i).val + 1) = iprop(bigSep Finset.univ (doneB A c) ∗ restO c 0 ∗ restO c 1) := if_pos (by omega)
    have hl : lane A c ((pt i).val + 1) = flyO A c 6 := by rw [h7]; exact lane_fly A c 6
    rw [dif_pos h, hO, hu, hl, h7, e7]
    iintro ⟨#HL, ⟨HB, -, H6, H7⟩, HO⟩ Hk
    iapply (wp_outWait A c 6 ((oS8_eq i h).trans rfl)) $$ [H6 HO]
    · isplitr; · iexact HL
      isplitl [H6]; · iexact H6
      iexact HO
    iintro ⟨Hr0, Hd6, HO⟩
    iapply (wp_outWait A c 7 ((oS11_eq i h).trans rfl)) $$ [H7 HO]
    · isplitr; · iexact HL
      isplitl [H7]; · iexact H7
      iexact HO
    iintro ⟨Hr1, Hd7, HO⟩
    iapply (show Φ ⟨⟩ ⊢ WP c (.ret ⟨⟩) Φ from by unfold WP; rw [wp_ret]; iintro H; imodintro; iexact H)
    iapply Hk
    isplitr [HO]
    · isplitl [HB Hd6 Hd7]
      · isplitl [Hd7]; · unfold doneB; iexact Hd7
        isplitl [Hd6]; · unfold doneB; iexact Hd6
        iexact HB
      isplitl [Hr0]; · iexact Hr0
      iexact Hr1
    iexact HO
  · have h7 : (pt i).val ≠ 7 := fun e => h ((cond3_iff i).mpr e)
    rw [dif_neg h]
    unfold outs
    rw [if_neg (by omega), show (pt i).val + 1 - 2 = (pt i).val - 1 from by omega, show (pt i).val + 1 + 1 = (pt i).val + 2 from rfl, lane_fly A c (pt i)]
    iintro ⟨#HL, ⟨HB, Ha, H1, H2⟩, HO⟩ Hk
    iapply (show Φ ⟨⟩ ⊢ WP c (.ret ⟨⟩) Φ from by unfold WP; rw [wp_ret]; iintro H; imodintro; iexact H)
    iapply Hk
    isplitr [HO]
    · isplitl [HB]; · iexact HB
      isplitl [Ha]; · iexact Ha
      isplitl [H1]; · iexact H1
      iexact H2
    iexact HO

/-- The point's state outside the staging buffers. -/
def fillSt (X : S2048x2048.Idx → Elt F .f32) (n : ℕ) : sProp 𝕄 :=
  iprop(xSt c X n ∗ outs A c n ∗ (restI (F := F) c 0 ∗ restI (F := F) c 1) ∗ wt A c)

theorem restI_pick (p : Fin 2) : iprop(restI (F := F) c 0 ∗ restI (F := F) c 1) = iprop(restI (F := F) c p ∗ restI (F := F) c (1 - p)) := by
  match p with
  | 0 => rfl
  | 1 => show iprop(restI (F := F) c 0 ∗ restI (F := F) c 1) = iprop(restI (F := F) c 1 ∗ restI (F := F) c 0); exact eqv (by iintro ⟨H, H'⟩; isplitl [H'] <;> iassumption) (by iintro ⟨H, H'⟩; isplitl [H'] <;> iassumption)

theorem in_sq (p : Fin 2) (X : S512x2048.Idx → Elt F .f32) : (ownsTc c (inM p) fullShare X : sProp 𝕄)
    = ownsTc c (aIn.slice (pR p) (fun _ => rfl)) fullShare (shapeCast S1x512x2048 X shapeCasts_S512x2048_S1x512x2048) :=
  owns_squeeze c _ squeezes_S1x512x2048_S512x2048 fullShare X shapeCasts_S512x2048_S1x512x2048
theorem cv_sq (p : Fin 2) (X : S512x2048.Idx → Elt F .bf16) : (ownsTc c (cvM p) fullShare X : sProp 𝕄)
    = ownsTc c (aCv.slice (pR p) (fun _ => rfl)) fullShare (shapeCast S1x512x2048 X shapeCasts_S512x2048_S1x512x2048) :=
  owns_squeeze c _ squeezes_S1x512x2048_S512x2048 fullShare X shapeCasts_S512x2048_S1x512x2048

theorem pay_cv (j : Fin 8) : k0_pay1 (k0_pay4 (shapeCast S1x512x2048 (inV A c j) shapeCasts_S512x2048_S1x512x2048))
    = shapeCast S1x512x2048 (cvV A c j) shapeCasts_S512x2048_S1x512x2048 := by
  unfold k0_pay1 k0_pay4 cvV
  rw [shapeCast_shapeCast]

/-- The body at one point. -/
theorem fill_ok (X : S2048x2048.Idx → Elt F .f32) (V : S2048x512.Idx → Elt F .f32)
    (a1 : Memref sig .tc .vmem S2048x2048 .f32) (h1 : a1.IsWhole) (a2 : Memref sig .tc .vmem S2048x512 .f32) (h2 : a2.IsWhole)
    (a4 : Memref sig .tc .vmem S2048x512 .bf16) (h4 : a4.IsWhole) {Φ : PUnit → sProp 𝕄} :
    iprop(levAts L lv ∗ (fillSt A c X (pt i).val ∗ oO c) ∗ (ownsTc c a1 fullShare X ∗ ownsTc c a2 fullShare V ∗ any (F := F) c a4)
      ∗ (((fillSt A c X ((pt i).val + 1) ∗ oO c) ∗ (ownsTc c a1 fullShare X ∗ ownsTc c a2 fullShare V ∗ ownsTc c a4 fullShare (k0_pay3 (k0_pay2 X) V))) -∗ Φ ⟨⟩))
    ⊢ WP c (cc0__dot1_body (F := F) i a1 h1 a2 h2 aW2 (Memref.isWhole_whole _) a4 h4 aW (Memref.isWhole_whole _) aX (Memref.isWhole_whole _)
    aIn (Memref.isWhole_whole _) aCv (Memref.isWhole_whole _) cc0_scratch3 cc0_scratch4) Φ := by
  rw [body0_eq]
  unfold whole0 fillSt
  have hlt : (pt i).val < 8 := (pt i).isLt
  rw [restI_pick c (par (pt i)), show xSt c X ((pt i).val + 1) = ownsTc c aX fullShare (k0_pay2 X) from if_neg (by omega)]
  rw [show outs A c (pt i).val = _ from if_neg (by omega), bigSep_frm (pt i)]
  iintro ⟨#HL, ⟨⟨HX, ⟨HB, ⟨Ha, Hb⟩, H1, H2⟩, ⟨Hi, Hj⟩, Hw⟩, HO⟩, ⟨Hs1, Hs2, Hs4⟩, Hk⟩
  ihave Hs4 := (show any (F := F) c a4 ⊢ iprop(∃ Y, ownsTc c a4 fullShare Y) from .rfl) $$ Hs4
  icases Hs4 with ⟨%Y4, Hs4⟩
  iapply (hd_ok A c i) $$ [HB H1 HO]
  · isplitr; · iexact HL
    isplitl [HB H1]
    · isplitl [HB]; · iexact HB
      iexact H1
    iexact HO
  iintro ⟨Hr, HB, HO⟩
  iapply (wp_in A c (pt i) (w2S_eq i) (inM_eq i) (iS_eq i)) $$ [Hi Hw]
  · isplitl [Hi]; · iexact Hi
    iexact Hw
  iintro Hf
  iapply (rnd_ok c i a1 X) $$ [HX Hs1]
  · isplitl [HX]; · iexact HX
    iexact Hs1
  iintro ⟨HX, Hs1⟩
  iapply (ldF c (by decide)) $$ HX; iintro HX
  iapply (ldF c (by decide)) $$ Hs2; iintro Hs2
  iapply (ldF c (by decide)) $$ Hs4; iintro Hs4
  iapply (stF c (by decide)) $$ Hs4; iintro Hs4
  iapply (wp_inWait A c (pt i) (iS_eq i)) $$ [Hf HO]
  · isplitr; · iexact HL
    isplitl [Hf]; · iexact Hf
    iexact HO
  iintro ⟨⟨Hv, Hm, Hw⟩, HO⟩
  ihave Hm := (Entails.of_eq (in_sq c (par (pt i)) (inV A c (pt i)))) $$ Hm
  iapply (ldM c (fun _ => rfl) (inL_eq i)) $$ Hm; iintro Hm
  ihave Hm := (Entails.of_eq (in_sq c (par (pt i)) (inV A c (pt i))).symm) $$ Hm
  ihave Hr := (show restO (F := F) c (par (pt i)) ⊢ iprop(semVal ((c : Thread nD τ), .dma (oSem (par (pt i)))) 0 ∗ ∃ Z, ownsTc c (cvM (par (pt i))) fullShare Z) from .rfl) $$ Hr
  icases Hr with ⟨Hq, ⟨%Z, HZ⟩⟩
  ihave HZ := (Entails.of_eq (cv_sq c (par (pt i)) Z)) $$ HZ
  iapply (ldM c (fun _ => rfl) (cvL_eq i)) $$ HZ; iintro HZ
  iapply (stM c (fun _ => rfl) (cvL_eq i) (pay_cv A c (pt i))) $$ HZ; iintro HZ
  ihave HZ := (Entails.of_eq (cv_sq c (par (pt i)) (cvV A c (pt i))).symm) $$ HZ
  iapply (wp_out A c (pt i) (cvM_eq i) (outB_eq i) (oS_eq i)) $$ [Hq HZ Ha]
  · isplitl [Hq]; · iexact Hq
    isplitl [HZ]; · iexact HZ
    iexact Ha
  iintro Hf
  iapply (tl_ok A c i) $$ [HB Hb H2 Hf HO]
  · isplitr; · iexact HL
    isplitr [HO]
    · isplitl [HB]; · iexact HB
      isplitl [Hb]; · iexact Hb
      isplitl [H2]; · iexact H2
      iexact Hf
    iexact HO
  iintro ⟨HB, HO⟩
  iapply Hk
  isplitr [Hs1 Hs2 Hs4]
  · isplitr [HO]
    · isplitl [HX]; · iexact HX
      isplitl [HB]; · iexact HB
      isplitl [Hv Hm Hj]
      · isplitl [Hv Hm]
        · unfold restI any
          isplitl [Hv]; · iexact Hv
          iexists _; iexact Hm
        iexact Hj
      iexact Hw
    iexact HO
  isplitl [Hs1]; · iexact Hs1
  isplitl [Hs2]; · iexact Hs2
  iexact Hs4
end Body

end Cert.KernelIdeal
-- ==== Proof.Call0.lean ====
/-
  The first call as a region: its buffers cut into bands and slots at the start, whole again at the end, the certificate of its
  windows, the body at a point, and the region's place in the program.
-/
module

public import proofs.«01_k».proof.Proof.Fill
public import Idealize.ShloMosaic.Lib.Pipeline.Value
public import proofs.«01_k».proof.Proof.Gen.KernelIdeal.Launch
public import proofs.«01_k».proof.Proof.Gen.KernelIdeal.Regions

@[expose] public section

set_option maxRecDepth 16384

noncomputable section

namespace Cert.KernelIdeal

open Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Bands and slots -/

theorem p_disj : ∀ p p' : Fin 2, p ≠ p' → Disjoint (pR p).set (pR p').set := fun p p' h =>
  Rect.unit_disjoint (0 : Fin 3) (by have : p.val ≠ p'.val := fun e => h (Fin.ext e); simp [S1x512x2048]; omega)
theorem p_cov : (Finset.univ : Finset (Fin 2)).biUnion (fun p => (pR p).set) = Finset.univ := by
  ext i
  simp only [Finset.mem_biUnion, Finset.mem_univ, true_and, iff_true]
  have h0 : (i (0 : Fin 3)).val < 2 := (i (0 : Fin 3)).isLt
  have h1 : (i (1 : Fin 3)).val < 512 := (i (1 : Fin 3)).isLt
  have h2 : (i (2 : Fin 3)).val < 2048 := (i (2 : Fin 3)).isLt
  refine ⟨⟨_, h0⟩, Rect.mem_set_unit.mpr fun a => ?_⟩
  match a with
  | ⟨0, _⟩ => exact ⟨le_rfl, Nat.lt_succ_self _⟩
  | ⟨1, _⟩ => exact ⟨Nat.zero_le _, by show _ < 0 + 512; rw [Nat.zero_add]; exact h1⟩
  | ⟨2, _⟩ => exact ⟨Nat.zero_le _, by show _ < 0 + 2048; rw [Nat.zero_add]; exact h2⟩
theorem b_disj : ∀ j j' : Fin 8, j ≠ j' → Disjoint (bR j).set (bR j').set := fun j j' h =>
  Rect.unit_disjoint (0 : Fin 2) (by have : j.val ≠ j'.val := fun e => h (Fin.ext e); simp [S512x2048]; omega)
theorem b_cov : (Finset.univ : Finset (Fin 8)).biUnion (fun j => (bR j).set) = Finset.univ := by
  ext i
  simp only [Finset.mem_biUnion, Finset.mem_univ, true_and, iff_true]
  have h0 : (i (0 : Fin 2)).val < 4096 := (i (0 : Fin 2)).isLt
  have h1 : (i (1 : Fin 2)).val < 2048 := (i (1 : Fin 2)).isLt
  refine ⟨⟨(i (0 : Fin 2)).val / 512, by omega⟩, Rect.mem_set_unit.mpr fun a => ?_⟩
  match a with
  | ⟨0, _⟩ => exact ⟨by show 512 * ((i (0 : Fin 2)).val / 512) ≤ _; exact Nat.mul_div_le _ _, by show (i (0 : Fin 2)).val < 512 * ((i (0 : Fin 2)).val / 512) + 512; omega⟩
  | ⟨1, _⟩ => exact ⟨Nat.zero_le _, by show _ < 0 + 2048; rw [Nat.zero_add]; exact h1⟩

variable (A : Dev nD → S4096x2048.Idx → Elt F .f32) (c : Dev nD) (X : S2048x2048.Idx → Elt F .f32)

theorem any_whole (b : Ref sig .tc) : any (F := F) c (Memref.whole b) = iprop(∃ f : Buf (Elt F) ((c : Thread nD τ).loc b), ((c : Thread nD τ).loc b) ↦{fullShare} f) := by
  show iprop(∃ X, ownsTc c (Memref.whole b) fullShare X) = _
  simp only [ownsTc, owns_whole]

theorem in_slots : any (F := F) c aIn = iprop(any (F := F) c (inM 0) ∗ any (F := F) c (inM 1)) := by
  rw [any_squeeze c (aIn.slice (pR 0) (fun _ => rfl)) squeezes_S1x512x2048_S512x2048 (by decide),
    any_squeeze c (aIn.slice (pR 1) (fun _ => rfl)) squeezes_S1x512x2048_S512x2048 (by decide)]
  exact .trans (eqv (any_cut c aIn pR (fun _ _ => rfl) p_disj p_cov) (any_glue c aIn pR (fun _ _ => rfl) p_disj p_cov))
    (BI.bigSep_fin_two (fun p => any (F := F) c (aIn.slice (pR p) (fun _ => rfl))))
theorem cv_slots : any (F := F) c aCv = iprop(any (F := F) c (cvM 0) ∗ any (F := F) c (cvM 1)) := by
  rw [any_squeeze c (aCv.slice (pR 0) (fun _ => rfl)) squeezes_S1x512x2048_S512x2048 (by decide),
    any_squeeze c (aCv.slice (pR 1) (fun _ => rfl)) squeezes_S1x512x2048_S512x2048 (by decide)]
  exact .trans (eqv (any_cut c aCv pR (fun _ _ => rfl) p_disj p_cov) (any_glue c aCv pR (fun _ _ => rfl) p_disj p_cov))
    (BI.bigSep_fin_two (fun p => any (F := F) c (aCv.slice (pR p) (fun _ => rfl))))

/-- The second weight, rounded. -/
def w2b : S4096x2048.Idx → Elt F .bf16 := truncf .bf16 (A c) bitsLt_bf16_f32
theorem w2b_bands : bigSep Finset.univ (doneB A c) ⊢ (ownsTc c aW fullShare (w2b A c) : sProp 𝕄) :=
  (show bigSep Finset.univ (doneB A c) ⊢ (bigSep Finset.univ fun j => ownsTc c (aW.slice (bR j) (fun _ => rfl)) fullShare (fun y => w2b A c ((bR j).emb y)) : sProp 𝕄) from .rfl).trans
    (owns_of_rects (c : Thread nD τ) aW fullShare bR (fun _ _ => rfl) b_disj b_cov (w2b A c))

/-- The semaphores of the call's own copies. -/
def osem0 : Fin 2 ⊕ Fin 2 → SemLoc sig
  | .inl p => .dma (iSem p)
  | .inr p => .dma (oSem p)
theorem facts0 : Pipeline.OwnSemFacts spec0 osem0 where
  isScoped := by decide +kernel
  inj := by decide +kernel
  disj := by decide +kernel

theorem ownSems0_list : (Pipeline.ownSems0 osem0 c : sProp 𝕄)
    = iprop((semVal ((c : Thread nD τ), .dma (iSem 0)) 0 ∗ semVal ((c : Thread nD τ), .dma (iSem 1)) 0) ∗ semVal ((c : Thread nD τ), .dma (oSem 0)) 0 ∗ semVal ((c : Thread nD τ), .dma (oSem 1)) 0) := by
  unfold Pipeline.ownSems0
  rw [BI.bigSep_univ_sum, BI.bigSep_fin_two, BI.bigSep_fin_two]; rfl

theorem fill_enter : iprop(Pipeline.ownSems0 osem0 c ∗ (any (F := F) c aX ∗ any (F := F) c aIn ∗ any (F := F) c aCv) ∗ wt A c ∗ any (F := F) c aW) ⊢ fillSt A c X 0 := by
  rw [ownSems0_list, in_slots, cv_slots]
  unfold fillSt xSt outs restI
  rw [if_pos rfl, if_neg (by decide), lane_rest A c 0 (by decide), lane_rest A c (0 + 1) (by decide)]
  iintro ⟨⟨⟨Hi0, Hi1⟩, Ho0, Ho1⟩, ⟨Hx, ⟨Ha0, Ha1⟩, Hb0, Hb1⟩, Hw, Ho⟩
  isplitl [Hx]; · iexact Hx
  isplitl [Ho0 Ho1 Hb0 Hb1 Ho]
  · isplitr
    · rw [show upto 8 (0 - 2) = ∅ from by decide, BI.bigSep_empty]; iempintro
    isplitl [Ho]
    · rw [show frm 8 0 = Finset.univ from by decide]
      iapply (any_cut c aW bR (fun _ _ => rfl) b_disj b_cov); iexact Ho
    unfold restO
    isplitl [Ho0 Hb0]
    · isplitl [Ho0]; · iexact Ho0
      iexact Hb0
    isplitl [Ho1]; · iexact Ho1
    iexact Hb1
  isplitr [Hw]
  · isplitl [Hi0 Ha0]; · isplitl [Hi0] <;> iassumption
    isplitl [Hi1] <;> iassumption
  iexact Hw

theorem fill_leave : fillSt A c X 8 ⊢ iprop(Pipeline.ownSems0 osem0 c ∗ (any (F := F) c aX ∗ any (F := F) c aIn ∗ any (F := F) c aCv) ∗ wt A c ∗ ownsTc c aW fullShare (w2b A c)) := by
  rw [ownSems0_list, in_slots, cv_slots]
  unfold fillSt xSt outs restI restO
  rw [if_neg (by decide), if_pos rfl]
  iintro ⟨Hx, ⟨Hd, ⟨Ho0, Hb0⟩, Ho1, Hb1⟩, ⟨⟨Hi0, Ha0⟩, Hi1, Ha1⟩, Hw⟩
  isplitl [Hi0 Hi1 Ho0 Ho1]
  · isplitl [Hi0 Hi1]; · isplitl [Hi0] <;> iassumption
    isplitl [Ho0] <;> iassumption
  isplitl [Hx Ha0 Ha1 Hb0 Hb1]
  · isplitl [Hx]
    · iapply (show iprop(∃ X, ownsTc c aX fullShare X) ⊢ any (F := F) c aX from .rfl)
      iexists _; iexact Hx
    isplitl [Ha0 Ha1]; · isplitl [Ha0] <;> iassumption
    isplitl [Hb0] <;> iassumption
  isplitl [Hw]; · iexact Hw
  iapply (w2b_bands A c); iexact Hd

/-! ## The certificate of the windows -/

local instance eltNonempty0 : ∀ e, Nonempty (Elt F e) := fun e => Elt.nonempty F e

section Dats
variable (m : (ℓ : Loc nD τ sig) → Buf (Elt F) ℓ)

/-- The arguments at the start. -/
def xF : S2048x2048.Idx → Elt F .f32 := m ((c : Thread nD τ).loc main_arg0)
def w1F : S2048x4096.Idx → Elt F .f32 := m ((c : Thread nD τ).loc main_arg1)
def w2F : Dev nD → S4096x2048.Idx → Elt F .f32 := fun c => m ((c : Thread nD τ).loc main_arg2)

def arr0 : (w : Fin cfg0.W) → Buf (Elt F) ((cfg0.win w).arr.view.loc (c.tc : Thread nD τ))
  | 0 => m ((c : Thread nD τ).loc main_arg0)
  | 1 => m ((c : Thread nD τ).loc main_arg1)
  | 2 => m ((c : Thread nD τ).loc main_v1_0)
/-- The columns of the first weight that point `t` reads. -/
def w1B (t : Fin cfg0.N) : S2048x512.Idx → Elt F .f32 := fun y => w1F c m ((win0_1.blk t).view.emb y)

/-- The buffers of the other call. -/
def sb (b : Ref sig .tc) : sProp 𝕄 := iprop(∃ f : Buf (Elt F) ((c : Thread nD τ).loc b), ((c : Thread nD τ).loc b) ↦{fullShare} f)
def rest0 : sProp 𝕄 := iprop(sb (F := F) c cc1_stg0_0 ∗ sb (F := F) c cc1_stg1_0 ∗ sb (F := F) c cc1_scratch0 ∗ sb (F := F) c cc1_scratch1 ∗ sb (F := F) c cc1_scratch2
  ∗ sb (F := F) c cc1_scratch3 ∗ sb (F := F) c cc1_scratch4)
/-- What the body keeps before the point numbered `n`. -/
def keep0 (n : ℕ) : sProp 𝕄 := iprop(levAts L lv ∗ fillSt (w2F m) c (xF c m) n ∗ rest0 (F := F) c ∗ ∃ r, prngReg c r)

def dat0 : Pipeline.Dat τ (Elt F) Unit ℕ UU ℕ cfg0 c where
  A := arr0 c m
  after w t := match w with
    | 0 => xF c m
    | 1 => w1B c m t
    | 2 => k0_pay3 (k0_pay2 (xF c m)) (w1B c m t)
  Φ t := keep0 c m t.val
  q _ := fullShare
  owed _ := O₀ c

theorem fetched0 (t : Fin cfg0.N) (d) : (dat0 c m).fetched 0 t d = xF c m := by
  funext y
  show xF c m ((win0_0.blk t).view.emb y) = _
  refine congrArg (xF c m) (funext fun a => Fin.ext ?_)
  exact win0_0.rect_emb_val_of_index_zero t a (by match a with | ⟨0, _⟩ => rfl | ⟨1, _⟩ => rfl) y
theorem fetched1 (t : Fin cfg0.N) (d) : (dat0 c m).fetched 1 t d = w1B c m t := rfl

theorem before0_0 (t : Fin cfg0.N) (d) : (dat0 c m).before 0 t d = xF c m :=
  ((dat0 c m).before_in_eq_fetched 0 rfl (fun _ => rfl) (fun _ _ _ => rfl) (fun t => (fetched0 c m t d).symm) t d).trans (fetched0 c m t d)
theorem before0_1 (t : Fin cfg0.N) (d) : (dat0 c m).before 1 t d = w1B c m t :=
  ((dat0 c m).before_fetched 1 t (fetch0_1 t) d).trans (fetched1 c m t d)

/-! ## The body at a point -/

theorem pt_val (t : Fin cfg0.N) : (pt (grid0.coords t)).val = t.val := by revert t; decide +kernel

theorem owes_enter {cfg : Pipeline.Cfg sig Λ₀} (dat : Pipeline.Dat τ (Elt F) Unit ℕ UU ℕ cfg c) (t : Fin (cfg.N + 1)) (O : CellTallies nD τ sig Unit)
    (h : dat.owed t = O) (hr : dat.recorded t = Set.univ) : iprop(∃ Wd, owes (c : Thread nD τ) O Wd) ⊢ dat.owesAt () t := by
  unfold Pipeline.Dat.owesAt Pipeline.owesWithin Pipeline.Dat.bound
  rw [h, hr]
  iintro ⟨%Wd, HO⟩
  iexists Wd
  isplitr
  · ipureintro; exact fun _ _ => Or.inl trivial
  iexact HO
theorem owes_leave {cfg : Pipeline.Cfg sig Λ₀} (dat : Pipeline.Dat τ (Elt F) Unit ℕ UU ℕ cfg c) (t : Fin (cfg.N + 1)) (O : CellTallies nD τ sig Unit)
    (h : dat.owed t = O) : dat.owesAt () t ⊢ iprop(∃ Wd, owes (c : Thread nD τ) O Wd) := by
  unfold Pipeline.Dat.owesAt Pipeline.owesWithin
  rw [h]
  iintro ⟨%Wd, -, HO⟩
  iexists Wd
  iexact HO

theorem point0 (t : Fin cfg0.N) {Φ : PUnit → sProp 𝕄} :
    iprop((keep0 c m t.val ∗ oO (F := F) c) ∗ (ownsTc c (win0_0.stage (cfg0.slots t 0)) fullShare (xF c m) ∗ ownsTc c (win0_1.stage (cfg0.slots t 1)) fullShare (w1B c m t)
        ∗ any (F := F) c (win0_2.stage (cfg0.slots t 2)))
      ∗ (((keep0 c m (t.val + 1) ∗ oO (F := F) c) ∗ (ownsTc c (win0_0.stage (cfg0.slots t 0)) fullShare (xF c m) ∗ ownsTc c (win0_1.stage (cfg0.slots t 1)) fullShare (w1B c m t)
        ∗ ownsTc c (win0_2.stage (cfg0.slots t 2)) fullShare (k0_pay3 (k0_pay2 (xF c m)) (w1B c m t)))) -∗ Φ ⟨⟩))
      ⊢ WP c (bodyAt0 t) Φ := by
  have h := fill_ok (Φ := Φ) (w2F m) c (grid0.coords t) (xF c m) (w1B c m t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
  rw [pt_val] at h
  refine .trans ?_ h
  unfold keep0
  iintro ⟨⟨⟨#Hl, Hf, Hr, Hp⟩, HO⟩, Hm, Hk⟩
  isplitr; · iexact Hl
  isplitl [Hf HO]; · isplitl [Hf] <;> iassumption
  isplitl [Hm]; · iexact Hm
  iintro ⟨⟨Hf, HO⟩, Hm⟩
  iapply Hk
  isplitr [Hm]
  · isplitr [HO]
    · isplitr; · iexact Hl
      isplitl [Hf]; · iexact Hf
      isplitl [Hr] <;> iassumption
    iexact HO
  iexact Hm

theorem body0 : Pipeline.BodyObligation (dat0 c m) (defs₀ (F := F)) 𝒱₀ () Set.univ := fun t => by
  rw [bigSep_W0, bigSep_W0]
  refine .trans ?_ (point0 c m t)
  iintro ⟨HK, HO, ⟨%d0, H0⟩, ⟨%d1, H1⟩, %d2, H2⟩
  ihave H0 := (Entails.of_eq (congrArg (fun X => (ownsTc c (win0_0.stage (cfg0.slots t 0)) fullShare X : sProp 𝕄)) (before0_0 c m t d0))) $$ H0
  ihave H1 := (Entails.of_eq (congrArg (fun X => (ownsTc c (win0_1.stage (cfg0.slots t 1)) fullShare X : sProp 𝕄)) (before0_1 c m t d1))) $$ H1
  ihave HO := (owes_leave c (dat0 c m) t.castSucc (O₀ c) rfl) $$ HO
  ihave HK := (show (dat0 c m).Φ t.castSucc ⊢ keep0 c m t.val from .rfl) $$ HK
  isplitl [HK HO]
  · isplitl [HK]; · iexact HK
    iapply (show iprop(∃ Wd, owes (c : Thread nD τ) (O₀ c) Wd) ⊢ oO (F := F) c from .rfl); iexact HO
  isplitl [H0 H1 H2]
  · isplitl [H0]; · iexact H0
    isplitl [H1]; · iexact H1
    iapply (show iprop(∃ X, ownsTc c (win0_2.stage (cfg0.slots t 2)) fullShare X) ⊢ any (F := F) c (win0_2.stage (cfg0.slots t 2)) from .rfl)
    iexists _; iexact H2
  iintro ⟨⟨HK, HO⟩, H0, H1, H2⟩
  isplitl [HK]; · iapply (show keep0 c m (t.val + 1) ⊢ (dat0 c m).Φ t.succ from .rfl); iexact HK
  isplitl [HO]; · iapply ((show oO (F := F) c ⊢ iprop(∃ Wd, owes (c : Thread nD τ) (O₀ c) Wd) from .rfl).trans (owes_enter c (dat0 c m) t.succ (O₀ c) rfl rfl)); iexact HO
  isplitl [H0]; · iexact H0
  isplitl [H1]; · iexact H1
  iexact H2

end Dats

end Cert.KernelIdeal
-- ==== Proof.Call1.lean ====
/-
  The second call as a region: what it finds, what it leaves, the certificate of its windows, and its one point.
-/
module

public import proofs.«01_k».proof.Proof.Call0

@[expose] public section

set_option maxRecDepth 16384

noncomputable section

namespace Cert.KernelIdeal

open Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

local instance eltNonempty1 : ∀ e, Nonempty (Elt F e) := fun e => Elt.nonempty F e

variable (m : (ℓ : Loc nD τ sig) → Buf (Elt F) ℓ) (c : Dev nD)

/-- The hidden layer and the rounded second weight, as the first call leaves them on every device. -/
def hid : Dev nD → S2048x4096.Idx → Elt F .bf16 := fun c => (dat0 c m).arrAt 2 cfg0.N
def wgt : Dev nD → S4096x2048.Idx → Elt F .bf16 := fun c => w2b (w2F m) c

/-- The buffers of the first call. -/
def rest1 : sProp 𝕄 := iprop(sb (F := F) c cc0_stg0_0 ∗ sb (F := F) c cc0_stg1_0 ∗ sb (F := F) c cc0_stg1_1 ∗ sb (F := F) c cc0_stg2_0 ∗ sb (F := F) c cc0_stg2_1
  ∗ sb (F := F) c cc0_scratch0 ∗ sb (F := F) c cc0_scratch1 ∗ sb (F := F) c cc0_scratch2)
def idle1 : sProp 𝕄 := iprop(scr (F := F) c ∗ w2 (wgt m) c fullShare ∗ rest1 (F := F) c ∗ ∃ r, prngReg c r)
/-- Before the point, and after. -/
def keepA : sProp 𝕄 := iprop(Xk (hid m) (wgt m) c ∗ idle1 m c)
def keepB : sProp 𝕄 := iprop((Pipeline.ownSems0 osem1 c ∗ semVal (barCell c) 0) ∗ idle1 m c)

def arr1 : (w : Fin cfg1.W) → Buf (Elt F) ((cfg1.win w).arr.view.loc (c.tc : Thread nD τ))
  | 0 => hid m c
  | 1 => m ((c : Thread nD τ).loc main_v2)

def dat1 : Pipeline.Dat τ (Elt F) Unit ℕ UU ℕ cfg1 c where
  A := arr1 m c
  after w _ := match w with
    | 0 => hid m c
    | 1 => outF c (hid m) (wgt m)
  Φ t := if t.val = 0 then keepA m c else keepB m c
  q _ := fullShare
  owed t := if t.val = 0 then O₀ c else 0

theorem owed_first (t : Fin (cfg1.N + 1)) (h : t.val = 0) : (dat1 m c).owed t = O₀ c := (show (dat1 m c).owed t = if t.val = 0 then O₀ c else 0 from rfl).trans (if_pos h)
theorem owed_last (t : Fin (cfg1.N + 1)) (h : t.val ≠ 0) : (dat1 m c).owed t = 0 := (show (dat1 m c).owed t = if t.val = 0 then O₀ c else 0 from rfl).trans (if_neg h)
theorem keep_first (t : Fin (cfg1.N + 1)) (h : t.val = 0) : (dat1 m c).Φ t = keepA m c := (show (dat1 m c).Φ t = if t.val = 0 then keepA m c else keepB m c from rfl).trans (if_pos h)
theorem keep_last (t : Fin (cfg1.N + 1)) (h : t.val ≠ 0) : (dat1 m c).Φ t = keepB m c := (show (dat1 m c).Φ t = if t.val = 0 then keepA m c else keepB m c from rfl).trans (if_neg h)

theorem before1_0 (t : Fin cfg1.N) (d) : (dat1 m c).before 0 t d = hid m c := by
  rw [(dat1 m c).before_fetched 0 t (fetch1_0 t) d]
  funext y
  show hid m c ((win1_0.blk t).view.emb y) = _
  refine congrArg (hid m c) (funext fun a => Fin.ext ?_)
  exact win1_0.rect_emb_val_of_index_zero t a (by match a with | ⟨0, _⟩ => rfl | ⟨1, _⟩ => rfl) y

theorem point1 : iprop((keepA m c ∗ oO (F := F) c) ∗ hP (hid m) c ∗ any (F := F) c aOut)
      ⊢ WP c (ap (cc1__fused_body (F := F))) (fun _ => iprop(((keepB m c ∗ ∃ Wd, owes (c : Thread nD τ) 0 Wd)
        ∗ hP (hid m) c ∗ ownsTc c aOut fullShare (outF c (hid m) (wgt m))) : sProp 𝕄)) := by
  refine .trans ?_ (wp_fupd frame _ Set.univ _ _)
  unfold keepA keepB idle1 Xk oO
  iintro ⟨⟨⟨⟨%κ, #HC, Hb, Ho, Hw⟩, Hscr, H2, Hr, Hp⟩, HO⟩, Hh, Hout⟩
  ihave HS := (enter (hid m) (wgt m) c) $$ [Hb Ho Hw Hscr H2 HO Hout]
  · isplitl [Hb]; · iexact Hb
    isplitl [Ho]; · iexact Ho
    isplitl [Hw]; · iexact Hw
    isplitl [Hscr]; · iexact Hscr
    isplitl [H2]; · iexact H2
    isplitl [HO]; · iexact HO
    iexact Hout
  icases HS with ⟨HS, HP⟩
  iapply (wp_body (hid m) (wgt m) κ c)
  isplitr; · iexact HC
  isplitl [HS HP Hh]
  · isplitl [HS]; · iexact HS
    isplitl [HP]; · iexact HP
    iexact Hh
  iintro ⟨HS, ⟨Hh, Hw⟩, Hat⟩
  imod (leave (hid m) (wgt m) κ c) $$ [HS Hw Hat] with ⟨Hos, Hscr, H2, Hb, Hout, HO⟩
  · isplitr; · iexact HC
    isplitl [HS]; · iexact HS
    isplitl [Hw]; · iexact Hw
    iexact Hat
  imodintro
  isplitr [Hh Hout]
  · isplitr [HO]
    · isplitl [Hos Hb]; · isplitl [Hos] <;> iassumption
      isplitl [Hscr]; · iexact Hscr
      isplitl [H2]; · iexact H2
      isplitl [Hr] <;> iassumption
    iexact HO
  isplitl [Hh] <;> iassumption

theorem stage_in : (ownsTc c (win1_0.stage (cfg1.slots t1_0 0)) fullShare (hid m c) : sProp 𝕄) = hP (hid m) c := owns_whole ..

theorem body1 : Pipeline.BodyObligation (dat1 m c) (defs₀ (F := F)) 𝒱₀ () Set.univ := fun t => by
  obtain rfl := fin_N1 t
  rw [bigSep_W1, bigSep_W1]
  iintro ⟨HK, HO, ⟨%d0, H0⟩, %d1, H1⟩
  ihave H0 := (Entails.of_eq ((congrArg (fun X => (ownsTc c (win1_0.stage (cfg1.slots t1_0 0)) fullShare X : sProp 𝕄)) (before1_0 m c t1_0 d0)).trans (stage_in m c))) $$ H0
  ihave HO := (owes_leave c (dat1 m c) t1_0.castSucc (O₀ c) (owed_first m c _ rfl)) $$ HO
  ihave HK := (Entails.of_eq (keep_first m c t1_0.castSucc rfl)) $$ HK
  iapply (show WP c (ap (cc1__fused_body (F := F))) (fun _ => iprop(((keepB m c ∗ ∃ Wd, owes (c : Thread nD τ) 0 Wd)
        ∗ hP (hid m) c ∗ ownsTc c aOut fullShare (outF c (hid m) (wgt m))) : sProp 𝕄)) ⊢ WP c (bodyAt1 t1_0) _ from
    wp_mono _ _ _ fun _ => by
      iintro ⟨⟨HK, HO⟩, Hh, Hout⟩
      isplitl [HK]; · iapply (Entails.of_eq (keep_last m c t1_0.succ (Nat.succ_ne_zero _)).symm); iexact HK
      isplitl [HO]; · iapply (owes_enter c (dat1 m c) t1_0.succ 0 (owed_last m c _ (Nat.succ_ne_zero _)) rfl); iexact HO
      isplitl [Hh]; · iapply (Entails.of_eq (stage_in m c).symm); iexact Hh
      iexact Hout)
  iapply (point1 m c)
  isplitl [HK HO]
  · isplitl [HK]; · iexact HK
    iapply (show iprop(∃ Wd, owes (c : Thread nD τ) (O₀ c) Wd) ⊢ oO (F := F) c from .rfl); iexact HO
  isplitl [H0]; · iexact H0
  iapply (show iprop(∃ X, ownsTc c aOut fullShare X) ⊢ any (F := F) c aOut from .rfl)
  iexists _; iexact H1

end Cert.KernelIdeal
-- ==== Proof.Regs.lean ====
/-
  The two calls as regions of the program, and what a device holds before, between and after them.
-/
module

public import proofs.«01_k».proof.Proof.Call1
public import Idealize.ShloMosaic.Lib.Pipeline.ValueKit.Geometry

@[expose] public section

set_option maxRecDepth 16384

noncomputable section

namespace Cert.KernelIdeal

open Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

local instance eltNonempty2 : ∀ e, Nonempty (Elt F e) := fun e => Elt.nonempty F e

variable (m : (ℓ : Loc nD τ sig) → Buf (Elt F) ℓ)

def pdats : (p : Fin 2) → (c : Dev nD) → Pipeline.Dat τ (Elt F) Unit ℕ UU ℕ (Pipeline.pin (pcfgs (F := F)) adm p) c
  | 0 => fun c => dat0 c m
  | 1 => fun c => dat1 m c

/-! ## The device's arrays -/

def Va (c : Dev nD) : Valuation τ sig (Elt F) := Function.update (Function.update (V0 m c) main_v1_0 (hid m c)) main_v1_1 (wgt m c)
def Vb (c : Dev nD) : Valuation τ sig (Elt F) := Function.update (Va m c) main_v2 (outF c (hid m) (wgt m))

theorem ne_ref {r r' : Ref sig .tc} (h : r ≠ r') : (Proc.devRef .tc r : DevRef τ sig) ≠ Proc.devRef .tc r' := StableHlo.devRef_ne_of_ne h
theorem Va_v1_1 (c : Dev nD) : Va m c main_v1_1 = wgt m c := Function.update_self ..
theorem Va_v1_0 (c : Dev nD) : Va m c main_v1_0 = hid m c := (Function.update_of_ne (ne_ref (by decide)) _ _).trans (Function.update_self ..)
theorem Va_of (c : Dev nD) (r : Ref sig .tc) (h : r ≠ main_v1_0) (h' : r ≠ main_v1_1) : Va m c r = V0 m c r :=
  (Function.update_of_ne (ne_ref h') _ _).trans (Function.update_of_ne (ne_ref h) _ _)
theorem Vb_v2 (c : Dev nD) : Vb m c main_v2 = outF c (hid m) (wgt m) := Function.update_self ..
theorem Vb_of (c : Dev nD) (r : Ref sig .tc) (h : r ≠ main_v2) : Vb m c r = Va m c r := Function.update_of_ne (ne_ref h) _ _

def Hs0 : Finset (DevRef τ sig) := {Proc.devRef .tc main_arg2, Proc.devRef .tc main_v1_1}
def Hs1 : Finset (DevRef τ sig) := {Proc.devRef .tc main_v1_1}
def Sr0 : Finset (DevRef τ sig) := Pipeline.ucRefs τ sig \ Pipeline.arrRefs (τ := τ) spec0
def Sr1 : Finset (DevRef τ sig) := Pipeline.ucRefs τ sig \ Pipeline.arrRefs (τ := τ) spec1

theorem uc0 : Pipeline.arrRefs (τ := τ) spec0 ⊆ Pipeline.ucRefs τ sig := Pipeline.arrRefs_sub_ucRefs spec0 (by decide)
theorem uc1 : Pipeline.arrRefs (τ := τ) spec1 ⊆ Pipeline.ucRefs τ sig := Pipeline.arrRefs_sub_ucRefs spec1 (by decide)
theorem split0 (c : Dev nD) (V : Valuation τ sig (Elt F)) : (StableHlo.held (c.tc : Thread nD τ) (Pipeline.ucRefs τ sig) V : sProp 𝕄)
    = iprop(StableHlo.held (c.tc : Thread nD τ) (Pipeline.arrRefs (τ := τ) spec0) V ∗ StableHlo.held (c.tc : Thread nD τ) Sr0 V) := StableHlo.held_sub_split (c.tc : Thread nD τ) uc0 V
theorem split1 (c : Dev nD) (V : Valuation τ sig (Elt F)) : (StableHlo.held (c.tc : Thread nD τ) (Pipeline.ucRefs τ sig) V : sProp 𝕄)
    = iprop(StableHlo.held (c.tc : Thread nD τ) (Pipeline.arrRefs (τ := τ) spec1) V ∗ StableHlo.held (c.tc : Thread nD τ) Sr1 V) := StableHlo.held_sub_split (c.tc : Thread nD τ) uc1 V
theorem Hs0_sub : Hs0 ⊆ Sr0 := by decide
theorem Hs1_sub : Hs1 ⊆ Sr1 := by decide

theorem held0_eq (c : Dev nD) (V : Valuation τ sig (Elt F)) : (StableHlo.held (c.tc : Thread nD τ) Hs0 V : sProp 𝕄)
    = iprop((((c : Thread nD τ).loc main_arg2) ↦{fullShare} V main_arg2) ∗ (((c : Thread nD τ).loc main_v1_1) ↦{fullShare} V main_v1_1)) := by
  unfold StableHlo.held
  rw [bigSep_eq_bigSepL_of_eq [Proc.devRef .tc main_arg2, Proc.devRef .tc main_v1_1] (by decide) (by decide)]
  rfl
theorem held1_eq (c : Dev nD) (V : Valuation τ sig (Elt F)) : (StableHlo.held (c.tc : Thread nD τ) Hs1 V : sProp 𝕄)
    = (((c : Thread nD τ).loc main_v1_1) ↦{fullShare} V main_v1_1) := by
  unfold StableHlo.held Hs1
  rw [BI.bigSep_singleton]

/-! ## The first region -/

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

theorem hin0 (c : Dev nD) : iprop(Pipeline.scopedRest (Pipeline.pin (pcfgs (F := F)) adm 0).spec c ∗ (∃ r, prngReg c r) ∗ StableHlo.held (c.tc : Thread nD τ) Hs0 (V0 m c)
      ∗ Pipeline.ownSems0 osem0 c ∗ levAts L lv) ⊢ (pdats m 0 c).Φ 0 := by
  rw [show (pdats m 0 c).Φ 0 = keep0 c m 0 from rfl,
    show (Pipeline.scopedRest (Pipeline.pin (pcfgs (F := F)) adm 0).spec c : sProp 𝕄) = _ from scopedRest0_eq c, held0_eq]
  unfold keep0 rest0 sb
  iintro ⟨⟨Hx, Hi, Hc, Hr⟩, Hp, ⟨Hw, Ho⟩, Hs, Hl⟩
  isplitl [Hl]; · iexact Hl
  isplitr [Hr Hp]
  · iapply (fill_enter (w2F m) c (xF c m))
    isplitl [Hs]; · iexact Hs
    isplitl [Hx Hi Hc]
    · isplitl [Hx]; · iapply (Entails.of_eq (any_whole c cc0_scratch0).symm); iexact Hx
      isplitl [Hi]; · iapply (Entails.of_eq (any_whole c cc0_scratch1).symm); iexact Hi
      iapply (Entails.of_eq (any_whole c cc0_scratch2).symm); iexact Hc
    isplitl [Hw]; · iapply (show (((c : Thread nD τ).loc main_arg2) ↦{fullShare} V0 m c main_arg2) ⊢ wt (w2F m) c from .rfl); iexact Hw
    iapply (Entails.of_eq (any_whole c main_v1_1).symm); iexists _; iexact Ho
  isplitl [Hr] <;> iassumption

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs0 (Va m c)
      ∗ Pipeline.ownSems0 osem0 c ∗ emp) := by
  rw [show (pdats m 0 c).Φ (Fin.last _) = keep0 c m cfg0.N from rfl, show cfg0.N = 8 from N_0,
    show (Pipeline.scopedRest (Pipeline.pin (pcfgs (F := F)) adm 0).spec c : sProp 𝕄) = _ from scopedRest0_eq c, held0_eq, Va_v1_1, Va_of m c main_arg2 (by decide) (by decide)]
  unfold keep0 rest0 sb
  iintro ⟨-, Hf, Hr, Hp⟩
  ihave Hf := (fill_leave (w2F m) c (xF c m)) $$ Hf
  icases Hf with ⟨Hs, ⟨Hx, Hi, Hc⟩, Hw, Ho⟩
  isplitl [Hx Hi Hc Hr]
  · isplitl [Hx]; · iapply (Entails.of_eq (any_whole c cc0_scratch0)); iexact Hx
    isplitl [Hi]; · iapply (Entails.of_eq (any_whole c cc0_scratch1)); iexact Hi
    isplitl [Hc]; · iapply (Entails.of_eq (any_whole c cc0_scratch2)); iexact Hc
    iexact Hr
  isplitl [Hp]; · iexact Hp
  isplitl [Hw Ho]
  · isplitl [Hw]; · iapply (show wt (w2F m) c ⊢ (((c : Thread nD τ).loc main_arg2) ↦{fullShare} V0 m c main_arg2) from .rfl); iexact Hw
    iapply (Entails.of_eq (owns_whole (c : Thread nD τ) main_v1_1 fullShare (wgt m c))); iexact Ho
  isplitl [Hs]; · iexact Hs
  iempintro

theorem rest_0 (c : Dev nD) : ∀ b ∈ Sr0 \ Hs0, Va m c b = V0 m c b := fun b hb => by
  obtain ⟨h1, h2⟩ := Finset.mem_sdiff.mp hb
  have h3 := (Finset.mem_sdiff.mp h1).2
  unfold Va
  rw [Function.update_of_ne, Function.update_of_ne]
  · rintro rfl; exact h3 (by decide)
  · rintro rfl; exact h2 (by decide)
theorem rest_1 (c : Dev nD) : ∀ b ∈ Sr1 \ Hs1, Vb m c b = Va m c b := fun b hb => by
  obtain ⟨h1, h2⟩ := Finset.mem_sdiff.mp hb
  have h3 := (Finset.mem_sdiff.mp h1).2
  unfold Vb
  rw [Function.update_of_ne]
  rintro rfl; exact h3 (by decide)

theorem arr_end0 (c : Dev nD) : ∀ w : Fin 3, (dat0 c m).arrAt w cfg0.N = Va m c (Proc.devRef .tc (Pipeline.arrRef spec0 w))
  | 0 => ((dat0 c m).arrAt_in 0 rfl _).trans (Va_of m c main_arg0 (by decide) (by decide)).symm
  | 1 => ((dat0 c m).arrAt_in 1 rfl _).trans (Va_of m c main_arg1 (by decide) (by decide)).symm
  | 2 => (Va_v1_0 m c).symm
theorem arr_start0 (c : Dev nD) : ∀ w : Fin 3, (dat0 c m).arrAt w 0 = V0 m c (Proc.devRef .tc (Pipeline.arrRef spec0 w))
  | 0 => rfl
  | 1 => rfl
  | 2 => rfl

theorem cutO (c : Dev nD) {g : GSem nD τ sig} {i : Unit} (h : 0 < O₀ c g i) : i ∈ L g ∧ (0 : ℕ) < lv g i := by
  rcases O₀_pos h with ⟨hh, q, rfl⟩ | ⟨d, rfl⟩
  · exact ⟨by rw [L_tc]; exact Finset.mem_singleton_self _, by rw [lv_r]; omega⟩
  · exact ⟨by rw [L_tc]; exact Finset.mem_singleton_self _, by rw [lv_b]; decide⟩

theorem stage_other0 : ∀ (w : Fin 3) (s : Fin (spec0 w).nbuf), kind (.dma ((spec0 w).sem s)) = .other := by decide +kernel
theorem stage_other1 : ∀ (w : Fin 2) (s : Fin (spec1 w).nbuf), kind (.dma ((spec1 w).sem s)) = .other := by decide +kernel
theorem lv_other (c : Dev nD) (sm : SemLoc sig) (h : kind sm = .other) : lv ((c : Thread nD τ), sm) () = 0 := by dsimp only [lv]; rw [h]

theorem cut0 : Pipeline.LevelCutOwed (pcfgs (F := F)) adm (pdats m) () L lv 0 (fun _ => 0) where
  hι c w s := by rw [L_tc]; exact Finset.mem_singleton_self _
  hιb c w s := (lv_other c _ (stage_other0 w s)).le
  hD c t g i h := cutO c h
theorem cut1 : Pipeline.LevelCutOwed (pcfgs (F := F)) adm (pdats m) () L lv 1 (fun _ => 0) where
  hι c w s := by rw [L_tc]; exact Finset.mem_singleton_self _
  hιb c w s := (lv_other c _ (stage_other1 w s)).le
  hD c t g i h := by
    have h : 0 < (dat1 m c).owed t g i := h
    by_cases ht : t.val = 0
    · rw [owed_first m c t ht] at h; exact cutO c h
    · rw [owed_last m c t ht] at h; exact absurd h (Nat.lt_irrefl 0)

local notation "ℝ𝕊" => Pipeline.RegionSeg (pcfgs (F := F)) adm (pdats m) () (defs₀ (F := F)) 𝒱₀ L lv

/-- What the second call needs of the launch, on a device. -/
def Er (c : Dev nD) : sProp 𝕄 := Tk (hid m) (wgt m) c

set_option backward.isDefEq.respectTransparency.types false in
def reg0 : ℝ𝕊 0 :=
  Pipeline.RegionSeg.ofTalk (pcfgs (F := F)) adm (pdats m) () (defs₀ (F := F)) 𝒱₀ L lv 0 osem0 facts0
    Hs0 Sr0 Hs0_sub kit0 rfl (fun c => (body0 c m).loose)
    O₀ (fun _ => 0) (fun _ => (add_zero _).symm) (fun _ => rfl) (fun _ => rfl) (fun _ w => by match w with | 0 => rfl | 1 => rfl | 2 => rfl)
    (V0 m) (Va m) (rest_0 m)
    (fun _ => iprop(emp)) (fun _ => iprop(emp)) (fun c => iprop(Pipeline.ownSems0 osem0 c ∗ levAts L lv)) (fun _ => iprop(emp))
    (fun c => by iintro ⟨-, H⟩; imodintro; iexact H) (hin0 m) (hout0 m)
    (fun c => by iintro H; imodintro; iexact H)
    (fun _ => 0) (cut0 m) (Er m) (arr_start0 m) (arr_end0 m)

/-- A device before the first call, between the two, and after. -/
def T0 (c : Dev nD) : sProp 𝕄 := iprop(StableHlo.held (c.tc : Thread nD τ) (Pipeline.ucRefs τ sig) (V0 m c) ∗ (∃ r, prngReg c r) ∗ Er m c ∗ ∃ Wd, owes (c : Thread nD τ) (O₀ c) Wd)
def T1 (c : Dev nD) : sProp 𝕄 := iprop(StableHlo.held (c.tc : Thread nD τ) (Pipeline.ucRefs τ sig) (Va m c) ∗ (∃ r, prngReg c r) ∗ Er m c ∗ ∃ Wd, owes (c : Thread nD τ) (O₀ c) Wd)
def T2 (c : Dev nD) : sProp 𝕄 := iprop(StableHlo.held (c.tc : Thread nD τ) (Pipeline.ucRefs τ sig) (Vb m c) ∗ semVal (barCell c) 0)

theorem reg0_pre (c : Dev nD) : T0 m c ⊢ (reg0 m).pre c := by
  show _ ⊢ iprop(StableHlo.held (c.tc : Thread nD τ) (Pipeline.arrRefs (τ := τ) spec0) (V0 m c) ∗ (∃ r, prngReg c r)
    ∗ (StableHlo.held (c.tc : Thread nD τ) Sr0 (V0 m c) ∗ Er m c) ∗ emp ∗ ∃ Wd, owes (c : Thread nD τ) (O₀ c + 0) Wd)
  unfold T0
  rw [add_zero, split0 c (V0 m c)]
  iintro ⟨⟨Ha, Hr⟩, Hp, He, HO⟩
  isplitl [Ha]; · iexact Ha
  isplitl [Hp]; · iexact Hp
  isplitl [Hr He]; · isplitl [Hr] <;> iassumption
  isplitr; · iempintro
  iexact HO
theorem reg0_post (c : Dev nD) : (reg0 m).post c ⊢ T1 m c := by
  show iprop(StableHlo.held (c.tc : Thread nD τ) (Pipeline.arrRefs (τ := τ) spec0) (Va m c) ∗ (∃ r, prngReg c r)
    ∗ (StableHlo.held (c.tc : Thread nD τ) Sr0 (Va m c) ∗ Er m c) ∗ emp ∗ ∃ Wd, owes (c : Thread nD τ) (O₀ c) Wd) ⊢ _
  unfold T1
  rw [split0 c (Va m c)]
  iintro ⟨Ha, Hp, ⟨Hr, He⟩, -, HO⟩
  isplitl [Ha Hr]; · isplitl [Ha] <;> iassumption
  isplitl [Hp]; · iexact Hp
  isplitl [He] <;> iassumption

/-! ## The second region -/

theorem hin1 (c : Dev nD) : iprop(Pipeline.scopedRest (Pipeline.pin (pcfgs (F := F)) adm 1).spec c ∗ (∃ r, prngReg c r) ∗ StableHlo.held (c.tc : Thread nD τ) Hs1 (Va m c)
      ∗ Xk (hid m) (wgt m) c) ⊢ (pdats m 1 c).Φ 0 := by
  rw [show (pdats m 1 c).Φ 0 = keepA m c from keep_first m c 0 rfl,
    show (Pipeline.scopedRest (Pipeline.pin (pcfgs (F := F)) adm 1).spec c : sProp 𝕄) = _ from scopedRest1_eq c, held1_eq, Va_v1_1]
  unfold keepA idle1 rest1 sb scr
  rw [any_whole c cc1_scratch0, any_whole c cc1_scratch1, any_whole c cc1_scratch2, any_whole c cc1_scratch3, any_whole c cc1_scratch4]
  iintro ⟨⟨H1, H2, H3, H4, H5, H6, H7, H8, Hs⟩, Hp, Hw, HX⟩
  isplitl [HX]; · iexact HX
  isplitl [Hs]; · iexact Hs
  isplitl [Hw]; · iapply (show (((c : Thread nD τ).loc main_v1_1) ↦{fullShare} wgt m c) ⊢ w2 (wgt m) c fullShare from .rfl); iexact Hw
  isplitr [Hp]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hp

theorem hout1 (c : Dev nD) : (pdats m 1 c).Φ (Fin.last (Pipeline.pin (pcfgs (F := F)) adm 1).N)
    ⊢ iprop(Pipeline.scopedRest (Pipeline.pin (pcfgs (F := F)) adm 1).spec c ∗ (∃ r, prngReg c r) ∗ StableHlo.held (c.tc : Thread nD τ) Hs1 (Vb m c)
      ∗ Pipeline.ownSems0 osem1 c ∗ semVal (barCell c) 0) := by
  rw [show (pdats m 1 c).Φ (Fin.last _) = keepB m c from keep_last m c (Fin.last _) (by show cfg1.N ≠ 0; rw [show cfg1.N = 1 from N_1]; decide),
    show (Pipeline.scopedRest (Pipeline.pin (pcfgs (F := F)) adm 1).spec c : sProp 𝕄) = _ from scopedRest1_eq c, held1_eq, Vb_of m c main_v1_1 (by decide), Va_v1_1]
  unfold keepB idle1 rest1 sb scr
  rw [any_whole c cc1_scratch0, any_whole c cc1_scratch1, any_whole c cc1_scratch2, any_whole c cc1_scratch3, any_whole c cc1_scratch4]
  iintro ⟨⟨Ho, Hb⟩, Hs, Hw, ⟨H1, H2, H3, H4, H5, H6, H7, H8⟩, Hp⟩
  isplitr [Hp Hw Ho Hb]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hs
  isplitl [Hp]; · iexact Hp
  isplitl [Hw]; · iapply (show w2 (wgt m) c fullShare ⊢ (((c : Thread nD τ).loc main_v1_1) ↦{fullShare} wgt m c) from .rfl); iexact Hw
  isplitl [Ho] <;> iassumption

theorem Va_arr1 (c : Dev nD) : ∀ w : Fin 2, (dat1 m c).arrAt w 0 = Va m c (Proc.devRef .tc (Pipeline.arrRef spec1 w))
  | 0 => (Va_v1_0 m c).symm
  | 1 => (Va_of m c main_v2 (by decide) (by decide)).symm
theorem whole_out : (win1_1).arr.IsWhole := Memref.isWhole_whole _
theorem arr_end1 (c : Dev nD) : ∀ w : Fin 2, (dat1 m c).arrAt w cfg1.N = Vb m c (Proc.devRef .tc (Pipeline.arrRef spec1 w))
  | 0 => ((dat1 m c).arrAt_in 0 rfl _).trans ((Va_v1_0 m c).symm.trans (Vb_of m c main_v1_0 (by decide)).symm)
  | 1 => ((dat1 m c).arrAt_eq_of_covers 1 (outF c (hid m) (wgt m)) (by decide +kernel) (fun t _ y => by
      show outF c (hid m) (wgt m) y = outF c (hid m) (wgt m) ((win1_1.blk t).view.emb y)
      refine congrArg (outF c (hid m) (wgt m)) (funext fun a => Fin.ext ?_)
      exact (win1_1.rect_emb_val_of_index_zero t a (by match a with | ⟨0, _⟩ => rfl | ⟨1, _⟩ => rfl) y).symm)).trans (Vb_v2 m c).symm

set_option backward.isDefEq.respectTransparency.types false in
def reg1 : ℝ𝕊 1 :=
  Pipeline.RegionSeg.ofTalk (pcfgs (F := F)) adm (pdats m) () (defs₀ (F := F)) 𝒱₀ L lv 1 osem1 facts1
    Hs1 Sr1 Hs1_sub kit1 rfl (fun c => (body1 m c).loose)
    (fun _ => 0) O₀ (fun c => (owed_first m c 0 rfl).trans (zero_add _).symm) (fun c => owed_last m c (Fin.last _) (by show cfg1.N ≠ 0; rw [show cfg1.N = 1 from N_1]; decide))
    (fun _ => rfl) (fun _ w => by match w with | 0 => rfl | 1 => rfl)
    (Va m) (Vb m) (rest_1 m)
    (Er m) (fun c => semVal (barCell c) 0) (Xk (hid m) (wgt m)) (fun c => semVal (barCell c) 0)
    (hopen1 (hid m) (wgt m)) (hin1 m) (hout1 m)
    (fun c => by iintro H; imodintro; iexact H)
    (fun _ => 0) (cut1 m) (fun _ => iprop(emp)) (Va_arr1 m) (arr_end1 m)

theorem reg1_pre (c : Dev nD) : T1 m c ⊢ (reg1 m).pre c := by
  show _ ⊢ iprop(StableHlo.held (c.tc : Thread nD τ) (Pipeline.arrRefs (τ := τ) spec1) (Va m c) ∗ (∃ r, prngReg c r)
    ∗ (StableHlo.held (c.tc : Thread nD τ) Sr1 (Va m c) ∗ emp) ∗ Er m c ∗ ∃ Wd, owes (c : Thread nD τ) (0 + O₀ c) Wd)
  unfold T1
  rw [zero_add, split1 c (Va m c)]
  iintro ⟨⟨Ha, Hr⟩, Hp, He, HO⟩
  isplitl [Ha]; · iexact Ha
  isplitl [Hp]; · iexact Hp
  isplitl [Hr]
  · isplitl [Hr]; · iexact Hr
    iempintro
  isplitl [He] <;> iassumption
theorem reg1_post (c : Dev nD) : (reg1 m).post c ⊢ iprop(T2 m c ∗ ∃ Wd, owes (c : Thread nD τ) (0 : CellTallies nD τ sig Unit) Wd) := by
  show iprop(StableHlo.held (c.tc : Thread nD τ) (Pipeline.arrRefs (τ := τ) spec1) (Vb m c) ∗ (∃ r, prngReg c r)
    ∗ (StableHlo.held (c.tc : Thread nD τ) Sr1 (Vb m c) ∗ emp) ∗ semVal (barCell c) 0 ∗ ∃ Wd, owes (c : Thread nD τ) 0 Wd) ⊢ _
  unfold T2
  rw [split1 c (Vb m c)]
  iintro ⟨Ha, -, ⟨Hr, -⟩, Hb, HO⟩
  isplitr [HO]
  · isplitl [Ha Hr]; · isplitl [Ha] <;> iassumption
    iexact Hb
  iexact HO

end Cert.KernelIdeal
-- ==== Proof.Launch.lean ====
/-
  The launch: the cells' invariants, the tokens and credits each device starts with, and the run of the whole program.
-/
module

public import proofs.«01_k».proof.Proof.Regs

@[expose] public section

set_option maxRecDepth 16384

noncomputable section

namespace Cert.KernelIdeal

open Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

local instance eltNonempty3 : ∀ e, Nonempty (Elt F e) := fun e => Elt.nonempty F e

/-! ## The tokens -/

/-- A device's duties: two at its barrier cell, one at each send and each receive cell. -/
abbrev DutyIx : Type := Fin 2 ⊕ (Fin 8 × Fin 14) ⊕ (Fin 8 × Fin 14)
def dutyOf (c : Dev nD) : DutyIx → GSem nD τ sig × ℕ × Fin 2
  | .inl d => (barCell c, 0, d)
  | .inr (.inl x) => (sCell c x.1 x.2, 0, 0)
  | .inr (.inr x) => (rCell c x.1 x.2, 0, 0)

theorem dutyOf_inj : Function.Injective fun x : Dev nD × DutyIx => dutyOf x.1 x.2 := by
  rintro ⟨c, d | x | x⟩ ⟨c', d' | y | y⟩ e <;> replace e : dutyOf c _ = dutyOf c' _ := e <;> unfold dutyOf at e <;>
    have e1 := congrArg Prod.fst e <;> dsimp only at e1
  · obtain rfl : c = c' := congrArg (fun g : GSem nD τ sig => g.1.1) e1
    obtain rfl : d = d' := congrArg (fun t : GSem nD τ sig × ℕ × Fin 2 => t.2.2) e
    rfl
  · exact absurd e1.symm sCell_ne_bar
  · exact absurd e1.symm rCell_ne_bar
  · exact absurd e1 sCell_ne_bar
  · obtain ⟨rfl, h1, h2⟩ := sCell_inj e1
    obtain rfl : x = y := Prod.ext h1 h2
    rfl
  · exact absurd e1 sCell_ne_rCell
  · exact absurd e1 rCell_ne_bar
  · exact absurd e1.symm sCell_ne_rCell
  · obtain ⟨rfl, h1, h2⟩ := rCell_inj e1
    obtain rfl : x = y := Prod.ext h1 h2
    rfl

def dutyToks : Finset (GSem nD τ sig × ℕ × Fin 2) := Finset.univ.map ⟨_, dutyOf_inj⟩

/-- The launch element: the staging cells', the protocol's, and the counters of the local transfers. -/
def uL : UU :=
  (initOf (Pipeline.cells (Pipeline.pin (pcfgs (F := F)) adm) cellOf_inj) (Pipeline.launchToks (Pipeline.pin (pcfgs (F := F)) adm) cellOf_inj),
    (launchOf barCells scCells dutyToks, (1 : Counters)))

theorem own_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- All of `X` at the first device. -/
def atFirst (X : sProp 𝕄) (c : Dev nD) : sProp 𝕄 := if c = 0 then X else iprop(emp)
theorem bigSep_atFirst (X : sProp 𝕄) : bigSep Finset.univ (atFirst X) = X := by
  have h : bigSep (Finset.univ.erase (0 : Dev nD)) (atFirst X) = bigSep (Finset.univ.erase (0 : Dev nD)) fun _ => (BI.emp : sProp 𝕄) :=
    bigSep_congr fun c hc => if_neg (Finset.ne_of_mem_erase hc)
  rw [bigSep_univ_at _ (0 : Dev nD), h, BI.bigSep_emp_const]
  exact BI.equiv_iff.mp sep_emp

def GL : Dev nD → sProp 𝕄 := atFirst (BI.own (ER (launchOf barCells scCells dutyToks)))

/-- The tokens of a device's own cells. -/
def ownToks (c : Dev nD) : sProp 𝕄 :=
  iprop((dutyTok ER (barCell c) 0 0 ∗ dutyTok ER (barCell c) 0 1)
    ∗ (bigSep Finset.univ fun x : Fin 8 × Fin 14 => dutyTok ER (sCell c x.1 x.2) 0 0)
    ∗ (bigSep Finset.univ fun x : Fin 8 × Fin 14 => dutyTok ER (rCell c x.1 x.2) 0 0))
/-- The tokens of the duties a device pays. -/
def payToks (c : Dev nD) : sProp 𝕄 :=
  iprop((dutyTok ER (barCell (devS 1 c)) 0 0 ∗ dutyTok ER (barCell (devS 0 c)) 0 1)
    ∗ (bigSep Finset.univ fun x : Fin 8 × Fin 14 => dutyTok ER (sCell c x.1 x.2) 0 0)
    ∗ (bigSep Finset.univ fun x : Fin 8 × Fin 14 => dutyTok ER (rCell (tgt x.1 c) x.1 x.2) 0 0))

theorem toks_eq : bigSep dutyToks (fun x => (dutyTok ER x.1 x.2.1 x.2.2 : sProp 𝕄)) = bigSep Finset.univ fun c : Dev nD => ownToks c := by
  unfold dutyToks; rw [bigSep_map, bigSep_univ_prod]
  refine bigSep_congr fun c _ => ?_
  unfold ownToks
  rw [BI.bigSep_univ_sum, BI.bigSep_univ_sum, BI.bigSep_fin_two]
  rfl

def dirE (d : Fin 2) : Dev nD ≃ Dev nD where
  toFun := devS d
  invFun := devS (1 - d)
  left_inv c := devS_devS d c
  right_inv c := by
    have h := devS_devS (1 - d) c
    rwa [show 1 - (1 - d) = d from by clear h; revert d; decide] at h
def tgtE (q : Fin 8) : Dev nD ≃ Dev nD := ⟨tgt q, src q, src_tgt q, tgt_src q⟩

theorem move_bar (d e : Fin 2) : (bigSep Finset.univ fun c : Dev nD => (dutyTok ER (barCell c) 0 e : sProp 𝕄))
    = bigSep Finset.univ fun c : Dev nD => dutyTok ER (barCell (devS d c)) 0 e :=
  bigSep_univ_equiv (dirE d) fun c : Dev nD => (dutyTok ER (barCell c) 0 e : sProp 𝕄)
theorem swap_sep {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod fun x : I × J => Φ x.1 x.2, ← bigSep_univ_prod fun x : J × I => Φ x.2 x.1]
  exact bigSep_univ_equiv (Equiv.prodComm J I) fun x : I × J => Φ x.1 x.2
theorem move_rcv : (bigSep Finset.univ fun c : Dev nD => bigSep Finset.univ fun x : Fin 8 × Fin 14 => (dutyTok ER (rCell c x.1 x.2) 0 0 : sProp 𝕄))
    = bigSep Finset.univ fun c : Dev nD => bigSep Finset.univ fun x : Fin 8 × Fin 14 => dutyTok ER (rCell (tgt x.1 c) x.1 x.2) 0 0 := by
  refine (swap_sep _).trans (Eq.trans ?_ (swap_sep _))
  exact bigSep_congr fun x _ => bigSep_univ_equiv (tgtE x.1) fun c : Dev nD => (dutyTok ER (rCell c x.1 x.2) 0 0 : sProp 𝕄)

/-- Each token goes to the device that pays its duty. -/
theorem move_toks : (bigSep Finset.univ fun c : Dev nD => (ownToks c : sProp 𝕄)) = bigSep Finset.univ fun c : Dev nD => payToks c := by
  unfold ownToks payToks
  rw [bigSep_sep', bigSep_sep', bigSep_sep', bigSep_sep', bigSep_sep', bigSep_sep', move_bar 1 0, move_bar 0 1, move_rcv]

/-! ## The credits -/

theorem sum_at {ι : Type} (s : Finset ι) (f : ι → CellTallies nD τ sig Unit) (g : GSem nD τ sig) :
    (∑ x ∈ s, f x) g () = ∑ x ∈ s, f x g () := by
  rw [Finset.sum_apply, Finsupp.finset_sum_apply]

theorem debt_bar (d c : Dev nD) : debt d 0 (barCell c) () = 0 := by
  unfold debt
  rw [sum_at]
  exact Finset.sum_eq_zero fun x _ => by rw [tallyAt_ne_cell (fun h => rCell_ne_bar h.symm)]; rfl

theorem bar_at (e : Fin 2) (d c : Dev nD) : tallyAt (barCell (devS e d)) () 1 (barCell c) () = if d = devS (1 - e) c then 1 else 0 := by
  rw [tallyAt_apply]
  refine if_congr ⟨fun h => ?_, fun h => ⟨?_, rfl⟩⟩ rfl rfl
  · have h' : c = devS e d := congrArg (fun g : GSem nD τ sig => g.1.1) h.1
    rw [h', devS_devS]
  · rw [h, (dirE e).right_inv c |> fun h : devS e (devS (1 - e) c) = c => h]

theorem owed_bar (d c : Dev nD) : O₀ d (barCell c) () = (if d = devS 0 c then 1 else 0) + (if d = devS 1 c then 1 else 0) := by
  unfold O₀
  rw [Pi.add_apply, Finsupp.add_apply, Pi.add_apply, Finsupp.add_apply, debt_bar, bar_at, bar_at, Nat.zero_add]
  rfl

theorem owed_rcv (d c : Dev nD) (q : Fin 8) (h : Fin 14) : O₀ d (rCell c q h) () = if d = src q c then NN else 0 := by
  unfold O₀
  rw [Pi.add_apply, Finsupp.add_apply, Pi.add_apply, Finsupp.add_apply, tallyAt_ne_cell rCell_ne_bar, tallyAt_ne_cell rCell_ne_bar, Finsupp.zero_apply,
    Nat.add_zero, Nat.add_zero]
  unfold debt
  rw [sum_at, Finset.sum_eq_single (h, q)]
  · rw [tallyAt_apply]
    refine if_congr ⟨fun e => ?_, fun e => ⟨?_, rfl⟩⟩ rfl rfl
    · rw [(rCell_inj e.1).1, src_tgt]
    · subst e; dsimp only; rw [tgt_src]
  · intro x _ hx
    rw [tallyAt_ne_cell fun e => hx (Prod.ext (rCell_inj e).2.2.symm (rCell_inj e).2.1.symm)]; rfl
  · exact fun hn => absurd (show ((h, q) : Fin 14 × Fin 8) ∈ left 0 from Finset.mem_filter.mpr ⟨Finset.mem_univ _, Nat.zero_le _⟩) hn

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (devS 0 c) fun _ => 1, Finset.sum_ite_eq' Finset.univ (devS 1 c) fun _ => 1, if_pos (Finset.mem_univ _), if_pos (Finset.mem_univ _)]

theorem launch_rcv (c : Dev nD) (q : Fin 8) (h : Fin 14) :
    tallyOn (rCell c q h) (launchCredit (Pipeline.owing O₀) 0 (rCell c q h)) = (tallyAt (rCell c q h) () NN : CellTallies nD τ sig Unit) := by
  unfold tallyAt; refine congrArg _ (Finsupp.ext fun u => ?_); cases u
  rw [Pipeline.launchCredit_owing, Finsupp.single_eq_same, Finset.sum_congr rfl fun d _ => owed_rcv d c q h,
    Finset.sum_ite_eq' Finset.univ (src q c) fun _ => NN, if_pos (Finset.mem_univ _)]

def rLoc : Fin 8 × Fin 14 ↪ SemLoc sig := ⟨fun x => .dma (rSem x.1 x.2), fun x y e => by
  have h := rCell_inj (c := 0) (c' := 0) (q := x.1) (q' := y.1) (h := x.2) (h' := y.2) (Prod.ext rfl e)
  exact Prod.ext h.2.1 h.2.2⟩

theorem rLoc_sub : (Finset.univ.map rLoc : Finset (SemLoc sig)) ⊆ Finset.univ.erase (.reg bSem) := fun sm h => by
  obtain ⟨x, -, rfl⟩ := Finset.mem_map.mp h
  exact Finset.mem_erase.mpr ⟨nofun, Finset.mem_univ _⟩

theorem creds (c : Dev nD) : (Pipeline.launchCred O₀ c : sProp 𝕄)
    ⊢ iprop(cred (tallyAt (barCell c) () 2) ∗ bigSep Finset.univ fun x : Fin 8 × Fin 14 => cred (tallyAt (rCell c x.1 x.2) () NN)) := by
  unfold Pipeline.launchCred
  rw [bigSep_univ_at _ (SemLoc.reg bSem), launch_bar]
  refine sep_mono_right ((bigSep_subset rLoc_sub).trans ?_)
  rw [bigSep_map]
  exact mono fun x _ => Entails.of_eq (congrArg (fun t => (cred t : sProp 𝕄)) (launch_rcv c x.1 x.2))

/-! ## What each device starts with -/

/-- The cells a device opens. -/
def openToks (c : Dev nD) : sProp 𝕄 :=
  iprop((bigSep Finset.univ fun x : Fin 8 × Fin 14 => openTok ER (sCell c x.1 x.2)) ∗ (bigSep Finset.univ fun x : Fin 8 × Fin 14 => openTok ER (rCell c x.1 x.2)))

theorem open_eq : bigSep scCells (fun g => (openTok ER g : sProp 𝕄)) = bigSep Finset.univ fun c : Dev nD => openToks c := by
  have hd : Disjoint (Finset.univ.map sEmb : Finset (GSem nD τ sig)) (Finset.univ.map rEmb) := by
    rw [Finset.disjoint_left]
    rintro g h₁ h₂
    obtain ⟨x, -, rfl⟩ := Finset.mem_map.mp h₁
    obtain ⟨y, -, h⟩ := Finset.mem_map.mp h₂
    exact sCell_ne_rCell h.symm
  unfold openToks
  rw [bigSep_union hd, bigSep_map, bigSep_map, bigSep_univ_prod, bigSep_univ_prod, bigSep_sep']
  rfl

def creds' (c : Dev nD) : sProp 𝕄 := iprop(cred (tallyAt (barCell c) () 2) ∗ bigSep Finset.univ fun x : Fin 8 × Fin 14 => cred (tallyAt (rCell c x.1 x.2) () NN))

theorem hop_keys (c : Dev nD) :
    iprop((bigSep Finset.univ fun x : Fin 8 × Fin 14 => openTok ER (sCell c x.1 x.2)) ∗ (bigSep Finset.univ fun x : Fin 8 × Fin 14 => openTok ER (rCell c x.1 x.2))
      ∗ (bigSep Finset.univ fun x : Fin 8 × Fin 14 => cred (tallyAt (rCell c x.1 x.2) () NN))
      ∗ (bigSep Finset.univ fun x : Fin 8 × Fin 14 => dutyTok ER (sCell c x.1 x.2) 0 0)
      ∗ (bigSep Finset.univ fun x : Fin 8 × Fin 14 => dutyTok ER (rCell (tgt x.1 c) x.1 x.2) 0 0))
    ⊢ (bigSep Finset.univ fun q => bigSep Finset.univ (hopKeys c q) : sProp 𝕄) := by
  rw [← bigSep_univ_prod (fun x : Fin 8 × Fin 14 => (hopKeys c x.1 x.2 : sProp 𝕄)), ← bigSep_sep', ← bigSep_sep', ← bigSep_sep', ← bigSep_sep']
  refine mono fun x _ => ?_
  unfold hopKeys
  iintro ⟨H1, H2, H3, H4, H5⟩
  isplitl [H1 H2]; · isplitl [H1] <;> iassumption
  isplitl [H3]; · iexact H3
  isplitl [H4] <;> iassumption

variable (m : (ℓ : Loc nD τ sig) → Buf (Elt F) ℓ) (ρ : Dev nD → PrngReg)

def pack (c : Dev nD) : sProp 𝕄 :=
  iprop(StableHlo.held (c.tc : Thread nD τ) (Pipeline.ucRefs τ sig) (V0 m c) ∗ (∃ r, prngReg c r) ∗ owes (c : Thread nD τ) (O₀ c) ∅ ∗ creds' c)
def ghost (c : Dev nD) : sProp 𝕄 := iprop(atPos ER (barCell c) 0 ∅ 0 ∗ openToks c ∗ payToks c)

theorem T0_intro (κ : GSem nD τ sig → ℕ) (c : Dev nD) :
    iprop((invs (hid m) (wgt m) κ ∗ barReached (F := F)) ∗ (ghost c ∗ pack m c)) ⊢ T0 m c := by
  unfold ghost pack openToks payToks creds' T0 Er Tk barKeys
  iintro ⟨#HR, ⟨Hat, ⟨Ho, Ho'⟩, ⟨Hb0, Hb1⟩, Hs, Hr⟩, Hh, Hp, HO, Hc2, Hcr⟩
  isplitl [Hh]; · iexact Hh
  isplitl [Hp]; · iexact Hp
  isplitr [HO]
  · iexists κ
    isplitr; · iexact HR
    isplitl [Hb0 Hb1 Hc2 Hat]
    · isplitl [Hb1]; · iexact Hb1
      isplitl [Hb0]; · iexact Hb0
      isplitl [Hc2] <;> iassumption
    · iapply (hop_keys c)
      isplitl [Ho]; · iexact Ho
      isplitl [Ho']; · iexact Ho'
      isplitl [Hcr]; · iexact Hcr
      isplitl [Hs] <;> iassumption
  · iexists ∅; iexact HO

theorem sems0_eq (c : Dev nD) : (unscopedSems0 c : sProp 𝕄) = semVal (barCell c) 0 := by
  unfold unscopedSems0
  rw [show (Finset.univ.filter fun sm : SemLoc sig => ¬ sm.isScoped .tc) = {SemLoc.reg bSem} from by decide, BI.bigSep_singleton]

theorem init_core (c : Dev nD) : iprop(unscopedBufs c (fun b => m ((c.tc : Thread nD τ).loc b)) ∗ unscopedSems0 c
      ∗ owes (c.tc : Thread nD τ) (O₀ c) ∅ ∗ Pipeline.launchCred O₀ c ∗ prngReg c (ρ c) ∗ GL c)
    ⊢ (iprop(pack m c ∗ (semVal (barCell c) 0 ∗ GL c)) : sProp 𝕄) := by
  rw [show unscopedBufs c (fun b => m ((c.tc : Thread nD τ).loc b)) = StableHlo.held (c.tc : Thread nD τ) (Pipeline.ucRefs τ sig) (V0 m c) from
    Pipeline.unscopedBufs_held c (V0 m c), sems0_eq]
  unfold pack creds'
  iintro ⟨Hh, Hus, HO, Hcr, Hp, HG⟩
  ihave Hc := (creds (F := F) c) $$ Hcr
  isplitl [Hh Hc HO Hp]
  · isplitl [Hh]; · iexact Hh
    isplitl [Hp]; · iexists (ρ c); iexact Hp
    isplitl [HO]; · iexact HO
    iexact Hc
  isplitl [Hus] <;> iassumption

/-- What the launch gives every device. -/
def given (c : Dev nD) : sProp 𝕄 := iprop(unscopedBufs c (fun b => m ((c.tc : Thread nD τ).loc b)) ∗ unscopedSems0 c
  ∗ owes (c.tc : Thread nD τ) (O₀ c) ∅ ∗ Pipeline.launchCred O₀ c ∗ prngReg c (ρ c) ∗ GL c)

theorem given_core (c : Dev nD) : given m ρ c ⊢ (iprop(pack m c ∗ (semVal (barCell c) 0 ∗ GL c)) : sProp 𝕄) := by
  unfold given; exact init_core m ρ c

theorem sems_eq : (bigSep Finset.univ fun c : Dev nD => (semVal (barCell c) 0 : sProp 𝕄)) = bigSep barCells fun g => (semVal g 0 : sProp 𝕄) :=
  (bigSep_map (s := Finset.univ) barEmb (Φ := fun g : GSem nD τ sig => (semVal g 0 : sProp 𝕄))).symm
theorem pos_eq : (bigSep barCells fun g => (atPos ER g 0 ∅ 0 : sProp 𝕄)) = bigSep Finset.univ fun c : Dev nD => (atPos ER (barCell c) 0 ∅ 0 : sProp 𝕄) :=
  bigSep_map (s := Finset.univ) barEmb (Φ := fun g : GSem nD τ sig => (atPos ER g 0 ∅ 0 : sProp 𝕄))

theorem given_all : bigSep Finset.univ (given m ρ)
    ⊢ iprop(bigSep Finset.univ (pack m) ∗ (bigSep barCells fun g => (semVal g 0 : sProp 𝕄)) ∗ BI.own (ER (launchOf barCells scCells dutyToks))) := by
  refine (mono fun c _ => given_core m ρ c).trans ?_
  rw [bigSep_sep', bigSep_sep', sems_eq, GL, bigSep_atFirst]

theorem ghost_all : iprop((bigSep barCells fun g => (atPos ER g 0 ∅ 0 : sProp 𝕄)) ∗ (bigSep scCells fun g => (openTok ER g : sProp 𝕄))
      ∗ bigSep dutyToks fun x => (dutyTok ER x.1 x.2.1 x.2.2 : sProp 𝕄))
    ⊢ bigSep Finset.univ ghost := by
  unfold ghost
  rw [bigSep_sep', bigSep_sep', pos_eq, open_eq, toks_eq, move_toks]

theorem T0_all (κ : GSem nD τ sig → ℕ) :
    iprop((invs (hid m) (wgt m) κ ∗ barReached (F := F)) ∗ (bigSep Finset.univ ghost ∗ bigSep Finset.univ (pack m))) ⊢ bigSep Finset.univ (T0 m) := by
  rw [← bigSep_sep']
  exact bigSep_with_persistent (R := iprop(invs (hid m) (wgt m) κ ∗ barReached (F := F))) (Φ := fun c => iprop(ghost c ∗ pack m c)) fun c _ => T0_intro m κ c

section Fund

variable (H : Dev nD → S2048x4096.Idx → Elt F .bf16) (W : Dev nD → S4096x2048.Idx → Elt F .bf16)

/-- Any cells funded, with the dormant ones and the tokens. -/
theorem fund_any (S Sd U : Finset (GSem nD τ sig)) (hU : S ∪ Sd = U) (T : Finset (GSem nD τ sig × ℕ × Fin 2)) (hd : Disjoint S Sd) :
    iprop((bigSep S fun g => (semVal g 0 : sProp 𝕄)) ∗ BI.own (ER (launchOf S Sd T)))
      ⊢ (|={Set.univ}=> ∃ κ : GSem nD τ sig → ℕ, ((bigSep U fun g => cellInv ER (rd H W) (κ g) g) ∗ bigSep S fun g => reached ER g 0)
        ∗ (bigSep S fun g => atPos ER g 0 ∅ 0) ∗ (bigSep Sd fun g => openTok ER g) ∗ bigSep T fun x => dutyTok ER x.1 x.2.1 x.2.2 : sProp 𝕄) := by
  subst hU
  refine (Rounds.fund_launch ER (rd H W) hd (fun g _ h => h) T (Es := Set.univ)).trans (BI.fupd_mono ?_)
  iintro ⟨%κ, -, Hinv, Hr, Hat, Hopen, Htok⟩
  iexists κ
  isplitl [Hinv Hr]; · isplitl [Hinv] <;> iassumption
  isplitl [Hat]; · iexact Hat
  isplitl [Hopen] <;> iassumption

end Fund

theorem fund_all :
    iprop((bigSep barCells fun g => (semVal g 0 : sProp 𝕄)) ∗ BI.own (ER (launchOf barCells scCells dutyToks)))
      ⊢ (|={Set.univ}=> ∃ κ : GSem nD τ sig → ℕ, (invs (hid m) (wgt m) κ ∗ barReached (F := F)) ∗ bigSep Finset.univ ghost : sProp 𝕄) := by
  refine (fund_any (hid m) (wgt m) barCells scCells _ rfl dutyToks disjoint_cells).trans (BI.fupd_mono ?_)
  iintro ⟨%κ, HR, Hg⟩
  iexists κ
  isplitl [HR]; · unfold invs barReached; iexact HR
  iapply ghost_all $$ Hg

theorem init' : bigSep Finset.univ (given m ρ) ⊢ (|={Set.univ}=> bigSep Finset.univ (T0 m) : sProp 𝕄) := by
  refine (given_all m ρ).trans ?_
  iintro ⟨HB, H⟩
  imod (fund_all m) $$ H with ⟨%κ, HR, Hg⟩
  imodintro
  iapply (T0_all m κ)
  isplitl [HR]; · iexact HR
  isplitl [Hg] <;> iassumption

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ GL c)) ∗ levAts L lv)
      ⊢ (|={Set.univ}=> bigSep Finset.univ (T0 m) : sProp 𝕄) :=
  (sep_elim_left (Q := levAts L lv)).trans (init' m ρ)

/-! ## The run -/

theorem unscoped_eq : ∀ sm : SemLoc sig, sm.isScoped .tc = false → sm = .reg bSem := by decide

def segsOf : List (Pipeline.Seg (pcfgs (F := F)) adm (pdats m) () defs₀ 𝒱₀ L lv) := [.region (reg0 m), .region (reg1 m)]

/-- What a device's memory holds at the end. -/
def Ends (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_v2) = outF c (hid m) (wgt m)

theorem ends (c : Dev nD) (s' : Phys nD τ sig (Elt F)) :
    iprop(T2 m c ∗ SI s') ⊢ (|={Set.univ}=> iprop(⌜Ends m c s'.mem ∧ s'.mem.sem (barCell c) = 0⌝ ∗ SI s') : sProp 𝕄) := by
  unfold T2 StableHlo.held
  iintro ⟨⟨Hh, Hb⟩, HSI⟩
  ihave Hr := (pointsTo_read_all (Pipeline.ucRefs τ sig) (fun b => ((c : Thread nD τ).1, b)) (Vb m c) s') $$ [Hh HSI]
  · isplitl [Hh] <;> iassumption
  icases Hr with ⟨%h, HSI⟩
  icombine HSI Hb gives %hb
  imodintro
  isplitr
  · ipureintro
    refine ⟨⟨?_, ?_, ?_, ?_⟩, by simpa using hb⟩
    · exact (h (Proc.devRef .tc main_arg0) (by decide)).trans ((Vb_of m c main_arg0 (by decide)).trans (Va_of m c main_arg0 (by decide) (by decide)))
    · exact (h (Proc.devRef .tc main_arg1) (by decide)).trans ((Vb_of m c main_arg1 (by decide)).trans (Va_of m c main_arg1 (by decide) (by decide)))
    · exact (h (Proc.devRef .tc main_arg2) (by decide)).trans ((Vb_of m c main_arg2 (by decide)).trans (Va_of m c main_arg2 (by decide) (by decide)))
    · exact (h (Proc.devRef .tc main_v2) (by decide)).trans (Vb_v2 m c)
  · iexact HSI

set_option backward.isDefEq.respectTransparency.types false in
theorem run_main : θ_run defs (onTc (τ := τ) (main (F := F))) ⟨m, fun _ => 0, ρ⟩ (fun r => (∀ c : Dev nD, Ends m c r.2) ∧ r.2.sem = fun _ => 0) :=
  Pipeline.θ_run_regions_kit_sems (pcfgs (F := F)) adm (pdats m) () cellOf_inj EP defs₀ 𝒱₀ L lv m ρ main (segsOf m)
    (fun c Q => by unfold segsOf; rw [main_segs adm (pdats m) () 𝒱₀ L lv (reg0 m) (reg1 m) c])
    (by simp only [segsOf, Pipeline.Seg.pipes_region, Pipeline.Seg.pipes_nil]; decide)
    (O₀ := O₀) (hL := L_of_ne) (G := GL) (u₀ := uL (F := F))
    (hu₀ := by
      unfold uL GL
      iintro Hu
      ihave H := (own_split _ _) $$ Hu
      icases H with ⟨HP, HX⟩
      imodintro
      isplitl [HP]; · iexact HP
      rw [bigSep_atFirst]; iexact HX)
    (T₀ := T0 m) (Tₙ := T2 m)
    (hch := ⟨fun c => reg0_pre m c, fun c => (reg0_post m c).trans (reg1_pre m c), fun c => reg1_post m c⟩)
    (hinit := init m ρ)
    (QY := fun c s => Ends m c s ∧ s.sem (barCell c) = 0)
    (hfin := fun c s' => ends m c s')
    (hQ := fun s h hs => ⟨fun c => (h c).1, sem_eq_zero hs fun c sm hsm => by
      obtain rfl := unscoped_eq sm hsm
      exact (h c).2⟩)

end Cert.KernelIdeal

end
-- ==== Proof.Values.lean ====
/-
  What the two calls compute, over the extended reals: the hidden layer is the clipped product, and every tile of the
  output is the sum, over all devices, of the products of their parts of the hidden layer and of the second weight.
-/
module

public import proofs.«01_k».proof.Proof.Launch
public import Idealize.ShloMosaic.Lib.MatmulPlain
public import Idealize.ShloMosaic.Lib.StackMember
public import Idealize.ShloMosaic.Lib.ValueIdx
public import Idealize.ShloMosaic.Lib.Layout

@[expose] public section

set_option maxRecDepth 16384

noncomputable section

namespace Cert.KernelIdeal

open Gen
open Idealize.ShloMosaic Idealize.ShloMosaic.ValueIdx
open Idealize.ShloMosaic.TcCoe

/-! ## The products of the calls, entry by entry -/

theorem dot_first : dot_S2048x2048_S2048x512_S2048x512_1_0_0_1_n_n = DotDims.plain 2048 2048 512 := rfl
theorem dot_second : dot_S256x4096_S4096x256_S256x256_1_0_0_1_n_n = DotDims.plain 256 4096 256 := rfl

theorem zero_bits : Ideal.ofBits .f32 0x00000000#32 = 0 := by simp [Ideal.ofBits, Ideal.ieee]

theorem pay_apply (x : Vec Ideal S2048x2048 .f32) (w : Vec Ideal S2048x512 .f32) (r : Fin 2048) (j : Fin 512) :
    k0_pay3 (k0_pay2 x) w (ix2 r j) = max (∑ k : Fin 2048, (x (ix2 r k) : EReal) * w (ix2 k j)) 0 := by
  unfold k0_pay3 k0_pay2
  simp only [shapeCast_self]
  rw [truncf_apply, maximumf_apply]
  refine congrArg₂ max ?_ zero_bits
  show FloatOps.matmul _ _ _ _ _ _ = _
  rw [dot_first, Ideal.matmul_plain_apply, constant_apply, zero_bits, zero_add]
  rfl

theorem dotT_apply (h : Vec Ideal S256x4096 .bf16) (w : Vec Ideal S4096x256 .bf16) (r j : Fin 256) :
    dotT h w (ix2 r j) = ∑ i : Fin 4096, (h (ix2 r i) : EReal) * w (ix2 i j) := by
  unfold dotT
  rw [shapeCast_self]
  show FloatOps.matmul _ _ _ _ _ _ = _
  rw [dot_second, Ideal.matmul_plain_apply, constant_apply, zero_bits, zero_add]

/-! ## The hidden layer and the rounded weight -/

variable (m : (ℓ : Loc nD τ sig) → Buf (Elt Ideal) ℓ)

/-- The device's columns of the hidden layer. -/
def hidV (x : S2048x2048.Idx → EReal) (w : S2048x4096.Idx → EReal) : S2048x4096.Idx → EReal :=
  fun i => max (∑ k : Fin 2048, x (ix2 (i 0) k) * w (ix2 k (i 1))) 0

theorem same_row (t : Fin cfg0.N) (r : Fin 2048) (j : Fin 512) : (win0_2.blk t).view.emb (ix2 r j : S2048x512.Idx) 0 = r :=
  Fin.ext (win0_2.rect_emb_val_of_index_zero t 0 rfl (ix2 r j : S2048x512.Idx))

/-- The columns a point reads of the first weight are those it writes of the hidden layer. -/
theorem same_col (t : Fin cfg0.N) (r k : Fin 2048) (j : Fin 512) :
    (win0_1.blk t).view.emb (ix2 k j : S2048x512.Idx) = ix2 k ((win0_2.blk t).view.emb (ix2 r j : S2048x512.Idx) 1) := by
  funext a; refine Fin.ext ?_
  match a with
  | ⟨0, _⟩ => exact win0_1.rect_emb_val_of_index_zero t 0 rfl (ix2 k j : S2048x512.Idx)
  | ⟨1, _⟩ =>
    refine (win0_1.rect_emb_val t (ix2 k j : S2048x512.Idx) 1).trans (.trans ?_ (win0_2.rect_emb_val t (ix2 r j : S2048x512.Idx) 1).symm)
    rfl

theorem hid_eq (c : Dev nD) : hid m c = hidV (xF c m) (w1F c m) :=
  (dat0 c m).arrAt_eq_of_covers 2 _ (by decide +kernel) fun t _ y => by
    obtain ⟨r, j, rfl⟩ : ∃ (r : Fin 2048) (j : Fin 512), y = (ix2 r j : S2048x512.Idx) := ⟨y 0, y 1, eq_ix2 y⟩
    refine (pay_apply (xF c m) (w1B c m t) r j).trans ?_
    show _ = max (∑ k : Fin 2048, (xF c m (ix2 ((win0_2.blk t).view.emb (ix2 r j : S2048x512.Idx) 0) k) : EReal)
      * w1F c m (ix2 k ((win0_2.blk t).view.emb (ix2 r j : S2048x512.Idx) 1))) 0
    rw [same_row]
    refine congrArg (max · 0) (Finset.sum_congr rfl fun k _ => ?_)
    exact congrArg (fun i => (xF c m (ix2 r k) : EReal) * w1F c m i) (same_col t r k j)

theorem wgt_eq (c : Dev nD) : wgt m c = w2F m c := rfl

/-! ## The sum around the ring -/

section Ring

variable (H : Dev nD → S2048x4096.Idx → Elt Ideal .bf16) (W : Dev nD → S4096x2048.Idx → Elt Ideal .bf16)

/-- A device's contribution to an entry of the output. -/
def part (d : Dev nD) (r s : Fin 2048) : EReal := ∑ i : Fin 4096, (H d (ix2 r i) : EReal) * W d (ix2 i s)

/-- The rows of band `q` and, read the other way, the columns of chunk `q`. -/
def at8 (q : Fin 8) (r : Fin 256) : Fin 2048 := ⟨256 * q.val + r.val, by omega⟩

theorem piece_apply (q : Fin 8) (c : Dev nD) (k : Nat) (r j : Fin 256) :
    piece H W q c k (ix2 r j) = part H W c (at8 q r) (at8 (ck q c k) j) := by
  unfold piece part
  rw [dotT_apply]
  refine Finset.sum_congr rfl fun i _ => ?_
  have e1 : (bandR q).emb (ix2 r i) = ix2 (at8 q r) i := by
    funext a; refine Fin.ext ?_
    match a with
    | ⟨0, _⟩ => simp [Rect.unit, Rect.emb, at8, ix2]
    | ⟨1, _⟩ => simp [Rect.unit, Rect.emb, at8, ix2]
  have e2 : (wR (ck q c k)).emb (ix2 i j) = ix2 i (at8 (ck q c k) j) := by
    funext a; refine Fin.ext ?_
    match a with
    | ⟨0, _⟩ => simp [Rect.unit, Rect.emb, at8, ix2]
    | ⟨1, _⟩ => simp [Rect.unit, Rect.emb, at8, ix2]
  unfold hBand wCol
  rw [e1, e2]

theorem ck_src : ∀ q c (k : Fin 15), ck q (src q c) k.val = ck q c (k.val + 1) := by decide +kernel

theorem acc_apply (q : Fin 8) (r j : Fin 256) : ∀ (n : Nat) (_ : n < 8) (c : Dev nD),
    acc H W q n c (ix2 r j) = ∑ s ∈ Finset.range (n + 1), part H W ((src q)^[s] c) (at8 q r) (at8 (ck q c n) j)
  | 0, _, c => by
    rw [Finset.sum_range_one]; exact piece_apply H W q c 0 r j
  | n + 1, h, c => by
    rw [Finset.sum_range_succ']
    show (acc H W q n (src q c) (ix2 r j) : EReal) + piece H W q c (n + 1) (ix2 r j) = _
    rw [acc_apply q r j n (by omega) (src q c), piece_apply, ck_src q c ⟨n, by omega⟩]
    rfl

/-- Going round the ring meets every device once. -/
def around (q : Fin 8) (c : Dev nD) (s : Fin 8) : Dev nD := (src q)^[s.val] c
theorem around_bij : ∀ q c, Function.Bijective (around q c) := by
  intro q c
  rw [Fintype.bijective_iff_injective_and_card]
  refine ⟨?_, rfl⟩
  revert q c
  unfold Function.Injective
  decide +kernel

theorem acc_all (q : Fin 8) (c : Dev nD) (r j : Fin 256) :
    acc H W q 7 c (ix2 r j) = ∑ d : Dev nD, part H W d (at8 q r) (at8 (ck q c 7) j) := by
  rw [acc_apply H W q r j 7 (by decide) c, Finset.sum_range]
  exact (around_bij q c).sum_comp fun d => part H W d (at8 q r) (at8 (ck q c 7) j)

theorem ck_round : ∀ q c (k : Fin 8), k.val ≠ 7 → ck q ((src q)^[k.val] (src q c)) 7 = ck q c k.val := by decide +kernel

theorem outV_apply (q k : Fin 8) (c : Dev nD) (r j : Fin 256) :
    outV H W c q k (ix2 r j) = ∑ d : Dev nD, part H W d (at8 q r) (at8 (ck q c k.val) j) := by
  unfold outV
  split_ifs with h
  · rw [acc_all, h]
  · rw [← ck_round q c k h, ← acc_all]
    unfold snd
    rw [if_neg (by omega), Nat.add_sub_cancel_left]
    rfl

theorem ck_surj : ∀ q c (j : Fin 8), ∃ k : Fin 8, ck q c k.val = j := by decide +kernel

theorem at8_surj (r : Fin 2048) : ∃ q j, r = at8 q j :=
  ⟨⟨r.val / 256, by omega⟩, ⟨r.val % 256, by omega⟩, Fin.ext (Nat.div_add_mod r.val 256).symm⟩

/-- Every device ends with the whole sum. -/
theorem outF_apply (c : Dev nD) (r s : Fin 2048) : outF c H W (ix2 r s) = ∑ d : Dev nD, part H W d r s := by
  obtain ⟨q, i, rfl⟩ := at8_surj r
  obtain ⟨p, j, rfl⟩ := at8_surj s
  obtain ⟨k, rfl⟩ := ck_surj q c p
  rw [← outV_apply, ← outF_emb]
  refine congrArg (outF c H W) (funext fun a => Fin.ext ?_)
  match a with
  | ⟨0, _⟩ => simp [Rect.unit, Rect.emb, at8, ix2]
  | ⟨1, _⟩ => simp [Rect.unit, Rect.emb, at8, ix2]

end Ring

/-! ## The whole program against the whole product -/

theorem tiles_w1 : Layout.Tiles ⟨2, ![2048, 4096]⟩ ⟨2, ![2048, 32768]⟩ 1 8 := by decide
theorem tiles_w2 : Layout.Tiles ⟨2, ![4096, 2048]⟩ ⟨2, ![32768, 2048]⟩ 0 8 := by decide

/-- The product of the whole hidden layer and the whole second weight. -/
def wholeV (x : S2048x2048.Idx → EReal) (w₁ : (⟨2, ![2048, 32768]⟩ : Shape).Idx → EReal) (w₂ : (⟨2, ![32768, 2048]⟩ : Shape).Idx → EReal) : S2048x2048.Idx → EReal :=
  fun i => ∑ n : Fin 32768, max (∑ k : Fin 2048, x (ix2 (i 0) k) * w₁ (ix2 k n)) 0 * w₂ (ix2 n (i 1))

/-- Hidden column `i` of device `d`. -/
def colOf (d : Fin 8) (i : Fin 4096) : Fin 32768 := ⟨d.val * 4096 + i.val, by omega⟩

theorem sum_cols (f : Fin 32768 → EReal) : ∑ n, f n = ∑ d : Fin 8, ∑ i : Fin 4096, f (colOf d i) := by
  rw [← Fintype.sum_prod_type', ← (finProdFinEquiv (m := 8) (n := 4096)).sum_comp f]
  refine Finset.sum_congr rfl fun x _ => congrArg f (Fin.ext ?_)
  show x.2.val + 4096 * x.1.val = x.1.val * 4096 + x.2.val
  omega

theorem out_whole (c : Dev nD) (x : S2048x2048.Idx → EReal) (w₁ : (⟨2, ![2048, 32768]⟩ : Shape).Idx → EReal) (w₂ : (⟨2, ![32768, 2048]⟩ : Shape).Idx → EReal)
    (hx : ∀ d, xF d m = x) (h₁ : ∀ d, w1F d m = Layout.block ⟨2, ![2048, 4096]⟩ ⟨2, ![2048, 32768]⟩ 1 8 d w₁ tiles_w1)
    (h₂ : ∀ d, w2F m d = Layout.block ⟨2, ![4096, 2048]⟩ ⟨2, ![32768, 2048]⟩ 0 8 d w₂ tiles_w2) :
    outF c (hid m) (wgt m) = wholeV x w₁ w₂ := by
  funext i
  obtain ⟨r, s, rfl⟩ : ∃ r s : Fin 2048, i = (ix2 r s : S2048x2048.Idx) := ⟨i 0, i 1, eq_ix2 i⟩
  rw [outF_apply]
  show _ = ∑ n : Fin 32768, max (∑ k : Fin 2048, x (ix2 r k) * w₁ (ix2 k n)) 0 * w₂ (ix2 n s)
  rw [sum_cols]
  refine Finset.sum_congr rfl fun d _ => Finset.sum_congr rfl fun i _ => ?_
  rw [hid_eq, wgt_eq, hx, h₁, h₂]
  have e₁ (k : Fin 2048) : tiles_w1.idx d (ix2 k i) = ix2 k (colOf d i) := by
    funext a; refine Fin.ext ?_
    match a with
    | ⟨0, _⟩ => rfl
    | ⟨1, _⟩ => rfl
  have e₂ : tiles_w2.idx d (ix2 i s) = ix2 (colOf d i) s := by
    funext a; refine Fin.ext ?_
    match a with
    | ⟨0, _⟩ => rfl
    | ⟨1, _⟩ => rfl
  rw [Layout.block_apply, e₂]
  refine congrArg (· * w₂ (ix2 (colOf d i) s)) ?_
  show max (∑ k : Fin 2048, x (ix2 r k) * w₁ (tiles_w1.idx d (ix2 k i))) 0 = _
  simp only [e₁]

end Cert.KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (Cert.KernelIdeal.run_main (F := Ideal) m ρ)

set_option smartUnfolding false in
/-- The two programs have one text, so a run of the one is a run of the other. -/
theorem of_ideal {s : MemSt nD τ sig (Elt Bits)} {Q : PUnit × MemSt nD τ sig (Elt Bits) → Prop}
    (h : θ_run (Cert.KernelIdeal.defs (F := Bits)) (onTc (τ := τ) (Cert.KernelIdeal.main (F := Bits))) s Q) :
    θ_run (defs (F := Bits)) (onTc (τ := τ) (main (F := Bits))) s Q := h

theorem frame_kernel : Cert.quiescent_Kernel := fun m ρ _ =>
  of_ideal ((θ_run Cert.KernelIdeal.defs _ _).mono (fun _ h => ⟨fun c => ⟨(h.1 c).1, (h.1 c).2.1, (h.1 c).2.2.1⟩, h.2⟩)
    (Cert.KernelIdeal.run_main (F := Bits) m ρ))

theorem frame_ref : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

open Idealize.ShloMosaic.ValueIdx in
/-- The reference's result, entry by entry. -/
theorem ref_whole (x : FVec Ideal Cert.ReferenceIdeal.S2048x2048 .f32) (w₁ : FVec Ideal Cert.ReferenceIdeal.S2048x32768 .f32) (w₂ : FVec Ideal Cert.ReferenceIdeal.S32768x2048 .f32) :
    Host.dotGeneral Cert.ReferenceIdeal.dot_S2048x32768_S32768x2048_S2048x2048_1_0_0_1_n_n none
      (maximumf (Host.dotGeneral Cert.ReferenceIdeal.dot_S2048x2048_S2048x32768_S2048x32768_1_0_0_1_n_n none x w₁)
        (broadcastInDim Cert.ReferenceIdeal.S2048x32768 ![] Cert.ReferenceIdeal.Gen.bcast_S_S2048x32768 (constant Cert.ReferenceIdeal.S_ .f32 0x00000000#32))) w₂
      = Cert.KernelIdeal.wholeV x w₁ w₂ := by
  funext i
  obtain ⟨r, s, rfl⟩ : ∃ r s : Fin 2048, i = (ix2 r s : Cert.ReferenceIdeal.S2048x2048.Idx) := ⟨i 0, i 1, eq_ix2 i⟩
  refine (StackMember.dotGeneral_plain_apply none _ w₂ r s).trans (Finset.sum_congr rfl fun n _ => ?_)
  refine congrArg (fun a : EReal => a * w₂ (ix2 n s)) ?_
  rw [maximumf_apply]
  exact congrArg₂ max (StackMember.dotGeneral_plain_apply none x w₁ r n) Cert.KernelIdeal.zero_bits

theorem algebraic : Cert.algebraic_KernelIdeal_ReferenceIdeal := fun m ρ m' ρ' _ hin =>
  ⟨Cert.KernelIdeal.wholeV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono (fun _ h c => ⟨(h.1 c).2.2.2.trans
        (Cert.KernelIdeal.out_whole m c _ _ _ (fun d => (hin d).1) (fun d => (hin d).2.1) (fun d => (hin d).2.2)),
        (h.1 c).1, (h.1 c).2.1, (h.1 c).2.2.1⟩) (Cert.KernelIdeal.run_main (F := Ideal) m ρ),
    (θ_run Cert.ReferenceIdeal.defs _ _).mono (fun _ h => ⟨(h 0).1.trans (ref_whole _ _ _), (h 0).2⟩) (Cert.ReferenceIdeal.Value.run m' ρ')⟩

theorem claim : Cert.Claim :=
  ⟨Cert.Kernel.Gen.facts, Cert.KernelIdeal.Gen.facts, Cert.ReferenceIdeal.Gen.facts, frame_kernel, frame_ideal, frame_ref, trivial, algebraic⟩

end Cert.Proof

end
